-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_gradient [hPre_finite_gradient : Cert.Pre_finite_gradient.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_gradient.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_gradient [hPre_finite_gradient : Cert.Pre_finite_gradient.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_gradient.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Kernel19Ideal_pre_finite_gradient [hKernel19Ideal : Cert.Kernel19Ideal.Facts] [hPre_finite_gradient : Cert.Pre_finite_gradient.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_gradient m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Reference19Ideal_pre_finite_gradient [hReference19Ideal : Cert.Reference19Ideal.Facts] [hPre_finite_gradient : Cert.Pre_finite_gradient.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_gradient m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v364) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v8) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v9) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_v8) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v17_0)) (v1 : (c : Dev Cert.Kernel11Ideal.nD) → Buf (Elt Ideal) ((c.tc : Thread Cert.Kernel11Ideal.nD Cert.Kernel11Ideal.τ).loc Cert.Kernel11Ideal.main_v17_1)) (v2 : (c : Dev Cert.Kernel11Ideal.nD) → Buf (Elt Ideal) ((c.tc : Thread Cert.Kernel11Ideal.nD Cert.Kernel11Ideal.τ).loc Cert.Kernel11Ideal.main_v17_2)) (v3 : (c : Dev Cert.Kernel11Ideal.nD) → Buf (Elt Ideal) ((c.tc : Thread Cert.Kernel11Ideal.nD Cert.Kernel11Ideal.τ).loc Cert.Kernel11Ideal.main_v17_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v17_0) = v0 c
          ∧ r.2.mem ((c.tc : Thread Cert.Kernel11Ideal.nD Cert.Kernel11Ideal.τ).loc Cert.Kernel11Ideal.main_v17_1) = v1 c
          ∧ r.2.mem ((c.tc : Thread Cert.Kernel11Ideal.nD Cert.Kernel11Ideal.τ).loc Cert.Kernel11Ideal.main_v17_2) = v2 c
          ∧ r.2.mem ((c.tc : Thread Cert.Kernel11Ideal.nD Cert.Kernel11Ideal.τ).loc Cert.Kernel11Ideal.main_v17_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_v23) = v2 c
          ∧ r.2.mem ((c.tc : Thread Cert.Reference11Ideal.nD Cert.Reference11Ideal.τ).loc Cert.Reference11Ideal.main_v24) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v40) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v17_0)) (v1 : (c : Dev Cert.Kernel13Ideal.nD) → Buf (Elt Ideal) ((c.tc : Thread Cert.Kernel13Ideal.nD Cert.Kernel13Ideal.τ).loc Cert.Kernel13Ideal.main_v17_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v17_0) = v0 c
          ∧ r.2.mem ((c.tc : Thread Cert.Kernel13Ideal.nD Cert.Kernel13Ideal.τ).loc Cert.Kernel13Ideal.main_v17_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v68) = v0 c
          ∧ r.2.mem ((c.tc : Thread Cert.Reference13Ideal.nD Cert.Reference13Ideal.τ).loc Cert.Reference13Ideal.main_v69) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v51) = v0 c
          ∧ r.2.mem ((c.tc : Thread Cert.Reference14Ideal.nD Cert.Reference14Ideal.τ).loc Cert.Reference14Ideal.main_v50) = v1 c
          ∧ r.2.mem ((c.tc : Thread Cert.Reference14Ideal.nD Cert.Reference14Ideal.τ).loc Cert.Reference14Ideal.main_v52) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v257) = v0 c
          ∧ r.2.mem ((c.tc : Thread Cert.Reference15Ideal.nD Cert.Reference15Ideal.τ).loc Cert.Reference15Ideal.main_v228) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v5_0)) (v1 : (c : Dev Cert.Kernel17Ideal.nD) → Buf (Elt Ideal) ((c.tc : Thread Cert.Kernel17Ideal.nD Cert.Kernel17Ideal.τ).loc Cert.Kernel17Ideal.main_v5_1)) (v2 : (c : Dev Cert.Kernel17Ideal.nD) → Buf (Elt Ideal) ((c.tc : Thread Cert.Kernel17Ideal.nD Cert.Kernel17Ideal.τ).loc Cert.Kernel17Ideal.main_v5_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5_0) = v0 c
          ∧ r.2.mem ((c.tc : Thread Cert.Kernel17Ideal.nD Cert.Kernel17Ideal.τ).loc Cert.Kernel17Ideal.main_v5_1) = v1 c
          ∧ r.2.mem ((c.tc : Thread Cert.Kernel17Ideal.nD Cert.Kernel17Ideal.τ).loc Cert.Kernel17Ideal.main_v5_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v26) = v0 c
          ∧ r.2.mem ((c.tc : Thread Cert.Reference17Ideal.nD Cert.Reference17Ideal.τ).loc Cert.Reference17Ideal.main_v27) = v1 c
          ∧ r.2.mem ((c.tc : Thread Cert.Reference17Ideal.nD Cert.Reference17Ideal.τ).loc Cert.Reference17Ideal.main_v28) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel19_Kernel19Ideal : Prop :=
  True

def algebraic_Kernel19Ideal_Reference19Ideal_pre_finite_gradient [hKernel19Ideal : Cert.Kernel19Ideal.Facts] [hReference19Ideal : Cert.Reference19Ideal.Facts] [hPre_finite_gradient : Cert.Pre_finite_gradient.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_gradient m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v3_0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v66) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def preserves_Kernel21_Kernel21Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hKernel21 : Cert.Kernel21.Facts) (hKernel21Ideal : Cert.Kernel21Ideal.Facts) (hPre_finite_gradient : Cert.Pre_finite_gradient.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Kernel19Ideal_pre_finite_gradient (hKernel19Ideal := hKernel19Ideal) (hPre_finite_gradient := hPre_finite_gradient)
    ∧ quiescent_Reference19Ideal (hReference19Ideal := hReference19Ideal)
    ∧ quiescent_Reference19Ideal_pre_finite_gradient (hReference19Ideal := hReference19Ideal) (hPre_finite_gradient := hPre_finite_gradient)
    ∧ quiescent_Kernel20 (hKernel20 := hKernel20)
    ∧ quiescent_Kernel20Ideal (hKernel20Ideal := hKernel20Ideal)
    ∧ quiescent_Kernel21 (hKernel21 := hKernel21)
    ∧ quiescent_Kernel21Ideal (hKernel21Ideal := hKernel21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal_pre_finite_gradient (hKernel19Ideal := hKernel19Ideal) (hReference19Ideal := hReference19Ideal) (hPre_finite_gradient := hPre_finite_gradient)
    ∧ preserves_Kernel20_Kernel20Ideal
    ∧ preserves_Kernel21_Kernel21Ideal
-- ==== Pre_finite_gradient.lean ====
abbrev S4096x512 : Shape := ⟨2, ![4096, 512]⟩
abbrev S4096x256 : Shape := ⟨2, ![4096, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S4096x512 .f32) (main_arg1 : FVec F S4096x256 .f32) (main_arg2 : FVec F S4096x256 .f32) (main_arg3 : FVec F S256 .f32) (main_arg4 : FVec F S256 .f32) (main_arg5 : FVec F S256 .f32) : IVec S_ 1 :=
  let main_cst : FVec F S_ .f32 := constant S_ .f32 0xFF800000#32
  let main_v0 : FVec F S4096x256 .f32 := broadcastInDim S4096x256 ![] bcast_S_S4096x256 main_cst
  let main_v1 : IVec S4096x256 1 := cmpf .ogt main_arg2 main_v0
  let main_cst_0 : FVec F S_ .f32 := constant S_ .f32 0x7F800000#32
  let main_v2 : FVec F S4096x256 .f32 := broadcastInDim S4096x256 ![] bcast_S_S4096x256 main_cst_0
  let main_v3 : IVec S4096x256 1 := cmpf .olt main_arg2 main_v2
  let main_v4 : IVec S4096x256 1 := andi main_v1 main_v3
  let main_c : IVec S_ 1 := constantI S_ 1 1#1
  let main_v5 : IVec S_ 1 := (fun x v => Host.reduce IntOp.andi x v reducesTo_S4096x256_S_d0_1 h_S_) main_v4 main_c
  let main_cst_1 : FVec F S_ .f32 := constant S_ .f32 0xFF800000#32
  let main_v6 : FVec F S256 .f32 := broadcastInDim S256 ![] bcast_S_S256 main_cst_1
  let main_v7 : IVec S256 1 := cmpf .ogt main_arg4 main_v6
  let main_cst_2 : FVec F S_ .f32 := constant S_ .f32 0x7F800000#32
  let main_v8 : FVec F S256 .f32 := broadcastInDim S256 ![] bcast_S_S256 main_cst_2
  let main_v9 : IVec S256 1 := cmpf .olt main_arg4 main_v8
  let main_v10 : IVec S256 1 := andi main_v7 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v5 main_v11
  main_v12
-- ==== Kernel.lean ====
abbrev S4096x512 : Shape := ⟨2, ![4096, 512]⟩
abbrev S4096x256 : Shape := ⟨2, ![4096, 256]⟩
abbrev S31x256 : Shape := ⟨2, ![31, 256]⟩
abbrev S_ : Shape := ⟨0, ![]⟩
abbrev S32x256 : Shape := ⟨2, ![32, 256]⟩
abbrev S512x512 : Shape := ⟨2, ![512, 512]⟩
abbrev S512x256 : Shape := ⟨2, ![512, 256]⟩
abbrev S544x256 : Shape := ⟨2, ![544, 256]⟩
abbrev S64x256 : Shape := ⟨2, ![64, 256]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S31x256, .f32⟩
  | .hbm, ⟨3, _⟩ => ⟨S_, .i32⟩
  | .hbm, ⟨4, _⟩ => ⟨S_, .f32⟩
  | .hbm, ⟨5, _⟩ => ⟨S32x256, .f32⟩
  | .hbm, ⟨6, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S512x512, .bf16⟩
  | .local _ .vmem, ⟨8, _⟩ => ⟨S512x512, .bf16⟩
  | .local _ .vmem, ⟨9, _⟩ => ⟨S544x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x512 : Shape := ⟨2, ![4096, 512]⟩
abbrev S4096x256 : Shape := ⟨2, ![4096, 256]⟩
abbrev S31x256 : Shape := ⟨2, ![31, 256]⟩
abbrev S_ : Shape := ⟨0, ![]⟩
abbrev S30x256 : Shape := ⟨2, ![30, 256]⟩
abbrev S4126x256 : Shape := ⟨2, ![4126, 256]⟩
abbrev S1x256 : Shape := ⟨2, ![1, 256]⟩
abbrev S256 : Shape := ⟨1, ![256]⟩

abbrev nBuf : Space → Nat
  | .hbm => 405
  | .vmem => 0
  | .smem => 0
  | _ => 0

abbrev hbmTy0_0 (i : Nat) : BufTy := match i % 128 with
  | 0 => ⟨S4096x512, .f32⟩
  | 1 => ⟨S4096x256, .f32⟩
  | 2 => ⟨S31x256, .f32⟩
  | 3 => ⟨S4096x256, .f32⟩
  | 4 => ⟨S4096x256, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S4096x256, .f32⟩
  | 18 => ⟨S_, .f32⟩
  | 19 => ⟨S30x256, .f32⟩
  | 20 => ⟨S4126x256, .f32⟩
  | 21 => ⟨S_, .f32⟩
  | 22 => ⟨S30x256, .f32⟩
  | 23 => ⟨S1x256, .f32⟩
  | 24 => ⟨S256, .f32⟩
  | 25 => ⟨S4096x256, .f32⟩
  | 26 => ⟨S1x256, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S1x256, .f32⟩
  | 33 => ⟨S256, .f32⟩
  | 34 => ⟨S4096x256, .f32⟩
  | 35 => ⟨S1x256, .f32⟩
  | 36 => ⟨S4096x256, .f32⟩
  | 37 => ⟨S4096x256, .f32⟩
  | 38 => ⟨S4096x256, .f32⟩
  | 39 => ⟨S1x256, .f32⟩
  | 40 => ⟨S256, .f32⟩
  | 41 => ⟨S4096x256, .f32⟩
  | 42 => ⟨S1x256, .f32⟩
  | 43 => ⟨S4096x256, .f32⟩
  | 44 => ⟨S4096x256, .f32⟩
  | 45 => ⟨S4096x256, .f32⟩
  | 46 => ⟨S1x256, .f32⟩
  | 47 => ⟨S256, .f32⟩
  | 48 => ⟨S4096x256, .f32⟩
  | 49 => ⟨S1x256, .f32⟩
  | 50 => ⟨S4096x256, .f32⟩
  | 51 => ⟨S4096x256, .f32⟩
  | 52 => ⟨S4096x256, .f32⟩
  | 53 => ⟨S1x256, .f32⟩
  | 54 => ⟨S256, .f32⟩
  | 55 => ⟨S4096x256, .f32⟩
  | 56 => ⟨S1x256, .f32⟩
  | 57 => ⟨S4096x256, .f32⟩
  | 58 => ⟨S4096x256, .f32⟩
  | 59 => ⟨S4096x256, .f32⟩
  | 60 => ⟨S1x256, .f32⟩
  | 61 => ⟨S256, .f32⟩
  | 62 => ⟨S4096x256, .f32⟩
  | 63 => ⟨S1x256, .f32⟩
  | 64 => ⟨S4096x256, .f32⟩
  | 65 => ⟨S4096x256, .f32⟩
  | 66 => ⟨S4096x256, .f32⟩
  | 67 => ⟨S1x256, .f32⟩
  | 68 => ⟨S256, .f32⟩
  | 69 => ⟨S4096x256, .f32⟩
  | 70 => ⟨S1x256, .f32⟩
  | 71 => ⟨S4096x256, .f32⟩
  | 72 => ⟨S4096x256, .f32⟩
  | 73 => ⟨S4096x256, .f32⟩
  | 74 => ⟨S1x256, .f32⟩
  | 75 => ⟨S256, .f32⟩
  | 76 => ⟨S4096x256, .f32⟩
  | 77 => ⟨S1x256, .f32⟩
  | 78 => ⟨S4096x256, .f32⟩
  | 79 => ⟨S4096x256, .f32⟩
  | 80 => ⟨S4096x256, .f32⟩
  | 81 => ⟨S1x256, .f32⟩
  | 82 => ⟨S256, .f32⟩
  | 83 => ⟨S4096x256, .f32⟩
  | 84 => ⟨S1x256, .f32⟩
  | 85 => ⟨S4096x256, .f32⟩
  | 86 => ⟨S4096x256, .f32⟩
  | 87 => ⟨S4096x256, .f32⟩
  | 88 => ⟨S1x256, .f32⟩
  | 89 => ⟨S256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S1x256, .f32⟩
  | 96 => ⟨S256, .f32⟩
  | 97 => ⟨S4096x256, .f32⟩
  | 98 => ⟨S1x256, .f32⟩
  | 99 => ⟨S4096x256, .f32⟩
  | 100 => ⟨S4096x256, .f32⟩
  | 101 => ⟨S4096x256, .f32⟩
  | 102 => ⟨S1x256, .f32⟩
  | 103 => ⟨S256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S1x256, .f32⟩
  | 110 => ⟨S256, .f32⟩
  | 111 => ⟨S4096x256, .f32⟩
  | 112 => ⟨S1x256, .f32⟩
  | 113 => ⟨S4096x256, .f32⟩
  | 114 => ⟨S4096x256, .f32⟩
  | 115 => ⟨S4096x256, .f32⟩
  | 116 => ⟨S1x256, .f32⟩
  | 117 => ⟨S256, .f32⟩
  | 118 => ⟨S4096x256, .f32⟩
  | 119 => ⟨S1x256, .f32⟩
  | 120 => ⟨S4096x256, .f32⟩
  | 121 => ⟨S4096x256, .f32⟩
  | 122 => ⟨S4096x256, .f32⟩
  | 123 => ⟨S1x256, .f32⟩
  | 124 => ⟨S256, .f32⟩
  | 125 => ⟨S4096x256, .f32⟩
  | 126 => ⟨S1x256, .f32⟩
  | 127 => ⟨S4096x256, .f32⟩
  | _ => ⟨S4096x512, .f32⟩

abbrev hbmTy0_1 (i : Nat) : BufTy := match i % 128 with
  | 0 => ⟨S4096x256, .f32⟩
  | 1 => ⟨S4096x256, .f32⟩
  | 2 => ⟨S1x256, .f32⟩
  | 3 => ⟨S256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S1x256, .f32⟩
  | 10 => ⟨S256, .f32⟩
  | 11 => ⟨S4096x256, .f32⟩
  | 12 => ⟨S1x256, .f32⟩
  | 13 => ⟨S4096x256, .f32⟩
  | 14 => ⟨S4096x256, .f32⟩
  | 15 => ⟨S4096x256, .f32⟩
  | 16 => ⟨S1x256, .f32⟩
  | 17 => ⟨S256, .f32⟩
  | 18 => ⟨S4096x256, .f32⟩
  | 19 => ⟨S1x256, .f32⟩
  | 20 => ⟨S4096x256, .f32⟩
  | 21 => ⟨S4096x256, .f32⟩
  | 22 => ⟨S4096x256, .f32⟩
  | 23 => ⟨S1x256, .f32⟩
  | 24 => ⟨S256, .f32⟩
  | 25 => ⟨S4096x256, .f32⟩
  | 26 => ⟨S1x256, .f32⟩
  | 27 => ⟨S4096x256, .f32⟩
  | 28 => ⟨S4096x256, .f32⟩
  | 29 => ⟨S4096x256, .f32⟩
  | 30 => ⟨S1x256, .f32⟩
  | 31 => ⟨S256, .f32⟩
  | 32 => ⟨S4096x256, .f32⟩
  | 33 => ⟨S1x256, .f32⟩
  | 34 => ⟨S4096x256, .f32⟩
  | 35 => ⟨S4096x256, .f32⟩
  | 36 => ⟨S4096x256, .f32⟩
  | 37 => ⟨S1x256, .f32⟩
  | 38 => ⟨S256, .f32⟩
  | 39 => ⟨S4096x256, .f32⟩
  | 40 => ⟨S1x256, .f32⟩
  | 41 => ⟨S4096x256, .f32⟩
  | 42 => ⟨S4096x256, .f32⟩
  | 43 => ⟨S4096x256, .f32⟩
  | 44 => ⟨S1x256, .f32⟩
  | 45 => ⟨S256, .f32⟩
  | 46 => ⟨S4096x256, .f32⟩
  | 47 => ⟨S1x256, .f32⟩
  | 48 => ⟨S4096x256, .f32⟩
  | 49 => ⟨S4096x256, .f32⟩
  | 50 => ⟨S4096x256, .f32⟩
  | 51 => ⟨S1x256, .f32⟩
  | 52 => ⟨S256, .f32⟩
  | 53 => ⟨S4096x256, .f32⟩
  | 54 => ⟨S1x256, .f32⟩
  | 55 => ⟨S4096x256, .f32⟩
  | 56 => ⟨S4096x256, .f32⟩
  | 57 => ⟨S4096x256, .f32⟩
  | 58 => ⟨S1x256, .f32⟩
  | 59 => ⟨S256, .f32⟩
  | 60 => ⟨S4096x256, .f32⟩
  | 61 => ⟨S1x256, .f32⟩
  | 62 => ⟨S4096x256, .f32⟩
  | 63 => ⟨S4096x256, .f32⟩
  | 64 => ⟨S4096x256, .f32⟩
  | 65 => ⟨S1x256, .f32⟩
  | 66 => ⟨S256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S1x256, .f32⟩
  | 73 => ⟨S256, .f32⟩
  | 74 => ⟨S4096x256, .f32⟩
  | 75 => ⟨S1x256, .f32⟩
  | 76 => ⟨S4096x256, .f32⟩
  | 77 => ⟨S4096x256, .f32⟩
  | 78 => ⟨S4096x256, .f32⟩
  | 79 => ⟨S1x256, .f32⟩
  | 80 => ⟨S256, .f32⟩
  | 81 => ⟨S4096x256, .f32⟩
  | 82 => ⟨S1x256, .f32⟩
  | 83 => ⟨S4096x256, .f32⟩
  | 84 => ⟨S4096x256, .f32⟩
  | 85 => ⟨S4096x256, .f32⟩
  | 86 => ⟨S1x256, .f32⟩
  | 87 => ⟨S256, .f32⟩
  | 88 => ⟨S4096x256, .f32⟩
  | 89 => ⟨S1x256, .f32⟩
  | 90 => ⟨S4096x256, .f32⟩
  | 91 => ⟨S4096x256, .f32⟩
  | 92 => ⟨S4096x256, .f32⟩
  | 93 => ⟨S1x256, .f32⟩
  | 94 => ⟨S256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S1x256, .f32⟩
  | 101 => ⟨S256, .f32⟩
  | 102 => ⟨S4096x256, .f32⟩
  | 103 => ⟨S1x256, .f32⟩
  | 104 => ⟨S4096x256, .f32⟩
  | 105 => ⟨S4096x256, .f32⟩
  | 106 => ⟨S4096x256, .f32⟩
  | 107 => ⟨S1x256, .f32⟩
  | 108 => ⟨S256, .f32⟩
  | 109 => ⟨S4096x256, .f32⟩
  | 110 => ⟨S1x256, .f32⟩
  | 111 => ⟨S4096x256, .f32⟩
  | 112 => ⟨S4096x256, .f32⟩
  | 113 => ⟨S4096x256, .f32⟩
  | 114 => ⟨S4096x256, .f32⟩
  | 115 => ⟨S4096x256, .f32⟩
  | 116 => ⟨S4096x256, .f32⟩
  | 117 => ⟨S4096x256, .f32⟩
  | 118 => ⟨S_, .f32⟩
  | 119 => ⟨S4126x256, .f32⟩
  | 120 => ⟨S4096x256, .f32⟩
  | 121 => ⟨S4096x256, .f32⟩
  | 122 => ⟨S_, .f32⟩
  | 123 => ⟨S4126x256, .f32⟩
  | 124 => ⟨S4126x256, .f32⟩
  | 125 => ⟨S4096x256, .f32⟩
  | 126 => ⟨S4096x256, .f32⟩
  | 127 => ⟨S_, .f32⟩
  | _ => ⟨S4096x512, .f32⟩

abbrev hbmTy0_2 (i : Nat) : BufTy := match i % 128 with
  | 0 => ⟨S4126x256, .f32⟩
  | 1 => ⟨S4126x256, .f32⟩
  | 2 => ⟨S4096x256, .f32⟩
  | 3 => ⟨S4096x256, .f32⟩
  | 4 => ⟨S_, .f32⟩
  | 5 => ⟨S4126x256, .f32⟩
  | 6 => ⟨S4126x256, .f32⟩
  | 7 => ⟨S4096x256, .f32⟩
  | 8 => ⟨S4096x256, .f32⟩
  | 9 => ⟨S_, .f32⟩
  | 10 => ⟨S4126x256, .f32⟩
  | 11 => ⟨S4126x256, .f32⟩
  | 12 => ⟨S4096x256, .f32⟩
  | 13 => ⟨S4096x256, .f32⟩
  | 14 => ⟨S_, .f32⟩
  | 15 => ⟨S4126x256, .f32⟩
  | 16 => ⟨S4126x256, .f32⟩
  | 17 => ⟨S4096x256, .f32⟩
  | 18 => ⟨S4096x256, .f32⟩
  | 19 => ⟨S_, .f32⟩
  | 20 => ⟨S4126x256, .f32⟩
  | 21 => ⟨S4126x256, .f32⟩
  | 22 => ⟨S4096x256, .f32⟩
  | 23 => ⟨S4096x256, .f32⟩
  | 24 => ⟨S_, .f32⟩
  | 25 => ⟨S4126x256, .f32⟩
  | 26 => ⟨S4126x256, .f32⟩
  | 27 => ⟨S4096x256, .f32⟩
  | 28 => ⟨S4096x256, .f32⟩
  | 29 => ⟨S_, .f32⟩
  | 30 => ⟨S4126x256, .f32⟩
  | 31 => ⟨S4126x256, .f32⟩
  | 32 => ⟨S4096x256, .f32⟩
  | 33 => ⟨S4096x256, .f32⟩
  | 34 => ⟨S_, .f32⟩
  | 35 => ⟨S4126x256, .f32⟩
  | 36 => ⟨S4126x256, .f32⟩
  | 37 => ⟨S4096x256, .f32⟩
  | 38 => ⟨S4096x256, .f32⟩
  | 39 => ⟨S_, .f32⟩
  | 40 => ⟨S4126x256, .f32⟩
  | 41 => ⟨S4126x256, .f32⟩
  | 42 => ⟨S4096x256, .f32⟩
  | 43 => ⟨S4096x256, .f32⟩
  | 44 => ⟨S_, .f32⟩
  | 45 => ⟨S4126x256, .f32⟩
  | 46 => ⟨S4126x256, .f32⟩
  | 47 => ⟨S4096x256, .f32⟩
  | 48 => ⟨S4096x256, .f32⟩
  | 49 => ⟨S_, .f32⟩
  | 50 => ⟨S4126x256, .f32⟩
  | 51 => ⟨S4126x256, .f32⟩
  | 52 => ⟨S4096x256, .f32⟩
  | 53 => ⟨S4096x256, .f32⟩
  | 54 => ⟨S_, .f32⟩
  | 55 => ⟨S4126x256, .f32⟩
  | 56 => ⟨S4126x256, .f32⟩
  | 57 => ⟨S4096x256, .f32⟩
  | 58 => ⟨S4096x256, .f32⟩
  | 59 => ⟨S_, .f32⟩
  | 60 => ⟨S4126x256, .f32⟩
  | 61 => ⟨S4126x256, .f32⟩
  | 62 => ⟨S4096x256, .f32⟩
  | 63 => ⟨S4096x256, .f32⟩
  | 64 => ⟨S_, .f32⟩
  | 65 => ⟨S4126x256, .f32⟩
  | 66 => ⟨S4126x256, .f32⟩
  | 67 => ⟨S4096x256, .f32⟩
  | 68 => ⟨S4096x256, .f32⟩
  | 69 => ⟨S_, .f32⟩
  | 70 => ⟨S4126x256, .f32⟩
  | 71 => ⟨S4126x256, .f32⟩
  | 72 => ⟨S4096x256, .f32⟩
  | 73 => ⟨S4096x256, .f32⟩
  | 74 => ⟨S_, .f32⟩
  | 75 => ⟨S4126x256, .f32⟩
  | 76 => ⟨S4126x256, .f32⟩
  | 77 => ⟨S4096x256, .f32⟩
  | 78 => ⟨S4096x256, .f32⟩
  | 79 => ⟨S_, .f32⟩
  | 80 => ⟨S4126x256, .f32⟩
  | 81 => ⟨S4126x256, .f32⟩
  | 82 => ⟨S4096x256, .f32⟩
  | 83 => ⟨S4096x256, .f32⟩
  | 84 => ⟨S_, .f32⟩
  | 85 => ⟨S4126x256, .f32⟩
  | 86 => ⟨S4126x256, .f32⟩
  | 87 => ⟨S4096x256, .f32⟩
  | 88 => ⟨S4096x256, .f32⟩
  | 89 => ⟨S_, .f32⟩
  | 90 => ⟨S4126x256, .f32⟩
  | 91 => ⟨S4126x256, .f32⟩
  | 92 => ⟨S4096x256, .f32⟩
  | 93 => ⟨S4096x256, .f32⟩
  | 94 => ⟨S_, .f32⟩
  | 95 => ⟨S4126x256, .f32⟩
  | 96 => ⟨S4126x256, .f32⟩
  | 97 => ⟨S4096x256, .f32⟩
  | 98 => ⟨S4096x256, .f32⟩
  | 99 => ⟨S_, .f32⟩
  | 100 => ⟨S4126x256, .f32⟩
  | 101 => ⟨S4126x256, .f32⟩
  | 102 => ⟨S4096x256, .f32⟩
  | 103 => ⟨S4096x256, .f32⟩
  | 104 => ⟨S_, .f32⟩
  | 105 => ⟨S4126x256, .f32⟩
  | 106 => ⟨S4126x256, .f32⟩
  | 107 => ⟨S4096x256, .f32⟩
  | 108 => ⟨S4096x256, .f32⟩
  | 109 => ⟨S_, .f32⟩
  | 110 => ⟨S4126x256, .f32⟩
  | 111 => ⟨S4126x256, .f32⟩
  | 112 => ⟨S4096x256, .f32⟩
  | 113 => ⟨S4096x256, .f32⟩
  | 114 => ⟨S_, .f32⟩
  | 115 => ⟨S4126x256, .f32⟩
  | 116 => ⟨S4126x256, .f32⟩
  | 117 => ⟨S4096x256, .f32⟩
  | 118 => ⟨S4096x256, .f32⟩
  | 119 => ⟨S_, .f32⟩
  | 120 => ⟨S4126x256, .f32⟩
  | 121 => ⟨S4126x256, .f32⟩
  | 122 => ⟨S4096x256, .f32⟩
  | 123 => ⟨S4096x256, .f32⟩
  | 124 => ⟨S_, .f32⟩
  | 125 => ⟨S4126x256, .f32⟩
  | 126 => ⟨S4126x256, .f32⟩
  | 127 => ⟨S4096x256, .f32⟩
  | _ => ⟨S4096x512, .f32⟩

abbrev hbmTy0_3 (i : Nat) : BufTy := match i % 128 with
  | 0 => ⟨S4096x256, .f32⟩
  | 1 => ⟨S_, .f32⟩
  | 2 => ⟨S4126x256, .f32⟩
  | 3 => ⟨S4126x256, .f32⟩
  | 4 => ⟨S4096x256, .f32⟩
  | 5 => ⟨S4096x256, .f32⟩
  | 6 => ⟨S_, .f32⟩
  | 7 => ⟨S4126x256, .f32⟩
  | 8 => ⟨S4126x256, .f32⟩
  | 9 => ⟨S4096x256, .f32⟩
  | 10 => ⟨S4096x256, .f32⟩
  | 11 => ⟨S_, .f32⟩
  | 12 => ⟨S4126x256, .f32⟩
  | 13 => ⟨S4126x256, .f32⟩
  | 14 => ⟨S30x256, .f32⟩
  | 15 => ⟨S4096x256, .f32⟩
  | 16 => ⟨S4096x256, .f32⟩
  | 17 => ⟨S4096x256, .f32⟩
  | 18 => ⟨S4096x256, .f32⟩
  | 19 => ⟨S4096x512, .f32⟩
  | 20 => ⟨S4096x512, .bf16⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_cst_5 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_cst_6 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_cst_7 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_cst_8 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_cst_9 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_cst_10 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_cst_11 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_cst_12 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_cst_13 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_v271 : Ref sig .tc := ⟨.hbm, 289, rfl⟩
abbrev main_cst_14 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_cst_15 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_cst_16 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_cst_17 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_cst_18 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_cst_19 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_cst_20 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_cst_21 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_cst_22 : Ref sig .tc := ⟨.hbm, 330, rfl⟩
abbrev main_v304 : Ref sig .tc := ⟨.hbm, 331, rfl⟩
abbrev main_v305 : Ref sig .tc := ⟨.hbm, 332, rfl⟩
abbrev main_v306 : Ref sig .tc := ⟨.hbm, 333, rfl⟩
abbrev main_v307 : Ref sig .tc := ⟨.hbm, 334, rfl⟩
abbrev main_cst_23 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_cst_24 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_cst_25 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_cst_26 : Ref sig .tc := ⟨.hbm, 350, rfl⟩
abbrev main_v320 : Ref sig .tc := ⟨.hbm, 351, rfl⟩
abbrev main_v321 : Ref sig .tc := ⟨.hbm, 352, rfl⟩
abbrev main_v322 : Ref sig .tc := ⟨.hbm, 353, rfl⟩
abbrev main_v323 : Ref sig .tc := ⟨.hbm, 354, rfl⟩
abbrev main_cst_27 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_cst_28 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_cst_29 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_cst_30 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_cst_31 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_cst_32 : Ref sig .tc := ⟨.hbm, 380, rfl⟩
abbrev main_v344 : Ref sig .tc := ⟨.hbm, 381, rfl⟩
abbrev main_v345 : Ref sig .tc := ⟨.hbm, 382, rfl⟩
abbrev main_v346 : Ref sig .tc := ⟨.hbm, 383, rfl⟩
abbrev main_v347 : Ref sig .tc := ⟨.hbm, 384, rfl⟩
abbrev main_cst_33 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_cst_34 : Ref sig .tc := ⟨.hbm, 390, rfl⟩
abbrev main_v352 : Ref sig .tc := ⟨.hbm, 391, rfl⟩
abbrev main_v353 : Ref sig .tc := ⟨.hbm, 392, rfl⟩
abbrev main_v354 : Ref sig .tc := ⟨.hbm, 393, rfl⟩
abbrev main_v355 : Ref sig .tc := ⟨.hbm, 394, rfl⟩
abbrev main_cst_35 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_v359 : Ref sig .tc := ⟨.hbm, 399, rfl⟩
abbrev main_v360 : Ref sig .tc := ⟨.hbm, 400, rfl⟩
abbrev main_v361 : Ref sig .tc := ⟨.hbm, 401, rfl⟩
abbrev main_v362 : Ref sig .tc := ⟨.hbm, 402, rfl⟩
abbrev main_v363 : Ref sig .tc := ⟨.hbm, 403, rfl⟩
abbrev main_v364 : Ref sig .tc := ⟨.hbm, 404, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x384 : Shape := ⟨2, ![4096, 384]⟩
abbrev S4096x256 : Shape := ⟨2, ![4096, 256]⟩
abbrev S4096x1024 : Shape := ⟨2, ![4096, 1024]⟩
abbrev S384x1024 : Shape := ⟨2, ![384, 1024]⟩
abbrev S256x1024 : Shape := ⟨2, ![256, 1024]⟩
abbrev S1024x384 : Shape := ⟨2, ![1024, 384]⟩
abbrev S1024x256 : Shape := ⟨2, ![1024, 256]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x384, .bf16⟩
  | .hbm, ⟨1, _⟩ => ⟨S4096x256, .bf16⟩
  | .hbm, ⟨2, _⟩ => ⟨S4096x384, .bf16⟩
  | .hbm, ⟨3, _⟩ => ⟨S4096x1024, .f32⟩
  | .hbm, ⟨4, _⟩ => ⟨S384x1024, .f32⟩
  | .hbm, ⟨5, _⟩ => ⟨S256x1024, .f32⟩
  | .hbm, ⟨6, _⟩ => ⟨S384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x256, .bf16⟩
  | .local _ .vmem, ⟨3, _⟩ => ⟨S1024x256, .bf16⟩
  | .local _ .vmem, ⟨4, _⟩ => ⟨S1024x384, .bf16⟩
  | .local _ .vmem, ⟨5, _⟩ => ⟨S1024x384, .bf16⟩
  | .local _ .vmem, ⟨6, _⟩ => ⟨S1024x1024, .f32⟩
  | .local _ .vmem, ⟨7, _⟩ => ⟨S1024x1024, .f32⟩
  | .local _ .vmem, ⟨8, _⟩ => ⟨S384x1024, .f32⟩
  | .local _ .vmem, ⟨9, _⟩ => ⟨S256x1024, .f32⟩
  | .local _ .vmem, ⟨10, _⟩ => ⟨S384x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v7 : BitVec 32 := Scalar.extui v5
  let c0_i32_7 : BitVec 32 := 0#32
  let v8 : BitVec 1 := Scalar.cmpi .ne v7 c0_i32_7
  v8

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v9 : BitVec 1 := Scalar.xori v5 v_true
  let v10 : BitVec 32 := Scalar.extui v9
  let c0_i32_8 : BitVec 32 := 0#32
  let v11 : BitVec 1 := Scalar.cmpi .ne v10 c0_i32_8
  v11

def k0_cond3 (i : grid0.Coords) : BitVec 1 :=
  let arg0 : BitVec 32 := BitVec.ofNat 32 (i 0).val
  let c0_i32 : BitVec 32 := 0#32
  let v5 : BitVec 1 := Scalar.cmpi .eq arg0 c0_i32
  let v13 : BitVec 32 := Scalar.extui v5
  let c0_i32_10 : BitVec 32 := 0#32
  let v14 : BitVec 1 := Scalar.cmpi .ne v13 c0_i32_10
  v14

def k0_cond4 (i : grid0.Coords) : BitVec 1 :=
  let arg0 : BitVec 32 := BitVec.ofNat 32 (i 0).val
  let c0_i32 : BitVec 32 := 0#32
  let v5 : BitVec 1 := Scalar.cmpi .eq arg0 c0_i32
  let true_11 : BitVec 1 := 1#1
  let v15 : BitVec 1 := Scalar.xori v5 true_11
  let v16 : BitVec 32 := Scalar.extui v15
  let c0_i32_12 : BitVec 32 := 0#32
  let v17 : BitVec 1 := Scalar.cmpi .ne v16 c0_i32_12
  v17

def k0_cond5 (i : grid0.Coords) : BitVec 1 :=
  let arg0 : BitVec 32 := BitVec.ofNat 32 (i 0).val
  let c0_i32 : BitVec 32 := 0#32
  let v5 : BitVec 1 := Scalar.cmpi .eq arg0 c0_i32
  let v19 : BitVec 32 := Scalar.extui v5
  let c0_i32_14 : BitVec 32 := 0#32
  let v20 : BitVec 1 := Scalar.cmpi .ne v19 c0_i32_14
  v20

def k0_cond6 (i : grid0.Coords) : BitVec 1 :=
  let arg0 : BitVec 32 := BitVec.ofNat 32 (i 0).val
  let c0_i32 : BitVec 32 := 0#32
  let v5 : BitVec 1 := Scalar.cmpi .eq arg0 c0_i32
  let true_15 : BitVec 1 := 1#1
  let v21 : BitVec 1 := Scalar.xori v5 true_15
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x384 : Shape := ⟨2, ![4096, 384]⟩
abbrev S4096x256 : Shape := ⟨2, ![4096, 256]⟩
abbrev S4096x1024 : Shape := ⟨2, ![4096, 1024]⟩
abbrev S_ : Shape := ⟨0, ![]⟩
abbrev S1024x1024 : Shape := ⟨2, ![1024, 1024]⟩
abbrev S384x1024 : Shape := ⟨2, ![384, 1024]⟩
abbrev S256x1024 : Shape := ⟨2, ![256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x256, .bf16⟩
  | .hbm, ⟨2, _⟩ => ⟨S4096x384, .bf16⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S_, .f32⟩
  | .hbm, ⟨7, _⟩ => ⟨S1024x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S384x1024, .f32⟩
  | .hbm, ⟨12, _⟩ => ⟨S256x1024, .f32⟩
  | .hbm, ⟨13, _⟩ => ⟨S384x1024, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S1x1024, .f32⟩
  | .hbm, ⟨7, _⟩ => ⟨S4096x4096, .bf16⟩
  | .hbm, ⟨8, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference6Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel8.lean ====
abbrev S4096x384 : Shape := ⟨2, ![4096, 384]⟩
abbrev S4096x256 : Shape := ⟨2, ![4096, 256]⟩
abbrev S1024x1024 : Shape := ⟨2, ![1024, 1024]⟩
abbrev S4096x1024 : Shape := ⟨2, ![4096, 1024]⟩
abbrev S384x1024 : Shape := ⟨2, ![384, 1024]⟩
abbrev S256x1024 : Shape := ⟨2, ![256, 1024]⟩
abbrev S512x384 : Shape := ⟨2, ![512, 384]⟩
abbrev S512x256 : Shape := ⟨2, ![512, 256]⟩
abbrev S512x1024 : Shape := ⟨2, ![512, 1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x384, .bf16⟩
  | .hbm, ⟨1, _⟩ => ⟨S4096x256, .bf16⟩
  | .hbm, ⟨2, _⟩ => ⟨S4096x384, .bf16⟩
  | .hbm, ⟨3, _⟩ => ⟨S1024x1024, .f32⟩
  | .hbm, ⟨4, _⟩ => ⟨S4096x1024, .f32⟩
  | .hbm, ⟨5, _⟩ => ⟨S1024x1024, .bf16⟩
  | .hbm, ⟨6, _⟩ => ⟨S384x1024, .bf16⟩
  | .hbm, ⟨7, _⟩ => ⟨S256x1024, .bf16⟩
  | .hbm, ⟨8, _⟩ => ⟨S384x1024, .bf16⟩
  | .hbm, ⟨9, _⟩ => ⟨S4096x1024, .f32⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S384x1024, .bf16⟩
  | .local _ .vmem, ⟨7, _⟩ => ⟨S256x1024, .bf16⟩
  | .local _ .vmem, ⟨8, _⟩ => ⟨S384x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x384 : Shape := ⟨2, ![4096, 384]⟩
abbrev S4096x256 : Shape := ⟨2, ![4096, 256]⟩
abbrev S1024x1024 : Shape := ⟨2, ![1024, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x256, .bf16⟩
  | .hbm, ⟨2, _⟩ => ⟨S4096x384, .bf16⟩
  | .hbm, ⟨3, _⟩ => ⟨S1024x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S4096x1408 : Shape := ⟨2, ![4096, 1408]⟩
abbrev S4096x512 : Shape := ⟨2, ![4096, 512]⟩
abbrev S4096x1152 : Shape := ⟨2, ![4096, 1152]⟩
abbrev S1408x1024 : Shape := ⟨2, ![1408, 1024]⟩
abbrev S512x1024 : Shape := ⟨2, ![512, 1024]⟩
abbrev S1152x1024 : Shape := ⟨2, ![1152, 1024]⟩
abbrev S1024x1024 : Shape := ⟨2, ![1024, 1024]⟩
abbrev S1024x1408 : Shape := ⟨2, ![1024, 1408]⟩
abbrev S1024x512 : Shape := ⟨2, ![1024, 512]⟩
abbrev S1024x1152 : Shape := ⟨2, ![1024, 1152]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x1408, .bf16⟩
  | .hbm, ⟨2, _⟩ => ⟨S4096x512, .bf16⟩
  | .hbm, ⟨3, _⟩ => ⟨S4096x1152, .bf16⟩
  | .hbm, ⟨4, _⟩ => ⟨S1408x1024, .f32⟩
  | .hbm, ⟨5, _⟩ => ⟨S512x1024, .f32⟩
  | .hbm, ⟨6, _⟩ => ⟨S1152x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x512, .bf16⟩
  | .local _ .vmem, ⟨5, _⟩ => ⟨S1024x512, .bf16⟩
  | .local _ .vmem, ⟨6, _⟩ => ⟨S1024x1152, .bf16⟩
  | .local _ .vmem, ⟨7, _⟩ => ⟨S1024x1152, .bf16⟩
  | .local _ .vmem, ⟨8, _⟩ => ⟨S1408x1024, .f32⟩
  | .local _ .vmem, ⟨9, _⟩ => ⟨S512x1024, .f32⟩
  | .local _ .vmem, ⟨10, _⟩ => ⟨S1152x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v6 : BitVec 32 := Scalar.extui v4
  let c0_i32_7 : BitVec 32 := 0#32
  let v7 : BitVec 1 := Scalar.cmpi .ne v6 c0_i32_7
  v7

def k0_cond2 (i : grid0.Coords) : BitVec 1 :=
  let arg0 : BitVec 32 := BitVec.ofNat 32 (i 0).val
  let c0_i32 : BitVec 32 := 0#32
  let v4 : BitVec 1 := Scalar.cmpi .eq arg0 c0_i32
  let v_true : BitVec 1 := 1#1
  let v8 : BitVec 1 := Scalar.xori v4 v_true
  let v9 : BitVec 32 := Scalar.extui v8
  let c0_i32_8 : BitVec 32 := 0#32
  let v10 : BitVec 1 := Scalar.cmpi .ne v9 c0_i32_8
  v10

def k0_cond3 (i : grid0.Coords) : BitVec 1 :=
  let arg0 : BitVec 32 := BitVec.ofNat 32 (i 0).val
  let c0_i32 : BitVec 32 := 0#32
  let v4 : BitVec 1 := Scalar.cmpi .eq arg0 c0_i32
  let v12 : BitVec 32 := Scalar.extui v4
  let c0_i32_10 : BitVec 32 := 0#32
  let v13 : BitVec 1 := Scalar.cmpi .ne v12 c0_i32_10
  v13

def k0_cond4 (i : grid0.Coords) : BitVec 1 :=
  let arg0 : BitVec 32 := BitVec.ofNat 32 (i 0).val
  let c0_i32 : BitVec 32 := 0#32
  let v4 : BitVec 1 := Scalar.cmpi .eq arg0 c0_i32
  let true_11 : BitVec 1 := 1#1
  let v14 : BitVec 1 := Scalar.xori v4 true_11
  let v15 : BitVec 32 := Scalar.extui v14
  let c0_i32_12 : BitVec 32 := 0#32
  let v16 : BitVec 1 := Scalar.cmpi .ne v15 c0_i32_12
  v16

def k0_cond5 (i : grid0.Coords) : BitVec 1 :=
  let arg0 : BitVec 32 := BitVec.ofNat 32 (i 0).val
  let c0_i32 : BitVec 32 := 0#32
  let v4 : BitVec 1 := Scalar.cmpi .eq arg0 c0_i32
  let v18 : BitVec 32 := Scalar.extui v4
  let c0_i32_14 : BitVec 32 := 0#32
  let v19 : BitVec 1 := Scalar.cmpi .ne v18 c0_i32_14
  v19

def k0_cond6 (i : grid0.Coords) : BitVec 1 :=
  let arg0 : BitVec 32 := BitVec.ofNat 32 (i 0).val
  let c0_i32 : BitVec 32 := 0#32
  let v4 : BitVec 1 := Scalar.cmpi .eq arg0 c0_i32
  let true_15 : BitVec 1 := 1#1
  let v20 : BitVec 1 := Scalar.xori v4 true_15
  let v21 : BitVec 32 := Scalar.extui v20
  let c0_i32_16 : BitVec 32 := 0#32
  let v22 : BitVec 1 := Scalar.cmpi .ne v21 c0_i32_16
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1408x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1152x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4096x1024 : Shape := ⟨2, ![4096, 1024]⟩
abbrev S4096x1408 : Shape := ⟨2, ![4096, 1408]⟩
abbrev S4096x512 : Shape := ⟨2, ![4096, 512]⟩
abbrev S4096x1152 : Shape := ⟨2, ![4096, 1152]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1408x1024 : Shape := ⟨2, ![1408, 1024]⟩
abbrev S512x1024 : Shape := ⟨2, ![512, 1024]⟩
abbrev S1152x1024 : Shape := ⟨2, ![1152, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1408, .bf16⟩
  | .hbm, ⟨2, _⟩ => ⟨S4096x512, .bf16⟩
  | .hbm, ⟨3, _⟩ => ⟨S4096x1152, .bf16⟩
  | .hbm, ⟨4, _⟩ => ⟨S4096x3072, .bf16⟩
  | .hbm, ⟨5, _⟩ => ⟨S4096x3072, .f32⟩
  | .hbm, ⟨6, _⟩ => ⟨S_, .f32⟩
  | .hbm, ⟨7, _⟩ => ⟨S1024x3072, .f32⟩
  | .hbm, ⟨8, _⟩ => ⟨S4096x1024, .f32⟩
  | .hbm, ⟨9, _⟩ => ⟨S4096x3072, .f32⟩
  | .hbm, ⟨10, _⟩ => ⟨S3072x1024, .f32⟩
  | .hbm, ⟨11, _⟩ => ⟨S1024x3072, .f32⟩
  | .hbm, ⟨12, _⟩ => ⟨S3072x1024, .f32⟩
  | .hbm, ⟨13, _⟩ => ⟨S1408x1024, .f32⟩
  | .hbm, ⟨14, _⟩ => ⟨S512x1024, .f32⟩
  | .hbm, ⟨15, _⟩ => ⟨S1152x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S384x1024 : Shape := ⟨2, ![384, 1024]⟩
abbrev S256x1024 : Shape := ⟨2, ![256, 1024]⟩
abbrev S4096x384 : Shape := ⟨2, ![4096, 384]⟩
abbrev S4096x256 : Shape := ⟨2, ![4096, 256]⟩
abbrev S512x1024 : Shape := ⟨2, ![512, 1024]⟩
abbrev S512x384 : Shape := ⟨2, ![512, 384]⟩
abbrev S512x256 : Shape := ⟨2, ![512, 256]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S384x1024, .bf16⟩
  | .hbm, ⟨4, _⟩ => ⟨S256x1024, .bf16⟩
  | .hbm, ⟨5, _⟩ => ⟨S384x1024, .bf16⟩
  | .hbm, ⟨6, _⟩ => ⟨S4096x384, .f32⟩
  | .hbm, ⟨7, _⟩ => ⟨S4096x256, .f32⟩
  | .hbm, ⟨8, _⟩ => ⟨S4096x384, .f32⟩
  | .local _ .vmem, ⟨0, _⟩ => ⟨S512x1024, .f32⟩
  | .local _ .vmem, ⟨1, _⟩ => ⟨S512x1024, .f32⟩
  | .local _ .vmem, ⟨2, _⟩ => ⟨S384x1024, .bf16⟩
  | .local _ .vmem, ⟨3, _⟩ => ⟨S256x1024, .bf16⟩
  | .local _ .vmem, ⟨4, _⟩ => ⟨S384x1024, .bf16⟩
  | .local _ .vmem, ⟨5, _⟩ => ⟨S512x384, .f32⟩
  | .local _ .vmem, ⟨6, _⟩ => ⟨S512x384, .f32⟩
  | .local _ .vmem, ⟨7, _⟩ => ⟨S512x256, .f32⟩
  | .local _ .vmem, ⟨8, _⟩ => ⟨S512x256, .f32⟩
  | .local _ .vmem, ⟨9, _⟩ => ⟨S512x384, .f32⟩
  | .local _ .vmem, ⟨10, _⟩ => ⟨S512x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4096x1024 : Shape := ⟨2, ![4096, 1024]⟩
abbrev S1024x1024 : Shape := ⟨2, ![1024, 1024]⟩
abbrev S_ : Shape := ⟨0, ![]⟩
abbrev S4096x384 : Shape := ⟨2, ![4096, 384]⟩
abbrev S4096x256 : Shape := ⟨2, ![4096, 256]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x384, .f32⟩
  | .hbm, ⟨4, _⟩ => ⟨S_, .f32⟩
  | .hbm, ⟨5, _⟩ => ⟨S4096x256, .f32⟩
  | .hbm, ⟨6, _⟩ => ⟨S_, .f32⟩
  | .hbm, ⟨7, _⟩ => ⟨S4096x384, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x384, .f32⟩
  | .hbm, ⟨12, _⟩ => ⟨S4096x256, .f32⟩
  | .hbm, ⟨13, _⟩ => ⟨S4096x384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1024x2832 : Shape := ⟨2, ![1024, 2832]⟩
abbrev S2832x1024 : Shape := ⟨2, ![2832, 1024]⟩
abbrev S192x1024 : Shape := ⟨2, ![192, 1024]⟩
abbrev S384x1024 : Shape := ⟨2, ![384, 1024]⟩
abbrev S16x1024 : Shape := ⟨2, ![16, 1024]⟩
abbrev S512x1024 : Shape := ⟨2, ![512, 1024]⟩
abbrev S_ : Shape := ⟨0, ![]⟩
abbrev S256x1024 : Shape := ⟨2, ![256, 1024]⟩
abbrev S128x1024 : Shape := ⟨2, ![128, 1024]⟩
abbrev S1408x1024 : Shape := ⟨2, ![1408, 1024]⟩
abbrev S1152x1024 : Shape := ⟨2, ![1152, 1024]⟩
abbrev S1x1024 : Shape := ⟨2, ![1, 1024]⟩
abbrev S4096x1408 : Shape := ⟨2, ![4096, 1408]⟩
abbrev S4096x512 : Shape := ⟨2, ![4096, 512]⟩
abbrev S4096x1152 : Shape := ⟨2, ![4096, 1152]⟩
abbrev S512x1408 : Shape := ⟨2, ![512, 1408]⟩
abbrev S512x512 : Shape := ⟨2, ![512, 512]⟩
abbrev S512x1152 : Shape := ⟨2, ![512, 1152]⟩
abbrev S512 : Shape := ⟨1, ![512]⟩
abbrev S512x1 : Shape := ⟨2, ![512, 1]⟩

abbrev nBuf : Space → Nat
  | .hbm => 30
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2832, .f32⟩
  | .hbm, ⟨3, _⟩ => ⟨S2832x1024, .f32⟩
  | .hbm, ⟨4, _⟩ => ⟨S2832x1024, .bf16⟩
  | .hbm, ⟨5, _⟩ => ⟨S192x1024, .bf16⟩
  | .hbm, ⟨6, _⟩ => ⟨S192x1024, .bf16⟩
  | .hbm, ⟨7, _⟩ => ⟨S384x1024, .bf16⟩
  | .hbm, ⟨8, _⟩ => ⟨S384x1024, .bf16⟩
  | .hbm, ⟨9, _⟩ => ⟨S16x1024, .bf16⟩
  | .hbm, ⟨10, _⟩ => ⟨S512x1024, .bf16⟩
  | .hbm, ⟨11, _⟩ => ⟨S384x1024, .bf16⟩
  | .hbm, ⟨12, _⟩ => ⟨S384x1024, .bf16⟩
  | .hbm, ⟨13, _⟩ => ⟨S384x1024, .bf16⟩
  | .hbm, ⟨14, _⟩ => ⟨S_, .i32⟩
  | .hbm, ⟨15, _⟩ => ⟨S_, .bf16⟩
  | .hbm, ⟨16, _⟩ => ⟨S256x1024, .bf16⟩
  | .hbm, ⟨17, _⟩ => ⟨S_, .i32⟩
  | .hbm, ⟨18, _⟩ => ⟨S_, .bf16⟩
  | .hbm, ⟨19, _⟩ => ⟨S256x1024, .bf16⟩
  | .hbm, ⟨20, _⟩ => ⟨S_, .i32⟩
  | .hbm, ⟨21, _⟩ => ⟨S_, .bf16⟩
  | .hbm, ⟨22, _⟩ => ⟨S128x1024, .bf16⟩
  | .hbm, ⟨23, _⟩ => ⟨S1408x1024, .bf16⟩
  | .hbm, ⟨24, _⟩ => ⟨S1152x1024, .bf16⟩
  | .hbm, ⟨25, _⟩ => ⟨S1x1024, .f32⟩
  | .hbm, ⟨26, _⟩ => ⟨S4096x1408, .f32⟩
  | .hbm, ⟨27, _⟩ => ⟨S4096x512, .f32⟩
  | .hbm, ⟨28, _⟩ => ⟨S4096x1152, .bf16⟩
  | .hbm, ⟨29, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S512x1024, .bf16⟩
  | .local _ .vmem, ⟨4, _⟩ => ⟨S1152x1024, .bf16⟩
  | .local _ .vmem, ⟨5, _⟩ => ⟨S1x1024, .f32⟩
  | .local _ .vmem, ⟨6, _⟩ => ⟨S512x1408, .f32⟩
  | .local _ .vmem, ⟨7, _⟩ => ⟨S512x1408, .f32⟩
  | .local _ .vmem, ⟨8, _⟩ => ⟨S512x512, .f32⟩
  | .local _ .vmem, ⟨9, _⟩ => ⟨S512x512, .f32⟩
  | .local _ .vmem, ⟨10, _⟩ => ⟨S512x1152, .bf16⟩
  | .local _ .vmem, ⟨11, _⟩ => ⟨S512x1152, .bf16⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_c_1 : Ref sig .tc := ⟨.hbm, 20, rfl⟩
abbrev main_call2_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4096x1024 : Shape := ⟨2, ![4096, 1024]⟩
abbrev S1024 : Shape := ⟨1, ![1024]⟩
abbrev S1024x2832 : Shape := ⟨2, ![1024, 2832]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2832 : Shape := ⟨2, ![4096, 2832]⟩
abbrev S4096x192 : Shape := ⟨2, ![4096, 192]⟩
abbrev S4096x64 : Shape := ⟨2, ![4096, 64]⟩
abbrev S4096x784 : Shape := ⟨2, ![4096, 784]⟩
abbrev S4096x112 : Shape := ⟨2, ![4096, 112]⟩
abbrev S4096x1408 : Shape := ⟨2, ![4096, 1408]⟩
abbrev S4096x512 : Shape := ⟨2, ![4096, 512]⟩
abbrev S4096x1152 : Shape := ⟨2, ![4096, 1152]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2832, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2832, .f32⟩
  | .hbm, ⟨20, _⟩ => ⟨S4096x192, .f32⟩
  | .hbm, ⟨21, _⟩ => ⟨S_, .f32⟩
  | .hbm, ⟨22, _⟩ => ⟨S4096x64, .f32⟩
  | .hbm, ⟨23, _⟩ => ⟨S4096x192, .f32⟩
  | .hbm, ⟨24, _⟩ => ⟨S_, .f32⟩
  | .hbm, ⟨25, _⟩ => ⟨S4096x64, .f32⟩
  | .hbm, ⟨26, _⟩ => ⟨S4096x784, .f32⟩
  | .hbm, ⟨27, _⟩ => ⟨S_, .f32⟩
  | .hbm, ⟨28, _⟩ => ⟨S4096x112, .f32⟩
  | .hbm, ⟨29, _⟩ => ⟨S4096x1408, .f32⟩
  | .hbm, ⟨30, _⟩ => ⟨S4096x512, .f32⟩
  | .hbm, ⟨31, _⟩ => ⟨S4096x1152, .f32⟩
  | .hbm, ⟨32, _⟩ => ⟨S4096x1152, .bf16⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel12.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond4 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference12Ideal.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel13.lean ====
abbrev S4096x1408 : Shape := ⟨2, ![4096, 1408]⟩
abbrev S4096x512 : Shape := ⟨2, ![4096, 512]⟩
abbrev S4096x1152 : Shape := ⟨2, ![4096, 1152]⟩
abbrev S1024x2832 : Shape := ⟨2, ![1024, 2832]⟩
abbrev S4096x1024 : Shape := ⟨2, ![4096, 1024]⟩
abbrev S1024 : Shape := ⟨1, ![1024]⟩
abbrev S2832x1024 : Shape := ⟨2, ![2832, 1024]⟩
abbrev S192x1024 : Shape := ⟨2, ![192, 1024]⟩
abbrev S384x1024 : Shape := ⟨2, ![384, 1024]⟩
abbrev S16x1024 : Shape := ⟨2, ![16, 1024]⟩
abbrev S512x1024 : Shape := ⟨2, ![512, 1024]⟩
abbrev S_ : Shape := ⟨0, ![]⟩
abbrev S256x1024 : Shape := ⟨2, ![256, 1024]⟩
abbrev S128x1024 : Shape := ⟨2, ![128, 1024]⟩
abbrev S1408x1024 : Shape := ⟨2, ![1408, 1024]⟩
abbrev S1152x1024 : Shape := ⟨2, ![1152, 1024]⟩
abbrev S1x1024 : Shape := ⟨2, ![1, 1024]⟩
abbrev S512x1408 : Shape := ⟨2, ![512, 1408]⟩
abbrev S512x512 : Shape := ⟨2, ![512, 512]⟩
abbrev S512x1152 : Shape := ⟨2, ![512, 1152]⟩
abbrev S512 : Shape := ⟨1, ![512]⟩
abbrev S512x1 : Shape := ⟨2, ![512, 1]⟩

abbrev nBuf : Space → Nat
  | .hbm => 32
  | .vmem => 17
  | .smem => 0
  | _ => 0

abbrev bufTy : (tb : Table) → Fin (tcTables nBuf tb) → BufTy
  | .hbm, ⟨0, _⟩ => ⟨S4096x1408, .bf16⟩
  | .hbm, ⟨1, _⟩ => ⟨S4096x512, .bf16⟩
  | .hbm, ⟨2, _⟩ => ⟨S4096x1152, .bf16⟩
  | .hbm, ⟨3, _⟩ => ⟨S1024x2832, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S2832x1024, .f32⟩
  | .hbm, ⟨8, _⟩ => ⟨S2832x1024, .bf16⟩
  | .hbm, ⟨9, _⟩ => ⟨S192x1024, .bf16⟩
  | .hbm, ⟨10, _⟩ => ⟨S192x1024, .bf16⟩
  | .hbm, ⟨11, _⟩ => ⟨S384x1024, .bf16⟩
  | .hbm, ⟨12, _⟩ => ⟨S384x1024, .bf16⟩
  | .hbm, ⟨13, _⟩ => ⟨S16x1024, .bf16⟩
  | .hbm, ⟨14, _⟩ => ⟨S512x1024, .bf16⟩
  | .hbm, ⟨15, _⟩ => ⟨S384x1024, .bf16⟩
  | .hbm, ⟨16, _⟩ => ⟨S384x1024, .bf16⟩
  | .hbm, ⟨17, _⟩ => ⟨S384x1024, .bf16⟩
  | .hbm, ⟨18, _⟩ => ⟨S_, .i32⟩
  | .hbm, ⟨19, _⟩ => ⟨S_, .bf16⟩
  | .hbm, ⟨20, _⟩ => ⟨S256x1024, .bf16⟩
  | .hbm, ⟨21, _⟩ => ⟨S_, .i32⟩
  | .hbm, ⟨22, _⟩ => ⟨S_, .bf16⟩
  | .hbm, ⟨23, _⟩ => ⟨S256x1024, .bf16⟩
  | .hbm, ⟨24, _⟩ => ⟨S_, .i32⟩
  | .hbm, ⟨25, _⟩ => ⟨S_, .bf16⟩
  | .hbm, ⟨26, _⟩ => ⟨S128x1024, .bf16⟩
  | .hbm, ⟨27, _⟩ => ⟨S1408x1024, .bf16⟩
  | .hbm, ⟨28, _⟩ => ⟨S1152x1024, .bf16⟩
  | .hbm, ⟨29, _⟩ => ⟨S1x1024, .f32⟩
  | .hbm, ⟨30, _⟩ => ⟨S4096x1024, .f32⟩
  | .hbm, ⟨31, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x512, .bf16⟩
  | .local _ .vmem, ⟨3, _⟩ => ⟨S512x512, .bf16⟩
  | .local _ .vmem, ⟨4, _⟩ => ⟨S512x1152, .bf16⟩
  | .local _ .vmem, ⟨5, _⟩ => ⟨S512x1152, .bf16⟩
  | .local _ .vmem, ⟨6, _⟩ => ⟨S1408x1024, .bf16⟩
  | .local _ .vmem, ⟨7, _⟩ => ⟨S512x1024, .bf16⟩
  | .local _ .vmem, ⟨8, _⟩ => ⟨S1152x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_c_0 : Ref sig .tc := ⟨.hbm, 21, rfl⟩
abbrev main_call1_v0 : Ref sig .tc := ⟨.hbm, 22, rfl⟩
abbrev main_v12 : Ref sig .tc := ⟨.hbm, 23, rfl⟩
abbrev main_c_1 : Ref sig .tc := ⟨.hbm, 24, rfl⟩
abbrev main_call2_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1152x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference13Ideal.lean ====
abbrev S4096x1408 : Shape := ⟨2, ![4096, 1408]⟩
abbrev S4096x512 : Shape := ⟨2, ![4096, 512]⟩
abbrev S4096x1152 : Shape := ⟨2, ![4096, 1152]⟩
abbrev S1024x2832 : Shape := ⟨2, ![1024, 2832]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2832 : Shape := ⟨2, ![4096, 2832]⟩
abbrev S4096x192 : Shape := ⟨2, ![4096, 192]⟩
abbrev S4096x64 : Shape := ⟨2, ![4096, 64]⟩
abbrev S4096x784 : Shape := ⟨2, ![4096, 784]⟩
abbrev S4096x112 : Shape := ⟨2, ![4096, 112]⟩

abbrev nBuf : Space → Nat
  | .hbm => 97
  | .vmem => 0
  | .smem => 0
  | _ => 0

abbrev bufTy : (tb : Table) → Fin (tcTables nBuf tb) → BufTy
  | .hbm, ⟨0, _⟩ => ⟨S4096x1408, .bf16⟩
  | .hbm, ⟨1, _⟩ => ⟨S4096x512, .bf16⟩
  | .hbm, ⟨2, _⟩ => ⟨S4096x1152, .bf16⟩
  | .hbm, ⟨3, _⟩ => ⟨S1024x2832, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2832, .f32⟩
  | .hbm, ⟨28, _⟩ => ⟨S4096x192, .f32⟩
  | .hbm, ⟨29, _⟩ => ⟨S_, .f32⟩
  | .hbm, ⟨30, _⟩ => ⟨S4096x64, .f32⟩
  | .hbm, ⟨31, _⟩ => ⟨S4096x192, .f32⟩
  | .hbm, ⟨32, _⟩ => ⟨S_, .f32⟩
  | .hbm, ⟨33, _⟩ => ⟨S4096x64, .f32⟩
  | .hbm, ⟨34, _⟩ => ⟨S4096x784, .f32⟩
  | .hbm, ⟨35, _⟩ => ⟨S_, .f32⟩
  | .hbm, ⟨36, _⟩ => ⟨S4096x112, .f32⟩
  | .hbm, ⟨37, _⟩ => ⟨S4096x1408, .f32⟩
  | .hbm, ⟨38, _⟩ => ⟨S_, .f32⟩
  | .hbm, ⟨39, _⟩ => ⟨S4096x64, .f32⟩
  | .hbm, ⟨40, _⟩ => ⟨S_, .f32⟩
  | .hbm, ⟨41, _⟩ => ⟨S4096x64, .f32⟩
  | .hbm, ⟨42, _⟩ => ⟨S_, .f32⟩
  | .hbm, ⟨43, _⟩ => ⟨S4096x112, .f32⟩
  | .hbm, ⟨44, _⟩ => ⟨S4096x512, .f32⟩
  | .hbm, ⟨45, _⟩ => ⟨S4096x1152, .f32⟩
  | .hbm, ⟨46, _⟩ => ⟨S4096x1408, .f32⟩
  | .hbm, ⟨47, _⟩ => ⟨S4096x512, .f32⟩
  | .hbm, ⟨48, _⟩ => ⟨S4096x1152, .f32⟩
  | .hbm, ⟨49, _⟩ => ⟨S_, .f32⟩
  | .hbm, ⟨50, _⟩ => ⟨S4096x2832, .f32⟩
  | .hbm, ⟨51, _⟩ => ⟨S_, .f32⟩
  | .hbm, ⟨52, _⟩ => ⟨S4096x2832, .f32⟩
  | .hbm, ⟨53, _⟩ => ⟨S4096x2832, .f32⟩
  | .hbm, ⟨54, _⟩ => ⟨S4096x192, .f32⟩
  | .hbm, ⟨55, _⟩ => ⟨S4096x64, .f32⟩
  | .hbm, ⟨56, _⟩ => ⟨S4096x192, .f32⟩
  | .hbm, ⟨57, _⟩ => ⟨S4096x64, .f32⟩
  | .hbm, ⟨58, _⟩ => ⟨S4096x784, .f32⟩
  | .hbm, ⟨59, _⟩ => ⟨S4096x112, .f32⟩
  | .hbm, ⟨60, _⟩ => ⟨S_, .f32⟩
  | .hbm, ⟨61, _⟩ => ⟨S4096x2832, .f32⟩
  | .hbm, ⟨62, _⟩ => ⟨S4096x2832, .f32⟩
  | .hbm, ⟨63, _⟩ => ⟨S_, .f32⟩
  | .hbm, ⟨64, _⟩ => ⟨S4096x2832, .f32⟩
  | .hbm, ⟨65, _⟩ => ⟨S4096x2832, .f32⟩
  | .hbm, ⟨66, _⟩ => ⟨S_, .f32⟩
  | .hbm, ⟨67, _⟩ => ⟨S4096x2832, .f32⟩
  | .hbm, ⟨68, _⟩ => ⟨S4096x2832, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S1x1024, .f32⟩
  | _, _ => ⟨S4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_cst_16 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_17 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel15.lean ====
abbrev S4096x512 : Shape := ⟨2, ![4096, 512]⟩
abbrev S31x256 : Shape := ⟨2, ![31, 256]⟩
abbrev S256 : Shape := ⟨1, ![256]⟩
abbrev S_ : Shape := ⟨0, ![]⟩
abbrev S32x256 : Shape := ⟨2, ![32, 256]⟩
abbrev S1x256 : Shape := ⟨2, ![1, 256]⟩
abbrev S4096x256 : Shape := ⟨2, ![4096, 256]⟩
abbrev S512x512 : Shape := ⟨2, ![512, 512]⟩
abbrev S32x512 : Shape := ⟨2, ![32, 512]⟩
abbrev S512x256 : Shape := ⟨2, ![512, 256]⟩
abbrev S544x256 : Shape := ⟨2, ![544, 256]⟩
abbrev S64x256 : Shape := ⟨2, ![64, 256]⟩
abbrev S64 : Shape := ⟨1, ![64]⟩
abbrev S64x1 : Shape := ⟨2, ![64, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S32x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S4096x256, .bf16⟩
  | .hbm, ⟨12, _⟩ => ⟨S4096x256, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S32x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S544x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S4096x512 : Shape := ⟨2, ![4096, 512]⟩
abbrev S31x256 : Shape := ⟨2, ![31, 256]⟩
abbrev S256 : Shape := ⟨1, ![256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S1x256 : Shape := ⟨2, ![1, 256]⟩
abbrev S4096 : Shape := ⟨1, ![4096]⟩
abbrev S4096x1 : Shape := ⟨2, ![4096, 1]⟩

abbrev nBuf : Space → Nat
  | .hbm => 280
  | .vmem => 0
  | .smem => 0
  | _ => 0

abbrev hbmTy0_0 (i : Nat) : BufTy := match i % 128 with
  | 0 => ⟨S4096x512, .f32⟩
  | 1 => ⟨S31x256, .f32⟩
  | 2 => ⟨S256, .f32⟩
  | 3 => ⟨S256, .f32⟩
  | 4 => ⟨S256, .f32⟩
  | 5 => ⟨S4096x256, .f32⟩
  | 6 => ⟨S4096x256, .f32⟩
  | 7 => ⟨S4096x256, .f32⟩
  | 8 => ⟨S4096x256, .f32⟩
  | 9 => ⟨S_, .f32⟩
  | 10 => ⟨S4096x256, .f32⟩
  | 11 => ⟨S4096x256, .f32⟩
  | 12 => ⟨S_, .f32⟩
  | 13 => ⟨S4096x256, .f32⟩
  | 14 => ⟨S4096x256, .f32⟩
  | 15 => ⟨S4096x256, .f32⟩
  | 16 => ⟨S_, .f32⟩
  | 17 => ⟨S30x256, .f32⟩
  | 18 => ⟨S4126x256, .f32⟩
  | 19 => ⟨S1x256, .f32⟩
  | 20 => ⟨S256, .f32⟩
  | 21 => ⟨S4096x256, .f32⟩
  | 22 => ⟨S1x256, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256, .f32⟩
  | 29 => ⟨S256, .f32⟩
  | 30 => ⟨S4096x256, .f32⟩
  | 31 => ⟨S1x256, .f32⟩
  | 32 => ⟨S4096x256, .f32⟩
  | 33 => ⟨S4096x256, .f32⟩
  | 34 => ⟨S4096x256, .f32⟩
  | 35 => ⟨S1x256, .f32⟩
  | 36 => ⟨S256, .f32⟩
  | 37 => ⟨S4096x256, .f32⟩
  | 38 => ⟨S1x256, .f32⟩
  | 39 => ⟨S4096x256, .f32⟩
  | 40 => ⟨S4096x256, .f32⟩
  | 41 => ⟨S4096x256, .f32⟩
  | 42 => ⟨S1x256, .f32⟩
  | 43 => ⟨S256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S1x256, .f32⟩
  | 50 => ⟨S256, .f32⟩
  | 51 => ⟨S4096x256, .f32⟩
  | 52 => ⟨S1x256, .f32⟩
  | 53 => ⟨S4096x256, .f32⟩
  | 54 => ⟨S4096x256, .f32⟩
  | 55 => ⟨S4096x256, .f32⟩
  | 56 => ⟨S1x256, .f32⟩
  | 57 => ⟨S256, .f32⟩
  | 58 => ⟨S4096x256, .f32⟩
  | 59 => ⟨S1x256, .f32⟩
  | 60 => ⟨S4096x256, .f32⟩
  | 61 => ⟨S4096x256, .f32⟩
  | 62 => ⟨S4096x256, .f32⟩
  | 63 => ⟨S1x256, .f32⟩
  | 64 => ⟨S256, .f32⟩
  | 65 => ⟨S4096x256, .f32⟩
  | 66 => ⟨S1x256, .f32⟩
  | 67 => ⟨S4096x256, .f32⟩
  | 68 => ⟨S4096x256, .f32⟩
  | 69 => ⟨S4096x256, .f32⟩
  | 70 => ⟨S1x256, .f32⟩
  | 71 => ⟨S256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S1x256, .f32⟩
  | 78 => ⟨S256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S1x256, .f32⟩
  | 85 => ⟨S256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S1x256, .f32⟩
  | 92 => ⟨S256, .f32⟩
  | 93 => ⟨S4096x256, .f32⟩
  | 94 => ⟨S1x256, .f32⟩
  | 95 => ⟨S4096x256, .f32⟩
  | 96 => ⟨S4096x256, .f32⟩
  | 97 => ⟨S4096x256, .f32⟩
  | 98 => ⟨S1x256, .f32⟩
  | 99 => ⟨S256, .f32⟩
  | 100 => ⟨S4096x256, .f32⟩
  | 101 => ⟨S1x256, .f32⟩
  | 102 => ⟨S4096x256, .f32⟩
  | 103 => ⟨S4096x256, .f32⟩
  | 104 => ⟨S4096x256, .f32⟩
  | 105 => ⟨S1x256, .f32⟩
  | 106 => ⟨S256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S1x256, .f32⟩
  | 113 => ⟨S256, .f32⟩
  | 114 => ⟨S4096x256, .f32⟩
  | 115 => ⟨S1x256, .f32⟩
  | 116 => ⟨S4096x256, .f32⟩
  | 117 => ⟨S4096x256, .f32⟩
  | 118 => ⟨S4096x256, .f32⟩
  | 119 => ⟨S1x256, .f32⟩
  | 120 => ⟨S256, .f32⟩
  | 121 => ⟨S4096x256, .f32⟩
  | 122 => ⟨S1x256, .f32⟩
  | 123 => ⟨S4096x256, .f32⟩
  | 124 => ⟨S4096x256, .f32⟩
  | 125 => ⟨S4096x256, .f32⟩
  | 126 => ⟨S1x256, .f32⟩
  | 127 => ⟨S256, .f32⟩
  | _ => ⟨S4096x512, .f32⟩

abbrev hbmTy0_1 (i : Nat) : BufTy := match i % 128 with
  | 0 => ⟨S4096x256, .f32⟩
  | 1 => ⟨S1x256, .f32⟩
  | 2 => ⟨S4096x256, .f32⟩
  | 3 => ⟨S4096x256, .f32⟩
  | 4 => ⟨S4096x256, .f32⟩
  | 5 => ⟨S1x256, .f32⟩
  | 6 => ⟨S256, .f32⟩
  | 7 => ⟨S4096x256, .f32⟩
  | 8 => ⟨S1x256, .f32⟩
  | 9 => ⟨S4096x256, .f32⟩
  | 10 => ⟨S4096x256, .f32⟩
  | 11 => ⟨S4096x256, .f32⟩
  | 12 => ⟨S1x256, .f32⟩
  | 13 => ⟨S256, .f32⟩
  | 14 => ⟨S4096x256, .f32⟩
  | 15 => ⟨S1x256, .f32⟩
  | 16 => ⟨S4096x256, .f32⟩
  | 17 => ⟨S4096x256, .f32⟩
  | 18 => ⟨S4096x256, .f32⟩
  | 19 => ⟨S1x256, .f32⟩
  | 20 => ⟨S256, .f32⟩
  | 21 => ⟨S4096x256, .f32⟩
  | 22 => ⟨S1x256, .f32⟩
  | 23 => ⟨S4096x256, .f32⟩
  | 24 => ⟨S4096x256, .f32⟩
  | 25 => ⟨S4096x256, .f32⟩
  | 26 => ⟨S1x256, .f32⟩
  | 27 => ⟨S256, .f32⟩
  | 28 => ⟨S4096x256, .f32⟩
  | 29 => ⟨S1x256, .f32⟩
  | 30 => ⟨S4096x256, .f32⟩
  | 31 => ⟨S4096x256, .f32⟩
  | 32 => ⟨S4096x256, .f32⟩
  | 33 => ⟨S1x256, .f32⟩
  | 34 => ⟨S256, .f32⟩
  | 35 => ⟨S4096x256, .f32⟩
  | 36 => ⟨S1x256, .f32⟩
  | 37 => ⟨S4096x256, .f32⟩
  | 38 => ⟨S4096x256, .f32⟩
  | 39 => ⟨S4096x256, .f32⟩
  | 40 => ⟨S1x256, .f32⟩
  | 41 => ⟨S256, .f32⟩
  | 42 => ⟨S4096x256, .f32⟩
  | 43 => ⟨S1x256, .f32⟩
  | 44 => ⟨S4096x256, .f32⟩
  | 45 => ⟨S4096x256, .f32⟩
  | 46 => ⟨S4096x256, .f32⟩
  | 47 => ⟨S1x256, .f32⟩
  | 48 => ⟨S256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S1x256, .f32⟩
  | 55 => ⟨S256, .f32⟩
  | 56 => ⟨S4096x256, .f32⟩
  | 57 => ⟨S1x256, .f32⟩
  | 58 => ⟨S4096x256, .f32⟩
  | 59 => ⟨S4096x256, .f32⟩
  | 60 => ⟨S4096x256, .f32⟩
  | 61 => ⟨S1x256, .f32⟩
  | 62 => ⟨S256, .f32⟩
  | 63 => ⟨S4096x256, .f32⟩
  | 64 => ⟨S1x256, .f32⟩
  | 65 => ⟨S4096x256, .f32⟩
  | 66 => ⟨S4096x256, .f32⟩
  | 67 => ⟨S4096x256, .f32⟩
  | 68 => ⟨S1x256, .f32⟩
  | 69 => ⟨S256, .f32⟩
  | 70 => ⟨S4096x256, .f32⟩
  | 71 => ⟨S1x256, .f32⟩
  | 72 => ⟨S4096x256, .f32⟩
  | 73 => ⟨S4096x256, .f32⟩
  | 74 => ⟨S4096x256, .f32⟩
  | 75 => ⟨S1x256, .f32⟩
  | 76 => ⟨S256, .f32⟩
  | 77 => ⟨S4096x256, .f32⟩
  | 78 => ⟨S1x256, .f32⟩
  | 79 => ⟨S4096x256, .f32⟩
  | 80 => ⟨S4096x256, .f32⟩
  | 81 => ⟨S4096x256, .f32⟩
  | 82 => ⟨S1x256, .f32⟩
  | 83 => ⟨S256, .f32⟩
  | 84 => ⟨S4096x256, .f32⟩
  | 85 => ⟨S1x256, .f32⟩
  | 86 => ⟨S4096x256, .f32⟩
  | 87 => ⟨S4096x256, .f32⟩
  | 88 => ⟨S4096x256, .f32⟩
  | 89 => ⟨S1x256, .f32⟩
  | 90 => ⟨S256, .f32⟩
  | 91 => ⟨S4096x256, .f32⟩
  | 92 => ⟨S1x256, .f32⟩
  | 93 => ⟨S4096x256, .f32⟩
  | 94 => ⟨S4096x256, .f32⟩
  | 95 => ⟨S4096x256, .f32⟩
  | 96 => ⟨S1x256, .f32⟩
  | 97 => ⟨S256, .f32⟩
  | 98 => ⟨S4096x256, .f32⟩
  | 99 => ⟨S1x256, .f32⟩
  | 100 => ⟨S4096x256, .f32⟩
  | 101 => ⟨S4096x256, .f32⟩
  | 102 => ⟨S4096x256, .f32⟩
  | 103 => ⟨S1x256, .f32⟩
  | 104 => ⟨S256, .f32⟩
  | 105 => ⟨S4096x256, .f32⟩
  | 106 => ⟨S1x256, .f32⟩
  | 107 => ⟨S4096x256, .f32⟩
  | 108 => ⟨S4096x256, .f32⟩
  | 109 => ⟨S4096x256, .f32⟩
  | 110 => ⟨S1x256, .f32⟩
  | 111 => ⟨S4096x256, .f32⟩
  | 112 => ⟨S4096x256, .f32⟩
  | 113 => ⟨S_, .f32⟩
  | 114 => ⟨S4096, .f32⟩
  | 115 => ⟨S4096x1, .f32⟩
  | 116 => ⟨S_, .f32⟩
  | 117 => ⟨S4096x1, .f32⟩
  | 118 => ⟨S4096x1, .f32⟩
  | 119 => ⟨S4096x256, .f32⟩
  | 120 => ⟨S4096x256, .f32⟩
  | 121 => ⟨S4096x256, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x512, .f32⟩

abbrev hbmTy0_2 (i : Nat) : BufTy := match i % 128 with
  | 0 => ⟨S4096x256, .f32⟩
  | 1 => ⟨S4096x256, .f32⟩
  | 2 => ⟨S_, .f32⟩
  | 3 => ⟨S4096x1, .f32⟩
  | 4 => ⟨S4096x1, .f32⟩
  | 5 => ⟨S4096x1, .f32⟩
  | 6 => ⟨S4096x256, .f32⟩
  | 7 => ⟨S4096x256, .f32⟩
  | 8 => ⟨S1x256, .f32⟩
  | 9 => ⟨S4096x256, .f32⟩
  | 10 => ⟨S4096x256, .f32⟩
  | 11 => ⟨S1x256, .f32⟩
  | 12 => ⟨S4096x256, .f32⟩
  | 13 => ⟨S4096x256, .f32⟩
  | 14 => ⟨S4096x256, .f32⟩
  | 15 => ⟨S4096x256, .f32⟩
  | 16 => ⟨S_, .f32⟩
  | 17 => ⟨S4096x256, .f32⟩
  | 18 => ⟨S4096x256, .f32⟩
  | 19 => ⟨S_, .f32⟩
  | 20 => ⟨S4096x256, .f32⟩
  | 21 => ⟨S4096x256, .f32⟩
  | 22 => ⟨S4096x256, .f32⟩
  | 23 => ⟨S4096x256, .bf16⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_3 : Ref sig .tc := ⟨.hbm, 241, rfl⟩
abbrev main_v232 : Ref sig .tc := ⟨.hbm, 242, rfl⟩
abbrev main_v233 : Ref sig .tc := ⟨.hbm, 243, rfl⟩
abbrev main_cst_4 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_5 : Ref sig .tc := ⟨.hbm, 250, rfl⟩
abbrev main_v239 : Ref sig .tc := ⟨.hbm, 251, rfl⟩
abbrev main_v240 : Ref sig .tc := ⟨.hbm, 252, rfl⟩
abbrev main_cst_6 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_cst_7 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_call0_v0 : Ref sig .tc := ⟨.hbm, 270, rfl⟩
abbrev main_call0_v1 : Ref sig .tc := ⟨.hbm, 271, rfl⟩
abbrev main_call0_cst : Ref sig .tc := ⟨.hbm, 272, rfl⟩
abbrev main_call0_v2 : Ref sig .tc := ⟨.hbm, 273, rfl⟩
abbrev main_call0_v3 : Ref sig .tc := ⟨.hbm, 274, rfl⟩
abbrev main_call0_cst_0 : Ref sig .tc := ⟨.hbm, 275, rfl⟩
abbrev main_call0_v4 : Ref sig .tc := ⟨.hbm, 276, rfl⟩
abbrev main_call0_v5 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== Kernel17.lean ====
abbrev S2x1024x708 : Shape := ⟨3, ![2, 1024, 708]⟩
abbrev S2x736x1024 : Shape := ⟨3, ![2, 736, 1024]⟩
abbrev S2x708x1024 : Shape := ⟨3, ![2, 708, 1024]⟩
abbrev S708x2x1024 : Shape := ⟨3, ![708, 2, 1024]⟩
abbrev S59x2x1024 : Shape := ⟨3, ![59, 2, 1024]⟩

abbrev nBuf : Space → Nat
  | .hbm => 12
  | .vmem => 14
  | .smem => 0
  | _ => 0

abbrev bufTy : (tb : Table) → Fin (tcTables nBuf tb) → BufTy
  | .hbm, ⟨0, _⟩ => ⟨S2x1024x708, .f32⟩
  | .hbm, ⟨1, _⟩ => ⟨S2x736x1024, .f32⟩
  | .hbm, ⟨2, _⟩ => ⟨S2x1024x708, .f32⟩
  | .hbm, ⟨3, _⟩ => ⟨S2x1024x708, .f32⟩
  | .hbm, ⟨4, _⟩ => ⟨S2x708x1024, .f32⟩
  | .hbm, ⟨5, _⟩ => ⟨S708x2x1024, .f32⟩
  | .hbm, ⟨6, _⟩ => ⟨S708x2x1024, .f32⟩
  | .hbm, ⟨7, _⟩ => ⟨S708x2x1024, .f32⟩
  | .hbm, ⟨8, _⟩ => ⟨S708x2x1024, .f32⟩
  | .hbm, ⟨9, _⟩ => ⟨S708x2x1024, .f32⟩
  | .hbm, ⟨10, _⟩ => ⟨S708x2x1024, .f32⟩
  | .hbm, ⟨11, _⟩ => ⟨S708x2x1024, .f32⟩
  | .local _ .vmem, ⟨0, _⟩ => ⟨S59x2x1024, .f32⟩
  | .local _ .vmem, ⟨1, _⟩ => ⟨S59x2x1024, .f32⟩
  | .local _ .vmem, ⟨2, _⟩ => ⟨S59x2x1024, .f32⟩
  | .local _ .vmem, ⟨3, _⟩ => ⟨S59x2x1024, .f32⟩
  | .local _ .vmem, ⟨4, _⟩ => ⟨S59x2x1024, .f32⟩
  | .local _ .vmem, ⟨5, _⟩ => ⟨S59x2x1024, .f32⟩
  | .local _ .vmem, ⟨6, _⟩ => ⟨S59x2x1024, .f32⟩
  | .local _ .vmem, ⟨7, _⟩ => ⟨S59x2x1024, .f32⟩
  | .local _ .vmem, ⟨8, _⟩ => ⟨S59x2x1024, .f32⟩
  | .local _ .vmem, ⟨9, _⟩ => ⟨S59x2x1024, .f32⟩
  | .local _ .vmem, ⟨10, _⟩ => ⟨S59x2x1024, .f32⟩
  | .local _ .vmem, ⟨11, _⟩ => ⟨S59x2x1024, .f32⟩
  | .local _ .vmem, ⟨12, _⟩ => ⟨S59x2x1024, .f32⟩
  | .local _ .vmem, ⟨13, _⟩ => ⟨S59x2x1024, .f32⟩
  | _, _ => ⟨S2x1024x708, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S59x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S59x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S59x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S59x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S59x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S59x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S59x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S2x1024x708 : Shape := ⟨3, ![2, 1024, 708]⟩
abbrev S2x736x1024 : Shape := ⟨3, ![2, 736, 1024]⟩
abbrev S2x708x1024 : Shape := ⟨3, ![2, 708, 1024]⟩
abbrev S_ : Shape := ⟨0, ![]⟩
abbrev S708x2x1024 : Shape := ⟨3, ![708, 2, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x1024x708, .f32⟩
  | .hbm, ⟨1, _⟩ => ⟨S2x736x1024, .f32⟩
  | .hbm, ⟨2, _⟩ => ⟨S2x1024x708, .f32⟩
  | .hbm, ⟨3, _⟩ => ⟨S2x1024x708, .f32⟩
  | .hbm, ⟨4, _⟩ => ⟨S2x708x1024, .f32⟩
  | .hbm, ⟨5, _⟩ => ⟨S2x1024x708, .f32⟩
  | .hbm, ⟨6, _⟩ => ⟨S_, .f32⟩
  | .hbm, ⟨7, _⟩ => ⟨S2x1024x708, .f32⟩
  | .hbm, ⟨8, _⟩ => ⟨S2x1024x708, .f32⟩
  | .hbm, ⟨9, _⟩ => ⟨S_, .f32⟩
  | .hbm, ⟨10, _⟩ => ⟨S2x1024x708, .f32⟩
  | .hbm, ⟨11, _⟩ => ⟨S2x1024x708, .f32⟩
  | .hbm, ⟨12, _⟩ => ⟨S2x1024x708, .f32⟩
  | .hbm, ⟨13, _⟩ => ⟨S_, .f32⟩
  | .hbm, ⟨14, _⟩ => ⟨S2x1024x708, .f32⟩
  | .hbm, ⟨15, _⟩ => ⟨S2x1024x708, .f32⟩
  | .hbm, ⟨16, _⟩ => ⟨S2x1024x708, .f32⟩
  | .hbm, ⟨17, _⟩ => ⟨S_, .f32⟩
  | .hbm, ⟨18, _⟩ => ⟨S2x1024x708, .f32⟩
  | .hbm, ⟨19, _⟩ => ⟨S2x1024x708, .f32⟩
  | .hbm, ⟨20, _⟩ => ⟨S2x1024x708, .f32⟩
  | .hbm, ⟨21, _⟩ => ⟨S_, .f32⟩
  | .hbm, ⟨22, _⟩ => ⟨S2x1024x708, .f32⟩
  | .hbm, ⟨23, _⟩ => ⟨S2x1024x708, .f32⟩
  | .hbm, ⟨24, _⟩ => ⟨S_, .f32⟩
  | .hbm, ⟨25, _⟩ => ⟨S2x1024x708, .f32⟩
  | .hbm, ⟨26, _⟩ => ⟨S2x1024x708, .f32⟩
  | .hbm, ⟨27, _⟩ => ⟨S2x1024x708, .f32⟩
  | .hbm, ⟨28, _⟩ => ⟨S_, .f32⟩
  | .hbm, ⟨29, _⟩ => ⟨S2x1024x708, .f32⟩
  | .hbm, ⟨30, _⟩ => ⟨S2x1024x708, .f32⟩
  | .hbm, ⟨31, _⟩ => ⟨S2x1024x708, .f32⟩
  | .hbm, ⟨32, _⟩ => ⟨S_, .f32⟩
  | .hbm, ⟨33, _⟩ => ⟨S2x1024x708, .f32⟩
  | .hbm, ⟨34, _⟩ => ⟨S2x1024x708, .f32⟩
  | .hbm, ⟨35, _⟩ => ⟨S2x1024x708, .f32⟩
  | .hbm, ⟨36, _⟩ => ⟨S_, .f32⟩
  | .hbm, ⟨37, _⟩ => ⟨S2x1024x708, .f32⟩
  | .hbm, ⟨38, _⟩ => ⟨S2x1024x708, .f32⟩
  | .hbm, ⟨39, _⟩ => ⟨S708x2x1024, .f32⟩
  | .hbm, ⟨40, _⟩ => ⟨S708x2x1024, .f32⟩
  | .hbm, ⟨41, _⟩ => ⟨S708x2x1024, .f32⟩
  | _, _ => ⟨S2x1024x708, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel19.lean ====
abbrev S4096x512 : Shape := ⟨2, ![4096, 512]⟩
abbrev S4096x256 : Shape := ⟨2, ![4096, 256]⟩
abbrev S256 : Shape := ⟨1, ![256]⟩
abbrev S1x256 : Shape := ⟨2, ![1, 256]⟩
abbrev S32x256 : Shape := ⟨2, ![32, 256]⟩
abbrev S512x512 : Shape := ⟨2, ![512, 512]⟩
abbrev S32x512 : Shape := ⟨2, ![32, 512]⟩
abbrev S512x256 : Shape := ⟨2, ![512, 256]⟩
abbrev S544x256 : Shape := ⟨2, ![544, 256]⟩
abbrev S32x8x256 : Shape := ⟨3, ![32, 8, 256]⟩
abbrev S64x256 : Shape := ⟨2, ![64, 256]⟩
abbrev S64 : Shape := ⟨1, ![64]⟩
abbrev S64x1 : Shape := ⟨2, ![64, 1]⟩
abbrev S1x8x256 : Shape := ⟨3, ![1, 8, 256]⟩
abbrev S8x256 : Shape := ⟨2, ![8, 256]⟩
abbrev S8x8x256 : Shape := ⟨3, ![8, 8, 256]⟩

abbrev nBuf : Space → Nat
  | .hbm => 14
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S4096x256, .f32⟩
  | .hbm, ⟨10, _⟩ => ⟨S32x256, .f32⟩
  | .hbm, ⟨11, _⟩ => ⟨S1x256, .f32⟩
  | .hbm, ⟨12, _⟩ => ⟨S1x256, .f32⟩
  | .hbm, ⟨13, _⟩ => ⟨S1x256, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | .local _ .vmem, ⟨13, _⟩ => ⟨S32x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S544x256, .f32⟩
  | .local _ .vmem, ⟨18, _⟩ => ⟨S32x8x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v3226 : BitVec 1 := Scalar.cmpi .eq arg0 c7_i32
  let v3227 : BitVec 32 := Scalar.extui v3226
  let c0_i32_2335 : BitVec 32 := 0#32
  let v3228 : BitVec 1 := Scalar.cmpi .ne v3227 c0_i32_2335
  v3228

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference19Ideal.lean ====
abbrev S4096x512 : Shape := ⟨2, ![4096, 512]⟩
abbrev S4096x256 : Shape := ⟨2, ![4096, 256]⟩
abbrev S256 : Shape := ⟨1, ![256]⟩
abbrev S1x256 : Shape := ⟨2, ![1, 256]⟩
abbrev S_ : Shape := ⟨0, ![]⟩
abbrev S4096 : Shape := ⟨1, ![4096]⟩
abbrev S4096x1 : Shape := ⟨2, ![4096, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x256, .f32⟩
  | .hbm, ⟨38, _⟩ => ⟨S4096x256, .f32⟩
  | .hbm, ⟨39, _⟩ => ⟨S1x256, .f32⟩
  | .hbm, ⟨40, _⟩ => ⟨S4096x256, .f32⟩
  | .hbm, ⟨41, _⟩ => ⟨S4096x256, .f32⟩
  | .hbm, ⟨42, _⟩ => ⟨S1x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S_, .f32⟩
  | .hbm, ⟨48, _⟩ => ⟨S4096x256, .f32⟩
  | .hbm, ⟨49, _⟩ => ⟨S4096x256, .f32⟩
  | .hbm, ⟨50, _⟩ => ⟨S_, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S4096x256, .f32⟩
  | .hbm, ⟨55, _⟩ => ⟨S4096x256, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x256, .f32⟩
  | .hbm, ⟨61, _⟩ => ⟨S4096x256, .f32⟩
  | .hbm, ⟨62, _⟩ => ⟨S_, .f32⟩
  | .hbm, ⟨63, _⟩ => ⟨S256, .f32⟩
  | .hbm, ⟨64, _⟩ => ⟨S1x256, .f32⟩
  | .hbm, ⟨65, _⟩ => ⟨S_, .f32⟩
  | .hbm, ⟨66, _⟩ => ⟨S256, .f32⟩
  | .hbm, ⟨67, _⟩ => ⟨S4096x256, .f32⟩
  | .hbm, ⟨68, _⟩ => ⟨S_, .f32⟩
  | .hbm, ⟨69, _⟩ => ⟨S256, .f32⟩
  | .hbm, ⟨70, _⟩ => ⟨S1x256, .f32⟩
  | .hbm, ⟨71, _⟩ => ⟨S4096x256, .f32⟩
  | .hbm, ⟨72, _⟩ => ⟨S4096x256, .f32⟩
  | .hbm, ⟨73, _⟩ => ⟨S_, .f32⟩
  | .hbm, ⟨74, _⟩ => ⟨S256, .f32⟩
  | .hbm, ⟨75, _⟩ => ⟨S4096x256, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x256, .f32⟩
  | .hbm, ⟨80, _⟩ => ⟨S4096x256, .f32⟩
  | .hbm, ⟨81, _⟩ => ⟨S4096x1, .f32⟩
  | .hbm, ⟨82, _⟩ => ⟨S4096x256, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x256, .f32⟩
  | .hbm, ⟨92, _⟩ => ⟨S4096x256, .f32⟩
  | .hbm, ⟨93, _⟩ => ⟨S4096x256, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S4096x256, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x256, .f32⟩
  | .hbm, ⟨105, _⟩ => ⟨S4096x256, .f32⟩
  | .hbm, ⟨106, _⟩ => ⟨S_, .f32⟩
  | .hbm, ⟨107, _⟩ => ⟨S256, .f32⟩
  | .hbm, ⟨108, _⟩ => ⟨S1x256, .f32⟩
  | .hbm, ⟨109, _⟩ => ⟨S_, .f32⟩
  | .hbm, ⟨110, _⟩ => ⟨S256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v32_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v32_1 : Ref sig .tc := ⟨.hbm, 56, rfl⟩
abbrev main_v32_0 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_cst_10 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_11 : Ref sig .tc := ⟨.hbm, 83, rfl⟩
abbrev main_v50 : Ref sig .tc := ⟨.hbm, 84, rfl⟩
abbrev main_v51 : Ref sig .tc := ⟨.hbm, 85, rfl⟩
abbrev main_cst_12 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_14 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_15 : Ref sig .tc := ⟨.hbm, 99, rfl⟩
abbrev main_v62 : Ref sig .tc := ⟨.hbm, 100, rfl⟩
abbrev main_v63 : Ref sig .tc := ⟨.hbm, 101, rfl⟩
abbrev main_cst_16 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_17 : Ref sig .tc := ⟨.hbm, 106, rfl⟩
abbrev main_v67 : Ref sig .tc := ⟨.hbm, 107, rfl⟩
abbrev main_v68 : Ref sig .tc := ⟨.hbm, 108, rfl⟩
abbrev main_cst_18 : Ref sig .tc := ⟨.hbm, 109, rfl⟩
abbrev main_v69 : Ref sig .tc := ⟨.hbm, 110, rfl⟩

abbrev nD : Nat := 1
abbrev τ : Topo := Topo.v7x

variable {F : FTy → Type} [FloatOps F]
-- ==== Kernel20.lean ====
abbrev S4096x1408 : Shape := ⟨2, ![4096, 1408]⟩
abbrev S4096x384 : Shape := ⟨2, ![4096, 384]⟩
abbrev S64x256x384 : Shape := ⟨3, ![64, 256, 384]⟩
abbrev S16x192 : Shape := ⟨2, ![16, 192]⟩
abbrev S192 : Shape := ⟨1, ![192]⟩
abbrev S384 : Shape := ⟨1, ![384]⟩
abbrev S_ : Shape := ⟨0, ![]⟩
abbrev S128x256 : Shape := ⟨2, ![128, 256]⟩
abbrev S1x192 : Shape := ⟨2, ![1, 192]⟩
abbrev S1x256 : Shape := ⟨2, ![1, 256]⟩
abbrev S1x384 : Shape := ⟨2, ![1, 384]⟩
abbrev S256 : Shape := ⟨1, ![256]⟩
abbrev S256x1 : Shape := ⟨2, ![256, 1]⟩
abbrev S256x384 : Shape := ⟨2, ![256, 384]⟩
abbrev S384x1 : Shape := ⟨2, ![384, 1]⟩
abbrev S384x384 : Shape := ⟨2, ![384, 384]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S512x1408 : Shape := ⟨2, ![512, 1408]⟩
abbrev S512x384 : Shape := ⟨2, ![512, 384]⟩
abbrev S8x256x384 : Shape := ⟨3, ![8, 256, 384]⟩
abbrev S1x256x384 : Shape := ⟨3, ![1, 256, 384]⟩
abbrev S64x384 : Shape := ⟨2, ![64, 384]⟩
abbrev S8x384 : Shape := ⟨2, ![8, 384]⟩
abbrev S512x128 : Shape := ⟨2, ![512, 128]⟩
abbrev S512x256 : Shape := ⟨2, ![512, 256]⟩
abbrev S64x256 : Shape := ⟨2, ![64, 256]⟩
abbrev S8x256 : Shape := ⟨2, ![8, 256]⟩

abbrev nBuf : Space → Nat
  | .hbm => 119
  | .vmem => 20
  | .smem => 0
  | _ => 0

abbrev bufTy : (tb : Table) → Fin (tcTables nBuf tb) → BufTy
  | .hbm, ⟨0, _⟩ => ⟨S4096x1408, .f32⟩
  | .hbm, ⟨1, _⟩ => ⟨S4096x384, .f32⟩
  | .hbm, ⟨2, _⟩ => ⟨S64x256x384, .f32⟩
  | .hbm, ⟨3, _⟩ => ⟨S16x192, .f32⟩
  | .hbm, ⟨4, _⟩ => ⟨S192, .f32⟩
  | .hbm, ⟨5, _⟩ => ⟨S384, .f32⟩
  | .hbm, ⟨6, _⟩ => ⟨S_, .i32⟩
  | .hbm, ⟨7, _⟩ => ⟨S_, .f32⟩
  | .hbm, ⟨8, _⟩ => ⟨S128x256, .f32⟩
  | .hbm, ⟨9, _⟩ => ⟨S1x192, .f32⟩
  | .hbm, ⟨10, _⟩ => ⟨S_, .i32⟩
  | .hbm, ⟨11, _⟩ => ⟨S_, .f32⟩
  | .hbm, ⟨12, _⟩ => ⟨S1x256, .f32⟩
  | .hbm, ⟨13, _⟩ => ⟨S1x384, .f32⟩
  | .hbm, ⟨14, _⟩ => ⟨S256, .i32⟩
  | .hbm, ⟨15, _⟩ => ⟨S256x1, .i32⟩
  | .hbm, ⟨16, _⟩ => ⟨S384, .i32⟩
  | .hbm, ⟨17, _⟩ => ⟨S1x384, .i32⟩
  | .hbm, ⟨18, _⟩ => ⟨S_, .i32⟩
  | .hbm, ⟨19, _⟩ => ⟨S_, .i32⟩
  | .hbm, ⟨20, _⟩ => ⟨S256x1, .i32⟩
  | .hbm, ⟨21, _⟩ => ⟨S256x1, .i32⟩
  | .hbm, ⟨22, _⟩ => ⟨S256x1, .i32⟩
  | .hbm, ⟨23, _⟩ => ⟨S_, .i32⟩
  | .hbm, ⟨24, _⟩ => ⟨S256x1, .i32⟩
  | .hbm, ⟨25, _⟩ => ⟨S256x1, .i1⟩
  | .hbm, ⟨26, _⟩ => ⟨S256x1, .i32⟩
  | .hbm, ⟨27, _⟩ => ⟨S256x1, .i32⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S256x1, .i1⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S_, .i32⟩
  | .hbm, ⟨38, _⟩ => ⟨S1x384, .i32⟩
  | .hbm, ⟨39, _⟩ => ⟨S1x384, .i32⟩
  | .hbm, ⟨40, _⟩ => ⟨S1x384, .i32⟩
  | .hbm, ⟨41, _⟩ => ⟨S_, .i32⟩
  | .hbm, ⟨42, _⟩ => ⟨S1x384, .i32⟩
  | .hbm, ⟨43, _⟩ => ⟨S1x384, .i1⟩
  | .hbm, ⟨44, _⟩ => ⟨S1x384, .i32⟩
  | .hbm, ⟨45, _⟩ => ⟨S1x384, .i32⟩
  | .hbm, ⟨46, _⟩ => ⟨S_, .i32⟩
  | .hbm, ⟨47, _⟩ => ⟨S1x384, .i32⟩
  | .hbm, ⟨48, _⟩ => ⟨S1x384, .i1⟩
  | .hbm, ⟨49, _⟩ => ⟨S1x384, .i1⟩
  | .hbm, ⟨50, _⟩ => ⟨S_, .i32⟩
  | .hbm, ⟨51, _⟩ => ⟨S1x384, .i32⟩
  | .hbm, ⟨52, _⟩ => ⟨S1x384, .i32⟩
  | .hbm, ⟨53, _⟩ => ⟨S1x384, .i32⟩
  | .hbm, ⟨54, _⟩ => ⟨S256x384, .i32⟩
  | .hbm, ⟨55, _⟩ => ⟨S256x384, .i32⟩
  | .hbm, ⟨56, _⟩ => ⟨S256x384, .i1⟩
  | .hbm, ⟨57, _⟩ => ⟨S_, .i32⟩
  | .hbm, ⟨58, _⟩ => ⟨S256x1, .i32⟩
  | .hbm, ⟨59, _⟩ => ⟨S256x1, .i1⟩
  | .hbm, ⟨60, _⟩ => ⟨S256x384, .i1⟩
  | .hbm, ⟨61, _⟩ => ⟨S256x384, .i1⟩
  | .hbm, ⟨62, _⟩ => ⟨S384, .i32⟩
  | .hbm, ⟨63, _⟩ => ⟨S384x1, .i32⟩
  | .hbm, ⟨64, _⟩ => ⟨S_, .i32⟩
  | .hbm, ⟨65, _⟩ => ⟨S_, .i32⟩
  | .hbm, ⟨66, _⟩ => ⟨S384x1, .i32⟩
  | .hbm, ⟨67, _⟩ => ⟨S384x1, .i32⟩
  | .hbm, ⟨68, _⟩ => ⟨S384x1, .i32⟩
  | .hbm, ⟨69, _⟩ => ⟨S_, .i32⟩
  | .hbm, ⟨70, _⟩ => ⟨S384x1, .i32⟩
  | .hbm, ⟨71, _⟩ => ⟨S384x1, .i1⟩
  | .hbm, ⟨72, _⟩ => ⟨S384x1, .i32⟩
  | .hbm, ⟨73, _⟩ => ⟨S384x1, .i32⟩
  | .hbm, ⟨74, _⟩ => ⟨S_, .i32⟩
  | .hbm, ⟨75, _⟩ => ⟨S384x1, .i32⟩
  | .hbm, ⟨76, _⟩ => ⟨S384x1, .i1⟩
  | .hbm, ⟨77, _⟩ => ⟨S384x1, .i1⟩
  | .hbm, ⟨78, _⟩ => ⟨S_, .i32⟩
  | .hbm, ⟨79, _⟩ => ⟨S384x1, .i32⟩
  | .hbm, ⟨80, _⟩ => ⟨S384x1, .i32⟩
  | .hbm, ⟨81, _⟩ => ⟨S384x1, .i32⟩
  | .hbm, ⟨82, _⟩ => ⟨S1x384, .i32⟩
  | .hbm, ⟨83, _⟩ => ⟨S_, .i32⟩
  | .hbm, ⟨84, _⟩ => ⟨S_, .i32⟩
  | .hbm, ⟨85, _⟩ => ⟨S1x384, .i32⟩
  | .hbm, ⟨86, _⟩ => ⟨S1x384, .i32⟩
  | .hbm, ⟨87, _⟩ => ⟨S1x384, .i32⟩
  | .hbm, ⟨88, _⟩ => ⟨S_, .i32⟩
  | .hbm, ⟨89, _⟩ => ⟨S1x384, .i32⟩
  | .hbm, ⟨90, _⟩ => ⟨S1x384, .i1⟩
  | .hbm, ⟨91, _⟩ => ⟨S1x384, .i32⟩
  | .hbm, ⟨92, _⟩ => ⟨S1x384, .i32⟩
  | .hbm, ⟨93, _⟩ => ⟨S_, .i32⟩
  | .hbm, ⟨94, _⟩ => ⟨S1x384, .i32⟩
  | .hbm, ⟨95, _⟩ => ⟨S1x384, .i1⟩
  | .hbm, ⟨96, _⟩ => ⟨S1x384, .i1⟩
  | .hbm, ⟨97, _⟩ => ⟨S_, .i32⟩
  | .hbm, ⟨98, _⟩ => ⟨S1x384, .i32⟩
  | .hbm, ⟨99, _⟩ => ⟨S1x384, .i32⟩
  | .hbm, ⟨100, _⟩ => ⟨S1x384, .i32⟩
  | .hbm, ⟨101, _⟩ => ⟨S384x384, .i32⟩
  | .hbm, ⟨102, _⟩ => ⟨S384x384, .i32⟩
  | .hbm, ⟨103, _⟩ => ⟨S384x384, .i1⟩
  | .hbm, ⟨104, _⟩ => ⟨S384x384, .f32⟩
  | .hbm, ⟨105, _⟩ => ⟨S64, .i32⟩
  | .hbm, ⟨106, _⟩ => ⟨S64x1, .i32⟩
  | .hbm, ⟨107, _⟩ => ⟨S1x64, .i32⟩
  | .hbm, ⟨108, _⟩ => ⟨S64x64, .i32⟩
  | .hbm, ⟨109, _⟩ => ⟨S64x64, .i32⟩
  | .hbm, ⟨110, _⟩ => ⟨S64x64, .i1⟩
  | .hbm, ⟨111, _⟩ => ⟨S64x64, .f32⟩
  | .hbm, ⟨112, _⟩ => ⟨S256x384, .f32⟩
  | .hbm, ⟨113, _⟩ => ⟨S384x384, .bf16⟩
  | .hbm, ⟨114, _⟩ => ⟨S64x64, .bf16⟩
  | .hbm, ⟨115, _⟩ => ⟨S4096x1408, .bf16⟩
  | .hbm, ⟨116, _⟩ => ⟨S128x256, .f32⟩
  | .hbm, ⟨117, _⟩ => ⟨S1x256, .f32⟩
  | .hbm, ⟨118, _⟩ => ⟨S1x384, .f32⟩
  | .local _ .vmem, ⟨0, _⟩ => ⟨S512x1408, .f32⟩
  | .local _ .vmem, ⟨1, _⟩ => ⟨S512x1408, .f32⟩
  | .local _ .vmem, ⟨2, _⟩ => ⟨S512x384, .f32⟩
  | .local _ .vmem, ⟨3, _⟩ => ⟨S512x384, .f32⟩
  | .local _ .vmem, ⟨4, _⟩ => ⟨S8x256x384, .f32⟩
  | .local _ .vmem, ⟨5, _⟩ => ⟨S8x256x384, .f32⟩
  | .local _ .vmem, ⟨6, _⟩ => ⟨S1x256x384, .f32⟩
  | .local _ .vmem, ⟨7, _⟩ => ⟨S1x256x384, .f32⟩
  | .local _ .vmem, ⟨8, _⟩ => ⟨S128x256, .f32⟩
  | .local _ .vmem, ⟨9, _⟩ => ⟨S1x256, .f32⟩
  | .local _ .vmem, ⟨10, _⟩ => ⟨S1x384, .f32⟩
  | .local _ .vmem, ⟨11, _⟩ => ⟨S256x384, .f32⟩
  | .local _ .vmem, ⟨12, _⟩ => ⟨S384x384, .bf16⟩
  | .local _ .vmem, ⟨13, _⟩ => ⟨S64x64, .bf16⟩
  | .local _ .vmem, ⟨14, _⟩ => ⟨S512x1408, .bf16⟩
  | .local _ .vmem, ⟨15, _⟩ => ⟨S512x1408, .bf16⟩
  | .local _ .vmem, ⟨16, _⟩ => ⟨S128x256, .f32⟩
  | .local _ .vmem, ⟨17, _⟩ => ⟨S1x256, .f32⟩
  | .local _ .vmem, ⟨18, _⟩ => ⟨S1x384, .f32⟩
  | .local _ .vmem, ⟨19, _⟩ => ⟨S256x384, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_v6 : Ref sig .tc := ⟨.hbm, 25, rfl⟩
abbrev main_call2_v7 : Ref sig .tc := ⟨.hbm, 26, rfl⟩
abbrev main_call2_v8 : Ref sig .tc := ⟨.hbm, 27, rfl⟩
abbrev main_call2_c : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_0 : Ref sig .tc := ⟨.hbm, 32, rfl⟩
abbrev main_call2_v12 : Ref sig .tc := ⟨.hbm, 33, rfl⟩
abbrev main_call2_v13 : Ref sig .tc := ⟨.hbm, 34, rfl⟩
abbrev main_v8 : Ref sig .tc := ⟨.hbm, 35, rfl⟩
abbrev main_c_2 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_c : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_0 : Ref sig .tc := ⟨.hbm, 50, rfl⟩
abbrev main_call3_v12 : Ref sig .tc := ⟨.hbm, 51, rfl⟩
abbrev main_call3_v13 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_c_4 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_v6 : Ref sig .tc := ⟨.hbm, 71, rfl⟩
abbrev main_call4_v7 : Ref sig .tc := ⟨.hbm, 72, rfl⟩
abbrev main_call4_v8 : Ref sig .tc := ⟨.hbm, 73, rfl⟩
abbrev main_call4_c : Ref sig .tc := ⟨.hbm, 74, rfl⟩
abbrev main_call4_v9 : Ref sig .tc := ⟨.hbm, 75, rfl⟩
abbrev main_call4_v10 : Ref sig .tc := ⟨.hbm, 76, rfl⟩
abbrev main_call4_v11 : Ref sig .tc := ⟨.hbm, 77, rfl⟩
abbrev main_call4_c_0 : Ref sig .tc := ⟨.hbm, 78, rfl⟩
abbrev main_call4_v12 : Ref sig .tc := ⟨.hbm, 79, rfl⟩
abbrev main_call4_v13 : Ref sig .tc := ⟨.hbm, 80, rfl⟩
abbrev main_v19 : Ref sig .tc := ⟨.hbm, 81, rfl⟩
abbrev main_v20 : Ref sig .tc := ⟨.hbm, 82, rfl⟩
abbrev main_c_5 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_call5_v5 : Ref sig .tc := ⟨.hbm, 89, rfl⟩
abbrev main_call5_v6 : Ref sig .tc := ⟨.hbm, 90, rfl⟩
abbrev main_call5_v7 : Ref sig .tc := ⟨.hbm, 91, rfl⟩
abbrev main_call5_v8 : Ref sig .tc := ⟨.hbm, 92, rfl⟩
abbrev main_call5_c : Ref sig .tc := ⟨.hbm, 93, rfl⟩
abbrev main_call5_v9 : Ref sig .tc := ⟨.hbm, 94, rfl⟩
abbrev main_call5_v10 : Ref sig .tc := ⟨.hbm, 95, rfl⟩
abbrev main_call5_v11 : Ref sig .tc := ⟨.hbm, 96, rfl⟩
abbrev main_call5_c_0 : Ref sig .tc := ⟨.hbm, 97, rfl⟩
abbrev main_call5_v12 : Ref sig .tc := ⟨.hbm, 98, rfl⟩
abbrev main_call5_v13 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36_0 : Ref sig .tc := ⟨.hbm, 115, rfl⟩
abbrev main_v36_1 : Ref sig .tc := ⟨.hbm, 116, rfl⟩
abbrev main_v36_2 : Ref sig .tc := ⟨.hbm, 117, rfl⟩
abbrev main_v36_3 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![v3.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel21.lean ====
abbrev S4096x1408 : Shape := ⟨2, ![4096, 1408]⟩
abbrev S16x192 : Shape := ⟨2, ![16, 192]⟩
abbrev S192 : Shape := ⟨1, ![192]⟩
abbrev S384 : Shape := ⟨1, ![384]⟩
abbrev S_ : Shape := ⟨0, ![]⟩
abbrev S128x256 : Shape := ⟨2, ![128, 256]⟩
abbrev S1x192 : Shape := ⟨2, ![1, 192]⟩
abbrev S1x256 : Shape := ⟨2, ![1, 256]⟩
abbrev S1x384 : Shape := ⟨2, ![1, 384]⟩
abbrev S256 : Shape := ⟨1, ![256]⟩
abbrev S256x1 : Shape := ⟨2, ![256, 1]⟩
abbrev S256x384 : Shape := ⟨2, ![256, 384]⟩
abbrev S384x1 : Shape := ⟨2, ![384, 1]⟩
abbrev S384x384 : Shape := ⟨2, ![384, 384]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4096x384 : Shape := ⟨2, ![4096, 384]⟩
abbrev S64x256x384 : Shape := ⟨3, ![64, 256, 384]⟩
abbrev S512x1408 : Shape := ⟨2, ![512, 1408]⟩
abbrev S512x384 : Shape := ⟨2, ![512, 384]⟩
abbrev S8x256x384 : Shape := ⟨3, ![8, 256, 384]⟩
abbrev S64x384 : Shape := ⟨2, ![64, 384]⟩
abbrev S512x128 : Shape := ⟨2, ![512, 128]⟩
abbrev S512x256 : Shape := ⟨2, ![512, 256]⟩
abbrev S64x256 : Shape := ⟨2, ![64, 256]⟩
abbrev S1x256x384 : Shape := ⟨3, ![1, 256, 384]⟩

abbrev nBuf : Space → Nat
  | .hbm => 115
  | .vmem => 13
  | .smem => 0
  | _ => 0

abbrev bufTy : (tb : Table) → Fin (tcTables nBuf tb) → BufTy
  | .hbm, ⟨0, _⟩ => ⟨S4096x1408, .f32⟩
  | .hbm, ⟨1, _⟩ => ⟨S16x192, .f32⟩
  | .hbm, ⟨2, _⟩ => ⟨S192, .f32⟩
  | .hbm, ⟨3, _⟩ => ⟨S384, .f32⟩
  | .hbm, ⟨4, _⟩ => ⟨S_, .i32⟩
  | .hbm, ⟨5, _⟩ => ⟨S_, .f32⟩
  | .hbm, ⟨6, _⟩ => ⟨S128x256, .f32⟩
  | .hbm, ⟨7, _⟩ => ⟨S1x192, .f32⟩
  | .hbm, ⟨8, _⟩ => ⟨S_, .i32⟩
  | .hbm, ⟨9, _⟩ => ⟨S_, .f32⟩
  | .hbm, ⟨10, _⟩ => ⟨S1x256, .f32⟩
  | .hbm, ⟨11, _⟩ => ⟨S1x384, .f32⟩
  | .hbm, ⟨12, _⟩ => ⟨S256, .i32⟩
  | .hbm, ⟨13, _⟩ => ⟨S256x1, .i32⟩
  | .hbm, ⟨14, _⟩ => ⟨S384, .i32⟩
  | .hbm, ⟨15, _⟩ => ⟨S1x384, .i32⟩
  | .hbm, ⟨16, _⟩ => ⟨S_, .i32⟩
  | .hbm, ⟨17, _⟩ => ⟨S_, .i32⟩
  | .hbm, ⟨18, _⟩ => ⟨S256x1, .i32⟩
  | .hbm, ⟨19, _⟩ => ⟨S256x1, .i32⟩
  | .hbm, ⟨20, _⟩ => ⟨S256x1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x1, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i1⟩
  | .hbm, ⟨29, _⟩ => ⟨S256x1, .i1⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S256x1, .i32⟩
  | .hbm, ⟨34, _⟩ => ⟨S_, .i32⟩
  | .hbm, ⟨35, _⟩ => ⟨S_, .i32⟩
  | .hbm, ⟨36, _⟩ => ⟨S1x384, .i32⟩
  | .hbm, ⟨37, _⟩ => ⟨S1x384, .i32⟩
  | .hbm, ⟨38, _⟩ => ⟨S1x384, .i32⟩
  | .hbm, ⟨39, _⟩ => ⟨S_, .i32⟩
  | .hbm, ⟨40, _⟩ => ⟨S1x384, .i32⟩
  | .hbm, ⟨41, _⟩ => ⟨S1x384, .i1⟩
  | .hbm, ⟨42, _⟩ => ⟨S1x384, .i32⟩
  | .hbm, ⟨43, _⟩ => ⟨S1x384, .i32⟩
  | .hbm, ⟨44, _⟩ => ⟨S_, .i32⟩
  | .hbm, ⟨45, _⟩ => ⟨S1x384, .i32⟩
  | .hbm, ⟨46, _⟩ => ⟨S1x384, .i1⟩
  | .hbm, ⟨47, _⟩ => ⟨S1x384, .i1⟩
  | .hbm, ⟨48, _⟩ => ⟨S_, .i32⟩
  | .hbm, ⟨49, _⟩ => ⟨S1x384, .i32⟩
  | .hbm, ⟨50, _⟩ => ⟨S1x384, .i32⟩
  | .hbm, ⟨51, _⟩ => ⟨S1x384, .i32⟩
  | .hbm, ⟨52, _⟩ => ⟨S256x384, .i32⟩
  | .hbm, ⟨53, _⟩ => ⟨S256x384, .i32⟩
  | .hbm, ⟨54, _⟩ => ⟨S256x384, .i1⟩
  | .hbm, ⟨55, _⟩ => ⟨S_, .i32⟩
  | .hbm, ⟨56, _⟩ => ⟨S256x1, .i32⟩
  | .hbm, ⟨57, _⟩ => ⟨S256x1, .i1⟩
  | .hbm, ⟨58, _⟩ => ⟨S256x384, .i1⟩
  | .hbm, ⟨59, _⟩ => ⟨S256x384, .i1⟩
  | .hbm, ⟨60, _⟩ => ⟨S384, .i32⟩
  | .hbm, ⟨61, _⟩ => ⟨S384x1, .i32⟩
  | .hbm, ⟨62, _⟩ => ⟨S_, .i32⟩
  | .hbm, ⟨63, _⟩ => ⟨S_, .i32⟩
  | .hbm, ⟨64, _⟩ => ⟨S384x1, .i32⟩
  | .hbm, ⟨65, _⟩ => ⟨S384x1, .i32⟩
  | .hbm, ⟨66, _⟩ => ⟨S384x1, .i32⟩
  | .hbm, ⟨67, _⟩ => ⟨S_, .i32⟩
  | .hbm, ⟨68, _⟩ => ⟨S384x1, .i32⟩
  | .hbm, ⟨69, _⟩ => ⟨S384x1, .i1⟩
  | .hbm, ⟨70, _⟩ => ⟨S384x1, .i32⟩
  | .hbm, ⟨71, _⟩ => ⟨S384x1, .i32⟩
  | .hbm, ⟨72, _⟩ => ⟨S_, .i32⟩
  | .hbm, ⟨73, _⟩ => ⟨S384x1, .i32⟩
  | .hbm, ⟨74, _⟩ => ⟨S384x1, .i1⟩
  | .hbm, ⟨75, _⟩ => ⟨S384x1, .i1⟩
  | .hbm, ⟨76, _⟩ => ⟨S_, .i32⟩
  | .hbm, ⟨77, _⟩ => ⟨S384x1, .i32⟩
  | .hbm, ⟨78, _⟩ => ⟨S384x1, .i32⟩
  | .hbm, ⟨79, _⟩ => ⟨S384x1, .i32⟩
  | .hbm, ⟨80, _⟩ => ⟨S1x384, .i32⟩
  | .hbm, ⟨81, _⟩ => ⟨S_, .i32⟩
  | .hbm, ⟨82, _⟩ => ⟨S_, .i32⟩
  | .hbm, ⟨83, _⟩ => ⟨S1x384, .i32⟩
  | .hbm, ⟨84, _⟩ => ⟨S1x384, .i32⟩
  | .hbm, ⟨85, _⟩ => ⟨S1x384, .i32⟩
  | .hbm, ⟨86, _⟩ => ⟨S_, .i32⟩
  | .hbm, ⟨87, _⟩ => ⟨S1x384, .i32⟩
  | .hbm, ⟨88, _⟩ => ⟨S1x384, .i1⟩
  | .hbm, ⟨89, _⟩ => ⟨S1x384, .i32⟩
  | .hbm, ⟨90, _⟩ => ⟨S1x384, .i32⟩
  | .hbm, ⟨91, _⟩ => ⟨S_, .i32⟩
  | .hbm, ⟨92, _⟩ => ⟨S1x384, .i32⟩
  | .hbm, ⟨93, _⟩ => ⟨S1x384, .i1⟩
  | .hbm, ⟨94, _⟩ => ⟨S1x384, .i1⟩
  | .hbm, ⟨95, _⟩ => ⟨S_, .i32⟩
  | .hbm, ⟨96, _⟩ => ⟨S1x384, .i32⟩
  | .hbm, ⟨97, _⟩ => ⟨S1x384, .i32⟩
  | .hbm, ⟨98, _⟩ => ⟨S1x384, .i32⟩
  | .hbm, ⟨99, _⟩ => ⟨S384x384, .i32⟩
  | .hbm, ⟨100, _⟩ => ⟨S384x384, .i32⟩
  | .hbm, ⟨101, _⟩ => ⟨S384x384, .i1⟩
  | .hbm, ⟨102, _⟩ => ⟨S384x384, .f32⟩
  | .hbm, ⟨103, _⟩ => ⟨S64, .i32⟩
  | .hbm, ⟨104, _⟩ => ⟨S64x1, .i32⟩
  | .hbm, ⟨105, _⟩ => ⟨S1x64, .i32⟩
  | .hbm, ⟨106, _⟩ => ⟨S64x64, .i32⟩
  | .hbm, ⟨107, _⟩ => ⟨S64x64, .i32⟩
  | .hbm, ⟨108, _⟩ => ⟨S64x64, .i1⟩
  | .hbm, ⟨109, _⟩ => ⟨S64x64, .f32⟩
  | .hbm, ⟨110, _⟩ => ⟨S256x384, .f32⟩
  | .hbm, ⟨111, _⟩ => ⟨S384x384, .bf16⟩
  | .hbm, ⟨112, _⟩ => ⟨S64x64, .bf16⟩
  | .hbm, ⟨113, _⟩ => ⟨S4096x384, .bf16⟩
  | .hbm, ⟨114, _⟩ => ⟨S64x256x384, .f32⟩
  | .local _ .vmem, ⟨0, _⟩ => ⟨S512x1408, .f32⟩
  | .local _ .vmem, ⟨1, _⟩ => ⟨S512x1408, .f32⟩
  | .local _ .vmem, ⟨2, _⟩ => ⟨S128x256, .f32⟩
  | .local _ .vmem, ⟨3, _⟩ => ⟨S1x256, .f32⟩
  | .local _ .vmem, ⟨4, _⟩ => ⟨S1x384, .f32⟩
  | .local _ .vmem, ⟨5, _⟩ => ⟨S256x384, .f32⟩
  | .local _ .vmem, ⟨6, _⟩ => ⟨S384x384, .bf16⟩
  | .local _ .vmem, ⟨7, _⟩ => ⟨S64x64, .bf16⟩
  | .local _ .vmem, ⟨8, _⟩ => ⟨S512x384, .bf16⟩
  | .local _ .vmem, ⟨9, _⟩ => ⟨S512x384, .bf16⟩
  | .local _ .vmem, ⟨10, _⟩ => ⟨S8x256x384, .f32⟩
  | .local _ .vmem, ⟨11, _⟩ => ⟨S8x256x384, .f32⟩
  | .local _ .vmem, ⟨12, _⟩ => ⟨S256x384, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_call2_v5 : Ref sig .tc := ⟨.hbm, 22, rfl⟩
abbrev main_call2_v6 : Ref sig .tc := ⟨.hbm, 23, rfl⟩
abbrev main_call2_v7 : Ref sig .tc := ⟨.hbm, 24, rfl⟩
abbrev main_call2_v8 : Ref sig .tc := ⟨.hbm, 25, rfl⟩
abbrev main_call2_c : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_c_0 : Ref sig .tc := ⟨.hbm, 30, rfl⟩
abbrev main_call2_v12 : Ref sig .tc := ⟨.hbm, 31, rfl⟩
abbrev main_call2_v13 : Ref sig .tc := ⟨.hbm, 32, rfl⟩
abbrev main_v8 : Ref sig .tc := ⟨.hbm, 33, rfl⟩
abbrev main_c_2 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_v8 : Ref sig .tc := ⟨.hbm, 43, rfl⟩
abbrev main_call3_c : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_0 : Ref sig .tc := ⟨.hbm, 48, rfl⟩
abbrev main_call3_v12 : Ref sig .tc := ⟨.hbm, 49, rfl⟩
abbrev main_call3_v13 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_c_3 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_c_4 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_call4_v5 : Ref sig .tc := ⟨.hbm, 68, rfl⟩
abbrev main_call4_v6 : Ref sig .tc := ⟨.hbm, 69, rfl⟩
abbrev main_call4_v7 : Ref sig .tc := ⟨.hbm, 70, rfl⟩
abbrev main_call4_v8 : Ref sig .tc := ⟨.hbm, 71, rfl⟩
abbrev main_call4_c : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_c_0 : Ref sig .tc := ⟨.hbm, 76, rfl⟩
abbrev main_call4_v12 : Ref sig .tc := ⟨.hbm, 77, rfl⟩
abbrev main_call4_v13 : Ref sig .tc := ⟨.hbm, 78, rfl⟩
abbrev main_v19 : Ref sig .tc := ⟨.hbm, 79, rfl⟩
abbrev main_v20 : Ref sig .tc := ⟨.hbm, 80, rfl⟩
abbrev main_c_5 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_call5_v5 : Ref sig .tc := ⟨.hbm, 87, rfl⟩
abbrev main_call5_v6 : Ref sig .tc := ⟨.hbm, 88, rfl⟩
abbrev main_call5_v7 : Ref sig .tc := ⟨.hbm, 89, rfl⟩
abbrev main_call5_v8 : Ref sig .tc := ⟨.hbm, 90, rfl⟩
abbrev main_call5_c : Ref sig .tc := ⟨.hbm, 91, rfl⟩
abbrev main_call5_v9 : Ref sig .tc := ⟨.hbm, 92, rfl⟩
abbrev main_call5_v10 : Ref sig .tc := ⟨.hbm, 93, rfl⟩
abbrev main_call5_v11 : Ref sig .tc := ⟨.hbm, 94, rfl⟩
abbrev main_call5_c_0 : Ref sig .tc := ⟨.hbm, 95, rfl⟩
abbrev main_call5_v12 : Ref sig .tc := ⟨.hbm, 96, rfl⟩
abbrev main_call5_v13 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36_0 : Ref sig .tc := ⟨.hbm, 113, rfl⟩
abbrev main_v36_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Proof.Coords.lean ====
module

public import Idealize.ShloMosaic.PureOps.Ideal
public import Idealize.ShloMosaic.Lib.Pipeline.ValueKit

@[expose] public section

set_option maxRecDepth 16384

noncomputable section

/-! Matrices of extended reals read at a row and a column given as natural numbers, zero off the matrix; and the one
    sum that a convolution of thirty-one taps adds up. -/

namespace Cert.Coords

open Idealize.ShloMosaic

/-- The element of a matrix at row `r` and column `q`, zero where there is none. -/
def at2 {n k : ℕ} (X : (⟨2, ![n, k]⟩ : Shape).Idx → EReal) (r q : ℕ) : EReal :=
  if h : r < n ∧ q < k then X (ix2 ⟨r, h.1⟩ ⟨q, h.2⟩) else 0

theorem at2_ix {n k : ℕ} (X : (⟨2, ![n, k]⟩ : Shape).Idx → EReal) (a : Fin n) (b : Fin k) :
    X (ix2 a b) = at2 X a.val b.val := by
  unfold at2
  rw [dif_pos ⟨a.isLt, b.isLt⟩]

/-- The element of a stack of matrices at three numbers, zero where there is none. -/
def at3 {l n k : ℕ} (X : (⟨3, ![l, n, k]⟩ : Shape).Idx → EReal) (a r q : ℕ) : EReal :=
  if h : a < l ∧ r < n ∧ q < k then X (ix3 ⟨a, h.1⟩ ⟨r, h.2.1⟩ ⟨q, h.2.2⟩) else 0

theorem at3_ix {l n k : ℕ} (X : (⟨3, ![l, n, k]⟩ : Shape).Idx → EReal) (a : Fin l) (r : Fin n) (q : Fin k) :
    X (ix3 a r q) = at3 X a.val r.val q.val := by
  unfold at3
  rw [dif_pos ⟨a.isLt, r.isLt, q.isLt⟩]

theorem at2_out {n k : ℕ} (X : (⟨2, ![n, k]⟩ : Shape).Idx → EReal) (r q : ℕ) (h : n ≤ r) : at2 X r q = 0 := by
  unfold at2
  rw [dif_neg (fun h' => absurd h'.1 (by omega))]

/-- The single-precision word of two. -/
theorem two_f32 : Ideal.ofBits .f32 1073741824#32 = ((2 : ℝ) : EReal) := by
  simp [Ideal.ofBits, Ideal.ieee, -EReal.coe_mul]
  norm_num

/-- Thirty-one terms added from the first to the last are their sum. -/
theorem sum31 (f : ℕ → EReal) :
    f 0 + f 1 + f 2 + f 3 + f 4 + f 5 + f 6 + f 7 + f 8 + f 9 + f 10 + f 11 + f 12 + f 13 + f 14 + f 15 + f 16 + f 17
      + f 18 + f 19 + f 20 + f 21 + f 22 + f 23 + f 24 + f 25 + f 26 + f 27 + f 28 + f 29 + f 30
      = ∑ j ∈ Finset.range 31, f j := by
  simp only [Finset.sum_range_succ, Finset.sum_range_zero, zero_add]

/-- Thirty-one terms added from the last to the first are their sum. -/
theorem sum31_down (f : ℕ → EReal) :
    f 30 + f 29 + f 28 + f 27 + f 26 + f 25 + f 24 + f 23 + f 22 + f 21 + f 20 + f 19 + f 18 + f 17 + f 16 + f 15
      + f 14 + f 13 + f 12 + f 11 + f 10 + f 9 + f 8 + f 7 + f 6 + f 5 + f 4 + f 3 + f 2 + f 1 + f 0
      = ∑ j ∈ Finset.range 31, f j := by
  exact (sum31 (fun j => f (30 - j))).trans (Finset.sum_range_reflect f 31)

/-- A sum over consecutive stretches of `K` is one sum. -/
theorem sum_split {J : ℕ} (K N : ℕ) (h : J * K = N) (f : ℕ → EReal) :
    ∑ j ∈ Finset.range J, ∑ k : Fin K, f (K * j + k.val) = ∑ k : Fin N, f k.val := by
  subst h
  rw [← Fin.sum_univ_univ_mul_add, ← Fin.sum_univ_eq_sum_range (fun j => ∑ k : Fin K, f (K * j + k.val))]
  exact Finset.sum_congr rfl fun s _ => Finset.sum_congr rfl fun k _ => by rw [Nat.mul_comm]

/-- The logistic function, as the kernel writes it. -/
def sg (x : EReal) : EReal := Ideal.div 1 (1 + Ideal.exp (0 - x))

/-- A sum over 1024 columns as the sums over three neighbouring stretches. -/
theorem sum3 (g : ℕ → EReal) :
    ∑ k : Fin 1024, g k.val = (∑ k : Fin 384, g k.val + ∑ k : Fin 256, g (384 + k.val)) + ∑ k : Fin 384, g (640 + k.val) := by
  rw [Fin.sum_univ_eq_sum_range g 1024, Fin.sum_univ_eq_sum_range g 384, Fin.sum_univ_eq_sum_range (fun k => g (384 + k)) 256,
    Fin.sum_univ_eq_sum_range (fun k => g (640 + k)) 384]
  rw [show (1024 : ℕ) = 384 + 256 + 384 from rfl, Finset.sum_range_add, Finset.sum_range_add]

end Cert.Coords

end
-- ==== Proof.ConvBlock.lean ====
module

public import proofs.«01_k».proof.Proof.Gen.KernelIdeal.Value
public import proofs.«01_k».proof.Proof.Coords

@[expose] public section

set_option maxRecDepth 16384

noncomputable section

/-! What one grid point of the convolution's gradient leaves in its block of the result: the gradient of the gated
    value is a sum of thirty-one taps over the rows of the buffer, the point's rows followed by the next thirty-two. -/

namespace Cert.KernelIdeal.RefValue

open Cert.KernelIdeal Cert.KernelIdeal.Gen Idealize.ShloMosaic Idealize.ShloMosaic.TcCoe Idealize.SL.Sem Cert.Coords
open Idealize.ShloMosaic.Pipeline (Dat)

/-- The buffer of rows: the block's own, then the halo, which counts as zero at the last point. -/
def rowBuf (i : grid0.Coords) (x1 : Vec Ideal S512x256 .f32) (x2 : Vec Ideal S32x256 .f32) (r q : ℕ) : EReal :=
  if r < 512 then at2 x1 r q else if (i 0).val < 7 then at2 x2 (r - 512) q else 0

/-- The thirty-one taps at a row and a column of the block. -/
def tapsB (B : ℕ → ℕ → EReal) (x3 : Vec Ideal S32x256 .f32) (r q : ℕ) : EReal :=
  ∑ j ∈ Finset.range 31, at2 x3 j q * B (30 - j + r) q

/-- The two halves of the block: the gradient of the value and the gradient of the gate. -/
def blockAt (B : ℕ → ℕ → EReal) (x0 : Vec Ideal S512x512 .f32) (x3 : Vec Ideal S32x256 .f32) (r q : ℕ) : EReal :=
  if q < 256 then tapsB B x3 r q * sg (at2 x0 r (256 + q))
  else tapsB B x3 r (q - 256) * at2 x0 r (q - 256) * sg (at2 x0 r q) * (1 - sg (at2 x0 r q))

theorem slt_seven (n : ℕ) (h : n < 8) : Scalar.cmpi .slt (BitVec.ofNat 32 n) 7#32 = if n < 7 then 1#1 else 0#1 := by
  revert n
  decide +kernel

theorem buffer_apply (i : grid0.Coords) (x1 : Vec Ideal S512x256 .f32) (x2 : Vec Ideal S32x256 .f32) (y : S544x256.Idx) :
    View.canon (Val := Elt Ideal) (s := S544x256) (e := .f32)
      [⟨Rect.unit ![512, 0] ![32, 256] inb_S544x256_S32x256_512_0,
          k0_pay6 i (View.ld x2 (Rect.unit ![0, 0] ![32, 256] inb_S32x256_S32x256_0_0))⟩,
        ⟨Rect.unit ![0, 0] ![512, 256] inb_S544x256_S512x256_0_0,
          k0_pay5 (View.ld x1 (Rect.unit ![0, 0] ![512, 256] inb_S512x256_S512x256_0_0))⟩] y
      = rowBuf i x1 x2 (y 0).val (y 1).val := by
  idx_vars y
  have hcover : ∀ L : List (View.Piece (Elt Ideal) S544x256 .f32), ∀ p q : View.Piece (Elt Ideal) S544x256 .f32, L = [p, q] →
      p.1.set = (Rect.unit (s := S544x256) ![512, 0] ![32, 256] inb_S544x256_S32x256_512_0).set →
      q.1.set = (Rect.unit (s := S544x256) ![0, 0] ![512, 256] inb_S544x256_S512x256_0_0).set →
      ∃ p ∈ L, ix2 y0 y1 ∈ p.1.set := by
    intro L p q hL hp hq
    have h0 := y0.isLt
    have h1 := y1.isLt
    rcases Nat.lt_or_ge y0.val 512 with h | h
    · refine ⟨q, by rw [hL]; simp, ?_⟩
      rw [hq, Rect.mem_set_unit]
      intro a
      fin_cases a <;> simp <;> omega
    · refine ⟨p, by rw [hL]; simp, ?_⟩
      rw [hp, Rect.mem_set_unit]
      intro a
      fin_cases a <;> simp <;> omega
  canon_tiles x h using (hcover _ _ _ rfl rfl rfl)
  · idx_vars x
    open_payloads
    pointwise
    pointwise at h0 h1
    unfold rowBuf
    have hi : (i 0).val < 8 := (i 0).isLt
    rw [h0, h1, if_neg (by omega), slt_seven _ hi, Nat.add_sub_cancel_left]
    by_cases h : (i 0).val < 7
    · rw [if_pos h, if_pos h]
      exact at2_ix (n := 32) (k := 256) _ _ _
    · rw [if_neg h, if_neg h]
      rfl
  · idx_vars x
    open_payloads
    pointwise
    pointwise at h0 h1
    unfold rowBuf
    rw [h0, h1, if_pos (by omega)]
    exact at2_ix (n := 512) (k := 256) _ _ _

set_option maxHeartbeats 8000000 in
theorem block_apply (c : Dev nD) (i : grid0.Coords) (arg1 : Memref sig .tc .vmem S512x512 .f32) (harg1 : arg1.IsWhole) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S512x512 .bf16) (harg5 : arg5.IsWhole) (arg6 : Memref sig .tc .vmem S544x256 .f32) (harg6 : arg6.IsWhole)
    (x0 : Vec Ideal S512x512 .f32) (x1 : Vec Ideal S512x256 .f32) (x2 : Vec Ideal S32x256 .f32) (x3 : Vec Ideal S32x256 .f32) (y : S512x512.Idx) :
    out0_A_4 c i arg1 harg1 arg2 harg2 arg3 harg3 arg4 harg4 arg5 harg5 arg6 harg6 x0 x1 x2 x3 y
      = blockAt (rowBuf i x1 x2) x0 x3 (y 0).val (y 1).val := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  simp only [View.readAt_eq_ld, harg1.read_unread, harg2.read_unread, harg3.read_unread, harg4.read_unread, View.readCov_eq_canon']
  generalize hB : View.canon (Val := Elt Ideal) (s := S544x256) (e := .f32) [_, _] = B
  have hB' : ∀ (a : Fin 544) (b : Fin 256), B (ix2 a b) = rowBuf i x1 x2 a.val b.val := fun a b => by
    rw [← hB]
    exact buffer_apply i x1 x2 (ix2 a b)
  clear hB
  generalize rowBuf i x1 x2 = R at hB' ⊢
  idx_vars y
  canon_tiles x h
  all_goals
    idx_vars x
    open_payloads
    pointwise
    pointwise at h0 h1
    rw [h0, h1]
    unfold blockAt tapsB
    first | rw [if_pos (by omega), ← sum31] | rw [if_neg (by omega), ← sum31]
    simp only [hB']
    simp only [at2_ix, Nat.zero_add, Nat.reduceSub, ← Nat.add_assoc, Nat.reduceAdd, Fin.isValue, Fin.coe_ofNat_eq_mod, Nat.reduceMod, Nat.add_sub_cancel_left, ← sg.eq_1]

end Cert.KernelIdeal.RefValue

end
-- ==== Proof.ConvValue.lean ====
module

public import proofs.«01_k».proof.Proof.ConvBlock

@[expose] public section

set_option maxRecDepth 16384

noncomputable section

/-! The whole result of the convolution's gradient, element by element, in terms of the arguments. -/

namespace Cert.KernelIdeal.RefValue

open Cert.KernelIdeal Cert.KernelIdeal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val, 0] ∧ win0_1.index t = ![t.val, 0] ∧
    win0_2.index t = ![min ((t.val + 1) * 16) 127, 0] ∧ win0_3.index t = ![0, 0] ∧ win0_4.index t = ![t.val, 0]
    ∧ (grid0.coords t 0).val = t.val :=
  (by decide +kernel : ∀ t : Fin grid0.N, win0_0.index t = ![t.val, 0] ∧ win0_1.index t = ![t.val, 0] ∧
    win0_2.index t = ![min ((t.val + 1) * 16) 127, 0] ∧ win0_3.index t = ![0, 0] ∧ win0_4.index t = ![t.val, 0]
    ∧ (grid0.coords t 0).val = t.val) t

/-- The gradient of the gated value at a row and a column: the taps in reverse over the rows that follow. -/
def tapsAt (dc : Vec Ideal S4096x256 .f32) (w : Vec Ideal S31x256 .f32) (r q : ℕ) : EReal :=
  ∑ j ∈ Finset.range 31, at2 w j q * at2 dc (30 - j + r) q

/-- The result at a row and a column. -/
def duAt (u : Vec Ideal S4096x512 .f32) (dc : Vec Ideal S4096x256 .f32) (w : Vec Ideal S31x256 .f32) (r q : ℕ) : EReal :=
  if q < 256 then tapsAt dc w r q * sg (at2 u r (256 + q))
  else tapsAt dc w r (q - 256) * at2 u r (q - 256) * sg (at2 u r q) * (1 - sg (at2 u r q))

/-- The result as an array. -/
def du (u : Vec Ideal S4096x512 .f32) (dc : Vec Ideal S4096x256 .f32) (w : Vec Ideal S31x256 .f32) : Vec Ideal S4096x512 .bf16 :=
  fun i => duAt u dc w (i 0).val (i 1).val

theorem blk_u (c : Dev nD) (t : Fin cfg0.N) (r q : ℕ) (hr : r < 512) (hq : q < 512) :
    at2 (iblk m c 0 t : Vec Ideal S512x512 .f32) r q
      = at2 (m ((c : Thread nD τ).loc main_arg0) : Vec Ideal S4096x512 .f32) (512 * t.val + r) q := by
  obtain ⟨h, -⟩ := idx t
  have ht : t.val < 8 := t.isLt
  unfold at2
  rw [dif_pos ⟨hr, hq⟩, dif_pos ⟨by omega, hq⟩]
  blk_ext [iblk, V, h]

theorem blk_dc (c : Dev nD) (t : Fin cfg0.N) (r q : ℕ) (hr : r < 512) (hq : q < 256) :
    at2 (iblk m c 1 t : Vec Ideal S512x256 .f32) r q
      = at2 (m ((c : Thread nD τ).loc main_arg1) : Vec Ideal S4096x256 .f32) (512 * t.val + r) q := by
  obtain ⟨-, h, -⟩ := idx t
  have ht : t.val < 8 := t.isLt
  unfold at2
  rw [dif_pos ⟨hr, hq⟩, dif_pos ⟨by omega, hq⟩]
  blk_ext [iblk, V, h]

theorem blk_halo (c : Dev nD) (t : Fin cfg0.N) (r q : ℕ) (hr : r < 32) (hq : q < 256) (ht : t.val < 7) :
    at2 (iblk m c 2 t : Vec Ideal S32x256 .f32) r q
      = at2 (m ((c : Thread nD τ).loc main_arg1) : Vec Ideal S4096x256 .f32) (512 * t.val + (512 + r)) q := by
  obtain ⟨-, -, h, -⟩ := idx t
  unfold at2
  rw [dif_pos ⟨hr, hq⟩, dif_pos ⟨by omega, hq⟩]
  blk_ext [iblk, V, h]

/-- The operand the region finds at the padded taps: one row of zeros under the taps. -/
theorem V_w (c : Dev nD) : V m c main_v0 = pad S32x256 ![0, 0] ![1, 0] ![0, 0]
    (m ((c : Thread nD τ).loc main_arg2) : Vec Ideal S31x256 .f32) (sitofp .f32 (constantI S_ 32 0#32) : FVec Ideal S_ .f32) pads_S31x256_S32x256_010_000 h_S_ := by
  unfold V
  simp only [hostOps0, hostOps0_1, List.flatten_cons, List.flatten_nil, List.append_nil, List.cons_append, List.nil_append]
  after_results
  rfl

theorem pad_w (w : Vec Ideal S31x256 .f32) (z : FVec Ideal S_ .f32) (r q : ℕ) (hr : r < 31) (hq : q < 256) :
    pad S32x256 ![0, 0] ![1, 0] ![0, 0] w z pads_S31x256_S32x256_010_000 h_S_ (ix2 (⟨r, by omega⟩ : Fin 32) (⟨q, hq⟩ : Fin 256))
      = w (ix2 ⟨r, hr⟩ ⟨q, hq⟩) := by
  pointwise
  rw [dif_pos ⟨hr, hq⟩]

theorem blk_w (c : Dev nD) (t : Fin cfg0.N) (r q : ℕ) (hr : r < 31) (hq : q < 256) :
    at2 (iblk m c 3 t : Vec Ideal S32x256 .f32) r q
      = at2 (m ((c : Thread nD τ).loc main_arg2) : Vec Ideal S31x256 .f32) r q := by
  obtain ⟨-, -, -, h, -⟩ := idx t
  unfold at2
  rw [dif_pos ⟨by omega, hq⟩, dif_pos ⟨hr, hq⟩]
  blk_simp [iblk, h]
  rw [show V m c main_v0 = _ from V_w m c]
  have he : (win0_3.blk t).view.emb (ix2 (⟨r, by omega⟩ : Fin 32) (⟨q, hq⟩ : Fin 256)) = (ix2 (⟨r, by omega⟩ : Fin 32) (⟨q, hq⟩ : Fin 256) : S32x256.Idx) := by
    ext a
    blk_simp [h]
    fin_cases a <;> simp
  rw [he]
  exact pad_w _ _ r q hr hq

theorem rowBuf_eq (c : Dev nD) (t : Fin cfg0.N) (r q : ℕ) (hr : r < 544) (hq : q < 256) :
    rowBuf (grid0.coords t) (iblk m c 1 t) (iblk m c 2 t) r q
      = at2 (m ((c : Thread nD τ).loc main_arg1) : Vec Ideal S4096x256 .f32) (512 * t.val + r) q := by
  obtain ⟨-, -, -, -, -, h⟩ := idx t
  have ht : t.val < 8 := t.isLt
  unfold rowBuf
  rw [h]
  by_cases h1 : r < 512
  · rw [if_pos h1, blk_dc m c t r q h1 hq]
  · rw [if_neg h1]
    by_cases h2 : t.val < 7
    · rw [if_pos h2, blk_halo m c t (r - 512) q (by omega) hq h2]
      congr 2
      omega
    · rw [if_neg h2, at2_out _ _ _ (by omega)]

theorem taps_eq (c : Dev nD) (t : Fin cfg0.N) (r q : ℕ) (hr : r < 512) (hq : q < 256) :
    tapsB (rowBuf (grid0.coords t) (iblk m c 1 t) (iblk m c 2 t)) (iblk m c 3 t) r q
      = tapsAt (m ((c : Thread nD τ).loc main_arg1)) (m ((c : Thread nD τ).loc main_arg2)) (512 * t.val + r) q := by
  unfold tapsB tapsAt
  refine Finset.sum_congr rfl fun j hj => ?_
  have hj' := Finset.mem_range.mp hj
  rw [rowBuf_eq m c t _ q (by omega) hq, blk_w m c t j q hj' hq]
  congr 2
  omega

theorem block_eq (c : Dev nD) (t : Fin cfg0.N) (r q : ℕ) (hr : r < 512) (hq : q < 512) :
    blockAt (rowBuf (grid0.coords t) (iblk m c 1 t) (iblk m c 2 t)) (iblk m c 0 t) (iblk m c 3 t) r q
      = duAt (m ((c : Thread nD τ).loc main_arg0)) (m ((c : Thread nD τ).loc main_arg1)) (m ((c : Thread nD τ).loc main_arg2)) (512 * t.val + r) q := by
  unfold blockAt duAt
  by_cases h : q < 256
  · rw [if_pos h, if_pos h, taps_eq m c t r q hr h, blk_u m c t r _ hr (by omega)]
  · rw [if_neg h, if_neg h, taps_eq m c t r _ hr (by omega), blk_u m c t r _ hr (by omega), blk_u m c t r _ hr hq]

theorem final (c : Dev nD) :
    (dats m 0 c).arrAt 4 cfg0.N = du (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨-, -, -, -, h, -⟩ := idx t
  rw [after0_4]
  unfold outsAt0
  refine (block_apply c _ _ _ _ _ _ _ _ _ _ _ _ _ _ _ _ _ y).trans ?_
  rw [block_eq m c t _ _ (y 0).isLt (y 1).isLt]
  unfold du
  blk_simp [h]
  rw [Nat.mul_comm]

end Cert.KernelIdeal.RefValue

end
-- ==== Proof.RefValue.lean ====
module

public import proofs.«01_k».proof.Proof.Gen.ReferenceIdeal.Run
public import proofs.«01_k».proof.Proof.Coords

@[expose] public section

set_option maxRecDepth 16384

noncomputable section

/-! The reference's result read at an element. -/

namespace Cert.ReferenceIdeal.RefValue

open Cert.ReferenceIdeal Cert.ReferenceIdeal.Gen Cert.ReferenceIdeal.Value Idealize.ShloMosaic Idealize.ShloMosaic.TcCoe
open Idealize.SL.Sem Idealize.ShloMosaic.StableHlo Cert.Coords

variable (V0 : Valuation τ sig (Elt Ideal))

theorem gate_apply (a b : ℕ) (ha : a < 4096) (hb : b < 256) :
    res_main_v7 V0 (ix2 ⟨a, ha⟩ ⟨b, hb⟩) = sg (at2 (V0 (Proc.devRef .tc main_arg0) : Vec Ideal S4096x512 .f32) a (256 + b)) := by
  unfold res_main_v7 sg
  pointwise
  rw [zero_sub]
  unfold at2
  rw [dif_pos ⟨ha, by omega⟩]

/-- A row of a padded product: the product inside the padding, and a product with zero outside. -/
theorem pad_term (X : Vec Ideal S4096x256 .f32) (W : EReal) (n b : ℕ) (p : Prop) [Decidable p] (hp : n < 4096 → p)
    (f : p → EReal) (hf : ∀ h, f h = W * at2 X n b) : dite p f (fun _ => 0) = W * at2 X n b := by
  by_cases h : p
  · rw [dif_pos h, hf]
  · rw [dif_neg h, at2_out X n b (Nat.le_of_not_lt fun h' => h (hp h')), mul_zero]

theorem rows_apply (a : Fin 4096) (b : Fin 256) :
    res_main_v233 V0 (ix2 a b) = at2 (V0 (Proc.devRef .tc main_arg1) : Vec Ideal S4096x256 .f32) a.val b.val := by
  unfold res_main_v233
  pointwise
  exact at2_ix (n := 4096) (k := 256) _ _ _

theorem weight_0 (b : ℕ) (hb : b < 256) :
    res_main_v18 V0 (ix2 0 ⟨b, hb⟩) = at2 (V0 (Proc.devRef .tc main_arg2) : Vec Ideal S31x256 .f32) 0 b := by
  unfold res_main_v18
  pointwise
  exact at2_ix (n := 31) (k := 256) _ ⟨0, by omega⟩ ⟨b, hb⟩

theorem weight_1 (b : ℕ) (hb : b < 256) :
    res_main_v26 V0 (ix2 0 ⟨b, hb⟩) = at2 (V0 (Proc.devRef .tc main_arg2) : Vec Ideal S31x256 .f32) 1 b := by
  unfold res_main_v26
  pointwise
  exact at2_ix (n := 31) (k := 256) _ ⟨1, by omega⟩ ⟨b, hb⟩

theorem weight_2 (b : ℕ) (hb : b < 256) :
    res_main_v33 V0 (ix2 0 ⟨b, hb⟩) = at2 (V0 (Proc.devRef .tc main_arg2) : Vec Ideal S31x256 .f32) 2 b := by
  unfold res_main_v33
  pointwise
  exact at2_ix (n := 31) (k := 256) _ ⟨2, by omega⟩ ⟨b, hb⟩

theorem weight_3 (b : ℕ) (hb : b < 256) :
    res_main_v40 V0 (ix2 0 ⟨b, hb⟩) = at2 (V0 (Proc.devRef .tc main_arg2) : Vec Ideal S31x256 .f32) 3 b := by
  unfold res_main_v40
  pointwise
  exact at2_ix (n := 31) (k := 256) _ ⟨3, by omega⟩ ⟨b, hb⟩

theorem weight_4 (b : ℕ) (hb : b < 256) :
    res_main_v47 V0 (ix2 0 ⟨b, hb⟩) = at2 (V0 (Proc.devRef .tc main_arg2) : Vec Ideal S31x256 .f32) 4 b := by
  unfold res_main_v47
  pointwise
  exact at2_ix (n := 31) (k := 256) _ ⟨4, by omega⟩ ⟨b, hb⟩

theorem weight_5 (b : ℕ) (hb : b < 256) :
    res_main_v54 V0 (ix2 0 ⟨b, hb⟩) = at2 (V0 (Proc.devRef .tc main_arg2) : Vec Ideal S31x256 .f32) 5 b := by
  unfold res_main_v54
  pointwise
  exact at2_ix (n := 31) (k := 256) _ ⟨5, by omega⟩ ⟨b, hb⟩

theorem weight_6 (b : ℕ) (hb : b < 256) :
    res_main_v61 V0 (ix2 0 ⟨b, hb⟩) = at2 (V0 (Proc.devRef .tc main_arg2) : Vec Ideal S31x256 .f32) 6 b := by
  unfold res_main_v61
  pointwise
  exact at2_ix (n := 31) (k := 256) _ ⟨6, by omega⟩ ⟨b, hb⟩

theorem weight_7 (b : ℕ) (hb : b < 256) :
    res_main_v68 V0 (ix2 0 ⟨b, hb⟩) = at2 (V0 (Proc.devRef .tc main_arg2) : Vec Ideal S31x256 .f32) 7 b := by
  unfold res_main_v68
  pointwise
  exact at2_ix (n := 31) (k := 256) _ ⟨7, by omega⟩ ⟨b, hb⟩

theorem weight_8 (b : ℕ) (hb : b < 256) :
    res_main_v75 V0 (ix2 0 ⟨b, hb⟩) = at2 (V0 (Proc.devRef .tc main_arg2) : Vec Ideal S31x256 .f32) 8 b := by
  unfold res_main_v75
  pointwise
  exact at2_ix (n := 31) (k := 256) _ ⟨8, by omega⟩ ⟨b, hb⟩

theorem weight_9 (b : ℕ) (hb : b < 256) :
    res_main_v82 V0 (ix2 0 ⟨b, hb⟩) = at2 (V0 (Proc.devRef .tc main_arg2) : Vec Ideal S31x256 .f32) 9 b := by
  unfold res_main_v82
  pointwise
  exact at2_ix (n := 31) (k := 256) _ ⟨9, by omega⟩ ⟨b, hb⟩

theorem weight_10 (b : ℕ) (hb : b < 256) :
    res_main_v89 V0 (ix2 0 ⟨b, hb⟩) = at2 (V0 (Proc.devRef .tc main_arg2) : Vec Ideal S31x256 .f32) 10 b := by
  unfold res_main_v89
  pointwise
  exact at2_ix (n := 31) (k := 256) _ ⟨10, by omega⟩ ⟨b, hb⟩

theorem weight_11 (b : ℕ) (hb : b < 256) :
    res_main_v96 V0 (ix2 0 ⟨b, hb⟩) = at2 (V0 (Proc.devRef .tc main_arg2) : Vec Ideal S31x256 .f32) 11 b := by
  unfold res_main_v96
  pointwise
  exact at2_ix (n := 31) (k := 256) _ ⟨11, by omega⟩ ⟨b, hb⟩

theorem weight_12 (b : ℕ) (hb : b < 256) :
    res_main_v103 V0 (ix2 0 ⟨b, hb⟩) = at2 (V0 (Proc.devRef .tc main_arg2) : Vec Ideal S31x256 .f32) 12 b := by
  unfold res_main_v103
  pointwise
  exact at2_ix (n := 31) (k := 256) _ ⟨12, by omega⟩ ⟨b, hb⟩

theorem weight_13 (b : ℕ) (hb : b < 256) :
    res_main_v110 V0 (ix2 0 ⟨b, hb⟩) = at2 (V0 (Proc.devRef .tc main_arg2) : Vec Ideal S31x256 .f32) 13 b := by
  unfold res_main_v110
  pointwise
  exact at2_ix (n := 31) (k := 256) _ ⟨13, by omega⟩ ⟨b, hb⟩

theorem weight_14 (b : ℕ) (hb : b < 256) :
    res_main_v117 V0 (ix2 0 ⟨b, hb⟩) = at2 (V0 (Proc.devRef .tc main_arg2) : Vec Ideal S31x256 .f32) 14 b := by
  unfold res_main_v117
  pointwise
  exact at2_ix (n := 31) (k := 256) _ ⟨14, by omega⟩ ⟨b, hb⟩

theorem weight_15 (b : ℕ) (hb : b < 256) :
    res_main_v124 V0 (ix2 0 ⟨b, hb⟩) = at2 (V0 (Proc.devRef .tc main_arg2) : Vec Ideal S31x256 .f32) 15 b := by
  unfold res_main_v124
  pointwise
  exact at2_ix (n := 31) (k := 256) _ ⟨15, by omega⟩ ⟨b, hb⟩

theorem weight_16 (b : ℕ) (hb : b < 256) :
    res_main_v131 V0 (ix2 0 ⟨b, hb⟩) = at2 (V0 (Proc.devRef .tc main_arg2) : Vec Ideal S31x256 .f32) 16 b := by
  unfold res_main_v131
  pointwise
  exact at2_ix (n := 31) (k := 256) _ ⟨16, by omega⟩ ⟨b, hb⟩

theorem weight_17 (b : ℕ) (hb : b < 256) :
    res_main_v138 V0 (ix2 0 ⟨b, hb⟩) = at2 (V0 (Proc.devRef .tc main_arg2) : Vec Ideal S31x256 .f32) 17 b := by
  unfold res_main_v138
  pointwise
  exact at2_ix (n := 31) (k := 256) _ ⟨17, by omega⟩ ⟨b, hb⟩

theorem weight_18 (b : ℕ) (hb : b < 256) :
    res_main_v145 V0 (ix2 0 ⟨b, hb⟩) = at2 (V0 (Proc.devRef .tc main_arg2) : Vec Ideal S31x256 .f32) 18 b := by
  unfold res_main_v145
  pointwise
  exact at2_ix (n := 31) (k := 256) _ ⟨18, by omega⟩ ⟨b, hb⟩

theorem weight_19 (b : ℕ) (hb : b < 256) :
    res_main_v152 V0 (ix2 0 ⟨b, hb⟩) = at2 (V0 (Proc.devRef .tc main_arg2) : Vec Ideal S31x256 .f32) 19 b := by
  unfold res_main_v152
  pointwise
  exact at2_ix (n := 31) (k := 256) _ ⟨19, by omega⟩ ⟨b, hb⟩

theorem weight_20 (b : ℕ) (hb : b < 256) :
    res_main_v159 V0 (ix2 0 ⟨b, hb⟩) = at2 (V0 (Proc.devRef .tc main_arg2) : Vec Ideal S31x256 .f32) 20 b := by
  unfold res_main_v159
  pointwise
  exact at2_ix (n := 31) (k := 256) _ ⟨20, by omega⟩ ⟨b, hb⟩

theorem weight_21 (b : ℕ) (hb : b < 256) :
    res_main_v166 V0 (ix2 0 ⟨b, hb⟩) = at2 (V0 (Proc.devRef .tc main_arg2) : Vec Ideal S31x256 .f32) 21 b := by
  unfold res_main_v166
  pointwise
  exact at2_ix (n := 31) (k := 256) _ ⟨21, by omega⟩ ⟨b, hb⟩

theorem weight_22 (b : ℕ) (hb : b < 256) :
    res_main_v173 V0 (ix2 0 ⟨b, hb⟩) = at2 (V0 (Proc.devRef .tc main_arg2) : Vec Ideal S31x256 .f32) 22 b := by
  unfold res_main_v173
  pointwise
  exact at2_ix (n := 31) (k := 256) _ ⟨22, by omega⟩ ⟨b, hb⟩

theorem weight_23 (b : ℕ) (hb : b < 256) :
    res_main_v180 V0 (ix2 0 ⟨b, hb⟩) = at2 (V0 (Proc.devRef .tc main_arg2) : Vec Ideal S31x256 .f32) 23 b := by
  unfold res_main_v180
  pointwise
  exact at2_ix (n := 31) (k := 256) _ ⟨23, by omega⟩ ⟨b, hb⟩

theorem weight_24 (b : ℕ) (hb : b < 256) :
    res_main_v187 V0 (ix2 0 ⟨b, hb⟩) = at2 (V0 (Proc.devRef .tc main_arg2) : Vec Ideal S31x256 .f32) 24 b := by
  unfold res_main_v187
  pointwise
  exact at2_ix (n := 31) (k := 256) _ ⟨24, by omega⟩ ⟨b, hb⟩

theorem weight_25 (b : ℕ) (hb : b < 256) :
    res_main_v194 V0 (ix2 0 ⟨b, hb⟩) = at2 (V0 (Proc.devRef .tc main_arg2) : Vec Ideal S31x256 .f32) 25 b := by
  unfold res_main_v194
  pointwise
  exact at2_ix (n := 31) (k := 256) _ ⟨25, by omega⟩ ⟨b, hb⟩

theorem weight_26 (b : ℕ) (hb : b < 256) :
    res_main_v201 V0 (ix2 0 ⟨b, hb⟩) = at2 (V0 (Proc.devRef .tc main_arg2) : Vec Ideal S31x256 .f32) 26 b := by
  unfold res_main_v201
  pointwise
  exact at2_ix (n := 31) (k := 256) _ ⟨26, by omega⟩ ⟨b, hb⟩

theorem weight_27 (b : ℕ) (hb : b < 256) :
    res_main_v208 V0 (ix2 0 ⟨b, hb⟩) = at2 (V0 (Proc.devRef .tc main_arg2) : Vec Ideal S31x256 .f32) 27 b := by
  unfold res_main_v208
  pointwise
  exact at2_ix (n := 31) (k := 256) _ ⟨27, by omega⟩ ⟨b, hb⟩

theorem weight_28 (b : ℕ) (hb : b < 256) :
    res_main_v215 V0 (ix2 0 ⟨b, hb⟩) = at2 (V0 (Proc.devRef .tc main_arg2) : Vec Ideal S31x256 .f32) 28 b := by
  unfold res_main_v215
  pointwise
  exact at2_ix (n := 31) (k := 256) _ ⟨28, by omega⟩ ⟨b, hb⟩

theorem weight_29 (b : ℕ) (hb : b < 256) :
    res_main_v222 V0 (ix2 0 ⟨b, hb⟩) = at2 (V0 (Proc.devRef .tc main_arg2) : Vec Ideal S31x256 .f32) 29 b := by
  unfold res_main_v222
  pointwise
  exact at2_ix (n := 31) (k := 256) _ ⟨29, by omega⟩ ⟨b, hb⟩

theorem weight_30 (b : ℕ) (hb : b < 256) :
    res_main_v229 V0 (ix2 0 ⟨b, hb⟩) = at2 (V0 (Proc.devRef .tc main_arg2) : Vec Ideal S31x256 .f32) 30 b := by
  unfold res_main_v229
  pointwise
  exact at2_ix (n := 31) (k := 256) _ ⟨30, by omega⟩ ⟨b, hb⟩

set_option maxHeartbeats 4000000 in
theorem taps_apply (a b : ℕ) (ha : a < 4096) (hb : b < 256) :
    res_main_v359 V0 (ix2 ⟨a, ha⟩ ⟨b, hb⟩) =
      ∑ j ∈ Finset.range 31, at2 (V0 (Proc.devRef .tc main_arg2) : Vec Ideal S31x256 .f32) j b * at2 (V0 (Proc.devRef .tc main_arg1) : Vec Ideal S4096x256 .f32) (30 - j + a) b := by
  unfold res_main_v359 res_main_v357 res_main_v305
  rw [← sum31_down]
  pointwise
  iterate 30 refine congrArg₂ (· + ·) ?_ ?_
  all_goals
    first
    | refine pad_term _ _ _ _ _ (fun h => by omega) _ (fun h => ?_)
    | skip
  all_goals
    refine congrArg₂ (· * ·) ?_ ?_
    · first | simp only [weight_0, weight_1, weight_2, weight_3, weight_4, weight_5, weight_6, weight_7, weight_8, weight_9, weight_10, weight_11, weight_12, weight_13, weight_14, weight_15, weight_16, weight_17, weight_18, weight_19, weight_20, weight_21, weight_22, weight_23, weight_24, weight_25, weight_26, weight_27, weight_28, weight_29, weight_30]
    · first
      | rw [rows_apply]
        dsimp only
        congr 1
        omega
      | rw [rows_apply]
      | exact at2_ix (n := 4096) (k := 256) _ ⟨a, ha⟩ ⟨b, hb⟩

theorem value_apply (a b : ℕ) (ha : a < 4096) (hb : b < 256) :
    res_main_v0 V0 (ix2 ⟨a, ha⟩ ⟨b, hb⟩) = at2 (V0 (Proc.devRef .tc main_arg0) : Vec Ideal S4096x512 .f32) a b := by
  unfold res_main_v0
  pointwise
  exact at2_ix (n := 4096) (k := 512) _ ⟨a, ha⟩ ⟨b, by omega⟩

theorem gated_slope {x' t' g' x t g : EReal} (hx : x' = x) (ht : t' = t) (hg : g' = g) :
    x' * t' * (g' * (1 - g')) = t * x * g * (1 - g) := by
  subst hx ht hg
  rw [mul_comm x' t', ← mul_assoc]

/-- The reference's result at a row and a column. -/
theorem result_apply (i : S4096x512.Idx) :
    (truncf .bf16 (concatenate S4096x512 1 [⟨S4096x256, (mulf (res_main_v359 V0) (res_main_v7 V0))⟩, ⟨S4096x256, (mulf (mulf (res_main_v0 V0) (res_main_v359 V0)) (mulf (res_main_v7 V0) (subf (broadcastInDim S4096x256 ![] bcast_S_S4096x256 (constant S_ .f32 0x3F800000#32)) (res_main_v7 V0))))⟩] concatenates_S4096x256_S4096x256_S4096x512_d1) bitsLt_bf16_f32 : FVec Ideal S4096x512 .bf16) i
      = if (i 1).val < 256 then
          (∑ j ∈ Finset.range 31, at2 (V0 (Proc.devRef .tc main_arg2) : Vec Ideal S31x256 .f32) j (i 1).val * at2 (V0 (Proc.devRef .tc main_arg1) : Vec Ideal S4096x256 .f32) (30 - j + (i 0).val) (i 1).val)
            * sg (at2 (V0 (Proc.devRef .tc main_arg0) : Vec Ideal S4096x512 .f32) (i 0).val (256 + (i 1).val))
        else
          (∑ j ∈ Finset.range 31, at2 (V0 (Proc.devRef .tc main_arg2) : Vec Ideal S31x256 .f32) j ((i 1).val - 256) * at2 (V0 (Proc.devRef .tc main_arg1) : Vec Ideal S4096x256 .f32) (30 - j + (i 0).val) ((i 1).val - 256))
            * at2 (V0 (Proc.devRef .tc main_arg0) : Vec Ideal S4096x512 .f32) (i 0).val ((i 1).val - 256)
            * sg (at2 (V0 (Proc.devRef .tc main_arg0) : Vec Ideal S4096x512 .f32) (i 0).val (i 1).val)
            * (1 - sg (at2 (V0 (Proc.devRef .tc main_arg0) : Vec Ideal S4096x512 .f32) (i 0).val (i 1).val)) := by
  idx_vars i
  have h0 := i0.isLt
  have h1 := i1.isLt
  pointwise
  by_cases h : i1.val < 256
  · rw [dif_pos h, if_pos h]
    exact congrArg₂ (· * ·) (taps_apply V0 i0.val i1.val h0 h) (gate_apply V0 i0.val i1.val h0 h)
  · rw [dif_neg h, if_neg h]
    have hb : i1.val - 256 < 256 := by omega
    have e1 := taps_apply V0 i0.val (i1.val - 256) h0 hb
    have e2 := gate_apply V0 i0.val (i1.val - 256) h0 hb
    have e3 := value_apply V0 i0.val (i1.val - 256) h0 hb
    rw [show 256 + (i1.val - 256) = i1.val by omega] at e2
    exact gated_slope e3 e1 e2

end Cert.ReferenceIdeal.RefValue

end
-- ==== Proof.ConvClaims.lean ====
/- The claims about the gradient of the gated convolution's operand: the runs of the two programs end at the same function
   of the arguments. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.ConvValue
public import proofs.«01_k».proof.Proof.RefValue
public import Idealize.ShloMosaic.Adequacy
public import Idealize.ShloMosaic.Init

@[expose] public section

noncomputable section

namespace Cert.Conv

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.KernelIdeal.RefValue.final]
  funext i
  refine (Cert.ReferenceIdeal.RefValue.result_apply (StableHlo.launchContents m' c) i).trans ?_
  obtain ⟨e0, e1, e2⟩ := hagree c
  rw [show StableHlo.launchContents m' c (Proc.devRef .tc Cert.ReferenceIdeal.main_arg0) = _ from e0,
    show StableHlo.launchContents m' c (Proc.devRef .tc Cert.ReferenceIdeal.main_arg1) = _ from e1,
    show StableHlo.launchContents m' c (Proc.devRef .tc Cert.ReferenceIdeal.main_arg2) = _ from e2]
  rfl

end Cert.Conv

end
-- ==== Proof.DownDxValue.lean ====
module

public import proofs.«01_k».proof.Proof.Coords
public import proofs.«01_k».proof.Proof.Gen.Kernel2Ideal.Value

@[expose] public section

set_option maxRecDepth 16384

noncomputable section

/-! The gradient of the squared-ReLU product's input, element by element, in terms of the arguments. -/

namespace Cert.Kernel2Ideal.RefValue

open Cert.Kernel2Ideal Cert.Kernel2Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

/-- One element of a block of the result. -/
def blockAt (x0 : Vec Ideal S1024x1024 .f32) (x1 x2 : Vec Ideal S1024x1024 .bf16) (r q : ℕ) : EReal :=
  (∑ k : Fin 1024, at2 x0 r k.val * at2 x1 q k.val) * (((2 : ℝ) : EReal) * max (at2 x2 r q) 0)

/-- One block of the result. -/
theorem block_apply (x0 : Vec Ideal S1024x1024 .f32) (x1 x2 : Vec Ideal S1024x1024 .bf16) (y : S1024x1024.Idx) :
    out0_3 x0 x1 x2 y = blockAt x0 x1 x2 (y 0).val (y 1).val := by
  unfold blockAt
  unfold out0_3
  canon_tiles x h
  rw [h0, h1]
  idx_vars x
  open_payloads
  pointwise
  simp only [at2_ix]
  rw [two_f32]

theorem idx (t : Fin cfg0.N) : win0_0.index t = ![t.val / 4, 0] ∧ win0_1.index t = ![t.val % 4, 0] ∧
    win0_2.index t = ![t.val / 4, t.val % 4] ∧ win0_3.index t = ![t.val / 4, t.val % 4] :=
  (by decide +kernel : ∀ t : Fin grid0.N, win0_0.index t = ![t.val / 4, 0] ∧ win0_1.index t = ![t.val % 4, 0] ∧
    win0_2.index t = ![t.val / 4, t.val % 4] ∧ win0_3.index t = ![t.val / 4, t.val % 4]) t

/-- The result at a row and a column: the product with the transposed weights times the slope of the squared ramp. -/
def duAt (u : Vec Ideal S4096x4096 .bf16) (dh : Vec Ideal S4096x1024 .f32) (w : Vec Ideal S4096x1024 .f32) (r q : ℕ) : EReal :=
  (∑ k : Fin 1024, at2 dh r k.val * at2 w q k.val) * (((2 : ℝ) : EReal) * max (at2 u r q) 0)

/-- The result as an array. -/
def du (u : Vec Ideal S4096x4096 .bf16) (dh : Vec Ideal S4096x1024 .f32) (w : Vec Ideal S4096x1024 .f32) : Vec Ideal S4096x4096 .bf16 :=
  fun i => duAt u dh w (i 0).val (i 1).val

theorem blk_dh (c : Dev nD) (t : Fin cfg0.N) (r q : ℕ) (hr : r < 1024) (hq : q < 1024) :
    at2 (iblk m c 0 t : Vec Ideal S1024x1024 .f32) r q
      = at2 (m ((c : Thread nD τ).loc main_arg1) : Vec Ideal S4096x1024 .f32) (1024 * (t.val / 4) + r) q := by
  obtain ⟨h, -⟩ := idx t
  have ht : t.val < 16 := t.isLt
  unfold at2
  rw [dif_pos ⟨hr, hq⟩, dif_pos ⟨by omega, hq⟩]
  blk_ext [iblk, V, h]

theorem blk_u (c : Dev nD) (t : Fin cfg0.N) (r q : ℕ) (hr : r < 1024) (hq : q < 1024) :
    at2 (iblk m c 2 t : Vec Ideal S1024x1024 .bf16) r q
      = at2 (m ((c : Thread nD τ).loc main_arg0) : Vec Ideal S4096x4096 .bf16) (1024 * (t.val / 4) + r) (1024 * (t.val % 4) + q) := by
  obtain ⟨-, -, h, -⟩ := idx t
  have ht : t.val < 16 := t.isLt
  unfold at2
  rw [dif_pos ⟨hr, hq⟩, dif_pos ⟨by omega, by omega⟩]
  blk_ext [iblk, V, h]

/-- The weights the region finds: the argument rounded, which changes nothing over the extended reals. -/
theorem V_w (c : Dev nD) : V m c main_v0 = (truncf .bf16 (m ((c : Thread nD τ).loc main_arg2) : FVec Ideal S4096x1024 .f32) bitsLt_bf16_f32 : FVec Ideal S4096x1024 .bf16) := by
  unfold V
  simp only [hostOps0, List.flatten_cons, List.flatten_nil, List.append_nil, List.cons_append, List.nil_append]
  after_results

theorem blk_w (c : Dev nD) (t : Fin cfg0.N) (r q : ℕ) (hr : r < 1024) (hq : q < 1024) :
    at2 (iblk m c 1 t : Vec Ideal S1024x1024 .bf16) r q
      = at2 (m ((c : Thread nD τ).loc main_arg2) : Vec Ideal S4096x1024 .f32) (1024 * (t.val % 4) + r) q := by
  obtain ⟨-, h, -⟩ := idx t
  have ht : t.val < 16 := t.isLt
  unfold at2
  rw [dif_pos ⟨hr, hq⟩, dif_pos ⟨by omega, hq⟩]
  blk_simp [iblk, h]
  rw [show V m c main_v0 = _ from V_w m c]
  have he : (win0_1.blk t).view.emb (ix2 (⟨r, hr⟩ : Fin 1024) (⟨q, hq⟩ : Fin 1024)) = (ix2 (⟨1024 * (t.val % 4) + r, by omega⟩ : Fin 4096) (⟨q, hq⟩ : Fin 1024) : S4096x1024.Idx) := by
    ext a
    blk_simp [h]
    fin_cases a <;> simp [Nat.mul_comm]
  rw [he]
  rfl

theorem block_eq (c : Dev nD) (t : Fin cfg0.N) (r q : ℕ) (hr : r < 1024) (hq : q < 1024) :
    blockAt (iblk m c 0 t) (iblk m c 1 t) (iblk m c 2 t) r q
      = duAt (m ((c : Thread nD τ).loc main_arg0)) (m ((c : Thread nD τ).loc main_arg1)) (m ((c : Thread nD τ).loc main_arg2)) (1024 * (t.val / 4) + r) (1024 * (t.val % 4) + q) := by
  unfold blockAt duAt
  rw [blk_u m c t _ _ hr hq]
  congr 1
  refine Finset.sum_congr rfl fun k _ => ?_
  rw [blk_dh m c t _ _ hr k.isLt, blk_w m c t _ _ hq k.isLt]

theorem final (c : Dev nD) :
    (dats m 0 c).arrAt 3 cfg0.N = du (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, h⟩ := idx t
  rw [after0_3]
  have e := block_apply (iblk m c 0 t) (iblk m c 1 t) (iblk m c 2 t)
  generalize out0_3 (iblk m c 0 t) (iblk m c 1 t) (iblk m c 2 t) = f at e ⊢
  refine (e y).trans ?_
  rw [block_eq m c t _ _ (y 0).isLt (y 1).isLt]
  unfold du
  blk_simp [h]
  rw [Nat.mul_comm (t.val / 4), Nat.mul_comm (t.val % 4)]

end Cert.Kernel2Ideal.RefValue

end
-- ==== Proof.DownDxClaims.lean ====
/- The claims about the gradient of the second layer's operand: the product with the transposed weights times the slope of
   the squared ramp. -/
module

public import proofs.«01_k».proof.Defs
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.DownDxValue
public import Idealize.ShloMosaic.Adequacy
public import Idealize.ShloMosaic.Init

@[expose] public section

set_option maxRecDepth 16384

noncomputable section

namespace Cert.DownDx

open Idealize.ShloMosaic Idealize.SL.Sem Cert.Coords

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The slope of a squared ramp, added up as the two halves of a product's gradient. -/
theorem slope (x g : EReal) : (if 0 < x then max x 0 * g + g * max x 0 else 0) = g * (((2 : ℝ) : EReal) * max x 0) := by
  by_cases h : 0 < x
  · rw [if_pos h, mul_comm (max x 0) g, max_eq_left h.le]
    induction x using EReal.rec with
    | bot => exact absurd h (by simp)
    | top => rw [EReal.coe_mul_top_of_pos (by norm_num)]; induction g using EReal.rec with
      | bot => simp
      | top => simp
      | coe g => rcases lt_trichotomy g 0 with hg | hg | hg <;> simp [EReal.coe_mul_top_of_pos, EReal.coe_mul_top_of_neg, hg]
    | coe x =>
      have hx : 0 < x := by exact_mod_cast h
      induction g using EReal.rec with
      | bot => rw [← EReal.coe_mul, EReal.bot_mul_coe_of_pos hx, EReal.bot_mul_coe_of_pos (by positivity)]; simp
      | top => rw [← EReal.coe_mul, EReal.top_mul_coe_of_pos hx, EReal.top_mul_coe_of_pos (by positivity)]; simp
      | coe g => norm_cast; ring
  · rw [if_neg h, max_eq_right (not_lt.mp h), mul_zero, mul_zero]

theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  rw [Cert.Kernel2Ideal.RefValue.final]
  obtain ⟨e0, e1, e2⟩ := hagree c
  funext i
  unfold Cert.Kernel2Ideal.RefValue.du Cert.Kernel2Ideal.RefValue.duAt
  rw [e0, e1, e2]
  clear h
  idx_vars i
  pointwise
  refine (slope _ _).trans ?_
  refine congrArg₂ (fun s x : EReal => s * (((2 : ℝ) : EReal) * max x 0)) (Finset.sum_congr rfl fun k _ => ?_) ?_
  · exact congrArg₂ (fun x y : EReal => x * y) (at2_ix (n := 4096) (k := 1024) _ _ _) (at2_ix (n := 4096) (k := 1024) _ _ _)
  · exact at2_ix (n := 4096) (k := 4096) _ _ _

end Cert.DownDx

end
-- ==== Proof.DownDwValue.lean ====
/- The gradient of the second layer's weights, element by element: the squared ramp transposed times the incoming gradient. -/
module

public import proofs.«01_k».proof.Proof.Gen.Kernel3Ideal.Value
public import proofs.«01_k».proof.Proof.Coords
public import Idealize.ShloMosaic.Lib.Pipeline.ReadBack

@[expose] public section

set_option maxRecDepth 16384

noncomputable section

namespace Cert.Kernel3Ideal.RefValue

open Cert.Kernel3Ideal Cert.Kernel3Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0]) t

/-- A squared ramp. -/
def sq (x : EReal) : EReal := max x 0 * max x 0

/-- One stretch of rows of the product. -/
def termB (x0 : Vec Ideal S1024x2048 .bf16) (x1 : Vec Ideal S1024x1024 .f32) (r q : ℕ) : EReal :=
  ∑ k : Fin 1024, sq (at2 x0 k.val r) * at2 x1 k.val q

theorem pay2_apply (x0 : Vec Ideal S1024x2048 .bf16) (x1 : Vec Ideal S1024x1024 .f32) (y : S2048x1024.Idx) :
    k0_pay2 x0 x1 y = termB x0 x1 (y 0).val (y 1).val := by
  idx_vars y
  open_payloads
  pointwise
  unfold termB sq
  simp only [at2_ix]

theorem pay3_apply (x0 : Vec Ideal S1024x2048 .bf16) (x1 : Vec Ideal S1024x1024 .f32) (a : Vec Ideal S2048x1024 .f32) (y : S2048x1024.Idx) :
    k0_pay3 x0 x1 a y = a y + termB x0 x1 (y 0).val (y 1).val := by
  idx_vars y
  open_payloads
  pointwise
  unfold termB sq
  simp only [at2_ix]

theorem pay4_apply (a : Vec Ideal S2048x1024 .f32) (y : S2048x1024.Idx) : k0_pay4 a y = a y := by
  idx_vars y
  open_payloads
  pointwise

theorem blk_u (c : Dev nD) (t : Fin cfg0.N) (r q : ℕ) (hr : r < 1024) (hq : q < 2048) :
    at2 (iblk m c 0 t : Vec Ideal S1024x2048 .bf16) r q
      = at2 (m ((c : Thread nD τ).loc main_arg0) : Vec Ideal S4096x4096 .bf16) (1024 * (t.val % 4) + r) (2048 * (t.val / 4) + q) := by
  obtain ⟨h, -⟩ := idx t
  have ht : t.val < 8 := t.isLt
  unfold at2
  rw [dif_pos ⟨hr, hq⟩, dif_pos ⟨by omega, by omega⟩]
  blk_ext [iblk, V, h]

theorem blk_dh (c : Dev nD) (t : Fin cfg0.N) (r q : ℕ) (hr : r < 1024) (hq : q < 1024) :
    at2 (iblk m c 1 t : Vec Ideal S1024x1024 .f32) r q
      = at2 (m ((c : Thread nD τ).loc main_arg1) : Vec Ideal S4096x1024 .f32) (1024 * (t.val % 4) + r) q := by
  obtain ⟨-, h, -⟩ := idx t
  have ht : t.val < 8 := t.isLt
  unfold at2
  rw [dif_pos ⟨hr, hq⟩, dif_pos ⟨by omega, hq⟩]
  blk_ext [iblk, V, h]

/-- What grid point `n` adds, from the whole arrays. -/
def term (u : Vec Ideal S4096x4096 .bf16) (dh : Vec Ideal S4096x1024 .f32) (n : ℕ) (i : S2048x1024.Idx) : EReal :=
  ∑ k : Fin 1024, sq (at2 u (1024 * (n % 4) + k.val) (2048 * (n / 4) + (i 0).val)) * at2 dh (1024 * (n % 4) + k.val) (i 1).val

theorem term_eq (c : Dev nD) (t : Fin cfg0.N) (y : S2048x1024.Idx) :
    termB (iblk m c 0 t) (iblk m c 1 t) (y 0).val (y 1).val
      = term (m ((c : Thread nD τ).loc main_arg0)) (m ((c : Thread nD τ).loc main_arg1)) t.val y := by
  have h0 : (y 0).val < 2048 := (y 0).isLt
  have h1 : (y 1).val < 1024 := (y 1).isLt
  unfold termB term
  refine Finset.sum_congr rfl fun k _ => ?_
  rw [blk_u m c t _ _ k.isLt h0, blk_dh m c t _ _ k.isLt h1]

theorem acc_eq (c : Dev nD) (t : Fin cfg0.N) (y : S2048x1024.Idx) :
    (outsAt0 m c t.val t.isLt).2 y = 0 + ∑ s ∈ Finset.range (t.val % 4 + 1),
      term (m ((c : Thread nD τ).loc main_arg0)) (m ((c : Thread nD τ).loc main_arg1)) (4 * (t.val / 4) + s) y := by
  refine Pipeline.eq_sum_of_reset_step_apply (fun n h => (outsAt0 m c n h).2) 4 (fun _ => (0 : EReal))
    (fun n i => term (m ((c : Thread nD τ).loc main_arg0)) (m ((c : Thread nD τ).loc main_arg1)) n i) (fun t h i => ?_) (fun t h i => ?_) t y
  · rw [outsAt0_A m c t h (by omega) (by omega), zero_add, ← term_eq]
    frame_out
    exact pay2_apply _ _ i
  · rw [← term_eq]
    by_cases h3 : t.val % 4 = 3
    · rw [outsAt0_C m c t h (by omega) h3]
      frame_out
      simp only [read_unread_whole]
      exact pay3_apply _ _ _ i
    · rw [outsAt0_B m c t h (by omega) h3]
      frame_out
      simp only [read_unread_whole]
      exact pay3_apply _ _ _ i

theorem out_eq_acc (c : Dev nD) (t : Fin cfg0.N) (h : t.val % 4 = 3) (y : S2048x1024.Idx) :
    (outsAt0 m c t.val t.isLt).1 y = (outsAt0 m c t.val t.isLt).2 y := by
  rw [outsAt0_C m c t (by omega) (by omega) h]
  frame_out
  exact pay4_apply _ y

/-- The gradient of the weights at a row and a column. -/
def dw (u : Vec Ideal S4096x4096 .bf16) (dh : Vec Ideal S4096x1024 .f32) : Vec Ideal S4096x1024 .f32 :=
  fun i => ∑ k : Fin 4096, sq (at2 u k.val (i 0).val) * at2 dh k.val (i 1).val

theorem block_eq (c : Dev nD) (t : Fin cfg0.N) (h : t.val % 4 = 3) (y : S2048x1024.Idx) :
    (outsAt0 m c t.val t.isLt).1 y
      = ∑ k : Fin 4096, sq (at2 (m ((c : Thread nD τ).loc main_arg0) : Vec Ideal S4096x4096 .bf16) k.val (2048 * (t.val / 4) + (y 0).val))
          * at2 (m ((c : Thread nD τ).loc main_arg1) : Vec Ideal S4096x1024 .f32) k.val (y 1).val := by
  rw [out_eq_acc m c t h, acc_eq, h, zero_add]
  refine Eq.trans (Finset.sum_congr rfl fun s hs => ?_) (sum_split (J := 4) 1024 4096 rfl (fun n => sq (at2 (m ((c : Thread nD τ).loc main_arg0) : Vec Ideal S4096x4096 .bf16) n (2048 * (t.val / 4) + (y 0).val))
          * at2 (m ((c : Thread nD τ).loc main_arg1) : Vec Ideal S4096x1024 .f32) n (y 1).val))
  have hs' := Finset.mem_range.mp hs
  unfold term
  rw [show (4 * (t.val / 4) + s) % 4 = s by omega, show (4 * (t.val / 4) + s) / 4 = t.val / 4 by omega]

theorem final (c : Dev nD) :
    (dats m 0 c).arrAt 2 cfg0.N = dw (m ((c : Thread nD τ).loc main_arg0)) (m ((c : Thread nD τ).loc main_arg1)) := by
  refine (dats m 0 c).arrAt_eq_of_covers 2 _ (by decide +kernel) fun t hf y => ?_
  obtain ⟨-, -, h⟩ := idx t
  rw [after0_2]
  have e := block_eq m c t ((flush0_2 t).mp hf)
  generalize (outsAt0 m c t.val t.isLt).1 = f at e ⊢
  refine (e y).trans ?_
  unfold dw
  blk_simp [h]
  rw [Nat.mul_comm (t.val / 4)]

end Cert.Kernel3Ideal.RefValue

end
-- ==== Proof.DownDwClaims.lean ====
/- The claims about the gradient of the second layer's weights. -/
module

public import proofs.«01_k».proof.Defs
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.DownDwValue
public import Idealize.ShloMosaic.Adequacy
public import Idealize.ShloMosaic.Init

@[expose] public section

set_option maxRecDepth 16384

noncomputable section

namespace Cert.DownDw

open Idealize.ShloMosaic Idealize.SL.Sem Cert.Coords

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  rw [Cert.Kernel3Ideal.RefValue.final]
  obtain ⟨e0, e1⟩ := hagree c
  funext i
  unfold Cert.Kernel3Ideal.RefValue.dw Cert.Kernel3Ideal.RefValue.sq
  rw [e0, e1]
  clear h
  idx_vars i
  pointwise
  refine Finset.sum_congr rfl fun k _ => ?_
  refine (mul_comm _ _).trans ?_
  exact congrArg₂ (fun x y : EReal => max x 0 * max x 0 * y) (at2_ix (n := 4096) (k := 4096) _ _ _) (at2_ix (n := 4096) (k := 1024) _ _ _)

end Cert.DownDw

end
-- ==== Proof.UpDwValue.lean ====
/- The gradient of the first layer's weights, element by element: the normalised rows transposed times the incoming gradient,
   a quarter of the columns at a time. -/
module

public import proofs.«01_k».proof.Proof.Gen.Kernel4Ideal.Value
public import proofs.«01_k».proof.Proof.Coords
public import Idealize.ShloMosaic.Lib.Pipeline.ReadBack

@[expose] public section

set_option maxRecDepth 16384

noncomputable section

namespace Cert.Kernel4Ideal.RefValue

open Cert.Kernel4Ideal Cert.Kernel4Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val % 4, 0] ∧ win0_1.index t = ![t.val % 4, t.val / 4] ∧ win0_2.index t = ![t.val / 4, 0, 0] :=
  (by decide +kernel : ∀ t : Fin grid0.N, win0_0.index t = ![t.val % 4, 0] ∧ win0_1.index t = ![t.val % 4, t.val / 4] ∧ win0_2.index t = ![t.val / 4, 0, 0]) t

/-- One stretch of rows of the product. -/
def termB (x0 x1 : Vec Ideal S1024x1024 .bf16) (r q : ℕ) : EReal :=
  ∑ k : Fin 1024, at2 x0 k.val r * at2 x1 k.val q

theorem pay2_apply (x0 x1 : Vec Ideal S1024x1024 .bf16) (y : S1024x1024.Idx) :
    k0_pay2 x0 x1 y = termB x0 x1 (y 0).val (y 1).val := by
  idx_vars y
  open_payloads
  pointwise
  unfold termB
  simp only [at2_ix]

theorem pay3_apply (x0 x1 : Vec Ideal S1024x1024 .bf16) (a : Vec Ideal S1024x1024 .f32) (y : S1024x1024.Idx) :
    k0_pay3 x0 x1 a y = a y + termB x0 x1 (y 0).val (y 1).val := by
  idx_vars y
  open_payloads
  pointwise
  unfold termB
  simp only [at2_ix]

theorem pay4_apply (a : Vec Ideal S1024x1024 .f32) (y : S1x1024x1024.Idx) : k0_pay4 a y = a (ix2 (y 1) (y 2)) := by
  idx_vars y
  open_payloads
  pointwise

theorem blk_x (c : Dev nD) (t : Fin cfg0.N) (r q : ℕ) (hr : r < 1024) (hq : q < 1024) :
    at2 (iblk m c 0 t : Vec Ideal S1024x1024 .bf16) r q = at2 (m ((c : Thread nD τ).loc main_arg0) : Vec Ideal S4096x1024 .bf16) (1024 * (t.val % 4) + r) q := by
  obtain ⟨h, -⟩ := idx t
  have ht : t.val < 16 := t.isLt
  unfold at2
  rw [dif_pos ⟨hr, hq⟩, dif_pos ⟨by omega, by omega⟩]
  blk_ext [iblk, V, h]

theorem blk_du (c : Dev nD) (t : Fin cfg0.N) (r q : ℕ) (hr : r < 1024) (hq : q < 1024) :
    at2 (iblk m c 1 t : Vec Ideal S1024x1024 .bf16) r q = at2 (m ((c : Thread nD τ).loc main_arg1) : Vec Ideal S4096x4096 .bf16) (1024 * (t.val % 4) + r) (1024 * (t.val / 4) + q) := by
  obtain ⟨-, h, -⟩ := idx t
  have ht : t.val < 16 := t.isLt
  unfold at2
  rw [dif_pos ⟨hr, hq⟩, dif_pos ⟨by omega, by omega⟩]
  blk_ext [iblk, V, h]

/-- What grid point `n` adds, from the whole arrays. -/
def term (x : Vec Ideal S4096x1024 .bf16) (du : Vec Ideal S4096x4096 .bf16) (n : ℕ) (i : S1024x1024.Idx) : EReal :=
  ∑ k : Fin 1024, at2 x (1024 * (n % 4) + k.val) (i 0).val * at2 du (1024 * (n % 4) + k.val) (1024 * (n / 4) + (i 1).val)

theorem term_eq (c : Dev nD) (t : Fin cfg0.N) (y : S1024x1024.Idx) :
    termB (iblk m c 0 t) (iblk m c 1 t) (y 0).val (y 1).val = term (m ((c : Thread nD τ).loc main_arg0) : Vec Ideal S4096x1024 .bf16) (m ((c : Thread nD τ).loc main_arg1) : Vec Ideal S4096x4096 .bf16) t.val y := by
  have h0 : (y 0).val < 1024 := (y 0).isLt
  have h1 : (y 1).val < 1024 := (y 1).isLt
  unfold termB term
  refine Finset.sum_congr rfl fun k _ => ?_
  rw [blk_x m c t _ _ k.isLt h0, blk_du m c t _ _ k.isLt h1]

theorem acc_eq (c : Dev nD) (t : Fin cfg0.N) (y : S1024x1024.Idx) :
    (outsAt0 m c t.val t.isLt).2 y = 0 + ∑ s ∈ Finset.range (t.val % 4 + 1), term (m ((c : Thread nD τ).loc main_arg0) : Vec Ideal S4096x1024 .bf16) (m ((c : Thread nD τ).loc main_arg1) : Vec Ideal S4096x4096 .bf16) (4 * (t.val / 4) + s) y := by
  refine Pipeline.eq_sum_of_reset_step_apply (fun n h => (outsAt0 m c n h).2) 4 (fun _ => (0 : EReal))
    (fun n i => term (m ((c : Thread nD τ).loc main_arg0) : Vec Ideal S4096x1024 .bf16) (m ((c : Thread nD τ).loc main_arg1) : Vec Ideal S4096x4096 .bf16) n i) (fun t h i => ?_) (fun t h i => ?_) t y
  · rw [outsAt0_A m c t h (by omega) (by omega), zero_add, ← term_eq]
    frame_out
    exact pay2_apply _ _ i
  · rw [← term_eq]
    by_cases h3 : t.val % 4 = 3
    · rw [outsAt0_C m c t h (by omega) h3]
      frame_out
      simp only [read_unread_whole]
      exact pay3_apply _ _ _ i
    · rw [outsAt0_B m c t h (by omega) h3]
      frame_out
      simp only [read_unread_whole]
      exact pay3_apply _ _ _ i

theorem out_eq_acc (c : Dev nD) (t : Fin cfg0.N) (h : t.val % 4 = 3) (y : S1x1024x1024.Idx) :
    (outsAt0 m c t.val t.isLt).1 y = (outsAt0 m c t.val t.isLt).2 (ix2 (y 1) (y 2)) := by
  rw [outsAt0_C m c t (by omega) (by omega) h]
  frame_out
  exact pay4_apply _ y

/-- The gradient of the weights: quarter `i 0` of the columns. -/
def dw (x : Vec Ideal S4096x1024 .bf16) (du : Vec Ideal S4096x4096 .bf16) : Vec Ideal S4x1024x1024 .f32 :=
  fun i => ∑ k : Fin 4096, at2 x k.val (i 1).val * at2 du k.val (1024 * (i 0).val + (i 2).val)

theorem block_eq (c : Dev nD) (t : Fin cfg0.N) (h : t.val % 4 = 3) (y : S1x1024x1024.Idx) :
    (outsAt0 m c t.val t.isLt).1 y
      = ∑ k : Fin 4096, at2 (m ((c : Thread nD τ).loc main_arg0) : Vec Ideal S4096x1024 .bf16) k.val (y 1).val * at2 (m ((c : Thread nD τ).loc main_arg1) : Vec Ideal S4096x4096 .bf16) k.val (1024 * (t.val / 4) + (y 2).val) := by
  rw [out_eq_acc m c t h, acc_eq, h, zero_add]
  refine Eq.trans (Finset.sum_congr rfl fun s hs => ?_) (sum_split (J := 4) 1024 4096 rfl (fun n => at2 (m ((c : Thread nD τ).loc main_arg0) : Vec Ideal S4096x1024 .bf16) n (y 1).val * at2 (m ((c : Thread nD τ).loc main_arg1) : Vec Ideal S4096x4096 .bf16) n (1024 * (t.val / 4) + (y 2).val)))
  have hs' := Finset.mem_range.mp hs
  unfold term
  rw [show (4 * (t.val / 4) + s) % 4 = s by omega, show (4 * (t.val / 4) + s) / 4 = t.val / 4 by omega]
  rfl

theorem final (c : Dev nD) : (dats m 0 c).arrAt 2 cfg0.N = dw (m ((c : Thread nD τ).loc main_arg0) : Vec Ideal S4096x1024 .bf16) (m ((c : Thread nD τ).loc main_arg1) : Vec Ideal S4096x4096 .bf16) := by
  refine (dats m 0 c).arrAt_eq_of_covers 2 _ (by decide +kernel) fun t hf y => ?_
  obtain ⟨-, -, h⟩ := idx t
  rw [after0_2]
  have e := block_eq m c t ((flush0_2 t).mp hf)
  generalize (outsAt0 m c t.val t.isLt).1 = f at e ⊢
  refine (e y).trans ?_
  unfold dw
  blk_simp [h]

end Cert.Kernel4Ideal.RefValue

end
-- ==== Proof.UpDwClaims.lean ====
/- The claims about the gradient of the first layer's weights. -/
module

public import proofs.«01_k».proof.Defs
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.UpDwValue
public import Idealize.ShloMosaic.Adequacy
public import Idealize.ShloMosaic.Init

@[expose] public section

set_option maxRecDepth 16384

noncomputable section

namespace Cert.UpDw

open Idealize.ShloMosaic Idealize.SL.Sem Cert.Coords

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  rw [Cert.Kernel4Ideal.RefValue.final]
  obtain ⟨e0, e1⟩ := hagree c
  funext i
  unfold Cert.Kernel4Ideal.RefValue.dw
  rw [e0, e1]
  clear h
  idx_vars i
  pointwise
  refine Finset.sum_congr rfl fun k _ => ?_
  refine (mul_comm _ _).trans ?_
  refine congrArg₂ (fun x y : EReal => x * y) (at2_ix (n := 4096) (k := 1024) _ _ _) ((at2_ix (n := 4096) (k := 4096) _ _ _).trans ?_)
  rw [Nat.mul_comm 1024]

end Cert.UpDw

end
-- ==== Proof.OutDwValue.lean ====
/- The gradients of the output weights, element by element: each branch's rows transposed times the incoming gradient. -/
module

public import proofs.«01_k».proof.Proof.Gen.Kernel5Ideal.Value
public import proofs.«01_k».proof.Proof.Coords
public import Idealize.ShloMosaic.Lib.Pipeline.ReadBack

@[expose] public section

set_option maxRecDepth 16384

noncomputable section

namespace Cert.Kernel5Ideal.RefValue

open Cert.Kernel5Ideal Cert.Kernel5Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0]) t

/-- One stretch of rows of a product. -/
def termB {w : ℕ} (x0 : (⟨2, ![1024, w]⟩ : Shape).Idx → EReal) (x1 : Vec Ideal S1024x1024 .f32) (r q : ℕ) : EReal :=
  ∑ k : Fin 1024, at2 x0 k.val r * at2 x1 k.val q

/-- What grid point `n` adds, from the whole arrays. -/
def term {w : ℕ} (x : (⟨2, ![4096, w]⟩ : Shape).Idx → EReal) (dh : Vec Ideal S4096x1024 .f32) (n r q : ℕ) : EReal :=
  ∑ k : Fin 1024, at2 x (1024 * n + k.val) r * at2 dh (1024 * n + k.val) q

/-- The gradient of one branch's weights at a row and a column. -/
def dwAt {w : ℕ} (x : (⟨2, ![4096, w]⟩ : Shape).Idx → EReal) (dh : Vec Ideal S4096x1024 .f32) (r q : ℕ) : EReal :=
  ∑ k : Fin 4096, at2 x k.val r * at2 dh k.val q

theorem sum_term {w : ℕ} (x : (⟨2, ![4096, w]⟩ : Shape).Idx → EReal) (dh : Vec Ideal S4096x1024 .f32) (r q : ℕ) :
    0 + ∑ s ∈ Finset.range 4, term x dh s r q = dwAt x dh r q := by
  rw [zero_add]
  exact sum_split (J := 4) 1024 4096 rfl (fun n => at2 x n r * at2 dh n q)

theorem blk_dh (c : Dev nD) (t : Fin cfg0.N) (r q : ℕ) (hr : r < 1024) (hq : q < 1024) :
    at2 (iblk m c 3 t : Vec Ideal S1024x1024 .f32) r q = at2 (m ((c : Thread nD τ).loc main_arg3) : Vec Ideal S4096x1024 .f32) (1024 * t.val + r) q := by
  obtain ⟨-, -, -, h, -⟩ := idx t
  have ht : t.val < 4 := t.isLt
  unfold at2
  rw [dif_pos ⟨hr, hq⟩, dif_pos ⟨by omega, by omega⟩]
  blk_ext [iblk, V, h]

theorem first0_apply (x0 : Vec Ideal S1024x384 .bf16) (x1 : Vec Ideal S1024x1024 .f32) (y : S384x1024.Idx) :
    k0_pay3 x0 x1 y = termB x0 x1 (y 0).val (y 1).val := by
  idx_vars y
  open_payloads
  pointwise
  unfold termB
  simp only [at2_ix]

theorem next0_apply (x0 : Vec Ideal S1024x384 .bf16) (x1 : Vec Ideal S1024x1024 .f32) (a : Vec Ideal S384x1024 .f32) (y : S384x1024.Idx) :
    k0_pay4 x0 x1 a y = a y + termB x0 x1 (y 0).val (y 1).val := by
  idx_vars y
  open_payloads
  pointwise
  unfold termB
  simp only [at2_ix]

theorem blk0 (c : Dev nD) (t : Fin cfg0.N) (r q : ℕ) (hr : r < 1024) (hq : q < 384) :
    at2 (iblk m c 0 t : Vec Ideal S1024x384 .bf16) r q = at2 (m ((c : Thread nD τ).loc main_arg0) : Vec Ideal S4096x384 .bf16) (1024 * t.val + r) q := by
  obtain ⟨h, -⟩ := idx t
  have ht : t.val < 4 := t.isLt
  unfold at2
  rw [dif_pos ⟨hr, hq⟩, dif_pos ⟨by omega, by omega⟩]
  blk_ext [iblk, V, h]

theorem term0_eq (c : Dev nD) (t : Fin cfg0.N) (y : S384x1024.Idx) :
    termB (iblk m c 0 t : Vec Ideal S1024x384 .bf16) (iblk m c 3 t) (y 0).val (y 1).val = term (m ((c : Thread nD τ).loc main_arg0) : Vec Ideal S4096x384 .bf16) (m ((c : Thread nD τ).loc main_arg3) : Vec Ideal S4096x1024 .f32) t.val (y 0).val (y 1).val := by
  have h0 : (y 0).val < 384 := (y 0).isLt
  have h1 : (y 1).val < 1024 := (y 1).isLt
  unfold termB term
  refine Finset.sum_congr rfl fun k _ => ?_
  rw [blk0 m c t _ _ k.isLt h0, blk_dh m c t _ _ k.isLt h1]

theorem acc0_eq (c : Dev nD) (t : Fin cfg0.N) (y : S384x1024.Idx) :
    (outsAt0 m c t.val t.isLt).1 y = 0 + ∑ s ∈ Finset.range (t.val % 4 + 1), term (m ((c : Thread nD τ).loc main_arg0) : Vec Ideal S4096x384 .bf16) (m ((c : Thread nD τ).loc main_arg3) : Vec Ideal S4096x1024 .f32) (4 * (t.val / 4) + s) (y 0).val (y 1).val := by
  refine Pipeline.eq_sum_of_reset_step_apply (fun n h => (outsAt0 m c n h).1) 4 (fun _ => (0 : EReal))
    (fun n (i : S384x1024.Idx) => term (m ((c : Thread nD τ).loc main_arg0) : Vec Ideal S4096x384 .bf16) (m ((c : Thread nD τ).loc main_arg3) : Vec Ideal S4096x1024 .f32) n (i 0).val (i 1).val) (fun t h i => ?_) (fun t h i => ?_) t y
  · have ht : t.val < 4 := t.isLt
    rw [outsAt0_A m c t h (by omega) h (by omega) h (by omega), zero_add, ← term0_eq]
    frame_out
    exact first0_apply _ _ i
  · have ht : t.val < 4 := t.isLt
    rw [outsAt0_B m c t h (by omega) h (by omega) h (by omega), ← term0_eq]
    frame_out
    try simp only [read_unread_whole]
    exact next0_apply _ _ _ i

/-- The gradient of this branch's weights. -/
def dw0 (x : Vec Ideal S4096x384 .bf16) (dh : Vec Ideal S4096x1024 .f32) : Vec Ideal S384x1024 .f32 :=
  fun i => dwAt x dh (i 0).val (i 1).val

theorem final0 (c : Dev nD) : (dats m 0 c).arrAt 4 cfg0.N = dw0 (m ((c : Thread nD τ).loc main_arg0) : Vec Ideal S4096x384 .bf16) (m ((c : Thread nD τ).loc main_arg3) : Vec Ideal S4096x1024 .f32) := by
  refine (dats m 0 c).arrAt_eq_of_covers 4 _ (by decide +kernel) fun t hf y => ?_
  obtain ⟨-, -, -, -, h, -⟩ := idx t
  have ht : t.val < 4 := t.isLt
  have h3 : t.val % 4 = 3 := (flush0_4 t).mp hf
  rw [after0_4]
  have e := acc0_eq m c t
  generalize (outsAt0 m c t.val t.isLt).1 = f at e ⊢
  refine (e y).trans ?_
  rw [h3, show 4 * (t.val / 4) = 0 by omega]
  simp only [Nat.zero_add, Nat.reduceAdd]
  refine (sum_term _ _ _ _).trans ?_
  unfold dw0
  blk_simp [h]

theorem first1_apply (x0 : Vec Ideal S1024x256 .bf16) (x1 : Vec Ideal S1024x1024 .f32) (y : S256x1024.Idx) :
    k0_pay6 x0 x1 y = termB x0 x1 (y 0).val (y 1).val := by
  idx_vars y
  open_payloads
  pointwise
  unfold termB
  simp only [at2_ix]

theorem next1_apply (x0 : Vec Ideal S1024x256 .bf16) (x1 : Vec Ideal S1024x1024 .f32) (a : Vec Ideal S256x1024 .f32) (y : S256x1024.Idx) :
    k0_pay7 x0 x1 a y = a y + termB x0 x1 (y 0).val (y 1).val := by
  idx_vars y
  open_payloads
  pointwise
  unfold termB
  simp only [at2_ix]

theorem blk1 (c : Dev nD) (t : Fin cfg0.N) (r q : ℕ) (hr : r < 1024) (hq : q < 256) :
    at2 (iblk m c 1 t : Vec Ideal S1024x256 .bf16) r q = at2 (m ((c : Thread nD τ).loc main_arg1) : Vec Ideal S4096x256 .bf16) (1024 * t.val + r) q := by
  obtain ⟨-, h, -⟩ := idx t
  have ht : t.val < 4 := t.isLt
  unfold at2
  rw [dif_pos ⟨hr, hq⟩, dif_pos ⟨by omega, by omega⟩]
  blk_ext [iblk, V, h]

theorem term1_eq (c : Dev nD) (t : Fin cfg0.N) (y : S256x1024.Idx) :
    termB (iblk m c 1 t : Vec Ideal S1024x256 .bf16) (iblk m c 3 t) (y 0).val (y 1).val = term (m ((c : Thread nD τ).loc main_arg1) : Vec Ideal S4096x256 .bf16) (m ((c : Thread nD τ).loc main_arg3) : Vec Ideal S4096x1024 .f32) t.val (y 0).val (y 1).val := by
  have h0 : (y 0).val < 256 := (y 0).isLt
  have h1 : (y 1).val < 1024 := (y 1).isLt
  unfold termB term
  refine Finset.sum_congr rfl fun k _ => ?_
  rw [blk1 m c t _ _ k.isLt h0, blk_dh m c t _ _ k.isLt h1]

theorem acc1_eq (c : Dev nD) (t : Fin cfg0.N) (y : S256x1024.Idx) :
    (outsAt0 m c t.val t.isLt).2.1 y = 0 + ∑ s ∈ Finset.range (t.val % 4 + 1), term (m ((c : Thread nD τ).loc main_arg1) : Vec Ideal S4096x256 .bf16) (m ((c : Thread nD τ).loc main_arg3) : Vec Ideal S4096x1024 .f32) (4 * (t.val / 4) + s) (y 0).val (y 1).val := by
  refine Pipeline.eq_sum_of_reset_step_apply (fun n h => (outsAt0 m c n h).2.1) 4 (fun _ => (0 : EReal))
    (fun n (i : S256x1024.Idx) => term (m ((c : Thread nD τ).loc main_arg1) : Vec Ideal S4096x256 .bf16) (m ((c : Thread nD τ).loc main_arg3) : Vec Ideal S4096x1024 .f32) n (i 0).val (i 1).val) (fun t h i => ?_) (fun t h i => ?_) t y
  · have ht : t.val < 4 := t.isLt
    rw [outsAt0_A m c t h (by omega) h (by omega) h (by omega), zero_add, ← term1_eq]
    frame_out
    exact first1_apply _ _ i
  · have ht : t.val < 4 := t.isLt
    rw [outsAt0_B m c t h (by omega) h (by omega) h (by omega), ← term1_eq]
    frame_out
    try simp only [read_unread_whole]
    exact next1_apply _ _ _ i

/-- The gradient of this branch's weights. -/
def dw1 (x : Vec Ideal S4096x256 .bf16) (dh : Vec Ideal S4096x1024 .f32) : Vec Ideal S256x1024 .f32 :=
  fun i => dwAt x dh (i 0).val (i 1).val

theorem final1 (c : Dev nD) : (dats m 0 c).arrAt 5 cfg0.N = dw1 (m ((c : Thread nD τ).loc main_arg1) : Vec Ideal S4096x256 .bf16) (m ((c : Thread nD τ).loc main_arg3) : Vec Ideal S4096x1024 .f32) := by
  refine (dats m 0 c).arrAt_eq_of_covers 5 _ (by decide +kernel) fun t hf y => ?_
  obtain ⟨-, -, -, -, -, h, -⟩ := idx t
  have ht : t.val < 4 := t.isLt
  have h3 : t.val % 4 = 3 := (flush0_5 t).mp hf
  rw [after0_5]
  have e := acc1_eq m c t
  generalize (outsAt0 m c t.val t.isLt).2.1 = f at e ⊢
  refine (e y).trans ?_
  rw [h3, show 4 * (t.val / 4) = 0 by omega]
  simp only [Nat.zero_add, Nat.reduceAdd]
  refine (sum_term _ _ _ _).trans ?_
  unfold dw1
  blk_simp [h]

theorem first2_apply (x0 : Vec Ideal S1024x384 .bf16) (x1 : Vec Ideal S1024x1024 .f32) (y : S384x1024.Idx) :
    k0_pay9 x0 x1 y = termB x0 x1 (y 0).val (y 1).val := by
  idx_vars y
  open_payloads
  pointwise
  unfold termB
  simp only [at2_ix]

theorem next2_apply (x0 : Vec Ideal S1024x384 .bf16) (x1 : Vec Ideal S1024x1024 .f32) (a : Vec Ideal S384x1024 .f32) (y : S384x1024.Idx) :
    k0_pay10 x0 x1 a y = a y + termB x0 x1 (y 0).val (y 1).val := by
  idx_vars y
  open_payloads
  pointwise
  unfold termB
  simp only [at2_ix]

theorem blk2 (c : Dev nD) (t : Fin cfg0.N) (r q : ℕ) (hr : r < 1024) (hq : q < 384) :
    at2 (iblk m c 2 t : Vec Ideal S1024x384 .bf16) r q = at2 (m ((c : Thread nD τ).loc main_arg2) : Vec Ideal S4096x384 .bf16) (1024 * t.val + r) q := by
  obtain ⟨-, -, h, -⟩ := idx t
  have ht : t.val < 4 := t.isLt
  unfold at2
  rw [dif_pos ⟨hr, hq⟩, dif_pos ⟨by omega, by omega⟩]
  blk_ext [iblk, V, h]

theorem term2_eq (c : Dev nD) (t : Fin cfg0.N) (y : S384x1024.Idx) :
    termB (iblk m c 2 t : Vec Ideal S1024x384 .bf16) (iblk m c 3 t) (y 0).val (y 1).val = term (m ((c : Thread nD τ).loc main_arg2) : Vec Ideal S4096x384 .bf16) (m ((c : Thread nD τ).loc main_arg3) : Vec Ideal S4096x1024 .f32) t.val (y 0).val (y 1).val := by
  have h0 : (y 0).val < 384 := (y 0).isLt
  have h1 : (y 1).val < 1024 := (y 1).isLt
  unfold termB term
  refine Finset.sum_congr rfl fun k _ => ?_
  rw [blk2 m c t _ _ k.isLt h0, blk_dh m c t _ _ k.isLt h1]

theorem acc2_eq (c : Dev nD) (t : Fin cfg0.N) (y : S384x1024.Idx) :
    (outsAt0 m c t.val t.isLt).2.2 y = 0 + ∑ s ∈ Finset.range (t.val % 4 + 1), term (m ((c : Thread nD τ).loc main_arg2) : Vec Ideal S4096x384 .bf16) (m ((c : Thread nD τ).loc main_arg3) : Vec Ideal S4096x1024 .f32) (4 * (t.val / 4) + s) (y 0).val (y 1).val := by
  refine Pipeline.eq_sum_of_reset_step_apply (fun n h => (outsAt0 m c n h).2.2) 4 (fun _ => (0 : EReal))
    (fun n (i : S384x1024.Idx) => term (m ((c : Thread nD τ).loc main_arg2) : Vec Ideal S4096x384 .bf16) (m ((c : Thread nD τ).loc main_arg3) : Vec Ideal S4096x1024 .f32) n (i 0).val (i 1).val) (fun t h i => ?_) (fun t h i => ?_) t y
  · have ht : t.val < 4 := t.isLt
    rw [outsAt0_A m c t h (by omega) h (by omega) h (by omega), zero_add, ← term2_eq]
    frame_out
    exact first2_apply _ _ i
  · have ht : t.val < 4 := t.isLt
    rw [outsAt0_B m c t h (by omega) h (by omega) h (by omega), ← term2_eq]
    frame_out
    try simp only [read_unread_whole]
    exact next2_apply _ _ _ i

/-- The gradient of this branch's weights. -/
def dw2 (x : Vec Ideal S4096x384 .bf16) (dh : Vec Ideal S4096x1024 .f32) : Vec Ideal S384x1024 .f32 :=
  fun i => dwAt x dh (i 0).val (i 1).val

theorem final2 (c : Dev nD) : (dats m 0 c).arrAt 6 cfg0.N = dw2 (m ((c : Thread nD τ).loc main_arg2) : Vec Ideal S4096x384 .bf16) (m ((c : Thread nD τ).loc main_arg3) : Vec Ideal S4096x1024 .f32) := by
  refine (dats m 0 c).arrAt_eq_of_covers 6 _ (by decide +kernel) fun t hf y => ?_
  obtain ⟨-, -, -, -, -, -, h⟩ := idx t
  have ht : t.val < 4 := t.isLt
  have h3 : t.val % 4 = 3 := (flush0_6 t).mp hf
  rw [after0_6]
  have e := acc2_eq m c t
  generalize (outsAt0 m c t.val t.isLt).2.2 = f at e ⊢
  refine (e y).trans ?_
  rw [h3, show 4 * (t.val / 4) = 0 by omega]
  simp only [Nat.zero_add, Nat.reduceAdd]
  refine (sum_term _ _ _ _).trans ?_
  unfold dw2
  blk_simp [h]

end Cert.Kernel5Ideal.RefValue

end
-- ==== Proof.OutDwClaims.lean ====
/- The claims about the gradients of the output weights. -/
module

public import proofs.«01_k».proof.Defs
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.OutDwValue
public import Idealize.ShloMosaic.Adequacy
public import Idealize.ShloMosaic.Init

@[expose] public section

set_option maxRecDepth 16384

noncomputable section

namespace Cert.OutDw

open Idealize.ShloMosaic Idealize.SL.Sem Cert.Coords

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨_, _, _, Cert.Kernel5Ideal.Value.run_blocks (F := Ideal) m ρ, ?_⟩
  refine (θ_run Cert.Reference5Ideal.defs _ _).mono (fun _ h c => ⟨(h c).1.trans ?_, (h c).2.1.trans ?_, (h c).2.2.1.trans ?_, (h c).2.2.2⟩)
    (Cert.Reference5Ideal.Value.run (F := Ideal) m' ρ')
  · rw [Cert.Kernel5Ideal.RefValue.final0]
    obtain ⟨e0, e1, e2, e3⟩ := hagree c
    funext i
    unfold Cert.Kernel5Ideal.RefValue.dw0 Cert.Kernel5Ideal.RefValue.dwAt
    rw [e0, e1, e2, e3]
    clear h
    idx_vars i
    pointwise
    refine Finset.sum_congr rfl fun k _ => ?_
    refine (mul_comm _ _).trans ?_
    exact congrArg₂ (fun x y : EReal => x * y) ((at2_ix (n := 4096) (k := 384) _ _ _)) (at2_ix (n := 4096) (k := 1024) _ _ _)
  · rw [Cert.Kernel5Ideal.RefValue.final1]
    obtain ⟨e0, e1, e2, e3⟩ := hagree c
    funext i
    unfold Cert.Kernel5Ideal.RefValue.dw1 Cert.Kernel5Ideal.RefValue.dwAt
    rw [e0, e1, e2, e3]
    clear h
    idx_vars i
    pointwise
    refine Finset.sum_congr rfl fun k _ => ?_
    refine (mul_comm _ _).trans ?_
    exact congrArg₂ (fun x y : EReal => x * y) ((at2_ix (n := 4096) (k := 256) _ _ _)) (at2_ix (n := 4096) (k := 1024) _ _ _)
  · rw [Cert.Kernel5Ideal.RefValue.final2]
    obtain ⟨e0, e1, e2, e3⟩ := hagree c
    funext i
    unfold Cert.Kernel5Ideal.RefValue.dw2 Cert.Kernel5Ideal.RefValue.dwAt
    rw [e0, e1, e2, e3]
    clear h
    idx_vars i
    pointwise
    refine Finset.sum_congr rfl fun k _ => ?_
    refine (mul_comm _ _).trans ?_
    rw [dif_neg (by omega), dif_neg (by omega)]
    exact congrArg₂ (fun x y : EReal => x * y) ((at2_ix (n := 4096) (k := 384) _ _ _).trans (congrArg (at2 _ k.val) (show 640 + i0.val - 384 - 256 = i0.val by omega))) (at2_ix (n := 4096) (k := 1024) _ _ _)

end Cert.OutDw

end
-- ==== Proof.UpValue.lean ====
/- The first layer with the norm fused, element by element. -/
module

public import proofs.«01_k».proof.Proof.Gen.Kernel6Ideal.Value
public import proofs.«01_k».proof.Proof.Coords
public import Idealize.ShloMosaic.Lib.Pipeline.ReadBack

@[expose] public section

set_option maxRecDepth 16384

noncomputable section

namespace Cert.Kernel6Ideal.RefValue

open Cert.Kernel6Ideal Cert.Kernel6Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val / 4, 0] ∧ win0_1.index t = ![t.val % 4, 0, 0] ∧ win0_2.index t = ![0, 0] ∧ win0_3.index t = ![t.val / 4, t.val % 4] ∧ win0_4.index t = ![t.val / 4, 0] :=
  (by decide +kernel : ∀ t : Fin grid0.N, win0_0.index t = ![t.val / 4, 0] ∧ win0_1.index t = ![t.val % 4, 0, 0] ∧ win0_2.index t = ![0, 0] ∧ win0_3.index t = ![t.val / 4, t.val % 4] ∧ win0_4.index t = ![t.val / 4, 0]) t

/-- A row divided by the root of its mean square, times the gain. -/
def nrm (a g : ℕ → EReal) (q : ℕ) : EReal :=
  a q * Ideal.rsqrt (Ideal.div (∑ x : Fin 1024, a x.val * a x.val) (Ideal.ofBits FTy.f32 1149239296#32) + Ideal.ofBits FTy.f32 897988541#32) * g q

theorem nrm_congr (a a' g g' : ℕ → EReal) (ha : ∀ k < 1024, a k = a' k) (hg : ∀ k < 1024, g k = g' k) (q : ℕ) (hq : q < 1024) :
    nrm a g q = nrm a' g' q := by
  unfold nrm
  rw [ha q hq, hg q hq, Finset.sum_congr rfl fun (x : Fin 1024) _ => show a x.val * a x.val = a' x.val * a' x.val by rw [ha x.val x.isLt]]

theorem block4 (x0 : Vec Ideal S1024x1024 .f32) (x2 : Vec Ideal S1x1024 .f32) (x1 : Vec Ideal S1x1024x1024 .bf16) (y : S1024x1024.Idx) :
    out0_4 x0 x1 x2 y = nrm (at2 x0 (y 0).val) (at2 x2 0) (y 1).val := by
  unfold nrm
  unfold out0_4
  canon_tiles x h
  rw [h0, h1]
  idx_vars x
  open_payloads
  pointwise
  simp only [at2_ix]
  rfl

theorem block3 (x0 : Vec Ideal S1024x1024 .f32) (x1 : Vec Ideal S1x1024x1024 .bf16) (x2 : Vec Ideal S1x1024 .f32) (y : S1024x1024.Idx) :
    out0_3 x0 x1 x2 y = ∑ k : Fin 1024, nrm (at2 x0 (y 0).val) (at2 x2 0) k.val * at3 x1 0 k.val (y 1).val := by
  unfold nrm
  unfold out0_3
  canon_tiles x h
  rw [h0, h1]
  idx_vars x
  open_payloads
  pointwise
  simp only [at2_ix, at3_ix]
  rfl

theorem blk_h (c : Dev nD) (t : Fin cfg0.N) (r q : ℕ) (hr : r < 1024) (hq : q < 1024) :
    at2 (iblk m c 0 t : Vec Ideal S1024x1024 .f32) r q = at2 (m ((c : Thread nD τ).loc main_arg0) : Vec Ideal S4096x1024 .f32) (1024 * (t.val / 4) + r) q := by
  obtain ⟨h, -⟩ := idx t
  have ht : t.val < 16 := t.isLt
  unfold at2
  rw [dif_pos ⟨hr, hq⟩, dif_pos ⟨by omega, by omega⟩]
  blk_ext [iblk, V, h]

/-- The gain the region finds. -/
theorem V_g (c : Dev nD) : V m c main_v3 = fun i => (m ((c : Thread nD τ).loc main_arg1) : Vec Ideal S1024 .f32) (ix1 (i 1)) := by
  unfold V
  simp only [hostOps0, List.flatten_cons, List.flatten_nil, List.append_nil, List.cons_append, List.nil_append]
  after_results
  funext i
  idx_vars i
  pointwise

/-- The weights the region finds: the argument rounded, which changes nothing over the extended reals, a quarter of the columns at a time. -/
theorem V_w (c : Dev nD) : V m c main_v2 = fun i => at2 (m ((c : Thread nD τ).loc main_arg2) : Vec Ideal S1024x4096 .f32) (i 1).val (1024 * (i 0).val + (i 2).val) := by
  unfold V
  simp only [hostOps0, List.flatten_cons, List.flatten_nil, List.append_nil, List.cons_append, List.nil_append]
  after_results
  funext i
  idx_vars i
  pointwise
  refine (at2_ix (n := 1024) (k := 4096) _ i1 ⟨i0.val * 1024 + i2.val, by omega⟩).trans ?_
  rw [Nat.mul_comm 1024]

theorem blk_g (c : Dev nD) (t : Fin cfg0.N) (q : ℕ) (hq : q < 1024) :
    at2 (iblk m c 2 t : Vec Ideal S1x1024 .f32) 0 q = (m ((c : Thread nD τ).loc main_arg1) : Vec Ideal S1024 .f32) (ix1 ⟨q, hq⟩) := by
  obtain ⟨-, -, h, -⟩ := idx t
  unfold at2
  rw [dif_pos ⟨by omega, hq⟩]
  blk_simp [iblk, h]
  rw [show V m c main_v3 = _ from V_g m c]
  have he : (win0_2.blk t).view.emb (ix2 (0 : Fin 1) (⟨q, hq⟩ : Fin 1024)) 1 = (⟨q, hq⟩ : Fin 1024) := by
    ext
    blk_simp [h]
  exact congrArg (fun k : Fin 1024 => (m ((c : Thread nD τ).loc main_arg1) : Vec Ideal S1024 .f32) (ix1 k)) he

theorem blk_w (c : Dev nD) (t : Fin cfg0.N) (r q : ℕ) (hr : r < 1024) (hq : q < 1024) :
    at3 (iblk m c 1 t : Vec Ideal S1x1024x1024 .bf16) 0 r q = at2 (m ((c : Thread nD τ).loc main_arg2) : Vec Ideal S1024x4096 .f32) r (1024 * (t.val % 4) + q) := by
  obtain ⟨-, h, -⟩ := idx t
  unfold at3
  rw [dif_pos ⟨by omega, hr, hq⟩]
  blk_simp [iblk, h]
  rw [show V m c main_v2 = _ from V_w m c]
  blk_simp [h]
  simp [Nat.mul_comm]

/-- A gain as a function of a column. -/
def at1 (g : Vec Ideal S1024 .f32) (q : ℕ) : EReal := if h : q < 1024 then g (ix1 ⟨q, h⟩) else 0

/-- The normalised rows. -/
def xn (h : Vec Ideal S4096x1024 .f32) (g : Vec Ideal S1024 .f32) : Vec Ideal S4096x1024 .bf16 :=
  fun i => nrm (at2 h (i 0).val) (at1 g) (i 1).val

/-- Their product with the weights. -/
def u (h : Vec Ideal S4096x1024 .f32) (g : Vec Ideal S1024 .f32) (w : Vec Ideal S1024x4096 .f32) : Vec Ideal S4096x4096 .bf16 :=
  fun i => ∑ k : Fin 1024, nrm (at2 h (i 0).val) (at1 g) k.val * at2 w k.val (i 1).val

theorem nrm_eq (c : Dev nD) (t : Fin cfg0.N) (r q : ℕ) (hr : r < 1024) (hq : q < 1024) :
    nrm (at2 (iblk m c 0 t : Vec Ideal S1024x1024 .f32) r) (at2 (iblk m c 2 t : Vec Ideal S1x1024 .f32) 0) q
      = nrm (at2 (m ((c : Thread nD τ).loc main_arg0) : Vec Ideal S4096x1024 .f32) (1024 * (t.val / 4) + r)) (at1 (m ((c : Thread nD τ).loc main_arg1) : Vec Ideal S1024 .f32)) q :=
  nrm_congr _ _ _ _ (fun k hk => blk_h m c t r k hr hk) (fun k hk => by rw [blk_g m c t k hk, at1, dif_pos hk]) q hq

theorem final_xn (c : Dev nD) : (dats m 0 c).arrAt 4 cfg0.N = xn (m ((c : Thread nD τ).loc main_arg0) : Vec Ideal S4096x1024 .f32) (m ((c : Thread nD τ).loc main_arg1) : Vec Ideal S1024 .f32) := by
  refine (dats m 0 c).arrAt_eq_of_covers 4 _ (by decide +kernel) fun t hf y => ?_
  obtain ⟨-, -, -, -, h⟩ := idx t
  rw [after0_4]
  have e := block4 (iblk m c 0 t) (iblk m c 2 t) (iblk m c 1 t) y
  generalize out0_4 (iblk m c 0 t) (iblk m c 1 t) (iblk m c 2 t) = f at e ⊢
  refine e.trans ?_
  rw [nrm_eq m c t _ _ (y 0).isLt (y 1).isLt]
  unfold xn
  blk_simp [h]
  rw [Nat.mul_comm (t.val / 4)]

theorem final_u (c : Dev nD) : (dats m 0 c).arrAt 3 cfg0.N = u (m ((c : Thread nD τ).loc main_arg0) : Vec Ideal S4096x1024 .f32) (m ((c : Thread nD τ).loc main_arg1) : Vec Ideal S1024 .f32) (m ((c : Thread nD τ).loc main_arg2) : Vec Ideal S1024x4096 .f32) := by
  refine (dats m 0 c).arrAt_eq_of_covers 3 _ (by decide +kernel) fun t hf y => ?_
  obtain ⟨-, -, -, h, -⟩ := idx t
  rw [after0_3]
  have e := block3 (iblk m c 0 t) (iblk m c 1 t) (iblk m c 2 t) y
  generalize out0_3 (iblk m c 0 t) (iblk m c 1 t) (iblk m c 2 t) = f at e ⊢
  refine e.trans ?_
  unfold u
  refine Finset.sum_congr rfl fun k _ => ?_
  rw [nrm_eq m c t _ _ (y 0).isLt k.isLt, blk_w m c t _ _ k.isLt (y 1).isLt]
  blk_simp [h]
  rw [Nat.mul_comm (t.val / 4), Nat.mul_comm (t.val % 4)]

end Cert.Kernel6Ideal.RefValue

end
-- ==== Proof.UpClaims.lean ====
/- The claims about the first layer with the norm fused. -/
module

public import proofs.«01_k».proof.Defs
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.UpValue
public import Idealize.ShloMosaic.Adequacy
public import Idealize.ShloMosaic.Init

@[expose] public section

set_option maxRecDepth 16384

noncomputable section

namespace Cert.Up

open Idealize.ShloMosaic Idealize.SL.Sem Cert.Coords

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- One normalised element read through `at2`. -/
theorem row (a : Vec Ideal Kernel6Ideal.S4096x1024 .f32) (g : EReal) (i : Fin 4096) (k : Fin 1024) :
    (a (ix2 i k) : EReal) * Ideal.rsqrt (Ideal.div (∑ x : Fin 1024, (a (ix2 i x) : EReal) * a (ix2 i x)) (Ideal.ofBits FTy.f32 1149239296#32) + Ideal.ofBits FTy.f32 897988541#32) * g
      = at2 a i.val k.val * Ideal.rsqrt (Ideal.div (∑ x : Fin 1024, at2 a i.val x.val * at2 a i.val x.val) (Ideal.ofBits FTy.f32 1149239296#32) + Ideal.ofBits FTy.f32 897988541#32) * g := by
  have e : ∀ x : Fin 1024, at2 a i.val x.val = a (ix2 i x) := fun x => (at2_ix (n := 4096) (k := 1024) a i x).symm
  simp only [e]

theorem algebraic : Cert.algebraic_Kernel6Ideal_Reference6Ideal := by
  intro m ρ m' ρ' _ hagree
  refine ⟨_, _, Cert.Kernel6Ideal.Value.run_blocks (F := Ideal) m ρ, ?_⟩
  refine (θ_run Cert.Reference6Ideal.defs _ _).mono (fun _ h c => ⟨(h c).1.trans ?_, (h c).2.1.trans ?_, (h c).2.2⟩)
    (Cert.Reference6Ideal.Value.run (F := Ideal) m' ρ')
  · rw [Cert.Kernel6Ideal.RefValue.final_u]
    obtain ⟨e0, e1, e2⟩ := hagree c
    funext i
    unfold Cert.Kernel6Ideal.RefValue.u Cert.Kernel6Ideal.RefValue.nrm Cert.Kernel6Ideal.RefValue.at1
    rw [e0, e1, e2]
    clear h
    idx_vars i
    pointwise
    refine Finset.sum_congr rfl fun x _ => ?_
    refine congrArg₂ (fun a b : EReal => a * b) ?_ (at2_ix (n := 1024) (k := 4096) _ _ _)
    exact row _ (m (c.tc.loc Kernel6Ideal.main_arg1) (ix1 x)) i0 x
  · rw [Cert.Kernel6Ideal.RefValue.final_xn]
    obtain ⟨e0, e1, e2⟩ := hagree c
    funext i
    unfold Cert.Kernel6Ideal.RefValue.xn Cert.Kernel6Ideal.RefValue.nrm Cert.Kernel6Ideal.RefValue.at1
    rw [e0, e1]
    clear h
    idx_vars i
    pointwise
    exact row _ (m (c.tc.loc Kernel6Ideal.main_arg1) (ix1 i1)) i0 i1

end Cert.Up

end
-- ==== Proof.DownValue.lean ====
/- The second layer, element by element: the squared ramp times the weights, added to the residual. -/
module

public import proofs.«01_k».proof.Proof.Gen.Kernel7Ideal.Value
public import proofs.«01_k».proof.Proof.Coords
public import Idealize.ShloMosaic.Lib.Pipeline.ReadBack

@[expose] public section

set_option maxRecDepth 16384

noncomputable section

namespace Cert.Kernel7Ideal.RefValue

open Cert.Kernel7Ideal Cert.Kernel7Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val / 2, t.val % 2] ∧ win0_1.index t = ![t.val % 2, 0] ∧ win0_2.index t = ![t.val / 2, 0] ∧ win0_3.index t = ![t.val / 2, 0] :=
  (by decide +kernel : ∀ t : Fin grid0.N, win0_0.index t = ![t.val / 2, t.val % 2] ∧ win0_1.index t = ![t.val % 2, 0] ∧ win0_2.index t = ![t.val / 2, 0] ∧ win0_3.index t = ![t.val / 2, 0]) t

/-- A squared ramp. -/
def sq (x : EReal) : EReal := max x 0 * max x 0

/-- One stretch of the contraction. -/
def termB (x0 : Vec Ideal S1024x2048 .bf16) (x1 : Vec Ideal S2048x1024 .bf16) (r q : ℕ) : EReal :=
  ∑ k : Fin 2048, sq (at2 x0 r k.val) * at2 x1 k.val q

theorem pay2_apply (x0 : Vec Ideal S1024x2048 .bf16) (x1 : Vec Ideal S2048x1024 .bf16) (y : S1024x1024.Idx) :
    k0_pay2 x0 x1 y = termB x0 x1 (y 0).val (y 1).val := by
  idx_vars y
  open_payloads
  pointwise
  unfold termB sq
  simp only [at2_ix]

theorem pay3_apply (x0 : Vec Ideal S1024x2048 .bf16) (x1 : Vec Ideal S2048x1024 .bf16) (a : Vec Ideal S1024x1024 .f32) (y : S1024x1024.Idx) :
    k0_pay3 x0 x1 a y = a y + termB x0 x1 (y 0).val (y 1).val := by
  idx_vars y
  open_payloads
  pointwise
  unfold termB sq
  simp only [at2_ix]

theorem pay4_apply (a b : Vec Ideal S1024x1024 .f32) (y : S1024x1024.Idx) : k0_pay4 a b y = a y + b y := by
  idx_vars y
  open_payloads
  pointwise

theorem blk_u (c : Dev nD) (t : Fin cfg0.N) (r q : ℕ) (hr : r < 1024) (hq : q < 2048) :
    at2 (iblk m c 0 t : Vec Ideal S1024x2048 .bf16) r q = at2 (m ((c : Thread nD τ).loc main_arg0) : Vec Ideal S4096x4096 .bf16) (1024 * (t.val / 2) + r) (2048 * (t.val % 2) + q) := by
  obtain ⟨h, -⟩ := idx t
  have ht : t.val < 8 := t.isLt
  unfold at2
  rw [dif_pos ⟨hr, hq⟩, dif_pos ⟨by omega, by omega⟩]
  blk_ext [iblk, V, h]

theorem blk_h (c : Dev nD) (t : Fin cfg0.N) (r q : ℕ) (hr : r < 1024) (hq : q < 1024) :
    at2 (iblk m c 2 t : Vec Ideal S1024x1024 .f32) r q = at2 (m ((c : Thread nD τ).loc main_arg2) : Vec Ideal S4096x1024 .f32) (1024 * (t.val / 2) + r) q := by
  obtain ⟨-, -, h, -⟩ := idx t
  have ht : t.val < 8 := t.isLt
  unfold at2
  rw [dif_pos ⟨hr, hq⟩, dif_pos ⟨by omega, by omega⟩]
  blk_ext [iblk, V, h]

/-- The weights the region finds: the argument rounded, which changes nothing over the extended reals. -/
theorem V_w (c : Dev nD) : V m c main_v0 = (truncf .bf16 (m ((c : Thread nD τ).loc main_arg1) : Vec Ideal S4096x1024 .f32) bitsLt_bf16_f32 : FVec Ideal S4096x1024 .bf16) := by
  unfold V
  simp only [hostOps0, List.flatten_cons, List.flatten_nil, List.append_nil, List.cons_append, List.nil_append]
  after_results

theorem blk_w (c : Dev nD) (t : Fin cfg0.N) (r q : ℕ) (hr : r < 2048) (hq : q < 1024) :
    at2 (iblk m c 1 t : Vec Ideal S2048x1024 .bf16) r q = at2 (m ((c : Thread nD τ).loc main_arg1) : Vec Ideal S4096x1024 .f32) (2048 * (t.val % 2) + r) q := by
  obtain ⟨-, h, -⟩ := idx t
  have ht : t.val < 8 := t.isLt
  unfold at2
  rw [dif_pos ⟨hr, hq⟩, dif_pos ⟨by omega, hq⟩]
  blk_simp [iblk, h]
  rw [show V m c main_v0 = _ from V_w m c]
  have he : (win0_1.blk t).view.emb (ix2 (⟨r, hr⟩ : Fin 2048) (⟨q, hq⟩ : Fin 1024)) = (ix2 (⟨2048 * (t.val % 2) + r, by omega⟩ : Fin 4096) (⟨q, hq⟩ : Fin 1024) : S4096x1024.Idx) := by
    ext a
    blk_simp [h]
    fin_cases a <;> simp [Nat.mul_comm]
  rw [he]
  rfl

/-- What grid point `n` adds, from the whole arrays. -/
def term (u : Vec Ideal S4096x4096 .bf16) (w : Vec Ideal S4096x1024 .f32) (n : ℕ) (i : S1024x1024.Idx) : EReal :=
  ∑ k : Fin 2048, sq (at2 u (1024 * (n / 2) + (i 0).val) (2048 * (n % 2) + k.val)) * at2 w (2048 * (n % 2) + k.val) (i 1).val

theorem term_eq (c : Dev nD) (t : Fin cfg0.N) (y : S1024x1024.Idx) :
    termB (iblk m c 0 t) (iblk m c 1 t) (y 0).val (y 1).val = term (m ((c : Thread nD τ).loc main_arg0) : Vec Ideal S4096x4096 .bf16) (m ((c : Thread nD τ).loc main_arg1) : Vec Ideal S4096x1024 .f32) t.val y := by
  have h0 : (y 0).val < 1024 := (y 0).isLt
  have h1 : (y 1).val < 1024 := (y 1).isLt
  unfold termB term
  refine Finset.sum_congr rfl fun k _ => ?_
  rw [blk_u m c t _ _ h0 k.isLt, blk_w m c t _ _ k.isLt h1]

theorem acc_eq (c : Dev nD) (t : Fin cfg0.N) (y : S1024x1024.Idx) :
    (outsAt0 m c t.val t.isLt).2 y = 0 + ∑ s ∈ Finset.range (t.val % 2 + 1), term (m ((c : Thread nD τ).loc main_arg0) : Vec Ideal S4096x4096 .bf16) (m ((c : Thread nD τ).loc main_arg1) : Vec Ideal S4096x1024 .f32) (2 * (t.val / 2) + s) y := by
  refine Pipeline.eq_sum_of_reset_step_apply (fun n h => (outsAt0 m c n h).2) 2 (fun _ => (0 : EReal))
    (fun n i => term (m ((c : Thread nD τ).loc main_arg0) : Vec Ideal S4096x4096 .bf16) (m ((c : Thread nD τ).loc main_arg1) : Vec Ideal S4096x1024 .f32) n i) (fun t h i => ?_) (fun t h i => ?_) t y
  · rw [outsAt0_A m c t h (by omega) (by omega), zero_add, ← term_eq]
    frame_out
    exact pay2_apply _ _ i
  · rw [← term_eq]
    rw [outsAt0_B m c t h (by omega) (by omega)]
    frame_out
    simp only [read_unread_whole]
    exact pay3_apply _ _ _ i

theorem out_eq_acc (c : Dev nD) (t : Fin cfg0.N) (h : t.val % 2 = 1) (y : S1024x1024.Idx) :
    (outsAt0 m c t.val t.isLt).1 y = at2 (iblk m c 2 t : Vec Ideal S1024x1024 .f32) (y 0).val (y 1).val + at2 ((outsAt0 m c t.val t.isLt).2 : Vec Ideal S1024x1024 .f32) (y 0).val (y 1).val := by
  rw [outsAt0_B m c t (by omega) (by omega) h]
  frame_out
  refine (pay4_apply _ _ y).trans ?_
  idx_vars y
  exact (congrArg₂ (fun a b : EReal => a + b) (at2_ix (n := 1024) (k := 1024) _ _ _) (at2_ix (n := 1024) (k := 1024) _ _ _)).trans (add_comm _ _)

/-- The second layer's result. -/
def out (u : Vec Ideal S4096x4096 .bf16) (w : Vec Ideal S4096x1024 .f32) (h : Vec Ideal S4096x1024 .f32) : Vec Ideal S4096x1024 .f32 :=
  fun i => at2 h (i 0).val (i 1).val + ∑ k : Fin 4096, sq (at2 u (i 0).val k.val) * at2 w k.val (i 1).val

theorem block_eq (c : Dev nD) (t : Fin cfg0.N) (h : t.val % 2 = 1) (y : S1024x1024.Idx) :
    (outsAt0 m c t.val t.isLt).1 y
      = at2 (m ((c : Thread nD τ).loc main_arg2) : Vec Ideal S4096x1024 .f32) (1024 * (t.val / 2) + (y 0).val) (y 1).val + ∑ k : Fin 4096, sq (at2 (m ((c : Thread nD τ).loc main_arg0) : Vec Ideal S4096x4096 .bf16) (1024 * (t.val / 2) + (y 0).val) k.val) * at2 (m ((c : Thread nD τ).loc main_arg1) : Vec Ideal S4096x1024 .f32) k.val (y 1).val := by
  have h0 : (y 0).val < 1024 := (y 0).isLt
  have h1 : (y 1).val < 1024 := (y 1).isLt
  rw [out_eq_acc m c t h]
  refine congrArg₂ (fun a b : EReal => a + b) (blk_h m c t _ _ h0 h1) ?_
  refine Eq.trans ?_ ((acc_eq m c t y).trans ?_)
  · idx_vars y
    exact (at2_ix (n := 1024) (k := 1024) _ _ _).symm
  rw [h, zero_add]
  refine Eq.trans (Finset.sum_congr rfl fun s hs => ?_) (sum_split (J := 2) 2048 4096 rfl (fun n => sq (at2 (m ((c : Thread nD τ).loc main_arg0) : Vec Ideal S4096x4096 .bf16) (1024 * (t.val / 2) + (y 0).val) n) * at2 (m ((c : Thread nD τ).loc main_arg1) : Vec Ideal S4096x1024 .f32) n (y 1).val))
  have hs' := Finset.mem_range.mp hs
  unfold term
  rw [show (2 * (t.val / 2) + s) % 2 = s by omega, show (2 * (t.val / 2) + s) / 2 = t.val / 2 by omega]

theorem final (c : Dev nD) : (dats m 0 c).arrAt 3 cfg0.N = out (m ((c : Thread nD τ).loc main_arg0) : Vec Ideal S4096x4096 .bf16) (m ((c : Thread nD τ).loc main_arg1) : Vec Ideal S4096x1024 .f32) (m ((c : Thread nD τ).loc main_arg2) : Vec Ideal S4096x1024 .f32) := by
  refine (dats m 0 c).arrAt_eq_of_covers 3 _ (by decide +kernel) fun t hf y => ?_
  obtain ⟨-, -, -, h⟩ := idx t
  rw [after0_3]
  have e := block_eq m c t ((flush0_3 t).mp hf)
  generalize (outsAt0 m c t.val t.isLt).1 = f at e ⊢
  refine (e y).trans ?_
  unfold out
  blk_simp [h]
  rw [Nat.mul_comm (t.val / 2)]

end Cert.Kernel7Ideal.RefValue

end
-- ==== Proof.DownClaims.lean ====
/- The claims about the second layer. -/
module

public import proofs.«01_k».proof.Defs
public import proofs.«01_k».proof.Proof.Gen.Kernel7.Frame
public import proofs.«01_k».proof.Proof.Gen.Kernel7Ideal.Frame
public import proofs.«01_k».proof.Proof.Gen.Reference7Ideal
public import proofs.«01_k».proof.Proof.Gen.Reference7Ideal.Run
public import proofs.«01_k».proof.Proof.DownValue
public import Idealize.ShloMosaic.Adequacy
public import Idealize.ShloMosaic.Init

@[expose] public section

set_option maxRecDepth 16384

noncomputable section

namespace Cert.Down

open Idealize.ShloMosaic Idealize.SL.Sem Cert.Coords

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨(h c).1.trans ?_, (h c).2⟩)
    (Cert.Reference7Ideal.Value.run (F := Ideal) m' ρ')
  rw [Cert.Kernel7Ideal.RefValue.final]
  obtain ⟨e0, e1, e2⟩ := hagree c
  funext i
  unfold Cert.Kernel7Ideal.RefValue.out Cert.Kernel7Ideal.RefValue.sq
  rw [e0, e1, e2]
  clear h
  idx_vars i
  pointwise
  refine congrArg₂ (fun a b : EReal => a + b) (at2_ix (n := 4096) (k := 1024) _ _ _) (Finset.sum_congr rfl fun k _ => ?_)
  exact congrArg₂ (fun x y : EReal => max x 0 * max x 0 * y) (at2_ix (n := 4096) (k := 4096) _ _ _) (at2_ix (n := 4096) (k := 1024) _ _ _)

end Cert.Down

end
-- ==== Proof.OutValue.lean ====
/- The output projection, element by element: the three branches' rows times the three stretches of the weights, and the residual. -/
module

public import proofs.«01_k».proof.Proof.Gen.Kernel8Ideal.Value
public import proofs.«01_k».proof.Proof.Coords
public import Idealize.ShloMosaic.Lib.Pipeline.ReadBack

@[expose] public section

set_option maxRecDepth 16384

noncomputable section

namespace Cert.Kernel8Ideal.RefValue

open Cert.Kernel8Ideal Cert.Kernel8Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![t.val, 0]) t

theorem block_apply (x0 : Vec Ideal S512x384 .bf16) (x1 : Vec Ideal S512x256 .bf16) (x2 : Vec Ideal S512x384 .bf16)
    (x3 : Vec Ideal S384x1024 .bf16) (x4 : Vec Ideal S256x1024 .bf16) (x5 : Vec Ideal S384x1024 .bf16) (x6 : Vec Ideal S512x1024 .f32) (y : S512x1024.Idx) :
    out0_7 x0 x1 x2 x3 x4 x5 x6 y
      = ((∑ k : Fin 384, at2 x0 (y 0).val k.val * at2 x3 k.val (y 1).val + ∑ k : Fin 256, at2 x1 (y 0).val k.val * at2 x4 k.val (y 1).val)
        + ∑ k : Fin 384, at2 x2 (y 0).val k.val * at2 x5 k.val (y 1).val) + at2 x6 (y 0).val (y 1).val := by
  unfold out0_7
  canon_tiles x h
  rw [h0, h1]
  idx_vars x
  open_payloads
  pointwise
  simp only [at2_ix]

theorem blk_h (c : Dev nD) (t : Fin cfg0.N) (r q : ℕ) (hr : r < 512) (hq : q < 1024) :
    at2 (iblk m c 6 t : Vec Ideal S512x1024 .f32) r q = at2 (m ((c : Thread nD τ).loc main_arg4) : Vec Ideal S4096x1024 .f32) (512 * t.val + r) q := by
  obtain ⟨-, -, -, -, -, -, h, -⟩ := idx t
  have ht : t.val < 8 := t.isLt
  unfold at2
  rw [dif_pos ⟨hr, hq⟩, dif_pos ⟨by omega, by omega⟩]
  blk_ext [iblk, V, h]

theorem blk0 (c : Dev nD) (t : Fin cfg0.N) (r q : ℕ) (hr : r < 512) (hq : q < 384) :
    at2 (iblk m c 0 t : Vec Ideal S512x384 .bf16) r q = at2 (m ((c : Thread nD τ).loc main_arg0) : Vec Ideal S4096x384 .bf16) (512 * t.val + r) q := by
  obtain ⟨h, -⟩ := idx t
  have ht : t.val < 8 := t.isLt
  unfold at2
  rw [dif_pos ⟨hr, hq⟩, dif_pos ⟨by omega, by omega⟩]
  blk_ext [iblk, V, h]

/-- This stretch of the weights, as the region finds it. -/
theorem V_w0 (c : Dev nD) : V m c main_v1 = fun i => at2 (m ((c : Thread nD τ).loc main_arg3) : Vec Ideal S1024x1024 .f32) (0 + (i 0).val) (i 1).val := by
  unfold V
  simp only [hostOps0, List.flatten_cons, List.flatten_nil, List.append_nil, List.cons_append, List.nil_append]
  after_results
  funext i
  idx_vars i
  pointwise
  exact at2_ix (n := 1024) (k := 1024) _ ⟨i0.val, by omega⟩ _

theorem blk_w0 (c : Dev nD) (t : Fin cfg0.N) (r q : ℕ) (hr : r < 384) (hq : q < 1024) :
    at2 (iblk m c 3 t : Vec Ideal S384x1024 .bf16) r q = at2 (m ((c : Thread nD τ).loc main_arg3) : Vec Ideal S1024x1024 .f32) (0 + r) q := by
  obtain ⟨-, -, -, h, -⟩ := idx t
  refine Eq.trans (by unfold at2; rw [dif_pos ⟨hr, hq⟩]) ?_
  blk_simp [iblk, h]
  rw [show V m c main_v1 = _ from V_w0 m c]
  blk_simp [h]

theorem blk1 (c : Dev nD) (t : Fin cfg0.N) (r q : ℕ) (hr : r < 512) (hq : q < 256) :
    at2 (iblk m c 1 t : Vec Ideal S512x256 .bf16) r q = at2 (m ((c : Thread nD τ).loc main_arg1) : Vec Ideal S4096x256 .bf16) (512 * t.val + r) q := by
  obtain ⟨-, h, -⟩ := idx t
  have ht : t.val < 8 := t.isLt
  unfold at2
  rw [dif_pos ⟨hr, hq⟩, dif_pos ⟨by omega, by omega⟩]
  blk_ext [iblk, V, h]

/-- This stretch of the weights, as the region finds it. -/
theorem V_w1 (c : Dev nD) : V m c main_v2 = fun i => at2 (m ((c : Thread nD τ).loc main_arg3) : Vec Ideal S1024x1024 .f32) (384 + (i 0).val) (i 1).val := by
  unfold V
  simp only [hostOps0, List.flatten_cons, List.flatten_nil, List.append_nil, List.cons_append, List.nil_append]
  after_results
  funext i
  idx_vars i
  pointwise
  exact at2_ix (n := 1024) (k := 1024) _ ⟨384 + i0.val, by omega⟩ _

theorem blk_w1 (c : Dev nD) (t : Fin cfg0.N) (r q : ℕ) (hr : r < 256) (hq : q < 1024) :
    at2 (iblk m c 4 t : Vec Ideal S256x1024 .bf16) r q = at2 (m ((c : Thread nD τ).loc main_arg3) : Vec Ideal S1024x1024 .f32) (384 + r) q := by
  obtain ⟨-, -, -, -, h, -⟩ := idx t
  refine Eq.trans (by unfold at2; rw [dif_pos ⟨hr, hq⟩]) ?_
  blk_simp [iblk, h]
  rw [show V m c main_v2 = _ from V_w1 m c]
  blk_simp [h]

theorem blk2 (c : Dev nD) (t : Fin cfg0.N) (r q : ℕ) (hr : r < 512) (hq : q < 384) :
    at2 (iblk m c 2 t : Vec Ideal S512x384 .bf16) r q = at2 (m ((c : Thread nD τ).loc main_arg2) : Vec Ideal S4096x384 .bf16) (512 * t.val + r) q := by
  obtain ⟨-, -, h, -⟩ := idx t
  have ht : t.val < 8 := t.isLt
  unfold at2
  rw [dif_pos ⟨hr, hq⟩, dif_pos ⟨by omega, by omega⟩]
  blk_ext [iblk, V, h]

/-- This stretch of the weights, as the region finds it. -/
theorem V_w2 (c : Dev nD) : V m c main_v3 = fun i => at2 (m ((c : Thread nD τ).loc main_arg3) : Vec Ideal S1024x1024 .f32) (640 + (i 0).val) (i 1).val := by
  unfold V
  simp only [hostOps0, List.flatten_cons, List.flatten_nil, List.append_nil, List.cons_append, List.nil_append]
  after_results
  funext i
  idx_vars i
  pointwise
  exact at2_ix (n := 1024) (k := 1024) _ ⟨640 + i0.val, by omega⟩ _

theorem blk_w2 (c : Dev nD) (t : Fin cfg0.N) (r q : ℕ) (hr : r < 384) (hq : q < 1024) :
    at2 (iblk m c 5 t : Vec Ideal S384x1024 .bf16) r q = at2 (m ((c : Thread nD τ).loc main_arg3) : Vec Ideal S1024x1024 .f32) (640 + r) q := by
  obtain ⟨-, -, -, -, -, h, -⟩ := idx t
  refine Eq.trans (by unfold at2; rw [dif_pos ⟨hr, hq⟩]) ?_
  blk_simp [iblk, h]
  rw [show V m c main_v3 = _ from V_w2 m c]
  blk_simp [h]

/-- The three branches' rows side by side. -/
def mixAt (a : Vec Ideal S4096x384 .bf16) (b : Vec Ideal S4096x256 .bf16) (d : Vec Ideal S4096x384 .bf16) (r k : ℕ) : EReal :=
  if k < 384 then at2 a r k else if k < 640 then at2 b r (k - 384) else at2 d r (k - 640)

/-- The output projection's result. -/
def out (a : Vec Ideal S4096x384 .bf16) (b : Vec Ideal S4096x256 .bf16) (d : Vec Ideal S4096x384 .bf16) (w : Vec Ideal S1024x1024 .f32) (h : Vec Ideal S4096x1024 .f32) : Vec Ideal S4096x1024 .f32 :=
  fun i => ∑ k : Fin 1024, mixAt a b d (i 0).val k.val * at2 w k.val (i 1).val + at2 h (i 0).val (i 1).val

theorem block_eq (c : Dev nD) (t : Fin cfg0.N) (y : S512x1024.Idx) :
    out0_7 (iblk m c 0 t) (iblk m c 1 t) (iblk m c 2 t) (iblk m c 3 t) (iblk m c 4 t) (iblk m c 5 t) (iblk m c 6 t) y
      = ∑ k : Fin 1024, mixAt (m ((c : Thread nD τ).loc main_arg0) : Vec Ideal S4096x384 .bf16) (m ((c : Thread nD τ).loc main_arg1) : Vec Ideal S4096x256 .bf16) (m ((c : Thread nD τ).loc main_arg2) : Vec Ideal S4096x384 .bf16) (512 * t.val + (y 0).val) k.val * at2 (m ((c : Thread nD τ).loc main_arg3) : Vec Ideal S1024x1024 .f32) k.val (y 1).val + at2 (m ((c : Thread nD τ).loc main_arg4) : Vec Ideal S4096x1024 .f32) (512 * t.val + (y 0).val) (y 1).val := by
  have h0 : (y 0).val < 512 := (y 0).isLt
  have h1 : (y 1).val < 1024 := (y 1).isLt
  rw [block_apply, blk_h m c t _ _ h0 h1]
  rw [sum3 (fun k => mixAt (m ((c : Thread nD τ).loc main_arg0) : Vec Ideal S4096x384 .bf16) (m ((c : Thread nD τ).loc main_arg1) : Vec Ideal S4096x256 .bf16) (m ((c : Thread nD τ).loc main_arg2) : Vec Ideal S4096x384 .bf16) (512 * t.val + (y 0).val) k * at2 (m ((c : Thread nD τ).loc main_arg3) : Vec Ideal S1024x1024 .f32) k (y 1).val)]
  congr 1
  congr 1
  congr 1
  · refine Finset.sum_congr rfl fun k _ => ?_
    rw [blk0 m c t _ _ h0 k.isLt, blk_w0 m c t _ _ k.isLt h1, Nat.zero_add]
    unfold mixAt
    rw [if_pos k.isLt]
  · refine Finset.sum_congr rfl fun k _ => ?_
    rw [blk1 m c t _ _ h0 k.isLt, blk_w1 m c t _ _ k.isLt h1]
    unfold mixAt
    rw [if_neg (by omega), if_pos (by omega), Nat.add_sub_cancel_left]
  · refine Finset.sum_congr rfl fun k _ => ?_
    rw [blk2 m c t _ _ h0 k.isLt, blk_w2 m c t _ _ k.isLt h1]
    unfold mixAt
    rw [if_neg (by omega), if_neg (by omega), Nat.add_sub_cancel_left]

theorem final (c : Dev nD) : (dats m 0 c).arrAt 7 cfg0.N = out (m ((c : Thread nD τ).loc main_arg0) : Vec Ideal S4096x384 .bf16) (m ((c : Thread nD τ).loc main_arg1) : Vec Ideal S4096x256 .bf16) (m ((c : Thread nD τ).loc main_arg2) : Vec Ideal S4096x384 .bf16) (m ((c : Thread nD τ).loc main_arg3) : Vec Ideal S1024x1024 .f32) (m ((c : Thread nD τ).loc main_arg4) : Vec Ideal S4096x1024 .f32) := by
  refine (dats m 0 c).arrAt_eq_of_covers 7 _ (by decide +kernel) fun t hf y => ?_
  obtain ⟨-, -, -, -, -, -, -, h⟩ := idx t
  rw [after0_7]
  have e := block_eq m c t y
  generalize out0_7 (iblk m c 0 t) (iblk m c 1 t) (iblk m c 2 t) (iblk m c 3 t) (iblk m c 4 t) (iblk m c 5 t) (iblk m c 6 t) = f at e ⊢
  refine e.trans ?_
  unfold out
  blk_simp [h]
  rw [Nat.mul_comm t.val]

end Cert.Kernel8Ideal.RefValue

end
-- ==== Proof.OutClaims.lean ====
/- The claims about the output projection. -/
module

public import proofs.«01_k».proof.Defs
public import proofs.«01_k».proof.Proof.Gen.Kernel8.Frame
public import proofs.«01_k».proof.Proof.Gen.Kernel8Ideal.Frame
public import proofs.«01_k».proof.Proof.Gen.Reference8Ideal
public import proofs.«01_k».proof.Proof.Gen.Reference8Ideal.Run
public import proofs.«01_k».proof.Proof.OutValue
public import Idealize.ShloMosaic.Adequacy
public import Idealize.ShloMosaic.Init

@[expose] public section

set_option maxRecDepth 16384

noncomputable section

namespace Cert.Out

open Idealize.ShloMosaic Idealize.SL.Sem Cert.Coords

theorem frame_p : Cert.quiescent_Kernel8 := fun m ρ _ => Cert.Kernel8.Gen.frame m ρ

theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨(h c).1.trans ?_, (h c).2⟩)
    (Cert.Reference8Ideal.Value.run (F := Ideal) m' ρ')
  rw [Cert.Kernel8Ideal.RefValue.final]
  obtain ⟨e0, e1, e2, e3, e4⟩ := hagree c
  funext i
  rw [e0, e1, e2, e3, e4]
  clear h
  idx_vars i
  pointwise
  refine Eq.trans ?_ (show ∑ k : Fin 1024, Cert.Kernel8Ideal.RefValue.mixAt _ _ _ i0.val k.val * at2 _ k.val i1.val + at2 _ i0.val i1.val = _ from rfl)
  refine (congrArg₂ (fun a b : EReal => a + b) (at2_ix (n := 4096) (k := 1024) _ _ _) (Finset.sum_congr rfl fun k _ => ?_)).trans (add_comm _ _)
  refine congrArg₂ (fun x y : EReal => x * y) ?_ (at2_ix (n := 1024) (k := 1024) _ _ _)
  unfold Cert.Kernel8Ideal.RefValue.mixAt
  by_cases g1 : k.val < 384
  · refine (dif_pos g1).trans (Eq.trans ?_ (if_pos g1).symm)
    exact at2_ix (n := 4096) (k := 384) _ i0 ⟨k.val, g1⟩
  refine (dif_neg g1).trans (Eq.trans ?_ (if_neg g1).symm)
  by_cases g2 : k.val - 384 < 256
  · refine (dif_pos g2).trans (Eq.trans ?_ (if_pos (by omega)).symm)
    exact at2_ix (n := 4096) (k := 256) _ i0 ⟨k.val - 384, g2⟩
  · refine (dif_neg g2).trans (Eq.trans ?_ (if_neg (by omega)).symm)
    exact (at2_ix (n := 4096) (k := 384) _ i0 ⟨k.val - 384 - 256, by omega⟩).trans (congrArg (at2 _ i0.val) (show k.val - 384 - 256 = k.val - 640 by omega))

end Cert.Out

end
-- ==== Proof.ProjDwValue.lean ====
/- The gradients of the input projection's weights, element by element: each branch's gradient transposed times the normalised rows. -/
module

public import proofs.«01_k».proof.Proof.Gen.Kernel9Ideal.Value
public import proofs.«01_k».proof.Proof.Coords
public import Idealize.ShloMosaic.Lib.Pipeline.ReadBack

@[expose] public section

set_option maxRecDepth 16384

noncomputable section

namespace Cert.Kernel9Ideal.RefValue

open Cert.Kernel9Ideal Cert.Kernel9Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0]) t

/-- One stretch of rows of a product. -/
def termB {w : ℕ} (x0 : (⟨2, ![1024, w]⟩ : Shape).Idx → EReal) (x1 : Vec Ideal S1024x1024 .bf16) (r q : ℕ) : EReal :=
  ∑ k : Fin 1024, at2 x0 k.val r * at2 x1 k.val q

/-- What grid point `n` adds, from the whole arrays. -/
def term {w : ℕ} (x : (⟨2, ![4096, w]⟩ : Shape).Idx → EReal) (xn : Vec Ideal S4096x1024 .bf16) (n r q : ℕ) : EReal :=
  ∑ k : Fin 1024, at2 x (1024 * n + k.val) r * at2 xn (1024 * n + k.val) q

/-- The gradient of one branch's weights at a row and a column. -/
def dwAt {w : ℕ} (x : (⟨2, ![4096, w]⟩ : Shape).Idx → EReal) (xn : Vec Ideal S4096x1024 .bf16) (r q : ℕ) : EReal :=
  ∑ k : Fin 4096, at2 x k.val r * at2 xn k.val q

theorem sum_term {w : ℕ} (x : (⟨2, ![4096, w]⟩ : Shape).Idx → EReal) (xn : Vec Ideal S4096x1024 .bf16) (r q : ℕ) :
    0 + ∑ s ∈ Finset.range 4, term x xn s r q = dwAt x xn r q := by
  rw [zero_add]
  exact sum_split (J := 4) 1024 4096 rfl (fun n => at2 x n r * at2 xn n q)

theorem blk_xn (c : Dev nD) (t : Fin cfg0.N) (r q : ℕ) (hr : r < 1024) (hq : q < 1024) :
    at2 (iblk m c 0 t : Vec Ideal S1024x1024 .bf16) r q = at2 (m ((c : Thread nD τ).loc main_arg0) : Vec Ideal S4096x1024 .bf16) (1024 * t.val + r) q := by
  obtain ⟨h, -⟩ := idx t
  have ht : t.val < 4 := t.isLt
  unfold at2
  rw [dif_pos ⟨hr, hq⟩, dif_pos ⟨by omega, by omega⟩]
  blk_ext [iblk, V, h]

theorem first0_apply (x0 : Vec Ideal S1024x1408 .bf16) (x1 : Vec Ideal S1024x1024 .bf16) (y : S1408x1024.Idx) :
    k0_pay2 x1 x0 y = termB x0 x1 (y 0).val (y 1).val := by
  idx_vars y
  open_payloads
  pointwise
  unfold termB
  simp only [at2_ix]

theorem next0_apply (x0 : Vec Ideal S1024x1408 .bf16) (x1 : Vec Ideal S1024x1024 .bf16) (a : Vec Ideal S1408x1024 .f32) (y : S1408x1024.Idx) :
    k0_pay3 x1 x0 a y = a y + termB x0 x1 (y 0).val (y 1).val := by
  idx_vars y
  open_payloads
  pointwise
  unfold termB
  simp only [at2_ix]

theorem blk0 (c : Dev nD) (t : Fin cfg0.N) (r q : ℕ) (hr : r < 1024) (hq : q < 1408) :
    at2 (iblk m c 1 t : Vec Ideal S1024x1408 .bf16) r q = at2 (m ((c : Thread nD τ).loc main_arg1) : Vec Ideal S4096x1408 .bf16) (1024 * t.val + r) q := by
  obtain ⟨-, h, -⟩ := idx t
  have ht : t.val < 4 := t.isLt
  unfold at2
  rw [dif_pos ⟨hr, hq⟩, dif_pos ⟨by omega, by omega⟩]
  blk_ext [iblk, V, h]

theorem term0_eq (c : Dev nD) (t : Fin cfg0.N) (y : S1408x1024.Idx) :
    termB (iblk m c 1 t : Vec Ideal S1024x1408 .bf16) (iblk m c 0 t) (y 0).val (y 1).val = term (m ((c : Thread nD τ).loc main_arg1) : Vec Ideal S4096x1408 .bf16) (m ((c : Thread nD τ).loc main_arg0) : Vec Ideal S4096x1024 .bf16) t.val (y 0).val (y 1).val := by
  have h0 : (y 0).val < 1408 := (y 0).isLt
  have h1 : (y 1).val < 1024 := (y 1).isLt
  unfold termB term
  refine Finset.sum_congr rfl fun k _ => ?_
  rw [blk0 m c t _ _ k.isLt h0, blk_xn m c t _ _ k.isLt h1]

theorem acc0_eq (c : Dev nD) (t : Fin cfg0.N) (y : S1408x1024.Idx) :
    (outsAt0 m c t.val t.isLt).1 y = 0 + ∑ s ∈ Finset.range (t.val % 4 + 1), term (m ((c : Thread nD τ).loc main_arg1) : Vec Ideal S4096x1408 .bf16) (m ((c : Thread nD τ).loc main_arg0) : Vec Ideal S4096x1024 .bf16) (4 * (t.val / 4) + s) (y 0).val (y 1).val := by
  refine Pipeline.eq_sum_of_reset_step_apply (fun n h => (outsAt0 m c n h).1) 4 (fun _ => (0 : EReal))
    (fun n (i : S1408x1024.Idx) => term (m ((c : Thread nD τ).loc main_arg1) : Vec Ideal S4096x1408 .bf16) (m ((c : Thread nD τ).loc main_arg0) : Vec Ideal S4096x1024 .bf16) n (i 0).val (i 1).val) (fun t h i => ?_) (fun t h i => ?_) t y
  · have ht : t.val < 4 := t.isLt
    rw [outsAt0_A m c t h (by omega) h (by omega) h (by omega), zero_add, ← term0_eq]
    frame_out
    exact first0_apply _ _ i
  · have ht : t.val < 4 := t.isLt
    rw [outsAt0_B m c t h (by omega) h (by omega) h (by omega), ← term0_eq]
    frame_out
    try simp only [read_unread_whole]
    exact next0_apply _ _ _ i

/-- The gradient of this branch's weights. -/
def dw0 (x : Vec Ideal S4096x1408 .bf16) (xn : Vec Ideal S4096x1024 .bf16) : Vec Ideal S1408x1024 .f32 :=
  fun i => dwAt x xn (i 0).val (i 1).val

theorem final0 (c : Dev nD) : (dats m 0 c).arrAt 4 cfg0.N = dw0 (m ((c : Thread nD τ).loc main_arg1) : Vec Ideal S4096x1408 .bf16) (m ((c : Thread nD τ).loc main_arg0) : Vec Ideal S4096x1024 .bf16) := by
  refine (dats m 0 c).arrAt_eq_of_covers 4 _ (by decide +kernel) fun t hf y => ?_
  obtain ⟨-, -, -, -, h, -⟩ := idx t
  have ht : t.val < 4 := t.isLt
  have h3 : t.val % 4 = 3 := (flush0_4 t).mp hf
  rw [after0_4]
  have e := acc0_eq m c t
  generalize (outsAt0 m c t.val t.isLt).1 = f at e ⊢
  refine (e y).trans ?_
  rw [h3, show 4 * (t.val / 4) = 0 by omega]
  simp only [Nat.zero_add, Nat.reduceAdd]
  refine (sum_term _ _ _ _).trans ?_
  unfold dw0
  blk_simp [h]

theorem first1_apply (x0 : Vec Ideal S1024x512 .bf16) (x1 : Vec Ideal S1024x1024 .bf16) (y : S512x1024.Idx) :
    k0_pay5 x1 x0 y = termB x0 x1 (y 0).val (y 1).val := by
  idx_vars y
  open_payloads
  pointwise
  unfold termB
  simp only [at2_ix]

theorem next1_apply (x0 : Vec Ideal S1024x512 .bf16) (x1 : Vec Ideal S1024x1024 .bf16) (a : Vec Ideal S512x1024 .f32) (y : S512x1024.Idx) :
    k0_pay6 x1 x0 a y = a y + termB x0 x1 (y 0).val (y 1).val := by
  idx_vars y
  open_payloads
  pointwise
  unfold termB
  simp only [at2_ix]

theorem blk1 (c : Dev nD) (t : Fin cfg0.N) (r q : ℕ) (hr : r < 1024) (hq : q < 512) :
    at2 (iblk m c 2 t : Vec Ideal S1024x512 .bf16) r q = at2 (m ((c : Thread nD τ).loc main_arg2) : Vec Ideal S4096x512 .bf16) (1024 * t.val + r) q := by
  obtain ⟨-, -, h, -⟩ := idx t
  have ht : t.val < 4 := t.isLt
  unfold at2
  rw [dif_pos ⟨hr, hq⟩, dif_pos ⟨by omega, by omega⟩]
  blk_ext [iblk, V, h]

theorem term1_eq (c : Dev nD) (t : Fin cfg0.N) (y : S512x1024.Idx) :
    termB (iblk m c 2 t : Vec Ideal S1024x512 .bf16) (iblk m c 0 t) (y 0).val (y 1).val = term (m ((c : Thread nD τ).loc main_arg2) : Vec Ideal S4096x512 .bf16) (m ((c : Thread nD τ).loc main_arg0) : Vec Ideal S4096x1024 .bf16) t.val (y 0).val (y 1).val := by
  have h0 : (y 0).val < 512 := (y 0).isLt
  have h1 : (y 1).val < 1024 := (y 1).isLt
  unfold termB term
  refine Finset.sum_congr rfl fun k _ => ?_
  rw [blk1 m c t _ _ k.isLt h0, blk_xn m c t _ _ k.isLt h1]

theorem acc1_eq (c : Dev nD) (t : Fin cfg0.N) (y : S512x1024.Idx) :
    (outsAt0 m c t.val t.isLt).2.1 y = 0 + ∑ s ∈ Finset.range (t.val % 4 + 1), term (m ((c : Thread nD τ).loc main_arg2) : Vec Ideal S4096x512 .bf16) (m ((c : Thread nD τ).loc main_arg0) : Vec Ideal S4096x1024 .bf16) (4 * (t.val / 4) + s) (y 0).val (y 1).val := by
  refine Pipeline.eq_sum_of_reset_step_apply (fun n h => (outsAt0 m c n h).2.1) 4 (fun _ => (0 : EReal))
    (fun n (i : S512x1024.Idx) => term (m ((c : Thread nD τ).loc main_arg2) : Vec Ideal S4096x512 .bf16) (m ((c : Thread nD τ).loc main_arg0) : Vec Ideal S4096x1024 .bf16) n (i 0).val (i 1).val) (fun t h i => ?_) (fun t h i => ?_) t y
  · have ht : t.val < 4 := t.isLt
    rw [outsAt0_A m c t h (by omega) h (by omega) h (by omega), zero_add, ← term1_eq]
    frame_out
    exact first1_apply _ _ i
  · have ht : t.val < 4 := t.isLt
    rw [outsAt0_B m c t h (by omega) h (by omega) h (by omega), ← term1_eq]
    frame_out
    try simp only [read_unread_whole]
    exact next1_apply _ _ _ i

/-- The gradient of this branch's weights. -/
def dw1 (x : Vec Ideal S4096x512 .bf16) (xn : Vec Ideal S4096x1024 .bf16) : Vec Ideal S512x1024 .f32 :=
  fun i => dwAt x xn (i 0).val (i 1).val

theorem final1 (c : Dev nD) : (dats m 0 c).arrAt 5 cfg0.N = dw1 (m ((c : Thread nD τ).loc main_arg2) : Vec Ideal S4096x512 .bf16) (m ((c : Thread nD τ).loc main_arg0) : Vec Ideal S4096x1024 .bf16) := by
  refine (dats m 0 c).arrAt_eq_of_covers 5 _ (by decide +kernel) fun t hf y => ?_
  obtain ⟨-, -, -, -, -, h, -⟩ := idx t
  have ht : t.val < 4 := t.isLt
  have h3 : t.val % 4 = 3 := (flush0_5 t).mp hf
  rw [after0_5]
  have e := acc1_eq m c t
  generalize (outsAt0 m c t.val t.isLt).2.1 = f at e ⊢
  refine (e y).trans ?_
  rw [h3, show 4 * (t.val / 4) = 0 by omega]
  simp only [Nat.zero_add, Nat.reduceAdd]
  refine (sum_term _ _ _ _).trans ?_
  unfold dw1
  blk_simp [h]

theorem first2_apply (x0 : Vec Ideal S1024x1152 .bf16) (x1 : Vec Ideal S1024x1024 .bf16) (y : S1152x1024.Idx) :
    k0_pay8 x1 x0 y = termB x0 x1 (y 0).val (y 1).val := by
  idx_vars y
  open_payloads
  pointwise
  unfold termB
  simp only [at2_ix]

theorem next2_apply (x0 : Vec Ideal S1024x1152 .bf16) (x1 : Vec Ideal S1024x1024 .bf16) (a : Vec Ideal S1152x1024 .f32) (y : S1152x1024.Idx) :
    k0_pay9 x1 x0 a y = a y + termB x0 x1 (y 0).val (y 1).val := by
  idx_vars y
  open_payloads
  pointwise
  unfold termB
  simp only [at2_ix]

theorem blk2 (c : Dev nD) (t : Fin cfg0.N) (r q : ℕ) (hr : r < 1024) (hq : q < 1152) :
    at2 (iblk m c 3 t : Vec Ideal S1024x1152 .bf16) r q = at2 (m ((c : Thread nD τ).loc main_arg3) : Vec Ideal S4096x1152 .bf16) (1024 * t.val + r) q := by
  obtain ⟨-, -, -, h, -⟩ := idx t
  have ht : t.val < 4 := t.isLt
  unfold at2
  rw [dif_pos ⟨hr, hq⟩, dif_pos ⟨by omega, by omega⟩]
  blk_ext [iblk, V, h]

theorem term2_eq (c : Dev nD) (t : Fin cfg0.N) (y : S1152x1024.Idx) :
    termB (iblk m c 3 t : Vec Ideal S1024x1152 .bf16) (iblk m c 0 t) (y 0).val (y 1).val = term (m ((c : Thread nD τ).loc main_arg3) : Vec Ideal S4096x1152 .bf16) (m ((c : Thread nD τ).loc main_arg0) : Vec Ideal S4096x1024 .bf16) t.val (y 0).val (y 1).val := by
  have h0 : (y 0).val < 1152 := (y 0).isLt
  have h1 : (y 1).val < 1024 := (y 1).isLt
  unfold termB term
  refine Finset.sum_congr rfl fun k _ => ?_
  rw [blk2 m c t _ _ k.isLt h0, blk_xn m c t _ _ k.isLt h1]

theorem acc2_eq (c : Dev nD) (t : Fin cfg0.N) (y : S1152x1024.Idx) :
    (outsAt0 m c t.val t.isLt).2.2 y = 0 + ∑ s ∈ Finset.range (t.val % 4 + 1), term (m ((c : Thread nD τ).loc main_arg3) : Vec Ideal S4096x1152 .bf16) (m ((c : Thread nD τ).loc main_arg0) : Vec Ideal S4096x1024 .bf16) (4 * (t.val / 4) + s) (y 0).val (y 1).val := by
  refine Pipeline.eq_sum_of_reset_step_apply (fun n h => (outsAt0 m c n h).2.2) 4 (fun _ => (0 : EReal))
    (fun n (i : S1152x1024.Idx) => term (m ((c : Thread nD τ).loc main_arg3) : Vec Ideal S4096x1152 .bf16) (m ((c : Thread nD τ).loc main_arg0) : Vec Ideal S4096x1024 .bf16) n (i 0).val (i 1).val) (fun t h i => ?_) (fun t h i => ?_) t y
  · have ht : t.val < 4 := t.isLt
    rw [outsAt0_A m c t h (by omega) h (by omega) h (by omega), zero_add, ← term2_eq]
    frame_out
    exact first2_apply _ _ i
  · have ht : t.val < 4 := t.isLt
    rw [outsAt0_B m c t h (by omega) h (by omega) h (by omega), ← term2_eq]
    frame_out
    try simp only [read_unread_whole]
    exact next2_apply _ _ _ i

/-- The gradient of this branch's weights. -/
def dw2 (x : Vec Ideal S4096x1152 .bf16) (xn : Vec Ideal S4096x1024 .bf16) : Vec Ideal S1152x1024 .f32 :=
  fun i => dwAt x xn (i 0).val (i 1).val

theorem final2 (c : Dev nD) : (dats m 0 c).arrAt 6 cfg0.N = dw2 (m ((c : Thread nD τ).loc main_arg3) : Vec Ideal S4096x1152 .bf16) (m ((c : Thread nD τ).loc main_arg0) : Vec Ideal S4096x1024 .bf16) := by
  refine (dats m 0 c).arrAt_eq_of_covers 6 _ (by decide +kernel) fun t hf y => ?_
  obtain ⟨-, -, -, -, -, -, h⟩ := idx t
  have ht : t.val < 4 := t.isLt
  have h3 : t.val % 4 = 3 := (flush0_6 t).mp hf
  rw [after0_6]
  have e := acc2_eq m c t
  generalize (outsAt0 m c t.val t.isLt).2.2 = f at e ⊢
  refine (e y).trans ?_
  rw [h3, show 4 * (t.val / 4) = 0 by omega]
  simp only [Nat.zero_add, Nat.reduceAdd]
  refine (sum_term _ _ _ _).trans ?_
  unfold dw2
  blk_simp [h]

end Cert.Kernel9Ideal.RefValue

end
-- ==== Proof.ProjDwClaims.lean ====
/- The claims about the gradients of the input projection's weights. -/
module

public import proofs.«01_k».proof.Defs
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run
public import proofs.«01_k».proof.Proof.ProjDwValue
public import Idealize.ShloMosaic.Adequacy
public import Idealize.ShloMosaic.Init

@[expose] public section

set_option maxRecDepth 16384

noncomputable section

namespace Cert.ProjDw

open Idealize.ShloMosaic Idealize.SL.Sem Cert.Coords

theorem frame_p : Cert.quiescent_Kernel9 := fun m ρ _ => Cert.Kernel9.Gen.frame m ρ

theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨_, _, _, Cert.Kernel9Ideal.Value.run_blocks (F := Ideal) m ρ, ?_⟩
  refine (θ_run Cert.Reference9Ideal.defs _ _).mono (fun _ h c => ⟨(h c).1.trans ?_, (h c).2.1.trans ?_, (h c).2.2.1.trans ?_, (h c).2.2.2⟩)
    (Cert.Reference9Ideal.Value.run (F := Ideal) m' ρ')
  · rw [Cert.Kernel9Ideal.RefValue.final0]
    obtain ⟨e0, e1, e2, e3⟩ := hagree c
    funext i
    unfold Cert.Kernel9Ideal.RefValue.dw0 Cert.Kernel9Ideal.RefValue.dwAt
    rw [e0, e1, e2, e3]
    clear h
    idx_vars i
    pointwise
    refine Finset.sum_congr rfl fun k _ => ?_
    exact congrArg₂ (fun x y : EReal => x * y) ((at2_ix (n := 4096) (k := 1408) _ _ _)) (at2_ix (n := 4096) (k := 1024) _ _ _)
  · rw [Cert.Kernel9Ideal.RefValue.final1]
    obtain ⟨e0, e1, e2, e3⟩ := hagree c
    funext i
    unfold Cert.Kernel9Ideal.RefValue.dw1 Cert.Kernel9Ideal.RefValue.dwAt
    rw [e0, e1, e2, e3]
    clear h
    idx_vars i
    pointwise
    refine Finset.sum_congr rfl fun k _ => ?_
    exact congrArg₂ (fun x y : EReal => x * y) ((at2_ix (n := 4096) (k := 512) _ _ _)) (at2_ix (n := 4096) (k := 1024) _ _ _)
  · rw [Cert.Kernel9Ideal.RefValue.final2]
    obtain ⟨e0, e1, e2, e3⟩ := hagree c
    funext i
    unfold Cert.Kernel9Ideal.RefValue.dw2 Cert.Kernel9Ideal.RefValue.dwAt
    rw [e0, e1, e2, e3]
    clear h
    idx_vars i
    pointwise
    refine Finset.sum_congr rfl fun k _ => ?_
    rw [dif_neg (by omega), dif_neg (by omega)]
    exact congrArg₂ (fun x y : EReal => x * y) ((at2_ix (n := 4096) (k := 1152) _ _ _).trans (congrArg (at2 _ k.val) (show 1920 + i0.val - 1408 - 512 = i0.val by omega))) (at2_ix (n := 4096) (k := 1024) _ _ _)

end Cert.ProjDw

end
-- ==== Proof.OutDxValue.lean ====
/- The gradients of the three branches through the output projection, element by element. -/
module

public import proofs.«01_k».proof.Proof.Gen.Kernel10Ideal.Value
public import proofs.«01_k».proof.Proof.Coords
public import Idealize.ShloMosaic.Lib.Pipeline.ReadBack

@[expose] public section

set_option maxRecDepth 16384

noncomputable section

namespace Cert.Kernel10Ideal.RefValue

open Cert.Kernel10Ideal Cert.Kernel10Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0]) t

theorem blk_dh (c : Dev nD) (t : Fin cfg0.N) (r q : ℕ) (hr : r < 512) (hq : q < 1024) :
    at2 (iblk m c 0 t : Vec Ideal S512x1024 .f32) r q = at2 (m ((c : Thread nD τ).loc main_arg0) : Vec Ideal S4096x1024 .f32) (512 * t.val + r) q := by
  obtain ⟨h, -⟩ := idx t
  have ht : t.val < 8 := t.isLt
  unfold at2
  rw [dif_pos ⟨hr, hq⟩, dif_pos ⟨by omega, by omega⟩]
  blk_ext [iblk, V, h]

/-- The gradient of one branch, whose weights start at a row. -/
def dx384 (o : ℕ) (d : Vec Ideal S4096x1024 .f32) (w : Vec Ideal S1024x1024 .f32) : Vec Ideal S4096x384 .bf16 :=
  fun i => ∑ k : Fin 1024, at2 d (i 0).val k.val * at2 w (o + (i 1).val) k.val

/-- The gradient of one branch, whose weights start at a row. -/
def dx256 (o : ℕ) (d : Vec Ideal S4096x1024 .f32) (w : Vec Ideal S1024x1024 .f32) : Vec Ideal S4096x256 .bf16 :=
  fun i => ∑ k : Fin 1024, at2 d (i 0).val k.val * at2 w (o + (i 1).val) k.val

theorem block0_apply (x0 : Vec Ideal S512x1024 .f32) (x : Vec Ideal S384x1024 .bf16) (z1 : Vec Ideal S256x1024 .bf16) (z2 : Vec Ideal S384x1024 .bf16) (y : S512x384.Idx) :
    out0_4 x0 x z1 z2 y = ∑ k : Fin 1024, at2 x0 (y 0).val k.val * at2 x (y 1).val k.val := by
  unfold out0_4
  canon_tiles x h
  rw [h0, h1]
  idx_vars x
  open_payloads
  pointwise
  simp only [at2_ix]

/-- This stretch of the weights, as the region finds it. -/
theorem V_w0 (c : Dev nD) : V m c main_v1 = fun i => at2 (m ((c : Thread nD τ).loc main_arg1) : Vec Ideal S1024x1024 .f32) (0 + (i 0).val) (i 1).val := by
  unfold V
  simp only [hostOps0, List.flatten_cons, List.flatten_nil, List.append_nil, List.cons_append, List.nil_append]
  after_results
  funext i
  idx_vars i
  pointwise
  exact at2_ix (n := 1024) (k := 1024) _ ⟨i0.val, by omega⟩ _

theorem blk_w0 (c : Dev nD) (t : Fin cfg0.N) (r q : ℕ) (hr : r < 384) (hq : q < 1024) :
    at2 (iblk m c 1 t : Vec Ideal S384x1024 .bf16) r q = at2 (m ((c : Thread nD τ).loc main_arg1) : Vec Ideal S1024x1024 .f32) (0 + r) q := by
  obtain ⟨-, h, -⟩ := idx t
  refine Eq.trans (by unfold at2; rw [dif_pos ⟨hr, hq⟩]) ?_
  blk_simp [iblk, h]
  rw [show V m c main_v1 = _ from V_w0 m c]
  blk_simp [h]

theorem block0_eq (c : Dev nD) (t : Fin cfg0.N) (y : S512x384.Idx) :
    out0_4 (iblk m c 0 t) (iblk m c 1 t) (iblk m c 2 t) (iblk m c 3 t) y
      = ∑ k : Fin 1024, at2 (m ((c : Thread nD τ).loc main_arg0) : Vec Ideal S4096x1024 .f32) (512 * t.val + (y 0).val) k.val * at2 (m ((c : Thread nD τ).loc main_arg1) : Vec Ideal S1024x1024 .f32) (0 + (y 1).val) k.val := by
  rw [block0_apply]
  refine Finset.sum_congr rfl fun k _ => ?_
  rw [blk_dh m c t _ _ (y 0).isLt k.isLt, blk_w0 m c t _ _ (y 1).isLt k.isLt]

theorem final0 (c : Dev nD) : (dats m 0 c).arrAt 4 cfg0.N = dx384 0 (m ((c : Thread nD τ).loc main_arg0) : Vec Ideal S4096x1024 .f32) (m ((c : Thread nD τ).loc main_arg1) : Vec Ideal S1024x1024 .f32) := by
  refine (dats m 0 c).arrAt_eq_of_covers 4 _ (by decide +kernel) fun t hf y => ?_
  obtain ⟨-, -, -, -, h, -⟩ := idx t
  rw [after0_4]
  have e := block0_eq m c t y
  generalize out0_4 (iblk m c 0 t) (iblk m c 1 t) (iblk m c 2 t) (iblk m c 3 t) = f at e ⊢
  refine e.trans ?_
  unfold dx384
  blk_simp [h]
  rw [Nat.mul_comm t.val]

theorem block1_apply (x0 : Vec Ideal S512x1024 .f32) (x : Vec Ideal S256x1024 .bf16) (z0 z2 : Vec Ideal S384x1024 .bf16) (y : S512x256.Idx) :
    out0_5 x0 z0 x z2 y = ∑ k : Fin 1024, at2 x0 (y 0).val k.val * at2 x (y 1).val k.val := by
  unfold out0_5
  canon_tiles x h
  rw [h0, h1]
  idx_vars x
  open_payloads
  pointwise
  simp only [at2_ix]

/-- This stretch of the weights, as the region finds it. -/
theorem V_w1 (c : Dev nD) : V m c main_v2 = fun i => at2 (m ((c : Thread nD τ).loc main_arg1) : Vec Ideal S1024x1024 .f32) (384 + (i 0).val) (i 1).val := by
  unfold V
  simp only [hostOps0, List.flatten_cons, List.flatten_nil, List.append_nil, List.cons_append, List.nil_append]
  after_results
  funext i
  idx_vars i
  pointwise
  exact at2_ix (n := 1024) (k := 1024) _ ⟨384 + i0.val, by omega⟩ _

theorem blk_w1 (c : Dev nD) (t : Fin cfg0.N) (r q : ℕ) (hr : r < 256) (hq : q < 1024) :
    at2 (iblk m c 2 t : Vec Ideal S256x1024 .bf16) r q = at2 (m ((c : Thread nD τ).loc main_arg1) : Vec Ideal S1024x1024 .f32) (384 + r) q := by
  obtain ⟨-, -, h, -⟩ := idx t
  refine Eq.trans (by unfold at2; rw [dif_pos ⟨hr, hq⟩]) ?_
  blk_simp [iblk, h]
  rw [show V m c main_v2 = _ from V_w1 m c]
  blk_simp [h]

theorem block1_eq (c : Dev nD) (t : Fin cfg0.N) (y : S512x256.Idx) :
    out0_5 (iblk m c 0 t) (iblk m c 1 t) (iblk m c 2 t) (iblk m c 3 t) y
      = ∑ k : Fin 1024, at2 (m ((c : Thread nD τ).loc main_arg0) : Vec Ideal S4096x1024 .f32) (512 * t.val + (y 0).val) k.val * at2 (m ((c : Thread nD τ).loc main_arg1) : Vec Ideal S1024x1024 .f32) (384 + (y 1).val) k.val := by
  rw [block1_apply]
  refine Finset.sum_congr rfl fun k _ => ?_
  rw [blk_dh m c t _ _ (y 0).isLt k.isLt, blk_w1 m c t _ _ (y 1).isLt k.isLt]

theorem final1 (c : Dev nD) : (dats m 0 c).arrAt 5 cfg0.N = dx256 384 (m ((c : Thread nD τ).loc main_arg0) : Vec Ideal S4096x1024 .f32) (m ((c : Thread nD τ).loc main_arg1) : Vec Ideal S1024x1024 .f32) := by
  refine (dats m 0 c).arrAt_eq_of_covers 5 _ (by decide +kernel) fun t hf y => ?_
  obtain ⟨-, -, -, -, -, h, -⟩ := idx t
  rw [after0_5]
  have e := block1_eq m c t y
  generalize out0_5 (iblk m c 0 t) (iblk m c 1 t) (iblk m c 2 t) (iblk m c 3 t) = f at e ⊢
  refine e.trans ?_
  unfold dx256
  blk_simp [h]
  rw [Nat.mul_comm t.val]

theorem block2_apply (x0 : Vec Ideal S512x1024 .f32) (x : Vec Ideal S384x1024 .bf16) (z0 : Vec Ideal S384x1024 .bf16) (z1 : Vec Ideal S256x1024 .bf16) (y : S512x384.Idx) :
    out0_6 x0 z0 z1 x y = ∑ k : Fin 1024, at2 x0 (y 0).val k.val * at2 x (y 1).val k.val := by
  unfold out0_6
  canon_tiles x h
  rw [h0, h1]
  idx_vars x
  open_payloads
  pointwise
  simp only [at2_ix]

/-- This stretch of the weights, as the region finds it. -/
theorem V_w2 (c : Dev nD) : V m c main_v3 = fun i => at2 (m ((c : Thread nD τ).loc main_arg1) : Vec Ideal S1024x1024 .f32) (640 + (i 0).val) (i 1).val := by
  unfold V
  simp only [hostOps0, List.flatten_cons, List.flatten_nil, List.append_nil, List.cons_append, List.nil_append]
  after_results
  funext i
  idx_vars i
  pointwise
  exact at2_ix (n := 1024) (k := 1024) _ ⟨640 + i0.val, by omega⟩ _

theorem blk_w2 (c : Dev nD) (t : Fin cfg0.N) (r q : ℕ) (hr : r < 384) (hq : q < 1024) :
    at2 (iblk m c 3 t : Vec Ideal S384x1024 .bf16) r q = at2 (m ((c : Thread nD τ).loc main_arg1) : Vec Ideal S1024x1024 .f32) (640 + r) q := by
  obtain ⟨-, -, -, h, -⟩ := idx t
  refine Eq.trans (by unfold at2; rw [dif_pos ⟨hr, hq⟩]) ?_
  blk_simp [iblk, h]
  rw [show V m c main_v3 = _ from V_w2 m c]
  blk_simp [h]

theorem block2_eq (c : Dev nD) (t : Fin cfg0.N) (y : S512x384.Idx) :
    out0_6 (iblk m c 0 t) (iblk m c 1 t) (iblk m c 2 t) (iblk m c 3 t) y
      = ∑ k : Fin 1024, at2 (m ((c : Thread nD τ).loc main_arg0) : Vec Ideal S4096x1024 .f32) (512 * t.val + (y 0).val) k.val * at2 (m ((c : Thread nD τ).loc main_arg1) : Vec Ideal S1024x1024 .f32) (640 + (y 1).val) k.val := by
  rw [block2_apply]
  refine Finset.sum_congr rfl fun k _ => ?_
  rw [blk_dh m c t _ _ (y 0).isLt k.isLt, blk_w2 m c t _ _ (y 1).isLt k.isLt]

theorem final2 (c : Dev nD) : (dats m 0 c).arrAt 6 cfg0.N = dx384 640 (m ((c : Thread nD τ).loc main_arg0) : Vec Ideal S4096x1024 .f32) (m ((c : Thread nD τ).loc main_arg1) : Vec Ideal S1024x1024 .f32) := by
  refine (dats m 0 c).arrAt_eq_of_covers 6 _ (by decide +kernel) fun t hf y => ?_
  obtain ⟨-, -, -, -, -, -, h⟩ := idx t
  rw [after0_6]
  have e := block2_eq m c t y
  generalize out0_6 (iblk m c 0 t) (iblk m c 1 t) (iblk m c 2 t) (iblk m c 3 t) = f at e ⊢
  refine e.trans ?_
  unfold dx384
  blk_simp [h]
  rw [Nat.mul_comm t.val]

end Cert.Kernel10Ideal.RefValue

end
-- ==== Proof.OutDxClaims.lean ====
/- The claims about the gradients of the three branches. -/
module

public import proofs.«01_k».proof.Defs
public import proofs.«01_k».proof.Proof.Gen.Kernel10.Frame
public import proofs.«01_k».proof.Proof.Gen.Kernel10Ideal.Frame
public import proofs.«01_k».proof.Proof.Gen.Reference10Ideal
public import proofs.«01_k».proof.Proof.Gen.Reference10Ideal.Run
public import proofs.«01_k».proof.Proof.OutDxValue
public import Idealize.ShloMosaic.Adequacy
public import Idealize.ShloMosaic.Init

@[expose] public section

set_option maxRecDepth 16384

noncomputable section

namespace Cert.OutDx

open Idealize.ShloMosaic Idealize.SL.Sem Cert.Coords

theorem frame_p : Cert.quiescent_Kernel10 := fun m ρ _ => Cert.Kernel10.Gen.frame m ρ

theorem frame_pi : Cert.quiescent_Kernel10Ideal := fun m ρ _ => Cert.Kernel10Ideal.Gen.frame m ρ

theorem frame_ri : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem algebraic : Cert.algebraic_Kernel10Ideal_Reference10Ideal := by
  intro m ρ m' ρ' _ hagree
  refine ⟨_, _, _, Cert.Kernel10Ideal.Value.run_blocks (F := Ideal) m ρ, ?_⟩
  refine (θ_run Cert.Reference10Ideal.defs _ _).mono (fun _ h c => ⟨(h c).1.trans ?_, (h c).2.1.trans ?_, (h c).2.2.1.trans ?_, (h c).2.2.2⟩)
    (Cert.Reference10Ideal.Value.run (F := Ideal) m' ρ')
  · rw [Cert.Kernel10Ideal.RefValue.final0]
    obtain ⟨e0, e1⟩ := hagree c
    funext i
    unfold Cert.Kernel10Ideal.RefValue.dx384
    rw [e0, e1]
    clear h
    idx_vars i
    pointwise
    exact Finset.sum_congr rfl fun k _ => congrArg₂ (fun x y : EReal => x * y) (at2_ix (n := 4096) (k := 1024) _ _ _) (at2_ix (n := 1024) (k := 1024) _ ⟨i1.val, by omega⟩ _)
  · rw [Cert.Kernel10Ideal.RefValue.final1]
    obtain ⟨e0, e1⟩ := hagree c
    funext i
    unfold Cert.Kernel10Ideal.RefValue.dx256
    rw [e0, e1]
    clear h
    idx_vars i
    pointwise
    exact Finset.sum_congr rfl fun k _ => congrArg₂ (fun x y : EReal => x * y) (at2_ix (n := 4096) (k := 1024) _ _ _) (at2_ix (n := 1024) (k := 1024) _ ⟨384 + i1.val, by omega⟩ _)
  · rw [Cert.Kernel10Ideal.RefValue.final2]
    obtain ⟨e0, e1⟩ := hagree c
    funext i
    unfold Cert.Kernel10Ideal.RefValue.dx384
    rw [e0, e1]
    clear h
    idx_vars i
    pointwise
    exact Finset.sum_congr rfl fun k _ => congrArg₂ (fun x y : EReal => x * y) (at2_ix (n := 4096) (k := 1024) _ _ _) (at2_ix (n := 1024) (k := 1024) _ ⟨640 + i1.val, by omega⟩ _)

end Cert.OutDx

end
-- ==== Proof.ProjValue.lean ====
/- The input projection with the norm fused, element by element. -/
module

public import proofs.«01_k».proof.Proof.Gen.Kernel11Ideal.Value
public import proofs.«01_k».proof.Proof.Coords
public import Idealize.ShloMosaic.Lib.Pipeline.ReadBack

@[expose] public section

set_option maxRecDepth 16384

noncomputable section

namespace Cert.Kernel11Ideal.RefValue

open Cert.Kernel11Ideal Cert.Kernel11Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0]) t

/-- The gain the region finds. -/
theorem V_g (c : Dev nD) : V m c main_v16 = fun i => (m ((c : Thread nD τ).loc main_arg1) : Vec Ideal S1024 .f32) (ix1 (i 1)) := by
  unfold V
  simp only [hostOps0, hostOps0_1, hostOps0_2, hostOps0_3, hostOps0_4, hostOps0_5, hostOps0_6, List.flatten_cons, List.flatten_nil, List.append_nil, List.cons_append, List.nil_append]
  after_results_simp
  funext i
  idx_vars i
  pointwise

/-- The convolution's columns of the weights. -/
theorem V_conv (c : Dev nD) : V m c main_v7 = fun i => at2 (m ((c : Thread nD τ).loc main_arg2) : Vec Ideal S1024x2832 .f32) (i 1).val (1168 + (i 0).val) := by
  unfold V
  simp only [hostOps0, hostOps0_1, hostOps0_2, hostOps0_3, hostOps0_4, hostOps0_5, hostOps0_6, List.flatten_cons, List.flatten_nil, List.append_nil, List.cons_append, List.nil_append]
  after_results_simp
  funext i
  idx_vars i
  pointwise
  exact at2_ix (n := 1024) (k := 2832) _ i1 ⟨1168 + i0.val, by omega⟩

theorem pad256 (x : Vec Ideal S192x1024 .bf16) (r : Fin 256) (q : Fin 1024) :
    (pad S256x1024 ![0, 0] ![64, 0] ![0, 0] x (sitofp .bf16 (constantI S_ 32 0#32) : FVec Ideal S_ .bf16) pads_S192x1024_S256x1024_0640_000 h_S_ : Vec Ideal S256x1024 .bf16) (ix2 r q)
      = if r.val < 192 then at2 x r.val q.val else 0 := by
  pointwise
  unfold at2
  by_cases g : r.val < 192
  · refine (dif_pos g).trans (Eq.trans ?_ (if_pos g).symm)
    rw [dif_pos ⟨g, q.isLt⟩]
  · refine (dif_neg g).trans (Eq.trans ?_ (if_neg g).symm)
    simp [FloatOps.sitofp]

theorem pad128 (x : Vec Ideal S16x1024 .bf16) (r : Fin 128) (q : Fin 1024) :
    (pad S128x1024 ![0, 0] ![112, 0] ![0, 0] x (sitofp .bf16 (constantI S_ 32 0#32) : FVec Ideal S_ .bf16) pads_S16x1024_S128x1024_01120_000 h_S_ : Vec Ideal S128x1024 .bf16) (ix2 r q)
      = if r.val < 16 then at2 x r.val q.val else 0 := by
  pointwise
  unfold at2
  by_cases g : r.val < 16
  · refine (dif_pos g).trans (Eq.trans ?_ (if_pos g).symm)
    rw [dif_pos ⟨g, q.isLt⟩]
  · refine (dif_neg g).trans (Eq.trans ?_ (if_neg g).symm)
    simp [FloatOps.sitofp]

/-- The attention's columns of the weights. -/
theorem V_att (c : Dev nD) : V m c main_v15 = fun i => at2 (m ((c : Thread nD τ).loc main_arg2) : Vec Ideal S1024x2832 .f32) (i 1).val (1680 + (i 0).val) := by
  unfold V
  simp only [hostOps0, hostOps0_1, hostOps0_2, hostOps0_3, hostOps0_4, hostOps0_5, hostOps0_6, List.flatten_cons, List.flatten_nil, List.append_nil, List.cons_append, List.nil_append]
  after_results_simp
  funext i
  idx_vars i
  pointwise
  after_results_simp
  pointwise
  by_cases g1 : i0.val < 384
  · refine (dif_pos g1).trans ?_
    exact at2_ix (n := 1024) (k := 2832) _ i1 ⟨1680 + i0.val, by omega⟩
  refine (dif_neg g1).trans ?_
  by_cases g2 : i0.val - 384 < 384
  · refine (dif_pos g2).trans ?_
    exact (at2_ix (n := 1024) (k := 2832) _ i1 ⟨2064 + (i0.val - 384), by omega⟩).trans (congrArg (at2 _ i1.val) (show 2064 + (i0.val - 384) = 1680 + i0.val by omega))
  · refine (dif_neg g2).trans ?_
    exact (at2_ix (n := 1024) (k := 2832) _ i1 ⟨2448 + (i0.val - 384 - 384), by omega⟩).trans (congrArg (at2 _ i1.val) (show 2448 + (i0.val - 384 - 384) = 1680 + i0.val by omega))

theorem cut0 (x : Vec Ideal S1024x2832 .f32) (r q : ℕ) (hr : r < 192) (hq : q < 1024) :
    at2 (extractStridedSlice S192x1024 ![0, 0] (truncf .bf16 (transpose S2832x1024 [1, 0] x transposes_S1024x2832_S2832x1024_1_0 : FVec Ideal S2832x1024 .f32) bitsLt_bf16_f32 : FVec Ideal S2832x1024 .bf16) slices_S2832x1024_S192x1024_0_0 : Vec Ideal S192x1024 .bf16) r q
      = at2 x q (r) := by
  refine Eq.trans (by unfold at2; rw [dif_pos ⟨hr, hq⟩]) ?_
  pointwise
  exact at2_ix (n := 1024) (k := 2832) x ⟨q, hq⟩ ⟨r, by omega⟩

theorem cut192 (x : Vec Ideal S1024x2832 .f32) (r q : ℕ) (hr : r < 192) (hq : q < 1024) :
    at2 (extractStridedSlice S192x1024 ![192, 0] (truncf .bf16 (transpose S2832x1024 [1, 0] x transposes_S1024x2832_S2832x1024_1_0 : FVec Ideal S2832x1024 .f32) bitsLt_bf16_f32 : FVec Ideal S2832x1024 .bf16) slices_S2832x1024_S192x1024_192_0 : Vec Ideal S192x1024 .bf16) r q
      = at2 x q (192 + r) := by
  refine Eq.trans (by unfold at2; rw [dif_pos ⟨hr, hq⟩]) ?_
  pointwise
  exact at2_ix (n := 1024) (k := 2832) x ⟨q, hq⟩ ⟨192 + r, by omega⟩

theorem cut1152 (x : Vec Ideal S1024x2832 .f32) (r q : ℕ) (hr : r < 16) (hq : q < 1024) :
    at2 (extractStridedSlice S16x1024 ![1152, 0] (truncf .bf16 (transpose S2832x1024 [1, 0] x transposes_S1024x2832_S2832x1024_1_0 : FVec Ideal S2832x1024 .f32) bitsLt_bf16_f32 : FVec Ideal S2832x1024 .bf16) slices_S2832x1024_S16x1024_1152_0 : Vec Ideal S16x1024 .bf16) r q
      = at2 x q (1152 + r) := by
  refine Eq.trans (by unfold at2; rw [dif_pos ⟨hr, hq⟩]) ?_
  pointwise
  exact at2_ix (n := 1024) (k := 2832) x ⟨q, hq⟩ ⟨1152 + r, by omega⟩

/-- A column laid out among its five parts, each padded with zeros to a whole number of lanes. -/
def lanes (f : ℕ → EReal) (j : ℕ) : EReal :=
  if j < 256 then (if j < 192 then f j else 0)
  else if j - 256 < 256 then (if j - 256 < 192 then f (192 + (j - 256)) else 0)
  else if j - 256 - 256 < 384 then f (384 + (j - 256 - 256))
  else if j - 256 - 256 - 384 < 384 then f (768 + (j - 256 - 256 - 384))
  else if j - 256 - 256 - 384 - 384 < 16 then f (1152 + (j - 256 - 256 - 384 - 384)) else 0

/-- The recurrence's columns of the weights. -/
theorem V_gla (c : Dev nD) : V m c main_v14 = fun i => lanes (at2 (m ((c : Thread nD τ).loc main_arg2) : Vec Ideal S1024x2832 .f32) (i 1).val) (i 0).val := by
  unfold V
  simp only [hostOps0, hostOps0_1, hostOps0_2, hostOps0_3, hostOps0_4, hostOps0_5, hostOps0_6, List.flatten_cons, List.flatten_nil, List.append_nil, List.cons_append, List.nil_append]
  after_results_simp
  funext i
  idx_vars i
  pointwise
  after_results_simp
  pointwise
  show _ = lanes (at2 (m ((c : Thread nD τ).loc main_arg2) : Vec Ideal S1024x2832 .f32) i1.val) i0.val
  unfold lanes
  by_cases g1 : i0.val < 256
  · refine (dif_pos g1).trans (Eq.trans ?_ (if_pos g1).symm)
    refine (pad256 _ ⟨i0.val, g1⟩ i1).trans ?_
    split_ifs with g
    · exact cut0 _ _ _ g i1.isLt
    · rfl
  refine (dif_neg g1).trans (Eq.trans ?_ (if_neg g1).symm)
  by_cases g2 : i0.val - 256 < 256
  · refine (dif_pos g2).trans (Eq.trans ?_ (if_pos g2).symm)
    refine (pad256 _ ⟨i0.val - 256, g2⟩ i1).trans ?_
    split_ifs with g
    · exact cut192 _ _ _ g i1.isLt
    · rfl
  refine (dif_neg g2).trans (Eq.trans ?_ (if_neg g2).symm)
  by_cases g3 : i0.val - 256 - 256 < 384
  · refine (dif_pos g3).trans (Eq.trans ?_ (if_pos g3).symm)
    exact at2_ix (n := 1024) (k := 2832) _ i1 ⟨384 + (i0.val - 256 - 256), by omega⟩
  refine (dif_neg g3).trans (Eq.trans ?_ (if_neg g3).symm)
  by_cases g4 : i0.val - 256 - 256 - 384 < 384
  · refine (dif_pos g4).trans (Eq.trans ?_ (if_pos g4).symm)
    exact at2_ix (n := 1024) (k := 2832) _ i1 ⟨768 + (i0.val - 256 - 256 - 384), by omega⟩
  refine (dif_neg g4).trans (Eq.trans ?_ (if_neg g4).symm)
  refine (pad128 _ ⟨i0.val - 256 - 256 - 384 - 384, by omega⟩ i1).trans ?_
  split_ifs with g
  · exact cut1152 _ _ _ g i1.isLt
  · rfl

/-- A row divided by the root of its mean square, times the gain. -/
def nrm (a g : ℕ → EReal) (q : ℕ) : EReal :=
  a q * Ideal.rsqrt (Ideal.div (∑ x : Fin 1024, a x.val * a x.val) (Ideal.ofBits FTy.f32 1149239296#32) + Ideal.ofBits FTy.f32 897988541#32) * g q

theorem nrm_congr (a a' g g' : ℕ → EReal) (ha : ∀ k < 1024, a k = a' k) (hg : ∀ k < 1024, g k = g' k) (q : ℕ) (hq : q < 1024) :
    nrm a g q = nrm a' g' q := by
  unfold nrm
  rw [ha q hq, hg q hq, Finset.sum_congr rfl fun (x : Fin 1024) _ => show a x.val * a x.val = a' x.val * a' x.val by rw [ha x.val x.isLt]]

theorem block5 (x0 : Vec Ideal S512x1024 .f32) (x1 : Vec Ideal S1408x1024 .bf16) (x2 : Vec Ideal S512x1024 .bf16) (x3 : Vec Ideal S1152x1024 .bf16) (x4 : Vec Ideal S1x1024 .f32) (y : S512x1408.Idx) :
    out0_5 x0 x1 x2 x3 x4 y = ∑ k : Fin 1024, nrm (at2 x0 (y 0).val) (at2 x4 0) k.val * at2 x1 (y 1).val k.val := by
  unfold nrm
  unfold out0_5
  canon_tiles x h
  rw [h0, h1]
  idx_vars x
  open_payloads
  pointwise
  simp only [at2_ix]
  rfl

theorem block6 (x0 : Vec Ideal S512x1024 .f32) (x1 : Vec Ideal S1408x1024 .bf16) (x2 : Vec Ideal S512x1024 .bf16) (x3 : Vec Ideal S1152x1024 .bf16) (x4 : Vec Ideal S1x1024 .f32) (y : S512x512.Idx) :
    out0_6 x0 x1 x2 x3 x4 y = ∑ k : Fin 1024, nrm (at2 x0 (y 0).val) (at2 x4 0) k.val * at2 x2 (y 1).val k.val := by
  unfold nrm
  unfold out0_6
  canon_tiles x h
  rw [h0, h1]
  idx_vars x
  open_payloads
  pointwise
  simp only [at2_ix]
  rfl

theorem block7 (x0 : Vec Ideal S512x1024 .f32) (x1 : Vec Ideal S1408x1024 .bf16) (x2 : Vec Ideal S512x1024 .bf16) (x3 : Vec Ideal S1152x1024 .bf16) (x4 : Vec Ideal S1x1024 .f32) (y : S512x1152.Idx) :
    out0_7 x0 x1 x2 x3 x4 y = ∑ k : Fin 1024, nrm (at2 x0 (y 0).val) (at2 x4 0) k.val * at2 x3 (y 1).val k.val := by
  unfold nrm
  unfold out0_7
  canon_tiles x h
  rw [h0, h1]
  idx_vars x
  open_payloads
  pointwise
  simp only [at2_ix]
  rfl

theorem block8 (x0 : Vec Ideal S512x1024 .f32) (x1 : Vec Ideal S1408x1024 .bf16) (x2 : Vec Ideal S512x1024 .bf16) (x3 : Vec Ideal S1152x1024 .bf16) (x4 : Vec Ideal S1x1024 .f32) (y : S512x1024.Idx) :
    out0_8 x0 x1 x2 x3 x4 y = nrm (at2 x0 (y 0).val) (at2 x4 0) (y 1).val := by
  unfold nrm
  unfold out0_8
  canon_tiles x h
  rw [h0, h1]
  idx_vars x
  open_payloads
  pointwise
  simp only [at2_ix]
  rfl

theorem blk_h (c : Dev nD) (t : Fin cfg0.N) (r q : ℕ) (hr : r < 512) (hq : q < 1024) :
    at2 (iblk m c 0 t : Vec Ideal S512x1024 .f32) r q = at2 (m ((c : Thread nD τ).loc main_arg0) : Vec Ideal S4096x1024 .f32) (512 * t.val + r) q := by
  obtain ⟨h, -⟩ := idx t
  have ht : t.val < 8 := t.isLt
  unfold at2
  rw [dif_pos ⟨hr, hq⟩, dif_pos ⟨by omega, by omega⟩]
  blk_ext [iblk, V, h]

theorem blk_g (c : Dev nD) (t : Fin cfg0.N) (q : ℕ) (hq : q < 1024) :
    at2 (iblk m c 4 t : Vec Ideal S1x1024 .f32) 0 q = (m ((c : Thread nD τ).loc main_arg1) : Vec Ideal S1024 .f32) (ix1 ⟨q, hq⟩) := by
  obtain ⟨-, -, -, -, h, -⟩ := idx t
  unfold at2
  rw [dif_pos ⟨by omega, hq⟩]
  blk_simp [iblk, h]
  rw [show V m c main_v16 = _ from V_g m c]
  have he : (win0_4.blk t).view.emb (ix2 (0 : Fin 1) (⟨q, hq⟩ : Fin 1024)) 1 = (⟨q, hq⟩ : Fin 1024) := by
    ext
    blk_simp [h]
  exact congrArg (fun k : Fin 1024 => (m ((c : Thread nD τ).loc main_arg1) : Vec Ideal S1024 .f32) (ix1 k)) he

theorem blk_gla (c : Dev nD) (t : Fin cfg0.N) (r k : ℕ) (hr : r < 1408) (hk : k < 1024) :
    at2 (iblk m c 1 t : Vec Ideal S1408x1024 .bf16) r k = lanes (at2 (m ((c : Thread nD τ).loc main_arg2) : Vec Ideal S1024x2832 .f32) k) r := by
  obtain ⟨-, h, -⟩ := idx t
  refine Eq.trans (by unfold at2; rw [dif_pos ⟨hr, hk⟩]) ?_
  blk_simp [iblk, h]
  rw [show V m c main_v14 = _ from V_gla m c]
  blk_simp [h]

theorem blk_conv (c : Dev nD) (t : Fin cfg0.N) (r k : ℕ) (hr : r < 512) (hk : k < 1024) :
    at2 (iblk m c 2 t : Vec Ideal S512x1024 .bf16) r k = at2 (m ((c : Thread nD τ).loc main_arg2) : Vec Ideal S1024x2832 .f32) k (1168 + r) := by
  obtain ⟨-, -, h, -⟩ := idx t
  refine Eq.trans (by unfold at2; rw [dif_pos ⟨hr, hk⟩]) ?_
  blk_simp [iblk, h]
  rw [show V m c main_v7 = _ from V_conv m c]
  blk_simp [h]

theorem blk_att (c : Dev nD) (t : Fin cfg0.N) (r k : ℕ) (hr : r < 1152) (hk : k < 1024) :
    at2 (iblk m c 3 t : Vec Ideal S1152x1024 .bf16) r k = at2 (m ((c : Thread nD τ).loc main_arg2) : Vec Ideal S1024x2832 .f32) k (1680 + r) := by
  obtain ⟨-, -, -, h, -⟩ := idx t
  refine Eq.trans (by unfold at2; rw [dif_pos ⟨hr, hk⟩]) ?_
  blk_simp [iblk, h]
  rw [show V m c main_v15 = _ from V_att m c]
  blk_simp [h]

/-- A gain as a function of a column. -/
def at1 (g : Vec Ideal S1024 .f32) (q : ℕ) : EReal := if h : q < 1024 then g (ix1 ⟨q, h⟩) else 0

/-- The normalised rows. -/
def xn (h : Vec Ideal S4096x1024 .f32) (g : Vec Ideal S1024 .f32) : Vec Ideal S4096x1024 .bf16 :=
  fun i => nrm (at2 h (i 0).val) (at1 g) (i 1).val

/-- One column of the product of the normalised rows with the weights. -/
def col (h : Vec Ideal S4096x1024 .f32) (g : Vec Ideal S1024 .f32) (w : Vec Ideal S1024x2832 .f32) (r j : ℕ) : EReal :=
  ∑ k : Fin 1024, nrm (at2 h r) (at1 g) k.val * at2 w k.val j

theorem sum_lanes (a : ℕ → EReal) (f : ℕ → ℕ → EReal) (j : ℕ) :
    ∑ k : Fin 1024, a k.val * lanes (f k.val) j = lanes (fun j => ∑ k : Fin 1024, a k.val * f k.val j) j := by
  unfold lanes
  split_ifs <;> simp

/-- The recurrence's columns. -/
def pgla (h : Vec Ideal S4096x1024 .f32) (g : Vec Ideal S1024 .f32) (w : Vec Ideal S1024x2832 .f32) : Vec Ideal S4096x1408 .f32 :=
  fun i => lanes (col h g w (i 0).val) (i 1).val

/-- The convolution's columns. -/
def pconv (h : Vec Ideal S4096x1024 .f32) (g : Vec Ideal S1024 .f32) (w : Vec Ideal S1024x2832 .f32) : Vec Ideal S4096x512 .f32 :=
  fun i => col h g w (i 0).val (1168 + (i 1).val)

/-- The attention's columns. -/
def patt (h : Vec Ideal S4096x1024 .f32) (g : Vec Ideal S1024 .f32) (w : Vec Ideal S1024x2832 .f32) : Vec Ideal S4096x1152 .bf16 :=
  fun i => col h g w (i 0).val (1680 + (i 1).val)

theorem nrm_eq (c : Dev nD) (t : Fin cfg0.N) (r q : ℕ) (hr : r < 512) (hq : q < 1024) :
    nrm (at2 (iblk m c 0 t : Vec Ideal S512x1024 .f32) r) (at2 (iblk m c 4 t : Vec Ideal S1x1024 .f32) 0) q
      = nrm (at2 (m ((c : Thread nD τ).loc main_arg0) : Vec Ideal S4096x1024 .f32) (512 * t.val + r)) (at1 (m ((c : Thread nD τ).loc main_arg1) : Vec Ideal S1024 .f32)) q :=
  nrm_congr _ _ _ _ (fun k hk => blk_h m c t r k hr hk) (fun k hk => by rw [blk_g m c t k hk, at1, dif_pos hk]) q hq

theorem final_xn (c : Dev nD) : (dats m 0 c).arrAt 8 cfg0.N = xn (m ((c : Thread nD τ).loc main_arg0) : Vec Ideal S4096x1024 .f32) (m ((c : Thread nD τ).loc main_arg1) : Vec Ideal S1024 .f32) := by
  refine (dats m 0 c).arrAt_eq_of_covers 8 _ (by decide +kernel) fun t hf y => ?_
  obtain ⟨-, -, -, -, -, -, -, -, h⟩ := idx t
  rw [after0_8]
  have e := block8 (iblk m c 0 t) (iblk m c 1 t) (iblk m c 2 t) (iblk m c 3 t) (iblk m c 4 t) y
  generalize out0_8 (iblk m c 0 t) (iblk m c 1 t) (iblk m c 2 t) (iblk m c 3 t) (iblk m c 4 t) = f at e ⊢
  refine e.trans ?_
  rw [nrm_eq m c t _ _ (y 0).isLt (y 1).isLt]
  unfold xn
  blk_simp [h]
  rw [Nat.mul_comm t.val]

theorem final_gla (c : Dev nD) : (dats m 0 c).arrAt 5 cfg0.N = pgla (m ((c : Thread nD τ).loc main_arg0) : Vec Ideal S4096x1024 .f32) (m ((c : Thread nD τ).loc main_arg1) : Vec Ideal S1024 .f32) (m ((c : Thread nD τ).loc main_arg2) : Vec Ideal S1024x2832 .f32) := by
  refine (dats m 0 c).arrAt_eq_of_covers 5 _ (by decide +kernel) fun t hf y => ?_
  obtain ⟨-, -, -, -, -, h, -⟩ := idx t
  rw [after0_5]
  have e := block5 (iblk m c 0 t) (iblk m c 1 t) (iblk m c 2 t) (iblk m c 3 t) (iblk m c 4 t) y
  generalize out0_5 (iblk m c 0 t) (iblk m c 1 t) (iblk m c 2 t) (iblk m c 3 t) (iblk m c 4 t) = f at e ⊢
  refine e.trans ?_
  unfold pgla col
  refine Eq.trans ?_ (sum_lanes (nrm _ _) (fun k j => at2 (m ((c : Thread nD τ).loc main_arg2) : Vec Ideal S1024x2832 .f32) k j) _)
  refine Finset.sum_congr rfl fun k _ => ?_
  rw [nrm_eq m c t _ _ (y 0).isLt k.isLt, blk_gla m c t _ _ (y 1).isLt k.isLt]
  blk_simp [h]
  rw [Nat.mul_comm t.val]

theorem final_conv (c : Dev nD) : (dats m 0 c).arrAt 6 cfg0.N = pconv (m ((c : Thread nD τ).loc main_arg0) : Vec Ideal S4096x1024 .f32) (m ((c : Thread nD τ).loc main_arg1) : Vec Ideal S1024 .f32) (m ((c : Thread nD τ).loc main_arg2) : Vec Ideal S1024x2832 .f32) := by
  refine (dats m 0 c).arrAt_eq_of_covers 6 _ (by decide +kernel) fun t hf y => ?_
  obtain ⟨-, -, -, -, -, -, h, -⟩ := idx t
  rw [after0_6]
  have e := block6 (iblk m c 0 t) (iblk m c 1 t) (iblk m c 2 t) (iblk m c 3 t) (iblk m c 4 t) y
  generalize out0_6 (iblk m c 0 t) (iblk m c 1 t) (iblk m c 2 t) (iblk m c 3 t) (iblk m c 4 t) = f at e ⊢
  refine e.trans ?_
  unfold pconv col
  refine Finset.sum_congr rfl fun k _ => ?_
  rw [nrm_eq m c t _ _ (y 0).isLt k.isLt, blk_conv m c t _ _ (y 1).isLt k.isLt]
  blk_simp [h]
  rw [Nat.mul_comm t.val]

theorem final_att (c : Dev nD) : (dats m 0 c).arrAt 7 cfg0.N = patt (m ((c : Thread nD τ).loc main_arg0) : Vec Ideal S4096x1024 .f32) (m ((c : Thread nD τ).loc main_arg1) : Vec Ideal S1024 .f32) (m ((c : Thread nD τ).loc main_arg2) : Vec Ideal S1024x2832 .f32) := by
  refine (dats m 0 c).arrAt_eq_of_covers 7 _ (by decide +kernel) fun t hf y => ?_
  obtain ⟨-, -, -, -, -, -, -, h, -⟩ := idx t
  rw [after0_7]
  have e := block7 (iblk m c 0 t) (iblk m c 1 t) (iblk m c 2 t) (iblk m c 3 t) (iblk m c 4 t) y
  generalize out0_7 (iblk m c 0 t) (iblk m c 1 t) (iblk m c 2 t) (iblk m c 3 t) (iblk m c 4 t) = f at e ⊢
  refine e.trans ?_
  unfold patt col
  refine Finset.sum_congr rfl fun k _ => ?_
  rw [nrm_eq m c t _ _ (y 0).isLt k.isLt, blk_att m c t _ _ (y 1).isLt k.isLt]
  blk_simp [h]
  rw [Nat.mul_comm t.val]

end Cert.Kernel11Ideal.RefValue

end
-- ==== Proof.ProjClaims.lean ====
/- The claims about the input projection with the norm fused. -/
module

public import proofs.«01_k».proof.Defs
public import proofs.«01_k».proof.Proof.Gen.Kernel11.Frame
public import proofs.«01_k».proof.Proof.Gen.Kernel11Ideal.Frame
public import proofs.«01_k».proof.Proof.Gen.Reference11Ideal
public import proofs.«01_k».proof.Proof.Gen.Reference11Ideal.Run
public import proofs.«01_k».proof.Proof.ProjValue
public import Idealize.ShloMosaic.Adequacy
public import Idealize.ShloMosaic.Init

@[expose] public section

set_option maxRecDepth 16384

noncomputable section

namespace Cert.Proj

open Idealize.ShloMosaic Idealize.SL.Sem Cert.Coords

theorem frame_p : Cert.quiescent_Kernel11 := fun m ρ _ => Cert.Kernel11.Gen.frame m ρ

theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

open Cert.Kernel11Ideal.RefValue in
/-- One normalised element, as the reference writes it. -/
theorem nrm_row (a : Vec Ideal Kernel11Ideal.S4096x1024 .f32) (g : Vec Ideal Kernel11Ideal.S1024 .f32) (i : Fin 4096) (k : Fin 1024) :
    (a (ix2 i k) : EReal) * Ideal.rsqrt (Ideal.div (∑ x : Fin 1024, (a (ix2 i x) : EReal) * a (ix2 i x)) (Ideal.ofBits FTy.f32 1149239296#32) + Ideal.ofBits FTy.f32 897988541#32) * (g (ix1 k) : EReal)
      = nrm (at2 a i.val) (at1 g) k.val := by
  have e : ∀ x : Fin 1024, at2 a i.val x.val = a (ix2 i x) := fun x => (at2_ix (n := 4096) (k := 1024) a i x).symm
  unfold nrm at1
  simp only [e, dif_pos k.isLt]

open Cert.Kernel11Ideal.RefValue in
/-- One column of the product, as the reference writes it. -/
theorem col_eq (a : Vec Ideal Kernel11Ideal.S4096x1024 .f32) (g : Vec Ideal Kernel11Ideal.S1024 .f32) (w : Vec Ideal Kernel11Ideal.S1024x2832 .f32) (i : Fin 4096) (j : ℕ) (hj : j < 2832) :
    ∑ k : Fin 1024, (a (ix2 i k) : EReal) * Ideal.rsqrt (Ideal.div (∑ x : Fin 1024, (a (ix2 i x) : EReal) * a (ix2 i x)) (Ideal.ofBits FTy.f32 1149239296#32) + Ideal.ofBits FTy.f32 897988541#32) * (g (ix1 k) : EReal) * (w (ix2 k ⟨j, hj⟩) : EReal)
      = col a g w i.val j :=
  Finset.sum_congr rfl fun k _ => congrArg₂ (fun x y : EReal => x * y) (nrm_row a g i k) (at2_ix (n := 1024) (k := 2832) w k ⟨j, hj⟩)

open Cert.Kernel11Ideal.RefValue in
/-- The padded columns by the stretches of the reference. -/
theorem lanes_eq (f : ℕ → EReal) (j : ℕ) :
    lanes f j = if j < 192 then f (0 + j) else if j - 192 < 64 then 0 else if j - 192 - 64 < 192 then f (192 + (j - 192 - 64))
      else if j - 192 - 64 - 192 < 64 then 0 else if j - 192 - 64 - 192 - 64 < 784 then f (384 + (j - 192 - 64 - 192 - 64)) else 0 := by
  unfold lanes
  split_ifs <;> first | rfl | omega | (congr 1; omega)

theorem algebraic : Cert.algebraic_Kernel11Ideal_Reference11Ideal := by
  intro m ρ m' ρ' _ hagree
  refine ⟨_, _, _, _, Cert.Kernel11Ideal.Value.run_blocks (F := Ideal) m ρ, ?_⟩
  refine (θ_run Cert.Reference11Ideal.defs _ _).mono (fun _ h c => ⟨(h c).1.trans ?_, (h c).2.1.trans ?_, (h c).2.2.1.trans ?_, (h c).2.2.2.1.trans ?_, (h c).2.2.2.2⟩)
    (Cert.Reference11Ideal.Value.run (F := Ideal) m' ρ')
  · rw [Cert.Kernel11Ideal.RefValue.final_gla]
    obtain ⟨e0, e1, e2⟩ := hagree c
    funext i
    rw [e0, e1, e2]
    clear h
    idx_vars i
    pointwise
    refine Eq.trans ?_ (lanes_eq (Cert.Kernel11Ideal.RefValue.col (m (c.tc.loc Kernel11Ideal.main_arg0)) (m (c.tc.loc Kernel11Ideal.main_arg1)) (m (c.tc.loc Kernel11Ideal.main_arg2)) i0.val) i1.val).symm
    by_cases g1 : i1.val < 192
    · refine (dif_pos g1).trans (Eq.trans ?_ (if_pos g1).symm)
      refine (col_eq _ _ _ i0 i1.val (by omega)).trans (congrArg (Cert.Kernel11Ideal.RefValue.col _ _ _ i0.val) (Nat.zero_add _).symm)
    refine (dif_neg g1).trans (Eq.trans ?_ (if_neg g1).symm)
    by_cases g2 : i1.val - 192 < 64
    · exact (dif_pos g2).trans (if_pos g2).symm
    refine (dif_neg g2).trans (Eq.trans ?_ (if_neg g2).symm)
    by_cases g3 : i1.val - 192 - 64 < 192
    · refine (dif_pos g3).trans (Eq.trans ?_ (if_pos g3).symm)
      exact col_eq _ _ _ i0 (192 + (i1.val - 192 - 64)) (by omega)
    refine (dif_neg g3).trans (Eq.trans ?_ (if_neg g3).symm)
    by_cases g4 : i1.val - 192 - 64 - 192 < 64
    · exact (dif_pos g4).trans (if_pos g4).symm
    refine (dif_neg g4).trans (Eq.trans ?_ (if_neg g4).symm)
    by_cases g5 : i1.val - 192 - 64 - 192 - 64 < 784
    · refine (dif_pos g5).trans (Eq.trans ?_ (if_pos g5).symm)
      exact col_eq _ _ _ i0 (384 + (i1.val - 192 - 64 - 192 - 64)) (by omega)
    exact (dif_neg g5).trans (if_neg g5).symm
  · rw [Cert.Kernel11Ideal.RefValue.final_conv]
    obtain ⟨e0, e1, e2⟩ := hagree c
    funext i
    rw [e0, e1, e2]
    clear h
    idx_vars i
    pointwise
    exact col_eq _ _ _ i0 (1168 + i1.val) (by omega)
  · rw [Cert.Kernel11Ideal.RefValue.final_att]
    obtain ⟨e0, e1, e2⟩ := hagree c
    funext i
    rw [e0, e1, e2]
    clear h
    idx_vars i
    pointwise
    exact col_eq _ _ _ i0 (1680 + i1.val) (by omega)
  · rw [Cert.Kernel11Ideal.RefValue.final_xn]
    obtain ⟨e0, e1, e2⟩ := hagree c
    funext i
    rw [e0, e1]
    clear h
    idx_vars i
    pointwise
    exact nrm_row _ _ i0 i1

end Cert.Proj

end
-- ==== Proof.NormBack.lean ====
module

public import Idealize.ShloMosaic.PureOps.Ideal
public import Idealize.ShloMosaic.Lib.Pipeline.ValueKit
public import Idealize.ShloMosaic.Lib.IdealHost

@[expose] public section

set_option maxRecDepth 16384

noncomputable section

/-! The gradient of a root-mean-square norm over the extended reals. The derivative of `1/√s` is written `-1/2 · (1/√s)/s`
    by differentiation and `(1/√s)³` by hand; the two agree for every row, also one that holds an infinity. -/

namespace Cert.NormBack

open Idealize.ShloMosaic

/-- The single-precision word of 1024. -/
theorem f1024 : Ideal.ofBits .f32 1149239296#32 = ((1024 : ℝ) : EReal) := by
  simp [Ideal.ofBits, Ideal.ieee, -EReal.coe_mul]
  norm_num

/-- The single-precision word of minus one half. -/
theorem fneg : Ideal.ofBits .f32 3204448256#32 = ((-(1 / 2) : ℝ) : EReal) := by
  simp [Ideal.ofBits, Ideal.ieee, -EReal.coe_mul]
  norm_num

/-- The number added under the root is positive. -/
theorem feps : ∃ e : ℝ, 0 < e ∧ Ideal.ofBits .f32 897988541#32 = (e : EReal) := by
  refine ⟨8796093 / 8796093022208, by norm_num, ?_⟩
  simp [Ideal.ofBits, Ideal.ieee, -EReal.coe_mul]
  norm_num

/-- The mean of a row's squares, and a little more. -/
def ms (x : ℕ → EReal) : EReal :=
  Ideal.div (∑ k : Fin 1024, x k.val * x k.val) (Ideal.ofBits .f32 1149239296#32) + Ideal.ofBits .f32 897988541#32

/-- One over the root of it. -/
def rr (x : ℕ → EReal) : EReal := Ideal.rsqrt (ms x)

theorem div1024 (a : EReal) : Ideal.div a (Ideal.ofBits .f32 1149239296#32) = a * (((1024 : ℝ)⁻¹ : ℝ) : EReal) := by
  rw [f1024]
  unfold Ideal.div
  rw [if_neg (by norm_num), EReal.coe_inv]

theorem sq_nonneg (x : EReal) : 0 ≤ x * x := by
  induction x with
  | bot => simp
  | top => simp
  | coe a => rw [← EReal.coe_mul]; exact EReal.coe_nonneg.mpr (mul_self_nonneg a)

/-- A row either makes the mean infinite, or holds real numbers only and a positive mean. -/
theorem ms_cases (x : ℕ → EReal) :
    ms x = ⊤ ∨ ∃ s : ℝ, 0 < s ∧ ms x = (s : EReal) ∧ ∀ q, q < 1024 → ∃ a : ℝ, x q = (a : EReal) := by
  obtain ⟨e, he, hE⟩ := feps
  have hS : 0 ≤ ∑ k : Fin 1024, x k.val * x k.val := Finset.sum_nonneg fun k _ => sq_nonneg _
  have hle : ∀ q, q < 1024 → x q * x q ≤ ∑ k : Fin 1024, x k.val * x k.val := fun q hq =>
    Finset.single_le_sum (f := fun k : Fin 1024 => x k.val * x k.val) (fun k _ => sq_nonneg _) (Finset.mem_univ (⟨q, hq⟩ : Fin 1024))
  unfold ms
  rw [div1024, hE]
  generalize (∑ k : Fin 1024, x k.val * x k.val) = S at hS hle
  induction S with
  | bot => simp at hS
  | top =>
    left
    rw [EReal.top_mul_coe_of_pos (by norm_num)]
    exact EReal.top_add_coe e
  | coe a =>
    right
    have ha : 0 ≤ a := EReal.coe_nonneg.mp hS
    refine ⟨a * (1024 : ℝ)⁻¹ + e, by positivity, by rw [EReal.coe_add, EReal.coe_mul], fun q hq => ?_⟩
    have h := hle q hq
    generalize x q = z at h
    induction z with
    | bot => simp at h
    | top => simp at h
    | coe b => exact ⟨b, rfl⟩

/-- Twice the half of a product. -/
theorem halves (S : EReal) (w : ℝ) : S * (w : EReal) + S * (w : EReal) = S * ((w + w : ℝ) : EReal) := by
  rcases lt_trichotomy w 0 with h | h | h
  · induction S with
    | bot => rw [EReal.bot_mul_coe_of_neg h, EReal.bot_mul_coe_of_neg (by linarith)]; rfl
    | top => rw [EReal.top_mul_coe_of_neg h, EReal.top_mul_coe_of_neg (by linarith)]; rfl
    | coe a => rw [← EReal.coe_mul, ← EReal.coe_mul, ← EReal.coe_add, mul_add]
  · subst h
    simp
  · induction S with
    | bot => rw [EReal.bot_mul_coe_of_pos h, EReal.bot_mul_coe_of_pos (by linarith)]; rfl
    | top => rw [EReal.top_mul_coe_of_pos h, EReal.top_mul_coe_of_pos (by linarith)]; rfl
    | coe a => rw [← EReal.coe_mul, ← EReal.coe_mul, ← EReal.coe_add, mul_add]

theorem neg_coe_mul (S : EReal) (w : ℝ) : -(S * (w : EReal)) = S * ((-w : ℝ) : EReal) := by
  rw [EReal.coe_neg, mul_neg]

/-- The part of the gradient that goes through the mean: twice what differentiation writes is what the kernel subtracts. -/
theorem mean_part (x : ℕ → EReal) (q : ℕ) (hq : q < 1024) (S : EReal) :
    x q * Ideal.div (S * (Ideal.ofBits .f32 3204448256#32 * Ideal.div (rr x) (ms x))) (Ideal.ofBits .f32 1149239296#32)
        + Ideal.div (S * (Ideal.ofBits .f32 3204448256#32 * Ideal.div (rr x) (ms x))) (Ideal.ofBits .f32 1149239296#32) * x q
      = -(x q * ((rr x * rr x * rr x) * Ideal.div S (Ideal.ofBits .f32 1149239296#32))) := by
  rw [div1024, div1024, fneg]
  unfold rr
  rcases ms_cases x with h | ⟨s, hs, h, hx⟩
  · rw [h]
    have h0 : Ideal.div (Ideal.rsqrt ⊤) ⊤ = 0 := by
      rw [Ideal.rsqrt_top]
      unfold Ideal.div
      rw [if_neg (by simp), zero_mul]
    rw [h0, Ideal.rsqrt_top]
    simp
  · obtain ⟨a, ha⟩ := hx q hq
    rw [h, ha, Ideal.rsqrt_coe, if_neg (by linarith), if_neg (by linarith)]
    have hd : Ideal.div (((Real.sqrt s)⁻¹ : ℝ) : EReal) (s : EReal) = (((Real.sqrt s)⁻¹ * s⁻¹ : ℝ) : EReal) := by
      unfold Ideal.div
      rw [if_neg (by exact_mod_cast hs.ne'), EReal.coe_mul, EReal.coe_inv s]
    rw [hd]
    have hr : (Real.sqrt s)⁻¹ * (Real.sqrt s)⁻¹ = s⁻¹ := by
      rw [← mul_inv, Real.mul_self_sqrt hs.le]
    generalize (Real.sqrt s)⁻¹ = r at hr
    rw [show (a : EReal) * (S * (((-(1 / 2) : ℝ) : EReal) * ((r * s⁻¹ : ℝ) : EReal)) * (((1024 : ℝ)⁻¹ : ℝ) : EReal))
        = S * ((a * (-(1 / 2) * (r * s⁻¹)) * (1024 : ℝ)⁻¹ : ℝ) : EReal) by
      simp only [EReal.coe_mul]; ac_rfl]
    rw [show (S * (((-(1 / 2) : ℝ) : EReal) * ((r * s⁻¹ : ℝ) : EReal)) * (((1024 : ℝ)⁻¹ : ℝ) : EReal)) * (a : EReal)
        = S * ((a * (-(1 / 2) * (r * s⁻¹)) * (1024 : ℝ)⁻¹ : ℝ) : EReal) by
      simp only [EReal.coe_mul]; ac_rfl]
    rw [show (a : EReal) * (((r : ℝ) : EReal) * ((r : ℝ) : EReal) * ((r : ℝ) : EReal) * (S * (((1024 : ℝ)⁻¹ : ℝ) : EReal)))
        = S * ((a * (r * r * r) * (1024 : ℝ)⁻¹ : ℝ) : EReal) by
      simp only [EReal.coe_mul]; ac_rfl]
    rw [halves, neg_coe_mul]
    congr 2
    rw [hr]
    ring

/-- The gradient of a row's entry, with the gradient `d` that goes past the norm: differentiation's against the kernel's. -/
theorem grad_eq (x : ℕ → EReal) (q : ℕ) (hq : q < 1024) (d p S : EReal) :
    (d + p * rr x
          + x q * Ideal.div (S * (Ideal.ofBits .f32 3204448256#32 * Ideal.div (rr x) (ms x))) (Ideal.ofBits .f32 1149239296#32))
        + Ideal.div (S * (Ideal.ofBits .f32 3204448256#32 * Ideal.div (rr x) (ms x))) (Ideal.ofBits .f32 1149239296#32) * x q
      = (d + rr x * p) - x q * ((rr x * rr x * rr x) * Ideal.div S (Ideal.ofBits .f32 1149239296#32)) := by
  rw [add_assoc, mean_part x q hq S, mul_comm p, ← sub_eq_add_neg]

/-- A row's gradient as the kernel writes it: `x` the row, `a` the gradient of the normalised row times the gain, `g` the
    gain, `d` the gradient that goes past the norm. -/
def dh (x a g d : ℕ → EReal) (q : ℕ) : EReal :=
  (d q + rr x * (a q * g q))
    - x q * ((rr x * rr x * rr x) * Ideal.div (∑ k : Fin 1024, x k.val * (a k.val * g k.val)) (Ideal.ofBits .f32 1149239296#32))

/-- A row's part of the gain's gradient. -/
def dg (x a : ℕ → EReal) (q : ℕ) : EReal := a q * x q * rr x

/-- A vector read at a number, zero where there is none. -/
def at1 {n : ℕ} (g : (⟨1, ![n]⟩ : Shape).Idx → EReal) (q : ℕ) : EReal := if h : q < n then g (ix1 ⟨q, h⟩) else 0

theorem at1_ix {n : ℕ} (g : (⟨1, ![n]⟩ : Shape).Idx → EReal) (a : Fin n) : g (ix1 a) = at1 g a.val := by
  unfold at1
  rw [dif_pos a.isLt]

/-- A row's gradient as differentiation writes it. -/
def dhRef (x a g d : ℕ → EReal) (q : ℕ) : EReal :=
  (d q + a q * g q * rr x
        + x q * ∑ _i : Fin 1, Ideal.div ((∑ k : Fin 1024, x k.val * (a k.val * g k.val))
            * (Ideal.ofBits .f32 3204448256#32 * Ideal.div (rr x) (ms x))) (Ideal.ofBits .f32 1149239296#32))
      + (∑ _i : Fin 1, Ideal.div ((∑ k : Fin 1024, x k.val * (a k.val * g k.val))
            * (Ideal.ofBits .f32 3204448256#32 * Ideal.div (rr x) (ms x))) (Ideal.ofBits .f32 1149239296#32)) * x q

theorem dhRef_eq (x a g d : ℕ → EReal) (q : ℕ) (hq : q < 1024) : dhRef x a g d q = dh x a g d q := by
  unfold dhRef dh
  rw [Fin.sum_univ_one]
  exact grad_eq x q hq _ _ _

/-- A row's gradient as differentiation writes it, where nothing goes past the norm. -/
def dhRef0 (x a g : ℕ → EReal) (q : ℕ) : EReal :=
  (a q * g q * rr x
        + x q * ∑ _i : Fin 1, Ideal.div ((∑ k : Fin 1024, x k.val * (a k.val * g k.val))
            * (Ideal.ofBits .f32 3204448256#32 * Ideal.div (rr x) (ms x))) (Ideal.ofBits .f32 1149239296#32))
      + (∑ _i : Fin 1, Ideal.div ((∑ k : Fin 1024, x k.val * (a k.val * g k.val))
            * (Ideal.ofBits .f32 3204448256#32 * Ideal.div (rr x) (ms x))) (Ideal.ofBits .f32 1149239296#32)) * x q

/-- The same as the kernel writes it. -/
def dh0 (x a g : ℕ → EReal) (q : ℕ) : EReal :=
  rr x * (a q * g q)
    - x q * ((rr x * rr x * rr x) * Ideal.div (∑ k : Fin 1024, x k.val * (a k.val * g k.val)) (Ideal.ofBits .f32 1149239296#32))

theorem dhRef0_eq (x a g : ℕ → EReal) (q : ℕ) (hq : q < 1024) : dhRef0 x a g q = dh0 x a g q := by
  have h := grad_eq x q hq 0 (a q * g q) (∑ k : Fin 1024, x k.val * (a k.val * g k.val))
  rw [zero_add, zero_add] at h
  unfold dhRef0 dh0
  rw [Fin.sum_univ_one]
  exact h

/-- The single-precision words of one half, of two and of a 1024th. -/
theorem fhalf : Ideal.ofBits .f32 1056964608#32 = ((1 / 2 : ℝ) : EReal) := by
  simp [Ideal.ofBits, Ideal.ieee, -EReal.coe_mul]
  norm_num

theorem ftwo : Ideal.ofBits .f32 1073741824#32 = ((2 : ℝ) : EReal) := by
  simp [Ideal.ofBits, Ideal.ieee, -EReal.coe_mul]
  norm_num

theorem finv : Ideal.ofBits .f32 981467136#32 = ((1024⁻¹ : ℝ) : EReal) := by
  simp [Ideal.ofBits, Ideal.ieee, -EReal.coe_mul]
  norm_num

/-- The gradient of half the mean square, as differentiation writes it and as the kernel does. -/
theorem scale_eq (e : EReal) :
    Ideal.div (Ideal.ofBits .f32 1056964608#32) (Ideal.ofBits .f32 1149239296#32) * (Ideal.ofBits .f32 1073741824#32 * e)
      = e * Ideal.ofBits .f32 981467136#32 := by
  rw [div1024, fhalf, ftwo, finv, ← EReal.coe_mul, ← mul_assoc, ← EReal.coe_mul, mul_comm e]
  congr 2
  norm_num

/-- One half of a sum, taken piece by piece. -/
theorem half_sum (n : ℕ) (f : ℕ → EReal) :
    ∑ s ∈ Finset.range n, Ideal.ofBits .f32 1056964608#32 * f s = Ideal.ofBits .f32 1056964608#32 * ∑ s ∈ Finset.range n, f s := by
  rw [fhalf]
  induction n with
  | zero => simp
  | succ n ih =>
    rw [Finset.sum_range_succ, Finset.sum_range_succ, ih,
      EReal.left_distrib_of_nonneg_of_ne_top (EReal.coe_nonneg.mpr (by norm_num)) (EReal.coe_ne_top _)]

theorem ms_congr (x x' : ℕ → EReal) (hx : ∀ k < 1024, x k = x' k) : ms x = ms x' := by
  unfold ms
  rw [Finset.sum_congr rfl fun (k : Fin 1024) _ => show x k.val * x k.val = x' k.val * x' k.val by rw [hx k.val k.isLt]]

theorem dh_congr (x x' a a' g g' d d' : ℕ → EReal) (hx : ∀ k < 1024, x k = x' k) (ha : ∀ k < 1024, a k = a' k)
    (hg : ∀ k < 1024, g k = g' k) (hd : ∀ k < 1024, d k = d' k) (q : ℕ) (hq : q < 1024) : dh x a g d q = dh x' a' g' d' q := by
  unfold dh rr
  rw [ms_congr x x' hx, hx q hq, ha q hq, hg q hq, hd q hq,
    Finset.sum_congr rfl fun (k : Fin 1024) _ => show x k.val * (a k.val * g k.val) = x' k.val * (a' k.val * g' k.val) by
      rw [hx k.val k.isLt, ha k.val k.isLt, hg k.val k.isLt]]

theorem dh0_congr (x x' a a' g g' : ℕ → EReal) (hx : ∀ k < 1024, x k = x' k) (ha : ∀ k < 1024, a k = a' k)
    (hg : ∀ k < 1024, g k = g' k) (q : ℕ) (hq : q < 1024) : dh0 x a g q = dh0 x' a' g' q := by
  unfold dh0 rr
  rw [ms_congr x x' hx, hx q hq, ha q hq, hg q hq,
    Finset.sum_congr rfl fun (k : Fin 1024) _ => show x k.val * (a k.val * g k.val) = x' k.val * (a' k.val * g' k.val) by
      rw [hx k.val k.isLt, ha k.val k.isLt, hg k.val k.isLt]]

theorem dg_congr (x x' a a' : ℕ → EReal) (hx : ∀ k < 1024, x k = x' k) (ha : ∀ k < 1024, a k = a' k) (q : ℕ) (hq : q < 1024) :
    dg x a q = dg x' a' q := by
  unfold dg rr
  rw [ms_congr x x' hx, hx q hq, ha q hq]

end Cert.NormBack

end
-- ==== Proof.UpDxValue.lean ====
/- The gradient through the first layer of the feed-forward block and its norm, element by element. -/
module

public import proofs.«01_k».proof.Proof.Gen.Kernel12Ideal.Value
public import proofs.«01_k».proof.Proof.Coords
public import proofs.«01_k».proof.Proof.NormBack
public import Idealize.ShloMosaic.Lib.Pipeline.ReadBack

@[expose] public section

set_option maxRecDepth 16384

noncomputable section

namespace Cert.Kernel12Ideal.RefValue

open Cert.Kernel12Ideal Cert.Kernel12Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val / 4, t.val % 4] ∧ win0_1.index t = ![t.val % 4, 0, 0] ∧ win0_2.index t = ![t.val / 4, 0] ∧ win0_3.index t = ![0, 0] ∧ win0_4.index t = ![t.val / 4, 0] ∧ win0_5.index t = ![t.val / 4, 0] ∧ win0_6.index t = ![0, 0] :=
  (by decide +kernel : ∀ t : Fin grid0.N, win0_0.index t = ![t.val / 4, t.val % 4] ∧ win0_1.index t = ![t.val % 4, 0, 0] ∧ win0_2.index t = ![t.val / 4, 0] ∧ win0_3.index t = ![0, 0] ∧ win0_4.index t = ![t.val / 4, 0] ∧ win0_5.index t = ![t.val / 4, 0] ∧ win0_6.index t = ![0, 0]) t

/-- One stretch of the contraction. -/
def termB (x0 : Vec Ideal S1024x1024 .bf16) (x1 : Vec Ideal S1x1024x1024 .bf16) (r q : ℕ) : EReal :=
  ∑ k : Fin 1024, at2 x0 r k.val * at3 x1 0 q k.val

theorem pay3_apply (x0 : Vec Ideal S1024x1024 .bf16) (x1 : Vec Ideal S1x1024x1024 .bf16) (y : S1024x1024.Idx) :
    k0_pay3 x0 x1 y = termB x0 x1 (y 0).val (y 1).val := by
  idx_vars y
  open_payloads
  pointwise
  unfold termB
  simp only [at2_ix, at3_ix]
  rfl

theorem pay4_apply (x0 : Vec Ideal S1024x1024 .bf16) (x1 : Vec Ideal S1x1024x1024 .bf16) (a : Vec Ideal S1024x1024 .f32) (y : S1024x1024.Idx) :
    k0_pay4 x0 x1 a y = a y + termB x0 x1 (y 0).val (y 1).val := by
  idx_vars y
  open_payloads
  pointwise
  unfold termB
  simp only [at2_ix, at3_ix]
  rfl

theorem pay7_apply (a x : Vec Ideal S1024x1024 .f32) (g : Vec Ideal S1x1024 .f32) (d : Vec Ideal S1024x1024 .f32) (y : S1024x1024.Idx) :
    k0_pay7 a x g d y = NormBack.dh (at2 x (y 0).val) (at2 a (y 0).val) (at2 g 0) (at2 d (y 0).val) (y 1).val := by
  idx_vars y
  open_payloads
  pointwise
  unfold NormBack.dh NormBack.rr NormBack.ms
  simp only [at2_ix]
  rfl

theorem pay5_apply (a x : Vec Ideal S1024x1024 .f32) (b : Vec Ideal S1x1024 .f32) (y : S1x1024.Idx) :
    k0_pay5 (k0_pay8 a x b) y = b y + ∑ r : Fin 1024, NormBack.dg (at2 x r.val) (at2 a r.val) (y 1).val := by
  idx_vars y
  open_payloads
  pointwise
  unfold NormBack.dg NormBack.rr NormBack.ms
  simp only [at2_ix]

theorem pay1_apply (y : S1x1024.Idx) : k0_pay1 (F := Ideal) y = 0 := by
  idx_vars y
  open_payloads
  pointwise

theorem blk_d (c : Dev nD) (t : Fin cfg0.N) (r q : ℕ) (hr : r < 1024) (hq : q < 1024) :
    at2 (iblk m c 0 t : Vec Ideal S1024x1024 .bf16) r q = at2 (m ((c : Thread nD τ).loc main_arg0) : Vec Ideal S4096x4096 .bf16) (1024 * (t.val / 4) + r) (1024 * (t.val % 4) + q) := by
  obtain ⟨h, -⟩ := idx t
  have ht : t.val < 16 := t.isLt
  unfold at2
  rw [dif_pos ⟨hr, hq⟩, dif_pos ⟨by omega, by omega⟩]
  blk_ext [iblk, V, h]

theorem blk_h (c : Dev nD) (t : Fin cfg0.N) (r q : ℕ) (hr : r < 1024) (hq : q < 1024) :
    at2 (iblk m c 2 t : Vec Ideal S1024x1024 .f32) r q = at2 (m ((c : Thread nD τ).loc main_arg2) : Vec Ideal S4096x1024 .f32) (1024 * (t.val / 4) + r) q := by
  obtain ⟨-, -, h, -⟩ := idx t
  have ht : t.val < 16 := t.isLt
  unfold at2
  rw [dif_pos ⟨hr, hq⟩, dif_pos ⟨by omega, by omega⟩]
  blk_ext [iblk, V, h]

theorem blk_r (c : Dev nD) (t : Fin cfg0.N) (r q : ℕ) (hr : r < 1024) (hq : q < 1024) :
    at2 (iblk m c 4 t : Vec Ideal S1024x1024 .f32) r q = at2 (m ((c : Thread nD τ).loc main_arg4) : Vec Ideal S4096x1024 .f32) (1024 * (t.val / 4) + r) q := by
  obtain ⟨-, -, -, -, h, -⟩ := idx t
  have ht : t.val < 16 := t.isLt
  unfold at2
  rw [dif_pos ⟨hr, hq⟩, dif_pos ⟨by omega, by omega⟩]
  blk_ext [iblk, V, h]

/-- The gain the region finds. -/
theorem V_g (c : Dev nD) : V m c main_v3 = fun i => (m ((c : Thread nD τ).loc main_arg3) : Vec Ideal S1024 .f32) (ix1 (i 1)) := by
  unfold V
  simp only [hostOps0, List.flatten_cons, List.flatten_nil, List.append_nil, List.cons_append, List.nil_append]
  after_results
  funext i
  idx_vars i
  pointwise

/-- The weights the region finds: the argument rounded, which changes nothing over the extended reals, a quarter of the columns at a time. -/
theorem V_w (c : Dev nD) : V m c main_v2 = fun i => at2 (m ((c : Thread nD τ).loc main_arg1) : Vec Ideal S1024x4096 .f32) (i 1).val (1024 * (i 0).val + (i 2).val) := by
  unfold V
  simp only [hostOps0, List.flatten_cons, List.flatten_nil, List.append_nil, List.cons_append, List.nil_append]
  after_results
  funext i
  idx_vars i
  pointwise
  refine (at2_ix (n := 1024) (k := 4096) _ i1 ⟨i0.val * 1024 + i2.val, by omega⟩).trans ?_
  rw [Nat.mul_comm 1024]

theorem blk_g (c : Dev nD) (t : Fin cfg0.N) (q : ℕ) (hq : q < 1024) :
    at2 (iblk m c 3 t : Vec Ideal S1x1024 .f32) 0 q = (m ((c : Thread nD τ).loc main_arg3) : Vec Ideal S1024 .f32) (ix1 ⟨q, hq⟩) := by
  obtain ⟨-, -, -, h, -⟩ := idx t
  unfold at2
  rw [dif_pos ⟨by omega, hq⟩]
  blk_simp [iblk, h]
  rw [show V m c main_v3 = _ from V_g m c]
  have he : (win0_3.blk t).view.emb (ix2 (0 : Fin 1) (⟨q, hq⟩ : Fin 1024)) 1 = (⟨q, hq⟩ : Fin 1024) := by
    ext
    blk_simp [h]
  exact congrArg (fun k : Fin 1024 => (m ((c : Thread nD τ).loc main_arg3) : Vec Ideal S1024 .f32) (ix1 k)) he

theorem blk_w (c : Dev nD) (t : Fin cfg0.N) (r q : ℕ) (hr : r < 1024) (hq : q < 1024) :
    at3 (iblk m c 1 t : Vec Ideal S1x1024x1024 .bf16) 0 r q = at2 (m ((c : Thread nD τ).loc main_arg1) : Vec Ideal S1024x4096 .f32) r (1024 * (t.val % 4) + q) := by
  obtain ⟨-, h, -⟩ := idx t
  unfold at3
  rw [dif_pos ⟨by omega, hr, hq⟩]
  blk_simp [iblk, h]
  rw [show V m c main_v2 = _ from V_w m c]
  blk_simp [h]
  simp [Nat.mul_comm]

/-- The gradient of the normalised row times the gain. -/
def dy (d : Vec Ideal S4096x4096 .bf16) (w : Vec Ideal S1024x4096 .f32) (r q : ℕ) : EReal := ∑ k : Fin 4096, at2 d r k.val * at2 w q k.val

/-- What grid point `n` adds, from the whole arrays. -/
def term (d : Vec Ideal S4096x4096 .bf16) (w : Vec Ideal S1024x4096 .f32) (n : ℕ) (i : S1024x1024.Idx) : EReal :=
  ∑ k : Fin 1024, at2 d (1024 * (n / 4) + (i 0).val) (1024 * (n % 4) + k.val) * at2 w (i 1).val (1024 * (n % 4) + k.val)

theorem term_eq (c : Dev nD) (t : Fin cfg0.N) (y : S1024x1024.Idx) :
    termB (iblk m c 0 t) (iblk m c 1 t) (y 0).val (y 1).val = term (m ((c : Thread nD τ).loc main_arg0) : Vec Ideal S4096x4096 .bf16) (m ((c : Thread nD τ).loc main_arg1) : Vec Ideal S1024x4096 .f32) t.val y := by
  have h0 : (y 0).val < 1024 := (y 0).isLt
  have h1 : (y 1).val < 1024 := (y 1).isLt
  unfold termB term
  refine Finset.sum_congr rfl fun k _ => ?_
  rw [blk_d m c t _ _ h0 k.isLt, blk_w m c t _ _ h1 k.isLt]

theorem acc_eq (c : Dev nD) (t : Fin cfg0.N) (y : S1024x1024.Idx) :
    (outsAt0 m c t.val t.isLt).2.2 y = 0 + ∑ s ∈ Finset.range (t.val % 4 + 1), term (m ((c : Thread nD τ).loc main_arg0) : Vec Ideal S4096x4096 .bf16) (m ((c : Thread nD τ).loc main_arg1) : Vec Ideal S1024x4096 .f32) (4 * (t.val / 4) + s) y := by
  refine Pipeline.eq_sum_of_reset_step_apply (fun n h => (outsAt0 m c n h).2.2) 4 (fun _ => (0 : EReal))
    (fun n i => term (m ((c : Thread nD τ).loc main_arg0) : Vec Ideal S4096x4096 .bf16) (m ((c : Thread nD τ).loc main_arg1) : Vec Ideal S1024x4096 .f32) n i) (fun t h i => ?_) (fun t h i => ?_) t y
  · rw [zero_add, ← term_eq]
    by_cases h16 : t.val % 16 = 0
    · rw [outsAt0_A m c t h16 h (by omega) (by omega)]
      frame_out
      exact pay3_apply _ _ i
    · rw [outsAt0_D m c t h16 h (by omega) (by omega)]
      frame_out
      exact pay3_apply _ _ i
  · rw [← term_eq]
    by_cases h3 : t.val % 4 = 3
    · rw [outsAt0_C m c t (by omega) h (by omega) h3]
      frame_out
      simp only [read_unread_whole]
      exact pay4_apply _ _ _ i
    · rw [outsAt0_B m c t (by omega) h (by omega) h3]
      frame_out
      simp only [read_unread_whole]
      exact pay4_apply _ _ _ i

theorem acc_full (c : Dev nD) (t : Fin cfg0.N) (h : t.val % 4 = 3) (r q : ℕ) (hr : r < 1024) (hq : q < 1024) :
    at2 ((outsAt0 m c t.val t.isLt).2.2 : Vec Ideal S1024x1024 .f32) r q = dy (m ((c : Thread nD τ).loc main_arg0) : Vec Ideal S4096x4096 .bf16) (m ((c : Thread nD τ).loc main_arg1) : Vec Ideal S1024x4096 .f32) (1024 * (t.val / 4) + r) q := by
  refine Eq.trans (by unfold at2; rw [dif_pos ⟨hr, hq⟩]) ((acc_eq m c t (ix2 ⟨r, hr⟩ ⟨q, hq⟩)).trans ?_)
  rw [h, zero_add]
  refine Eq.trans (Finset.sum_congr rfl fun s hs => ?_) (sum_split (J := 4) 1024 4096 rfl (fun n => at2 (m ((c : Thread nD τ).loc main_arg0) : Vec Ideal S4096x4096 .bf16) (1024 * (t.val / 4) + r) n * at2 (m ((c : Thread nD τ).loc main_arg1) : Vec Ideal S1024x4096 .f32) q n))
  have hs' := Finset.mem_range.mp hs
  unfold term
  rw [show (4 * (t.val / 4) + s) % 4 = s by omega, show (4 * (t.val / 4) + s) / 4 = t.val / 4 by omega]
  rfl

theorem out5_eq (c : Dev nD) (t : Fin cfg0.N) (h : t.val % 4 = 3) (y : S1024x1024.Idx) :
    (outsAt0 m c t.val t.isLt).1 y = k0_pay7 ((outsAt0 m c t.val t.isLt).2.2 : Vec Ideal S1024x1024 .f32) (iblk m c 2 t) (iblk m c 3 t) (iblk m c 4 t) y := by
  rw [outsAt0_C m c t (by omega) (by omega) (by omega) h]
  frame_out

theorem out6_eq (c : Dev nD) (t : Fin cfg0.N) (h : t.val % 4 = 3) (y : S1x1024.Idx) :
    (outsAt0 m c t.val t.isLt).2.1 y = k0_pay5 (k0_pay8 ((outsAt0 m c t.val t.isLt).2.2 : Vec Ideal S1024x1024 .f32) (iblk m c 2 t) ((outsAt0 m c (t.val - 1) (by omega)).2.1 : Vec Ideal S1x1024 .f32)) y := by
  rw [outsAt0_C m c t (by omega) (by omega) (by omega) h]
  frame_out

theorem block5 (c : Dev nD) (t : Fin cfg0.N) (h : t.val % 4 = 3) (y : S1024x1024.Idx) :
    (outsAt0 m c t.val t.isLt).1 y
      = NormBack.dh (at2 (m ((c : Thread nD τ).loc main_arg2) : Vec Ideal S4096x1024 .f32) (1024 * (t.val / 4) + (y 0).val)) (dy (m ((c : Thread nD τ).loc main_arg0) : Vec Ideal S4096x4096 .bf16) (m ((c : Thread nD τ).loc main_arg1) : Vec Ideal S1024x4096 .f32) (1024 * (t.val / 4) + (y 0).val)) (NormBack.at1 (m ((c : Thread nD τ).loc main_arg3) : Vec Ideal S1024 .f32)) (at2 (m ((c : Thread nD τ).loc main_arg4) : Vec Ideal S4096x1024 .f32) (1024 * (t.val / 4) + (y 0).val)) (y 1).val := by
  have h0 : (y 0).val < 1024 := (y 0).isLt
  refine (out5_eq m c t h y).trans ((pay7_apply _ _ _ _ y).trans ?_)
  exact NormBack.dh_congr _ _ _ _ _ _ _ _ (fun k hk => blk_h m c t _ _ h0 hk) (fun k hk => acc_full m c t h _ _ h0 hk)
    (fun k hk => (blk_g m c t k hk).trans (by rw [NormBack.at1, dif_pos hk])) (fun k hk => blk_r m c t _ _ h0 hk) _ (y 1).isLt

/-- What grid point `n` adds to the gain's gradient: the rows of its block once the block's sum is complete. -/
def gterm (d : Vec Ideal S4096x4096 .bf16) (w : Vec Ideal S1024x4096 .f32) (h : Vec Ideal S4096x1024 .f32) (n : ℕ) (i : S1x1024.Idx) : EReal :=
  if n % 4 = 3 then ∑ r : Fin 1024, NormBack.dg (at2 h (1024 * (n / 4) + r.val)) (dy d w (1024 * (n / 4) + r.val)) (i 1).val else 0

theorem gacc_eq (c : Dev nD) (t : Fin cfg0.N) (y : S1x1024.Idx) :
    (outsAt0 m c t.val t.isLt).2.1 y = 0 + ∑ s ∈ Finset.range (t.val % 16 + 1), gterm (m ((c : Thread nD τ).loc main_arg0) : Vec Ideal S4096x4096 .bf16) (m ((c : Thread nD τ).loc main_arg1) : Vec Ideal S1024x4096 .f32) (m ((c : Thread nD τ).loc main_arg2) : Vec Ideal S4096x1024 .f32) (16 * (t.val / 16) + s) y := by
  refine Pipeline.eq_sum_of_reset_step_apply (fun n h => (outsAt0 m c n h).2.1) 16 (fun _ => (0 : EReal))
    (fun n i => gterm (m ((c : Thread nD τ).loc main_arg0) : Vec Ideal S4096x4096 .bf16) (m ((c : Thread nD τ).loc main_arg1) : Vec Ideal S1024x4096 .f32) (m ((c : Thread nD τ).loc main_arg2) : Vec Ideal S4096x1024 .f32) n i) (fun t h i => ?_) (fun t h i => ?_) t y
  · unfold gterm
    rw [if_neg (by omega), zero_add, outsAt0_A m c t h (by omega) (by omega) (by omega)]
    frame_out
    exact pay1_apply i
  · by_cases h3 : t.val % 4 = 3
    · unfold gterm
      rw [if_pos h3]
      refine (out6_eq m c t h3 i).trans ((pay5_apply _ _ _ i).trans (congrArg (fun b : EReal => _ + b) ?_))
      exact Finset.sum_congr rfl fun r _ => NormBack.dg_congr _ _ _ _ (fun k hk => blk_h m c t _ _ r.isLt hk)
        (fun k hk => acc_full m c t h3 _ _ r.isLt hk) _ (i 1).isLt
    · unfold gterm
      rw [if_neg h3, add_zero]
      by_cases h4 : t.val % 4 = 0
      · rw [outsAt0_D m c t h h4 (by omega) h3]
        frame_out
        rfl
      · rw [outsAt0_B m c t h h4 (by omega) h3]
        frame_out
        rfl

/-- The gradient of the rows before the norm, added to what goes past it. -/
def outH (d : Vec Ideal S4096x4096 .bf16) (w : Vec Ideal S1024x4096 .f32) (h : Vec Ideal S4096x1024 .f32) (g : Vec Ideal S1024 .f32) (r : Vec Ideal S4096x1024 .f32) : Vec Ideal S4096x1024 .f32 :=
  fun i => NormBack.dh (at2 h (i 0).val) (dy d w (i 0).val) (NormBack.at1 g) (at2 r (i 0).val) (i 1).val

/-- The gradient of the gain. -/
def outG (d : Vec Ideal S4096x4096 .bf16) (w : Vec Ideal S1024x4096 .f32) (h : Vec Ideal S4096x1024 .f32) : Vec Ideal S1x1024 .f32 :=
  fun i => ∑ r : Fin 4096, NormBack.dg (at2 h r.val) (dy d w r.val) (i 1).val

theorem block6 (c : Dev nD) (t : Fin cfg0.N) (h : t.val % 16 = 15) (y : S1x1024.Idx) :
    (outsAt0 m c t.val t.isLt).2.1 y = outG (m ((c : Thread nD τ).loc main_arg0) : Vec Ideal S4096x4096 .bf16) (m ((c : Thread nD τ).loc main_arg1) : Vec Ideal S1024x4096 .f32) (m ((c : Thread nD τ).loc main_arg2) : Vec Ideal S4096x1024 .f32) y := by
  have ht : t.val < 16 := t.isLt
  refine (gacc_eq m c t y).trans ?_
  rw [h, zero_add, show t.val / 16 = 0 by omega]
  unfold outG
  rw [← sum_split (J := 4) 1024 4096 rfl (fun n => NormBack.dg (at2 (m ((c : Thread nD τ).loc main_arg2) : Vec Ideal S4096x1024 .f32) n) (dy (m ((c : Thread nD τ).loc main_arg0) : Vec Ideal S4096x4096 .bf16) (m ((c : Thread nD τ).loc main_arg1) : Vec Ideal S1024x4096 .f32) n) (y 1).val)]
  simp only [Finset.sum_range_succ, Finset.sum_range_zero, gterm]
  norm_num

theorem final5 (c : Dev nD) : (dats m 0 c).arrAt 5 cfg0.N = outH (m ((c : Thread nD τ).loc main_arg0) : Vec Ideal S4096x4096 .bf16) (m ((c : Thread nD τ).loc main_arg1) : Vec Ideal S1024x4096 .f32) (m ((c : Thread nD τ).loc main_arg2) : Vec Ideal S4096x1024 .f32) (m ((c : Thread nD τ).loc main_arg3) : Vec Ideal S1024 .f32) (m ((c : Thread nD τ).loc main_arg4) : Vec Ideal S4096x1024 .f32) := by
  refine (dats m 0 c).arrAt_eq_of_covers 5 _ (by decide +kernel) fun t hf y => ?_
  obtain ⟨-, -, -, -, -, h, -⟩ := idx t
  rw [after0_5]
  have e := block5 m c t ((flush0_5 t).mp hf)
  generalize (outsAt0 m c t.val t.isLt).1 = f at e ⊢
  refine (e y).trans ?_
  unfold outH
  blk_simp [h]
  rw [Nat.mul_comm (t.val / 4)]

theorem final6 (c : Dev nD) : (dats m 0 c).arrAt 6 cfg0.N = outG (m ((c : Thread nD τ).loc main_arg0) : Vec Ideal S4096x4096 .bf16) (m ((c : Thread nD τ).loc main_arg1) : Vec Ideal S1024x4096 .f32) (m ((c : Thread nD τ).loc main_arg2) : Vec Ideal S4096x1024 .f32) := by
  refine (dats m 0 c).arrAt_eq_of_covers 6 _ (by decide +kernel) fun t hf y => ?_
  obtain ⟨-, -, -, -, -, -, h⟩ := idx t
  rw [after0_6]
  have e := block6 m c t ((flush0_6 t).mp hf)
  generalize (outsAt0 m c t.val t.isLt).2.1 = f at e ⊢
  refine (e y).trans ?_
  unfold outG
  blk_simp [h]

end Cert.Kernel12Ideal.RefValue

end
-- ==== Proof.UpDxClaims.lean ====
/- The claims about the gradient through the first layer and its norm. -/
module

public import proofs.«01_k».proof.Defs
public import proofs.«01_k».proof.Proof.Gen.Kernel12.Frame
public import proofs.«01_k».proof.Proof.Gen.Kernel12Ideal.Frame
public import proofs.«01_k».proof.Proof.Gen.Reference12Ideal
public import proofs.«01_k».proof.Proof.Gen.Reference12Ideal.Run
public import proofs.«01_k».proof.Proof.UpDxValue
public import Idealize.ShloMosaic.Adequacy
public import Idealize.ShloMosaic.Init

@[expose] public section

set_option maxRecDepth 16384

noncomputable section

namespace Cert.UpDx

open Idealize.ShloMosaic Idealize.SL.Sem Cert.Coords

theorem frame_p : Cert.quiescent_Kernel12 := fun m ρ _ => Cert.Kernel12.Gen.frame m ρ

theorem frame_pi : Cert.quiescent_Kernel12Ideal := fun m ρ _ => Cert.Kernel12Ideal.Gen.frame m ρ

theorem frame_ri : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic : Cert.algebraic_Kernel12Ideal_Reference12Ideal := by
  intro m ρ m' ρ' _ hagree
  refine ⟨_, _, Cert.Kernel12Ideal.Value.run_blocks (F := Ideal) m ρ, ?_⟩
  refine (θ_run Cert.Reference12Ideal.defs _ _).mono (fun _ h c => ⟨(h c).1.trans ?_, (h c).2.1.trans ?_, (h c).2.2⟩)
    (Cert.Reference12Ideal.Value.run (F := Ideal) m' ρ')
  · rw [Cert.Kernel12Ideal.RefValue.final5]
    obtain ⟨e0, e1, e2, e3, e4⟩ := hagree c
    clear h
    unfold Cert.Reference12Ideal.Value.res_main_v39
    rw [e0, e1, e2, e3, e4]
    funext i
    idx_vars i
    pointwise
    unfold Cert.Kernel12Ideal.RefValue.outH
    refine Eq.trans ?_ (Cert.NormBack.dhRef_eq _ _ _ _ _ i1.isLt)
    unfold Cert.NormBack.dhRef Cert.NormBack.rr Cert.NormBack.ms Cert.Kernel12Ideal.RefValue.dy
    simp only [at2_ix, Cert.NormBack.at1_ix]
    rfl
  · rw [Cert.Kernel12Ideal.RefValue.final6]
    obtain ⟨e0, e1, e2, e3, e4⟩ := hagree c
    rw [e0, e1, e2]
    funext i
    clear h
    idx_vars i
    pointwise
    refine (Fin.sum_univ_one _).trans ?_
    unfold Cert.Kernel12Ideal.RefValue.outG Cert.NormBack.dg Cert.NormBack.rr Cert.NormBack.ms Cert.Kernel12Ideal.RefValue.dy
    refine Finset.sum_congr rfl fun r _ => ?_
    refine (mul_comm _ _).trans ((mul_assoc _ _ _).symm.trans ?_)
    simp only [at2_ix]
    rfl

end Cert.UpDx

end
-- ==== Proof.ProjDxValue.lean ====
/- The gradient through the input projection and its norm, element by element. -/
module

public import proofs.«01_k».proof.Proof.Gen.Kernel13Ideal.Value
public import proofs.«01_k».proof.Proof.Coords
public import proofs.«01_k».proof.Proof.NormBack
public import proofs.«01_k».proof.Proof.ProjValue
public import Idealize.ShloMosaic.Lib.Pipeline.ReadBack

@[expose] public section

set_option maxRecDepth 16384

noncomputable section

namespace Cert.Kernel13Ideal.RefValue

open Cert.Kernel13Ideal Cert.Kernel13Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

open Cert.Kernel11Ideal.RefValue (lanes)

theorem idx (t : Fin cfg0.N) : win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![0, 0] ∧ win0_8.index t = ![t.val, 0] ∧ win0_9.index t = ![t.val, 0] ∧ win0_10.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![0, 0] ∧ win0_8.index t = ![t.val, 0] ∧ win0_9.index t = ![t.val, 0] ∧ win0_10.index t = ![0, 0]) t

/-- The gain the region finds. -/
theorem V_g (c : Dev nD) : V m c main_v16 = fun i => (m ((c : Thread nD τ).loc main_arg5) : Vec Ideal S1024 .f32) (ix1 (i 1)) := by
  unfold V
  simp only [hostOps0, hostOps0_1, hostOps0_2, hostOps0_3, hostOps0_4, hostOps0_5, hostOps0_6, List.flatten_cons, List.flatten_nil, List.append_nil, List.cons_append, List.nil_append]
  after_results_simp
  funext i
  idx_vars i
  pointwise

/-- The convolution's columns of the weights. -/
theorem V_conv (c : Dev nD) : V m c main_v7 = fun i => at2 (m ((c : Thread nD τ).loc main_arg3) : Vec Ideal S1024x2832 .f32) (i 1).val (1168 + (i 0).val) := by
  unfold V
  simp only [hostOps0, hostOps0_1, hostOps0_2, hostOps0_3, hostOps0_4, hostOps0_5, hostOps0_6, List.flatten_cons, List.flatten_nil, List.append_nil, List.cons_append, List.nil_append]
  after_results_simp
  funext i
  idx_vars i
  pointwise
  exact at2_ix (n := 1024) (k := 2832) _ i1 ⟨1168 + i0.val, by omega⟩

/-- The attention's columns of the weights. -/
theorem V_att (c : Dev nD) : V m c main_v15 = fun i => at2 (m ((c : Thread nD τ).loc main_arg3) : Vec Ideal S1024x2832 .f32) (i 1).val (1680 + (i 0).val) := by
  unfold V
  simp only [hostOps0, hostOps0_1, hostOps0_2, hostOps0_3, hostOps0_4, hostOps0_5, hostOps0_6, List.flatten_cons, List.flatten_nil, List.append_nil, List.cons_append, List.nil_append]
  after_results_simp
  funext i
  idx_vars i
  pointwise
  after_results_simp
  pointwise
  by_cases g1 : i0.val < 384
  · refine (dif_pos g1).trans ?_
    exact at2_ix (n := 1024) (k := 2832) _ i1 ⟨1680 + i0.val, by omega⟩
  refine (dif_neg g1).trans ?_
  by_cases g2 : i0.val - 384 < 384
  · refine (dif_pos g2).trans ?_
    exact (at2_ix (n := 1024) (k := 2832) _ i1 ⟨2064 + (i0.val - 384), by omega⟩).trans (congrArg (at2 _ i1.val) (show 2064 + (i0.val - 384) = 1680 + i0.val by omega))
  · refine (dif_neg g2).trans ?_
    exact (at2_ix (n := 1024) (k := 2832) _ i1 ⟨2448 + (i0.val - 384 - 384), by omega⟩).trans (congrArg (at2 _ i1.val) (show 2448 + (i0.val - 384 - 384) = 1680 + i0.val by omega))

/-- The recurrence's columns of the weights. -/
theorem V_gla (c : Dev nD) : V m c main_v14 = fun i => lanes (at2 (m ((c : Thread nD τ).loc main_arg3) : Vec Ideal S1024x2832 .f32) (i 1).val) (i 0).val := by
  unfold V
  simp only [hostOps0, hostOps0_1, hostOps0_2, hostOps0_3, hostOps0_4, hostOps0_5, hostOps0_6, List.flatten_cons, List.flatten_nil, List.append_nil, List.cons_append, List.nil_append]
  after_results_simp
  funext i
  idx_vars i
  pointwise
  after_results_simp
  pointwise
  show _ = lanes (at2 (m ((c : Thread nD τ).loc main_arg3) : Vec Ideal S1024x2832 .f32) i1.val) i0.val
  unfold lanes
  by_cases g1 : i0.val < 256
  · refine (dif_pos g1).trans (Eq.trans ?_ (if_pos g1).symm)
    refine (Cert.Kernel11Ideal.RefValue.pad256 _ ⟨i0.val, g1⟩ i1).trans ?_
    split_ifs with g
    · exact Cert.Kernel11Ideal.RefValue.cut0 _ _ _ g i1.isLt
    · rfl
  refine (dif_neg g1).trans (Eq.trans ?_ (if_neg g1).symm)
  by_cases g2 : i0.val - 256 < 256
  · refine (dif_pos g2).trans (Eq.trans ?_ (if_pos g2).symm)
    refine (Cert.Kernel11Ideal.RefValue.pad256 _ ⟨i0.val - 256, g2⟩ i1).trans ?_
    split_ifs with g
    · exact Cert.Kernel11Ideal.RefValue.cut192 _ _ _ g i1.isLt
    · rfl
  refine (dif_neg g2).trans (Eq.trans ?_ (if_neg g2).symm)
  by_cases g3 : i0.val - 256 - 256 < 384
  · refine (dif_pos g3).trans (Eq.trans ?_ (if_pos g3).symm)
    exact at2_ix (n := 1024) (k := 2832) _ i1 ⟨384 + (i0.val - 256 - 256), by omega⟩
  refine (dif_neg g3).trans (Eq.trans ?_ (if_neg g3).symm)
  by_cases g4 : i0.val - 256 - 256 - 384 < 384
  · refine (dif_pos g4).trans (Eq.trans ?_ (if_pos g4).symm)
    exact at2_ix (n := 1024) (k := 2832) _ i1 ⟨768 + (i0.val - 256 - 256 - 384), by omega⟩
  refine (dif_neg g4).trans (Eq.trans ?_ (if_neg g4).symm)
  refine (Cert.Kernel11Ideal.RefValue.pad128 _ ⟨i0.val - 256 - 256 - 384 - 384, by omega⟩ i1).trans ?_
  split_ifs with g
  · exact Cert.Kernel11Ideal.RefValue.cut1152 _ _ _ g i1.isLt
  · rfl

/-- The three products added. -/
def accB (x0 : Vec Ideal S512x1408 .bf16) (x1 : Vec Ideal S512x512 .bf16) (x2 : Vec Ideal S512x1152 .bf16) (x3 : Vec Ideal S1408x1024 .bf16) (x4 : Vec Ideal S512x1024 .bf16) (x5 : Vec Ideal S1152x1024 .bf16) (r q : ℕ) : EReal :=
  (∑ k : Fin 1408, at2 x0 r k.val * at2 x3 k.val q + ∑ k : Fin 512, at2 x1 r k.val * at2 x4 k.val q) + ∑ k : Fin 1152, at2 x2 r k.val * at2 x5 k.val q

theorem pay1_apply (x0 : Vec Ideal S512x1408 .bf16) (x1 : Vec Ideal S512x512 .bf16) (x2 : Vec Ideal S512x1152 .bf16) (x3 : Vec Ideal S1408x1024 .bf16) (x4 : Vec Ideal S512x1024 .bf16) (x5 : Vec Ideal S1152x1024 .bf16) (x : Vec Ideal S512x1024 .f32) (g : Vec Ideal S1x1024 .f32) (d : Vec Ideal S512x1024 .f32) (y : S512x1024.Idx) :
    k0_pay1 x (k0_pay5 x) (k0_pay6 x0 x3 x1 x4 x2 x5 g) (k0_pay7 x0 x3 x1 x4 x2 x5 x g) d y = NormBack.dh (at2 x (y 0).val) (accB x0 x1 x2 x3 x4 x5 (y 0).val) (at2 g 0) (at2 d (y 0).val) (y 1).val := by
  idx_vars y
  open_payloads
  pointwise
  unfold NormBack.dh NormBack.rr NormBack.ms accB
  simp only [at2_ix]
  rfl

theorem pay2_apply (x0 : Vec Ideal S512x1408 .bf16) (x1 : Vec Ideal S512x512 .bf16) (x2 : Vec Ideal S512x1152 .bf16) (x3 : Vec Ideal S1408x1024 .bf16) (x4 : Vec Ideal S512x1024 .bf16) (x5 : Vec Ideal S1152x1024 .bf16) (x : Vec Ideal S512x1024 .f32) (b : Vec Ideal S1x1024 .f32) (y : S1x1024.Idx) :
    k0_pay2 (k0_pay3 x0 x3 x1 x4 x2 x5) x (k0_pay5 x) b y = b y + ∑ r : Fin 512, NormBack.dg (at2 x r.val) (accB x0 x1 x2 x3 x4 x5 r.val) (y 1).val := by
  idx_vars y
  open_payloads
  pointwise
  unfold NormBack.dg NormBack.rr NormBack.ms accB
  simp only [at2_ix]

theorem pay4_apply (y : S1x1024.Idx) : k0_pay4 (F := Ideal) y = 0 := by
  idx_vars y
  open_payloads
  pointwise

theorem blk_gla (c : Dev nD) (t : Fin cfg0.N) (r q : ℕ) (hr : r < 512) (hq : q < 1408) :
    at2 (iblk m c 0 t : Vec Ideal S512x1408 .bf16) r q = at2 (m ((c : Thread nD τ).loc main_arg0) : Vec Ideal S4096x1408 .bf16) (512 * t.val + r) q := by
  obtain ⟨h, -⟩ := idx t
  have ht : t.val < 8 := t.isLt
  unfold at2
  rw [dif_pos ⟨hr, hq⟩, dif_pos ⟨by omega, by omega⟩]
  blk_ext [iblk, V, h]

theorem blk_conv (c : Dev nD) (t : Fin cfg0.N) (r q : ℕ) (hr : r < 512) (hq : q < 512) :
    at2 (iblk m c 1 t : Vec Ideal S512x512 .bf16) r q = at2 (m ((c : Thread nD τ).loc main_arg1) : Vec Ideal S4096x512 .bf16) (512 * t.val + r) q := by
  obtain ⟨-, h, -⟩ := idx t
  have ht : t.val < 8 := t.isLt
  unfold at2
  rw [dif_pos ⟨hr, hq⟩, dif_pos ⟨by omega, by omega⟩]
  blk_ext [iblk, V, h]

theorem blk_att (c : Dev nD) (t : Fin cfg0.N) (r q : ℕ) (hr : r < 512) (hq : q < 1152) :
    at2 (iblk m c 2 t : Vec Ideal S512x1152 .bf16) r q = at2 (m ((c : Thread nD τ).loc main_arg2) : Vec Ideal S4096x1152 .bf16) (512 * t.val + r) q := by
  obtain ⟨-, -, h, -⟩ := idx t
  have ht : t.val < 8 := t.isLt
  unfold at2
  rw [dif_pos ⟨hr, hq⟩, dif_pos ⟨by omega, by omega⟩]
  blk_ext [iblk, V, h]

theorem blk_h (c : Dev nD) (t : Fin cfg0.N) (r q : ℕ) (hr : r < 512) (hq : q < 1024) :
    at2 (iblk m c 6 t : Vec Ideal S512x1024 .f32) r q = at2 (m ((c : Thread nD τ).loc main_arg4) : Vec Ideal S4096x1024 .f32) (512 * t.val + r) q := by
  obtain ⟨-, -, -, -, -, -, h, -⟩ := idx t
  have ht : t.val < 8 := t.isLt
  unfold at2
  rw [dif_pos ⟨hr, hq⟩, dif_pos ⟨by omega, by omega⟩]
  blk_ext [iblk, V, h]

theorem blk_r (c : Dev nD) (t : Fin cfg0.N) (r q : ℕ) (hr : r < 512) (hq : q < 1024) :
    at2 (iblk m c 8 t : Vec Ideal S512x1024 .f32) r q = at2 (m ((c : Thread nD τ).loc main_arg6) : Vec Ideal S4096x1024 .f32) (512 * t.val + r) q := by
  obtain ⟨-, -, -, -, -, -, -, -, h, -⟩ := idx t
  have ht : t.val < 8 := t.isLt
  unfold at2
  rw [dif_pos ⟨hr, hq⟩, dif_pos ⟨by omega, by omega⟩]
  blk_ext [iblk, V, h]

theorem blk_g (c : Dev nD) (t : Fin cfg0.N) (q : ℕ) (hq : q < 1024) :
    at2 (iblk m c 7 t : Vec Ideal S1x1024 .f32) 0 q = NormBack.at1 (m ((c : Thread nD τ).loc main_arg5) : Vec Ideal S1024 .f32) q := by
  obtain ⟨-, -, -, -, -, -, -, h, -⟩ := idx t
  unfold at2 NormBack.at1
  rw [dif_pos ⟨by omega, hq⟩, dif_pos hq]
  blk_simp [iblk, h]
  rw [show V m c main_v16 = _ from V_g m c]
  have he : (win0_7.blk t).view.emb (ix2 (0 : Fin 1) (⟨q, hq⟩ : Fin 1024)) 1 = (⟨q, hq⟩ : Fin 1024) := by
    ext
    blk_simp [h]
  exact congrArg (fun k : Fin 1024 => (m ((c : Thread nD τ).loc main_arg5) : Vec Ideal S1024 .f32) (ix1 k)) he

theorem blk_wgla (c : Dev nD) (t : Fin cfg0.N) (r k : ℕ) (hr : r < 1408) (hk : k < 1024) :
    at2 (iblk m c 3 t : Vec Ideal S1408x1024 .bf16) r k = lanes (at2 (m ((c : Thread nD τ).loc main_arg3) : Vec Ideal S1024x2832 .f32) k) r := by
  obtain ⟨-, -, -, h, -⟩ := idx t
  refine Eq.trans (by unfold at2; rw [dif_pos ⟨hr, hk⟩]) ?_
  blk_simp [iblk, h]
  rw [show V m c main_v14 = _ from V_gla m c]
  blk_simp [h]

theorem blk_wconv (c : Dev nD) (t : Fin cfg0.N) (r k : ℕ) (hr : r < 512) (hk : k < 1024) :
    at2 (iblk m c 4 t : Vec Ideal S512x1024 .bf16) r k = at2 (m ((c : Thread nD τ).loc main_arg3) : Vec Ideal S1024x2832 .f32) k (1168 + r) := by
  obtain ⟨-, -, -, -, h, -⟩ := idx t
  refine Eq.trans (by unfold at2; rw [dif_pos ⟨hr, hk⟩]) ?_
  blk_simp [iblk, h]
  rw [show V m c main_v7 = _ from V_conv m c]
  blk_simp [h]

theorem blk_watt (c : Dev nD) (t : Fin cfg0.N) (r k : ℕ) (hr : r < 1152) (hk : k < 1024) :
    at2 (iblk m c 5 t : Vec Ideal S1152x1024 .bf16) r k = at2 (m ((c : Thread nD τ).loc main_arg3) : Vec Ideal S1024x2832 .f32) k (1680 + r) := by
  obtain ⟨-, -, -, -, -, h, -⟩ := idx t
  refine Eq.trans (by unfold at2; rw [dif_pos ⟨hr, hk⟩]) ?_
  blk_simp [iblk, h]
  rw [show V m c main_v15 = _ from V_att m c]
  blk_simp [h]

/-- The gradient of the normalised row times the gain: the three groups of columns, each against its own weights. -/
def dy (a : Vec Ideal S4096x1408 .bf16) (b : Vec Ideal S4096x512 .bf16) (e : Vec Ideal S4096x1152 .bf16) (w : Vec Ideal S1024x2832 .f32) (r q : ℕ) : EReal :=
  (∑ k : Fin 1408, at2 a r k.val * lanes (at2 w q) k.val + ∑ k : Fin 512, at2 b r k.val * at2 w q (1168 + k.val)) + ∑ k : Fin 1152, at2 e r k.val * at2 w q (1680 + k.val)

theorem acc_eq (c : Dev nD) (t : Fin cfg0.N) (r q : ℕ) (hr : r < 512) (hq : q < 1024) :
    accB (iblk m c 0 t) (iblk m c 1 t) (iblk m c 2 t) (iblk m c 3 t) (iblk m c 4 t) (iblk m c 5 t) r q = dy (m ((c : Thread nD τ).loc main_arg0) : Vec Ideal S4096x1408 .bf16) (m ((c : Thread nD τ).loc main_arg1) : Vec Ideal S4096x512 .bf16) (m ((c : Thread nD τ).loc main_arg2) : Vec Ideal S4096x1152 .bf16) (m ((c : Thread nD τ).loc main_arg3) : Vec Ideal S1024x2832 .f32) (512 * t.val + r) q := by
  unfold accB dy
  refine congrArg₂ (fun a b : EReal => a + b) (congrArg₂ (fun a b : EReal => a + b) ?_ ?_) ?_
  · exact Finset.sum_congr rfl fun k _ => by rw [blk_gla m c t _ _ hr k.isLt, blk_wgla m c t _ _ k.isLt hq]
  · exact Finset.sum_congr rfl fun k _ => by rw [blk_conv m c t _ _ hr k.isLt, blk_wconv m c t _ _ k.isLt hq]
  · exact Finset.sum_congr rfl fun k _ => by rw [blk_att m c t _ _ hr k.isLt, blk_watt m c t _ _ k.isLt hq]

theorem block9 (c : Dev nD) (t : Fin cfg0.N) (y : S512x1024.Idx) :
    (outsAt0 m c t.val t.isLt).1 y
      = NormBack.dh (at2 (m ((c : Thread nD τ).loc main_arg4) : Vec Ideal S4096x1024 .f32) (512 * t.val + (y 0).val)) (dy (m ((c : Thread nD τ).loc main_arg0) : Vec Ideal S4096x1408 .bf16) (m ((c : Thread nD τ).loc main_arg1) : Vec Ideal S4096x512 .bf16) (m ((c : Thread nD τ).loc main_arg2) : Vec Ideal S4096x1152 .bf16) (m ((c : Thread nD τ).loc main_arg3) : Vec Ideal S1024x2832 .f32) (512 * t.val + (y 0).val)) (NormBack.at1 (m ((c : Thread nD τ).loc main_arg5) : Vec Ideal S1024 .f32)) (at2 (m ((c : Thread nD τ).loc main_arg6) : Vec Ideal S4096x1024 .f32) (512 * t.val + (y 0).val)) (y 1).val := by
  have h0 : (y 0).val < 512 := (y 0).isLt
  have h := pay1_apply (iblk m c 0 t) (iblk m c 1 t) (iblk m c 2 t) (iblk m c 3 t) (iblk m c 4 t) (iblk m c 5 t) (iblk m c 6 t) (iblk m c 7 t) (iblk m c 8 t) y
  rw [NormBack.dh_congr _ _ _ _ _ _ _ _ (fun k hk => blk_h m c t _ _ h0 hk) (fun k hk => acc_eq m c t _ _ h0 hk)
    (fun k hk => blk_g m c t k hk) (fun k hk => blk_r m c t _ _ h0 hk) _ (y 1).isLt] at h
  refine Eq.trans ?_ h
  by_cases h8 : t.val % 8 = 0
  · rw [outsAt0_A m c t h8]
    frame_out
  · rw [outsAt0_B m c t h8]
    frame_out

/-- What grid point `n` adds to the gain's gradient. -/
def gterm (a : Vec Ideal S4096x1408 .bf16) (b : Vec Ideal S4096x512 .bf16) (e : Vec Ideal S4096x1152 .bf16) (w : Vec Ideal S1024x2832 .f32) (h : Vec Ideal S4096x1024 .f32) (n : ℕ) (i : S1x1024.Idx) : EReal :=
  ∑ r : Fin 512, NormBack.dg (at2 h (512 * n + r.val)) (dy a b e w (512 * n + r.val)) (i 1).val

theorem gterm_eq (c : Dev nD) (t : Fin cfg0.N) (i : S1x1024.Idx) :
    ∑ r : Fin 512, NormBack.dg (at2 (iblk m c 6 t : Vec Ideal S512x1024 .f32) r.val) (accB (iblk m c 0 t) (iblk m c 1 t) (iblk m c 2 t) (iblk m c 3 t) (iblk m c 4 t) (iblk m c 5 t) r.val) (i 1).val = gterm (m ((c : Thread nD τ).loc main_arg0) : Vec Ideal S4096x1408 .bf16) (m ((c : Thread nD τ).loc main_arg1) : Vec Ideal S4096x512 .bf16) (m ((c : Thread nD τ).loc main_arg2) : Vec Ideal S4096x1152 .bf16) (m ((c : Thread nD τ).loc main_arg3) : Vec Ideal S1024x2832 .f32) (m ((c : Thread nD τ).loc main_arg4) : Vec Ideal S4096x1024 .f32) t.val i :=
  Finset.sum_congr rfl fun r _ => NormBack.dg_congr _ _ _ _ (fun k hk => blk_h m c t _ _ r.isLt hk)
    (fun k hk => acc_eq m c t _ _ r.isLt hk) _ (i 1).isLt

theorem gacc_eq (c : Dev nD) (t : Fin cfg0.N) (y : S1x1024.Idx) :
    (outsAt0 m c t.val t.isLt).2 y = 0 + ∑ s ∈ Finset.range (t.val % 8 + 1), gterm (m ((c : Thread nD τ).loc main_arg0) : Vec Ideal S4096x1408 .bf16) (m ((c : Thread nD τ).loc main_arg1) : Vec Ideal S4096x512 .bf16) (m ((c : Thread nD τ).loc main_arg2) : Vec Ideal S4096x1152 .bf16) (m ((c : Thread nD τ).loc main_arg3) : Vec Ideal S1024x2832 .f32) (m ((c : Thread nD τ).loc main_arg4) : Vec Ideal S4096x1024 .f32) (8 * (t.val / 8) + s) y := by
  refine Pipeline.eq_sum_of_reset_step_apply (fun n h => (outsAt0 m c n h).2) 8 (fun _ => (0 : EReal))
    (fun n i => gterm (m ((c : Thread nD τ).loc main_arg0) : Vec Ideal S4096x1408 .bf16) (m ((c : Thread nD τ).loc main_arg1) : Vec Ideal S4096x512 .bf16) (m ((c : Thread nD τ).loc main_arg2) : Vec Ideal S4096x1152 .bf16) (m ((c : Thread nD τ).loc main_arg3) : Vec Ideal S1024x2832 .f32) (m ((c : Thread nD τ).loc main_arg4) : Vec Ideal S4096x1024 .f32) n i) (fun t h i => ?_) (fun t h i => ?_) t y
  · rw [← gterm_eq, outsAt0_A m c t h]
    frame_out
    refine (pay2_apply (iblk m c 0 t) (iblk m c 1 t) (iblk m c 2 t) (iblk m c 3 t) (iblk m c 4 t) (iblk m c 5 t) _ _ i).trans (congrArg (fun b : EReal => b + _) ?_)
    exact pay4_apply i
  · rw [← gterm_eq, outsAt0_B m c t h]
    frame_out
    exact pay2_apply (iblk m c 0 t) (iblk m c 1 t) (iblk m c 2 t) (iblk m c 3 t) (iblk m c 4 t) (iblk m c 5 t) _ _ i

/-- The gradient of the rows before the norm, added to what goes past it. -/
def outH (a : Vec Ideal S4096x1408 .bf16) (b : Vec Ideal S4096x512 .bf16) (e : Vec Ideal S4096x1152 .bf16) (w : Vec Ideal S1024x2832 .f32) (h : Vec Ideal S4096x1024 .f32) (g : Vec Ideal S1024 .f32) (r : Vec Ideal S4096x1024 .f32) : Vec Ideal S4096x1024 .f32 :=
  fun i => NormBack.dh (at2 h (i 0).val) (dy a b e w (i 0).val) (NormBack.at1 g) (at2 r (i 0).val) (i 1).val

/-- The gradient of the gain. -/
def outG (a : Vec Ideal S4096x1408 .bf16) (b : Vec Ideal S4096x512 .bf16) (e : Vec Ideal S4096x1152 .bf16) (w : Vec Ideal S1024x2832 .f32) (h : Vec Ideal S4096x1024 .f32) : Vec Ideal S1x1024 .f32 :=
  fun i => ∑ r : Fin 4096, NormBack.dg (at2 h r.val) (dy a b e w r.val) (i 1).val

theorem block10 (c : Dev nD) (t : Fin cfg0.N) (h : t.val % 8 = 7) (y : S1x1024.Idx) :
    (outsAt0 m c t.val t.isLt).2 y = outG (m ((c : Thread nD τ).loc main_arg0) : Vec Ideal S4096x1408 .bf16) (m ((c : Thread nD τ).loc main_arg1) : Vec Ideal S4096x512 .bf16) (m ((c : Thread nD τ).loc main_arg2) : Vec Ideal S4096x1152 .bf16) (m ((c : Thread nD τ).loc main_arg3) : Vec Ideal S1024x2832 .f32) (m ((c : Thread nD τ).loc main_arg4) : Vec Ideal S4096x1024 .f32) y := by
  have ht : t.val < 8 := t.isLt
  refine (gacc_eq m c t y).trans ?_
  rw [h, zero_add, show t.val / 8 = 0 by omega]
  unfold outG gterm
  rw [← sum_split (J := 8) 512 4096 rfl (fun n => NormBack.dg (at2 (m ((c : Thread nD τ).loc main_arg4) : Vec Ideal S4096x1024 .f32) n) (dy (m ((c : Thread nD τ).loc main_arg0) : Vec Ideal S4096x1408 .bf16) (m ((c : Thread nD τ).loc main_arg1) : Vec Ideal S4096x512 .bf16) (m ((c : Thread nD τ).loc main_arg2) : Vec Ideal S4096x1152 .bf16) (m ((c : Thread nD τ).loc main_arg3) : Vec Ideal S1024x2832 .f32) n) (y 1).val)]
  exact Finset.sum_congr rfl fun s _ => by rw [Nat.mul_zero, Nat.zero_add]

theorem final9 (c : Dev nD) : (dats m 0 c).arrAt 9 cfg0.N = outH (m ((c : Thread nD τ).loc main_arg0) : Vec Ideal S4096x1408 .bf16) (m ((c : Thread nD τ).loc main_arg1) : Vec Ideal S4096x512 .bf16) (m ((c : Thread nD τ).loc main_arg2) : Vec Ideal S4096x1152 .bf16) (m ((c : Thread nD τ).loc main_arg3) : Vec Ideal S1024x2832 .f32) (m ((c : Thread nD τ).loc main_arg4) : Vec Ideal S4096x1024 .f32) (m ((c : Thread nD τ).loc main_arg5) : Vec Ideal S1024 .f32) (m ((c : Thread nD τ).loc main_arg6) : Vec Ideal S4096x1024 .f32) := by
  refine (dats m 0 c).arrAt_eq_of_covers 9 _ (by decide +kernel) fun t hf y => ?_
  obtain ⟨-, -, -, -, -, -, -, -, -, h, -⟩ := idx t
  rw [after0_9]
  have e := block9 m c t
  generalize (outsAt0 m c t.val t.isLt).1 = f at e ⊢
  refine (e y).trans ?_
  unfold outH
  blk_simp [h]
  rw [Nat.mul_comm t.val]

theorem final10 (c : Dev nD) : (dats m 0 c).arrAt 10 cfg0.N = outG (m ((c : Thread nD τ).loc main_arg0) : Vec Ideal S4096x1408 .bf16) (m ((c : Thread nD τ).loc main_arg1) : Vec Ideal S4096x512 .bf16) (m ((c : Thread nD τ).loc main_arg2) : Vec Ideal S4096x1152 .bf16) (m ((c : Thread nD τ).loc main_arg3) : Vec Ideal S1024x2832 .f32) (m ((c : Thread nD τ).loc main_arg4) : Vec Ideal S4096x1024 .f32) := by
  refine (dats m 0 c).arrAt_eq_of_covers 10 _ (by decide +kernel) fun t hf y => ?_
  obtain ⟨-, -, -, -, -, -, -, -, -, -, h⟩ := idx t
  rw [after0_10]
  have e := block10 m c t ((flush0_10 t).mp hf)
  generalize (outsAt0 m c t.val t.isLt).2 = f at e ⊢
  refine (e y).trans ?_
  unfold outG
  blk_simp [h]

end Cert.Kernel13Ideal.RefValue

end
-- ==== Proof.ProjDxClaims.lean ====
/- The claims about the gradient through the input projection and its norm. -/
module

public import proofs.«01_k».proof.Defs
public import proofs.«01_k».proof.Proof.Gen.Kernel13.Frame
public import proofs.«01_k».proof.Proof.Gen.Kernel13Ideal.Frame
public import proofs.«01_k».proof.Proof.Gen.Reference13Ideal
public import proofs.«01_k».proof.Proof.Gen.Reference13Ideal.Run
public import proofs.«01_k».proof.Proof.ProjDxValue
public import Idealize.ShloMosaic.Adequacy
public import Idealize.ShloMosaic.Init

@[expose] public section

set_option maxRecDepth 16384

noncomputable section

namespace Cert.ProjDx

open Idealize.ShloMosaic Idealize.SL.Sem Cert.Coords

theorem frame_p : Cert.quiescent_Kernel13 := fun m ρ _ => Cert.Kernel13.Gen.frame m ρ

theorem frame_pi : Cert.quiescent_Kernel13Ideal := fun m ρ _ => Cert.Kernel13Ideal.Gen.frame m ρ

theorem frame_ri : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

open Cert.Kernel11Ideal.RefValue (lanes)

theorem dite_at2 {n k : ℕ} (x : (⟨2, ![n, k]⟩ : Shape).Idx → EReal) (r : Fin n) (q : ℕ) (P : Prop) [Decidable P] (h : P → q < k) :
    (if g : P then x (ix2 r ⟨q, h g⟩) else (0 : EReal)) = if P then at2 x r.val q else 0 := by
  by_cases g : P
  · rw [dif_pos g, if_pos g]
    exact at2_ix x r ⟨q, h g⟩
  · rw [dif_neg g, if_neg g]

/-- The gradient of a row of the projection, its columns gathered from the three groups. -/
def row (a b e : ℕ → EReal) (j : ℕ) : EReal :=
  if j < 192 then a j else if j < 384 then a (64 + j) else if j < 1168 then a (128 + j) else if j < 1680 then b (j - 1168) else e (j - 1680)

/-- A row of gradients against a row of weights: by the columns of the projection, or by the padded groups. -/
theorem sum_row (a b e f : ℕ → EReal) :
    ∑ j : Fin 2832, row a b e j.val * f j.val
      = (∑ k : Fin 1408, a k.val * lanes f k.val + ∑ k : Fin 512, b k.val * f (1168 + k.val)) + ∑ k : Fin 1152, e k.val * f (1680 + k.val) := by
  rw [Fin.sum_univ_eq_sum_range (fun j => row a b e j * f j) 2832, Fin.sum_univ_eq_sum_range (fun k => a k * lanes f k) 1408,
    Fin.sum_univ_eq_sum_range (fun k => b k * f (1168 + k)) 512, Fin.sum_univ_eq_sum_range (fun k => e k * f (1680 + k)) 1152]
  rw [show (2832 : ℕ) = 192 + 192 + 784 + 512 + 1152 from rfl, Finset.sum_range_add, Finset.sum_range_add, Finset.sum_range_add, Finset.sum_range_add]
  rw [show (1408 : ℕ) = 192 + 64 + 192 + 64 + 784 + 112 from rfl, Finset.sum_range_add, Finset.sum_range_add, Finset.sum_range_add, Finset.sum_range_add, Finset.sum_range_add]
  have z1 : ∑ k ∈ Finset.range 64, a (192 + k) * lanes f (192 + k) = 0 := Finset.sum_eq_zero fun k hk => by
    have := Finset.mem_range.mp hk
    unfold lanes
    rw [if_pos (by omega), if_neg (by omega), mul_zero]
  have z2 : ∑ k ∈ Finset.range 64, a (192 + 64 + 192 + k) * lanes f (192 + 64 + 192 + k) = 0 := Finset.sum_eq_zero fun k hk => by
    have := Finset.mem_range.mp hk
    unfold lanes
    rw [if_neg (by omega), if_pos (by omega), if_neg (by omega), mul_zero]
  have z3 : ∑ k ∈ Finset.range 112, a (192 + 64 + 192 + 64 + 784 + k) * lanes f (192 + 64 + 192 + 64 + 784 + k) = 0 := Finset.sum_eq_zero fun k hk => by
    have := Finset.mem_range.mp hk
    unfold lanes
    rw [if_neg (by omega), if_neg (by omega), if_neg (by omega), if_neg (by omega), if_neg (by omega), mul_zero]
  rw [z1, z2, z3, add_zero, add_zero, add_zero]
  refine congrArg₂ (fun x y : EReal => x + y) (congrArg₂ (fun x y : EReal => x + y) (congrArg₂ (fun x y : EReal => x + y) (congrArg₂ (fun x y : EReal => x + y) ?_ ?_) ?_) ?_) ?_
  · refine Finset.sum_congr rfl fun k hk => ?_
    have := Finset.mem_range.mp hk
    unfold row lanes
    rw [if_pos this, if_pos (by omega), if_pos this]
  · refine Finset.sum_congr rfl fun k hk => ?_
    have := Finset.mem_range.mp hk
    unfold row lanes
    rw [if_neg (by omega), if_pos (by omega), if_neg (by omega), if_pos (by omega), if_pos (by omega),
      show 64 + (192 + k) = 192 + 64 + k by omega, show 192 + (192 + 64 + k - 256) = 192 + k by omega]
  · refine Finset.sum_congr rfl fun k hk => ?_
    have := Finset.mem_range.mp hk
    unfold row lanes
    rw [if_neg (by omega), if_neg (by omega), if_pos (by omega), if_neg (by omega), if_neg (by omega),
      show 128 + (192 + 192 + k) = 192 + 64 + 192 + 64 + k by omega]
    split_ifs <;> first | omega | (congr 2; omega)
  · refine Finset.sum_congr rfl fun k hk => ?_
    have := Finset.mem_range.mp hk
    unfold row
    rw [if_neg (by omega), if_neg (by omega), if_neg (by omega), if_pos (by omega)]
    congr 2
    omega
  · refine Finset.sum_congr rfl fun k hk => ?_
    have := Finset.mem_range.mp hk
    unfold row
    rw [if_neg (by omega), if_neg (by omega), if_neg (by omega), if_neg (by omega)]
    congr 2
    omega

open Cert.Reference13Ideal Cert.Reference13Ideal.Gen in
/-- The gradient of the projection as differentiation writes it: five padded pieces added. -/
abbrev dp (a : Vec Ideal S4096x1408 .bf16) (b : Vec Ideal S4096x512 .bf16) (e : Vec Ideal S4096x1152 .bf16) : FVec Ideal S4096x2832 .f32 :=
  (addf (addf (addf (addf (pad S4096x2832 ![0, 1680] ![0, 0] ![0, 0] (extf .f32 e bitsLt_bf16_f32) (constant S_ .f32 0x00000000#32) pads_S4096x1152_S4096x2832_000_168000 h_S_) (pad S4096x2832 ![0, 1168] ![0, 1152] ![0, 0] (extf .f32 b bitsLt_bf16_f32) (constant S_ .f32 0x00000000#32) pads_S4096x512_S4096x2832_000_116811520 h_S_)) (pad S4096x2832 ![0, 384] ![0, 1664] ![0, 0] (extractStridedSlice S4096x784 ![0, 512] (extf .f32 a bitsLt_bf16_f32) slices_S4096x1408_S4096x784_0_512) (constant S_ .f32 0x00000000#32) pads_S4096x784_S4096x2832_000_38416640 h_S_)) (pad S4096x2832 ![0, 192] ![0, 2448] ![0, 0] (extractStridedSlice S4096x192 ![0, 256] (extf .f32 a bitsLt_bf16_f32) slices_S4096x1408_S4096x192_0_256) (constant S_ .f32 0x00000000#32) pads_S4096x192_S4096x2832_000_19224480 h_S_)) (pad S4096x2832 ![0, 0] ![0, 2640] ![0, 0] (extractStridedSlice S4096x192 ![0, 0] (extf .f32 a bitsLt_bf16_f32) slices_S4096x1408_S4096x192_0_0) (constant S_ .f32 0x00000000#32) pads_S4096x192_S4096x2832_000_026400 h_S_))

open Cert.Reference13Ideal Cert.Reference13Ideal.Gen in
theorem dp_apply (a : Vec Ideal S4096x1408 .bf16) (b : Vec Ideal S4096x512 .bf16) (e : Vec Ideal S4096x1152 .bf16) (r : Fin 4096) (j : Fin 2832) :
    dp a b e (ix2 r j) = row (at2 a r.val) (at2 b r.val) (at2 e r.val) j.val := by
  pointwise
  unfold row
  refine Eq.trans (congrArg₂ (fun x y : EReal => x + y) (congrArg₂ (fun x y : EReal => x + y) (congrArg₂ (fun x y : EReal => x + y) (congrArg₂ (fun x y : EReal => x + y)
    (dite_at2 e r (j.val - 1680) _ fun h => h.2) (dite_at2 b r (j.val - 1168) _ fun h => h.2)) (dite_at2 a r (512 + (j.val - 384)) _ fun h => by omega))
    (dite_at2 a r (256 + (j.val - 192)) _ fun h => by omega)) (dite_at2 a r j.val _ fun h => by omega)) ?_
  by_cases g1 : j.val < 192
  · rw [if_neg (by omega), if_neg (by omega), if_neg (by omega), if_neg (by omega), if_pos g1, if_pos g1]
    simp
  by_cases g2 : j.val < 384
  · rw [if_neg (by omega), if_neg (by omega), if_neg (by omega), if_pos (by omega), if_neg g1, if_neg g1, if_pos g2,
      show 256 + (j.val - 192) = 64 + j.val by omega]
    simp
  by_cases g3 : j.val < 1168
  · rw [if_neg (by omega), if_neg (by omega), if_pos (by omega), if_neg (by omega), if_neg g1, if_neg g1, if_neg g2, if_pos g3,
      show 512 + (j.val - 384) = 128 + j.val by omega]
    simp
  by_cases g4 : j.val < 1680
  · rw [if_neg (by omega), if_pos (by omega), if_neg (by omega), if_neg (by omega), if_neg g1, if_neg g1, if_neg g2, if_neg g3, if_pos g4]
    simp
  · rw [if_pos (by omega), if_neg (by omega), if_neg (by omega), if_neg (by omega), if_neg g1, if_neg g1, if_neg g2, if_neg g3, if_neg g4]
    simp

open Cert.Reference13Ideal Cert.Reference13Ideal.Gen in
theorem dot_apply (a : Vec Ideal S4096x1408 .bf16) (b : Vec Ideal S4096x512 .bf16) (e : Vec Ideal S4096x1152 .bf16) (w : FVec Ideal S1024x2832 .f32) (r : Fin 4096) (q : Fin 1024) :
    (Host.dotGeneral dot_S4096x2832_S1024x2832_S4096x1024_1_1_0_0_n_n none (dp a b e) w : FVec Ideal S4096x1024 .f32) (ix2 r q)
      = Cert.Kernel13Ideal.RefValue.dy a b e w r.val q.val := by
  generalize hd : dp a b e = d
  pointwise
  refine Eq.trans (Finset.sum_congr rfl fun k _ => ?_) (sum_row (at2 a r.val) (at2 b r.val) (at2 e r.val) (at2 w q.val))
  subst hd
  exact congrArg₂ (fun x y : EReal => x * y) (dp_apply a b e r k) (at2_ix (n := 1024) (k := 2832) w q k)

theorem algebraic : Cert.algebraic_Kernel13Ideal_Reference13Ideal := by
  intro m ρ m' ρ' _ hagree
  refine ⟨_, _, Cert.Kernel13Ideal.Value.run_blocks (F := Ideal) m ρ, ?_⟩
  refine (θ_run Cert.Reference13Ideal.defs _ _).mono (fun _ h c => ⟨(h c).1.trans ?_, (h c).2.1.trans ?_, (h c).2.2⟩)
    (Cert.Reference13Ideal.Value.run (F := Ideal) m' ρ')
  · rw [Cert.Kernel13Ideal.RefValue.final9]
    obtain ⟨e0, e1, e2, e3, e4, e5, e6⟩ := hagree c
    clear h hagree
    unfold Cert.Reference13Ideal.Value.res_main_v68
    rw [e0, e1, e2, e3, e4, e5, e6]
    have hX := dot_apply (m (c.tc.loc Kernel13Ideal.main_arg0)) (m (c.tc.loc Kernel13Ideal.main_arg1)) (m (c.tc.loc Kernel13Ideal.main_arg2)) (m (c.tc.loc Kernel13Ideal.main_arg3))
    generalize (Host.dotGeneral Reference13Ideal.dot_S4096x2832_S1024x2832_S4096x1024_1_1_0_0_n_n none (dp (m (c.tc.loc Kernel13Ideal.main_arg0)) (m (c.tc.loc Kernel13Ideal.main_arg1)) (m (c.tc.loc Kernel13Ideal.main_arg2))) (m (c.tc.loc Kernel13Ideal.main_arg3) : FVec Ideal Reference13Ideal.S1024x2832 .f32) : FVec Ideal Reference13Ideal.S4096x1024 .f32) = X at hX ⊢
    funext i
    idx_vars i
    unfold Cert.Kernel13Ideal.RefValue.outH
    refine Eq.trans ?_ (Cert.NormBack.dhRef_eq _ _ _ _ _ i1.isLt)
    unfold Cert.NormBack.dhRef Cert.NormBack.rr Cert.NormBack.ms
    pointwise
    simp only [hX]
    simp only [at2_ix, Cert.NormBack.at1_ix]
  · rw [Cert.Kernel13Ideal.RefValue.final10]
    obtain ⟨e0, e1, e2, e3, e4, e5, e6⟩ := hagree c
    clear h hagree
    rw [e0, e1, e2, e3, e4]
    have hX := dot_apply (m (c.tc.loc Kernel13Ideal.main_arg0)) (m (c.tc.loc Kernel13Ideal.main_arg1)) (m (c.tc.loc Kernel13Ideal.main_arg2)) (m (c.tc.loc Kernel13Ideal.main_arg3))
    generalize (Host.dotGeneral Reference13Ideal.dot_S4096x2832_S1024x2832_S4096x1024_1_1_0_0_n_n none (dp (m (c.tc.loc Kernel13Ideal.main_arg0)) (m (c.tc.loc Kernel13Ideal.main_arg1)) (m (c.tc.loc Kernel13Ideal.main_arg2))) (m (c.tc.loc Kernel13Ideal.main_arg3) : FVec Ideal Reference13Ideal.S1024x2832 .f32) : FVec Ideal Reference13Ideal.S4096x1024 .f32) = X at hX ⊢
    funext i
    idx_vars i
    pointwise
    refine (Fin.sum_univ_one _).trans ?_
    unfold Cert.Kernel13Ideal.RefValue.outG Cert.NormBack.dg Cert.NormBack.rr Cert.NormBack.ms
    refine Finset.sum_congr rfl fun r _ => ?_
    refine (mul_comm _ _).trans ((mul_assoc _ _ _).symm.trans ?_)
    simp only [hX]
    simp only [at2_ix]
    rfl

end Cert.ProjDx

end
-- ==== Proof.LossValue.lean ====
/- The loss, and its gradient through the last norm, element by element. -/
module

public import proofs.«01_k».proof.Proof.Gen.Kernel14Ideal.Value
public import proofs.«01_k».proof.Proof.Coords
public import proofs.«01_k».proof.Proof.NormBack
public import Idealize.ShloMosaic.Lib.Pipeline.ReadBack

@[expose] public section

set_option maxRecDepth 16384

noncomputable section

namespace Cert.Kernel14Ideal.RefValue

open Cert.Kernel14Ideal Cert.Kernel14Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

theorem idx (t : Fin cfg0.N) : win0_0.index t = ![t.val, 0] ∧ win0_1.index t = ![0, 0] ∧ win0_2.index t = ![t.val, 0] ∧ win0_3.index t = ![0, 0] ∧ win0_4.index t = ![t.val, 0] ∧ win0_5.index t = ![0, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![0, 0]) t

/-- How far a normalised row is from its target. -/
def err (x g e : ℕ → EReal) (q : ℕ) : EReal := x q * NormBack.rr x * g q - e q

/-- The mean of its squares. -/
def rowLoss (x g e : ℕ → EReal) : EReal :=
  Ideal.div (∑ k : Fin 1024, err x g e k.val * err x g e k.val) (Ideal.ofBits .f32 1149239296#32)

/-- The gradient of half of that mean. -/
def dy (x g e : ℕ → EReal) (q : ℕ) : EReal := err x g e q * Ideal.ofBits .f32 981467136#32

theorem err_congr (x x' g g' e e' : ℕ → EReal) (hx : ∀ k < 1024, x k = x' k) (hg : ∀ k < 1024, g k = g' k) (he : ∀ k < 1024, e k = e' k)
    (q : ℕ) (hq : q < 1024) : err x g e q = err x' g' e' q := by
  unfold err NormBack.rr
  rw [NormBack.ms_congr x x' hx, hx q hq, hg q hq, he q hq]

theorem rowLoss_congr (x x' g g' e e' : ℕ → EReal) (hx : ∀ k < 1024, x k = x' k) (hg : ∀ k < 1024, g k = g' k) (he : ∀ k < 1024, e k = e' k) :
    rowLoss x g e = rowLoss x' g' e' := by
  unfold rowLoss
  rw [Finset.sum_congr rfl fun (k : Fin 1024) _ => show err x g e k.val * err x g e k.val = err x' g' e' k.val * err x' g' e' k.val by
    rw [err_congr x x' g g' e e' hx hg he k.val k.isLt]]

theorem dy_congr (x x' g g' e e' : ℕ → EReal) (hx : ∀ k < 1024, x k = x' k) (hg : ∀ k < 1024, g k = g' k) (he : ∀ k < 1024, e k = e' k)
    (q : ℕ) (hq : q < 1024) : dy x g e q = dy x' g' e' q := by
  unfold dy
  rw [err_congr x x' g g' e e' hx hg he q hq]

theorem pay1_apply (x : Vec Ideal S512x1024 .f32) (g : Vec Ideal S1x1024 .f32) (e : Vec Ideal S512x1024 .f32) (y : S512x1024.Idx) :
    k0_pay1 x (k0_pay6 x) (k0_pay9 x g e) (k0_pay10 g) y
      = NormBack.dh0 (at2 x (y 0).val) (dy (at2 x (y 0).val) (at2 g 0) (at2 e (y 0).val)) (at2 g 0) (y 1).val := by
  idx_vars y
  open_payloads
  pointwise
  unfold NormBack.dh0 dy err NormBack.rr NormBack.ms
  simp only [at2_ix]
  rfl

theorem pay2_apply (x : Vec Ideal S512x1024 .f32) (g : Vec Ideal S1x1024 .f32) (e : Vec Ideal S512x1024 .f32) (b : Vec Ideal S1x1024 .f32) (y : S1x1024.Idx) :
    k0_pay2 x (k0_pay6 x) (k0_pay9 x g e) b y
      = b y + ∑ r : Fin 512, NormBack.dg (at2 x r.val) (dy (at2 x r.val) (at2 g 0) (at2 e r.val)) (y 1).val := by
  idx_vars y
  open_payloads
  pointwise
  unfold NormBack.dg dy err NormBack.rr NormBack.ms
  simp only [at2_ix]
  rfl

theorem pay8_apply (x : Vec Ideal S512x1024 .f32) (g : Vec Ideal S1x1024 .f32) (e : Vec Ideal S512x1024 .f32) (b : Vec Ideal S1x1 .f32) (y : S1x1.Idx) :
    k0_pay8 x g e b y
      = b y + Ideal.ofBits .f32 1056964608#32 * ∑ r : Fin 512, rowLoss (at2 x r.val) (at2 g 0) (at2 e r.val) := by
  idx_vars y
  open_payloads
  pointwise
  unfold rowLoss err NormBack.rr NormBack.ms
  simp only [at2_ix]
  rfl

theorem pay3_apply (y : S1x1024.Idx) : k0_pay3 (F := Ideal) y = 0 := by
  idx_vars y
  open_payloads
  pointwise

theorem pay4_apply (y : S1x1.Idx) : k0_pay4 (F := Ideal) y = 0 := by
  idx_vars y
  open_payloads
  pointwise

theorem blk_h (c : Dev nD) (t : Fin cfg0.N) (r q : ℕ) (hr : r < 512) (hq : q < 1024) :
    at2 (iblk m c 0 t : Vec Ideal S512x1024 .f32) r q = at2 (m ((c : Thread nD τ).loc main_arg0) : Vec Ideal S4096x1024 .f32) (512 * t.val + r) q := by
  obtain ⟨h, -⟩ := idx t
  have ht : t.val < 8 := t.isLt
  unfold at2
  rw [dif_pos ⟨hr, hq⟩, dif_pos ⟨by omega, by omega⟩]
  blk_ext [iblk, V, h]

theorem blk_t (c : Dev nD) (t : Fin cfg0.N) (r q : ℕ) (hr : r < 512) (hq : q < 1024) :
    at2 (iblk m c 2 t : Vec Ideal S512x1024 .f32) r q = at2 (m ((c : Thread nD τ).loc main_arg2) : Vec Ideal S4096x1024 .f32) (512 * t.val + r) q := by
  obtain ⟨-, -, h, -⟩ := idx t
  have ht : t.val < 8 := t.isLt
  unfold at2
  rw [dif_pos ⟨hr, hq⟩, dif_pos ⟨by omega, by omega⟩]
  blk_ext [iblk, V, h]

/-- The gain the region finds. -/
theorem V_g (c : Dev nD) : V m c main_v0 = fun i => (m ((c : Thread nD τ).loc main_arg1) : Vec Ideal S1024 .f32) (ix1 (i 1)) := by
  unfold V
  simp only [hostOps0, List.flatten_cons, List.flatten_nil, List.append_nil, List.cons_append, List.nil_append]
  after_results
  funext i
  idx_vars i
  pointwise

theorem blk_g (c : Dev nD) (t : Fin cfg0.N) (q : ℕ) (hq : q < 1024) :
    at2 (iblk m c 1 t : Vec Ideal S1x1024 .f32) 0 q = NormBack.at1 (m ((c : Thread nD τ).loc main_arg1) : Vec Ideal S1024 .f32) q := by
  obtain ⟨-, h, -⟩ := idx t
  unfold at2 NormBack.at1
  rw [dif_pos ⟨by omega, hq⟩, dif_pos hq]
  blk_simp [iblk, h]
  rw [show V m c main_v0 = _ from V_g m c]
  have he : (win0_1.blk t).view.emb (ix2 (0 : Fin 1) (⟨q, hq⟩ : Fin 1024)) 1 = (⟨q, hq⟩ : Fin 1024) := by
    ext
    blk_simp [h]
  exact congrArg (fun k : Fin 1024 => (m ((c : Thread nD τ).loc main_arg1) : Vec Ideal S1024 .f32) (ix1 k)) he

theorem block4 (c : Dev nD) (t : Fin cfg0.N) (y : S512x1024.Idx) :
    (outsAt0 m c t.val t.isLt).2.1 y
      = NormBack.dh0 (at2 (m ((c : Thread nD τ).loc main_arg0) : Vec Ideal S4096x1024 .f32) (512 * t.val + (y 0).val)) (dy (at2 (m ((c : Thread nD τ).loc main_arg0) : Vec Ideal S4096x1024 .f32) (512 * t.val + (y 0).val)) (NormBack.at1 (m ((c : Thread nD τ).loc main_arg1) : Vec Ideal S1024 .f32)) (at2 (m ((c : Thread nD τ).loc main_arg2) : Vec Ideal S4096x1024 .f32) (512 * t.val + (y 0).val))) (NormBack.at1 (m ((c : Thread nD τ).loc main_arg1) : Vec Ideal S1024 .f32)) (y 1).val := by
  have h0 : (y 0).val < 512 := (y 0).isLt
  have h := pay1_apply (iblk m c 0 t) (iblk m c 1 t) (iblk m c 2 t) y
  rw [NormBack.dh0_congr _ _ _ _ _ _ (fun k hk => blk_h m c t _ _ h0 hk)
    (fun k hk => dy_congr _ _ _ _ _ _ (fun k hk => blk_h m c t _ _ h0 hk) (fun k hk => blk_g m c t k hk) (fun k hk => blk_t m c t _ _ h0 hk) k hk)
    (fun k hk => blk_g m c t k hk) _ (y 1).isLt] at h
  refine Eq.trans ?_ h
  by_cases h8 : t.val % 8 = 0
  · rw [outsAt0_A m c t h8]
    frame_out
  · rw [outsAt0_B m c t h8]
    frame_out

/-- What grid point `n` adds to the gain's gradient. -/
def gterm (h : Vec Ideal S4096x1024 .f32) (g : Vec Ideal S1024 .f32) (e : Vec Ideal S4096x1024 .f32) (n : ℕ) (i : S1x1024.Idx) : EReal :=
  ∑ r : Fin 512, NormBack.dg (at2 h (512 * n + r.val)) (dy (at2 h (512 * n + r.val)) (NormBack.at1 g) (at2 e (512 * n + r.val))) (i 1).val

theorem gterm_eq (c : Dev nD) (t : Fin cfg0.N) (i : S1x1024.Idx) :
    ∑ r : Fin 512, NormBack.dg (at2 (iblk m c 0 t : Vec Ideal S512x1024 .f32) r.val)
        (dy (at2 (iblk m c 0 t : Vec Ideal S512x1024 .f32) r.val) (at2 (iblk m c 1 t : Vec Ideal S1x1024 .f32) 0) (at2 (iblk m c 2 t : Vec Ideal S512x1024 .f32) r.val)) (i 1).val
      = gterm (m ((c : Thread nD τ).loc main_arg0) : Vec Ideal S4096x1024 .f32) (m ((c : Thread nD τ).loc main_arg1) : Vec Ideal S1024 .f32) (m ((c : Thread nD τ).loc main_arg2) : Vec Ideal S4096x1024 .f32) t.val i :=
  Finset.sum_congr rfl fun r _ => NormBack.dg_congr _ _ _ _ (fun k hk => blk_h m c t _ _ r.isLt hk)
    (fun k hk => dy_congr _ _ _ _ _ _ (fun k hk => blk_h m c t _ _ r.isLt hk) (fun k hk => blk_g m c t k hk) (fun k hk => blk_t m c t _ _ r.isLt hk) k hk) _ (i 1).isLt

theorem gacc_eq (c : Dev nD) (t : Fin cfg0.N) (y : S1x1024.Idx) :
    (outsAt0 m c t.val t.isLt).2.2 y = 0 + ∑ s ∈ Finset.range (t.val % 8 + 1), gterm (m ((c : Thread nD τ).loc main_arg0) : Vec Ideal S4096x1024 .f32) (m ((c : Thread nD τ).loc main_arg1) : Vec Ideal S1024 .f32) (m ((c : Thread nD τ).loc main_arg2) : Vec Ideal S4096x1024 .f32) (8 * (t.val / 8) + s) y := by
  refine Pipeline.eq_sum_of_reset_step_apply (fun n h => (outsAt0 m c n h).2.2) 8 (fun _ => (0 : EReal))
    (fun n i => gterm (m ((c : Thread nD τ).loc main_arg0) : Vec Ideal S4096x1024 .f32) (m ((c : Thread nD τ).loc main_arg1) : Vec Ideal S1024 .f32) (m ((c : Thread nD τ).loc main_arg2) : Vec Ideal S4096x1024 .f32) n i) (fun t h i => ?_) (fun t h i => ?_) t y
  · rw [← gterm_eq, outsAt0_A m c t h]
    frame_out
    refine (pay2_apply _ _ _ _ i).trans (congrArg (fun b : EReal => b + _) ?_)
    exact pay3_apply i
  · rw [← gterm_eq, outsAt0_B m c t h]
    frame_out
    exact pay2_apply _ _ _ _ i

/-- What grid point `n` adds to the loss. -/
def lterm (h : Vec Ideal S4096x1024 .f32) (g : Vec Ideal S1024 .f32) (e : Vec Ideal S4096x1024 .f32) (n : ℕ) : EReal :=
  Ideal.ofBits .f32 1056964608#32 * ∑ r : Fin 512, rowLoss (at2 h (512 * n + r.val)) (NormBack.at1 g) (at2 e (512 * n + r.val))

theorem lterm_eq (c : Dev nD) (t : Fin cfg0.N) :
    Ideal.ofBits .f32 1056964608#32 * ∑ r : Fin 512, rowLoss (at2 (iblk m c 0 t : Vec Ideal S512x1024 .f32) r.val) (at2 (iblk m c 1 t : Vec Ideal S1x1024 .f32) 0) (at2 (iblk m c 2 t : Vec Ideal S512x1024 .f32) r.val)
      = lterm (m ((c : Thread nD τ).loc main_arg0) : Vec Ideal S4096x1024 .f32) (m ((c : Thread nD τ).loc main_arg1) : Vec Ideal S1024 .f32) (m ((c : Thread nD τ).loc main_arg2) : Vec Ideal S4096x1024 .f32) t.val := by
  unfold lterm
  rw [Finset.sum_congr rfl fun (r : Fin 512) _ => rowLoss_congr _ _ _ _ _ _ (fun k hk => blk_h m c t _ _ r.isLt hk) (fun k hk => blk_g m c t k hk) (fun k hk => blk_t m c t _ _ r.isLt hk)]

theorem lacc_eq (c : Dev nD) (t : Fin cfg0.N) (y : S1x1.Idx) :
    (outsAt0 m c t.val t.isLt).1 y = 0 + ∑ s ∈ Finset.range (t.val % 8 + 1), lterm (m ((c : Thread nD τ).loc main_arg0) : Vec Ideal S4096x1024 .f32) (m ((c : Thread nD τ).loc main_arg1) : Vec Ideal S1024 .f32) (m ((c : Thread nD τ).loc main_arg2) : Vec Ideal S4096x1024 .f32) (8 * (t.val / 8) + s) := by
  refine Pipeline.eq_sum_of_reset_step_apply (fun n h => (outsAt0 m c n h).1) 8 (fun _ => (0 : EReal))
    (fun n _ => lterm (m ((c : Thread nD τ).loc main_arg0) : Vec Ideal S4096x1024 .f32) (m ((c : Thread nD τ).loc main_arg1) : Vec Ideal S1024 .f32) (m ((c : Thread nD τ).loc main_arg2) : Vec Ideal S4096x1024 .f32) n) (fun t h i => ?_) (fun t h i => ?_) t y
  · rw [← lterm_eq, outsAt0_A m c t h]
    frame_out
    refine (pay8_apply _ _ _ _ i).trans (congrArg (fun b : EReal => b + _) ?_)
    exact pay4_apply i
  · rw [← lterm_eq, outsAt0_B m c t h]
    frame_out
    exact pay8_apply _ _ _ _ i

/-- The loss. -/
def outL (h : Vec Ideal S4096x1024 .f32) (g : Vec Ideal S1024 .f32) (e : Vec Ideal S4096x1024 .f32) : Vec Ideal S1x1 .f32 :=
  fun _ => Ideal.ofBits .f32 1056964608#32 * ∑ r : Fin 4096, rowLoss (at2 h r.val) (NormBack.at1 g) (at2 e r.val)

/-- The gradient of the rows. -/
def outH (h : Vec Ideal S4096x1024 .f32) (g : Vec Ideal S1024 .f32) (e : Vec Ideal S4096x1024 .f32) : Vec Ideal S4096x1024 .f32 :=
  fun i => NormBack.dh0 (at2 h (i 0).val) (dy (at2 h (i 0).val) (NormBack.at1 g) (at2 e (i 0).val)) (NormBack.at1 g) (i 1).val

/-- The gradient of the gain. -/
def outG (h : Vec Ideal S4096x1024 .f32) (g : Vec Ideal S1024 .f32) (e : Vec Ideal S4096x1024 .f32) : Vec Ideal S1x1024 .f32 :=
  fun i => ∑ r : Fin 4096, NormBack.dg (at2 h r.val) (dy (at2 h r.val) (NormBack.at1 g) (at2 e r.val)) (i 1).val

theorem block3 (c : Dev nD) (t : Fin cfg0.N) (h : t.val % 8 = 7) (y : S1x1.Idx) :
    (outsAt0 m c t.val t.isLt).1 y = outL (m ((c : Thread nD τ).loc main_arg0) : Vec Ideal S4096x1024 .f32) (m ((c : Thread nD τ).loc main_arg1) : Vec Ideal S1024 .f32) (m ((c : Thread nD τ).loc main_arg2) : Vec Ideal S4096x1024 .f32) y := by
  have ht : t.val < 8 := t.isLt
  refine (lacc_eq m c t y).trans ?_
  rw [h, zero_add, show t.val / 8 = 0 by omega]
  unfold outL lterm
  rw [← sum_split (J := 8) 512 4096 rfl (fun n => rowLoss (at2 (m ((c : Thread nD τ).loc main_arg0) : Vec Ideal S4096x1024 .f32) n) (NormBack.at1 (m ((c : Thread nD τ).loc main_arg1) : Vec Ideal S1024 .f32)) (at2 (m ((c : Thread nD τ).loc main_arg2) : Vec Ideal S4096x1024 .f32) n)), ← NormBack.half_sum]
  exact Finset.sum_congr rfl fun s _ => by rw [Nat.mul_zero, Nat.zero_add]

theorem block5 (c : Dev nD) (t : Fin cfg0.N) (h : t.val % 8 = 7) (y : S1x1024.Idx) :
    (outsAt0 m c t.val t.isLt).2.2 y = outG (m ((c : Thread nD τ).loc main_arg0) : Vec Ideal S4096x1024 .f32) (m ((c : Thread nD τ).loc main_arg1) : Vec Ideal S1024 .f32) (m ((c : Thread nD τ).loc main_arg2) : Vec Ideal S4096x1024 .f32) y := by
  have ht : t.val < 8 := t.isLt
  refine (gacc_eq m c t y).trans ?_
  rw [h, zero_add, show t.val / 8 = 0 by omega]
  unfold outG gterm
  rw [← sum_split (J := 8) 512 4096 rfl (fun n => NormBack.dg (at2 (m ((c : Thread nD τ).loc main_arg0) : Vec Ideal S4096x1024 .f32) n) (dy (at2 (m ((c : Thread nD τ).loc main_arg0) : Vec Ideal S4096x1024 .f32) n) (NormBack.at1 (m ((c : Thread nD τ).loc main_arg1) : Vec Ideal S1024 .f32)) (at2 (m ((c : Thread nD τ).loc main_arg2) : Vec Ideal S4096x1024 .f32) n)) (y 1).val)]
  exact Finset.sum_congr rfl fun s _ => by rw [Nat.mul_zero, Nat.zero_add]

theorem final3 (c : Dev nD) : (dats m 0 c).arrAt 3 cfg0.N = outL (m ((c : Thread nD τ).loc main_arg0) : Vec Ideal S4096x1024 .f32) (m ((c : Thread nD τ).loc main_arg1) : Vec Ideal S1024 .f32) (m ((c : Thread nD τ).loc main_arg2) : Vec Ideal S4096x1024 .f32) := by
  refine (dats m 0 c).arrAt_eq_of_covers 3 _ (by decide +kernel) fun t hf y => ?_
  obtain ⟨-, -, -, h, -⟩ := idx t
  rw [after0_3]
  have e := block3 m c t ((flush0_3 t).mp hf)
  generalize (outsAt0 m c t.val t.isLt).1 = f at e ⊢
  refine (e y).trans ?_
  unfold outL
  rfl

theorem final4 (c : Dev nD) : (dats m 0 c).arrAt 4 cfg0.N = outH (m ((c : Thread nD τ).loc main_arg0) : Vec Ideal S4096x1024 .f32) (m ((c : Thread nD τ).loc main_arg1) : Vec Ideal S1024 .f32) (m ((c : Thread nD τ).loc main_arg2) : Vec Ideal S4096x1024 .f32) := by
  refine (dats m 0 c).arrAt_eq_of_covers 4 _ (by decide +kernel) fun t hf y => ?_
  obtain ⟨-, -, -, -, h, -⟩ := idx t
  rw [after0_4]
  have e := block4 m c t
  generalize (outsAt0 m c t.val t.isLt).2.1 = f at e ⊢
  refine (e y).trans ?_
  unfold outH
  blk_simp [h]
  rw [Nat.mul_comm t.val]

theorem final5 (c : Dev nD) : (dats m 0 c).arrAt 5 cfg0.N = outG (m ((c : Thread nD τ).loc main_arg0) : Vec Ideal S4096x1024 .f32) (m ((c : Thread nD τ).loc main_arg1) : Vec Ideal S1024 .f32) (m ((c : Thread nD τ).loc main_arg2) : Vec Ideal S4096x1024 .f32) := by
  refine (dats m 0 c).arrAt_eq_of_covers 5 _ (by decide +kernel) fun t hf y => ?_
  obtain ⟨-, -, -, -, -, h⟩ := idx t
  rw [after0_5]
  have e := block5 m c t ((flush0_5 t).mp hf)
  generalize (outsAt0 m c t.val t.isLt).2.2 = f at e ⊢
  refine (e y).trans ?_
  unfold outG
  blk_simp [h]

end Cert.Kernel14Ideal.RefValue

end
-- ==== Proof.LossClaims.lean ====
/- The claims about the loss and its gradient through the last norm. -/
module

public import proofs.«01_k».proof.Defs
public import proofs.«01_k».proof.Proof.Gen.Kernel14.Frame
public import proofs.«01_k».proof.Proof.Gen.Kernel14Ideal.Frame
public import proofs.«01_k».proof.Proof.Gen.Reference14Ideal
public import proofs.«01_k».proof.Proof.Gen.Reference14Ideal.Run
public import proofs.«01_k».proof.Proof.LossValue
public import Idealize.ShloMosaic.Adequacy
public import Idealize.ShloMosaic.Init

@[expose] public section

set_option maxRecDepth 16384

noncomputable section

namespace Cert.Loss

open Idealize.ShloMosaic Idealize.SL.Sem Cert.Coords

theorem frame_p : Cert.quiescent_Kernel14 := fun m ρ _ => Cert.Kernel14.Gen.frame m ρ

theorem frame_pi : Cert.quiescent_Kernel14Ideal := fun m ρ _ => Cert.Kernel14Ideal.Gen.frame m ρ

theorem frame_ri : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem algebraic : Cert.algebraic_Kernel14Ideal_Reference14Ideal := by
  intro m ρ m' ρ' _ hagree
  refine ⟨_, _, _, Cert.Kernel14Ideal.Value.run_blocks (F := Ideal) m ρ, ?_⟩
  refine (θ_run Cert.Reference14Ideal.defs _ _).mono (fun _ h c => ⟨(h c).1.trans ?_, (h c).2.1.trans ?_, (h c).2.2.1.trans ?_, (h c).2.2.2⟩)
    (Cert.Reference14Ideal.Value.run (F := Ideal) m' ρ')
  · rw [Cert.Kernel14Ideal.RefValue.final3]
    obtain ⟨e0, e1, e2⟩ := hagree c
    clear h hagree
    rw [e0, e1, e2]
    funext i
    idx_vars i
    pointwise
    unfold Cert.Kernel14Ideal.RefValue.outL Cert.Kernel14Ideal.RefValue.rowLoss Cert.Kernel14Ideal.RefValue.err Cert.NormBack.rr Cert.NormBack.ms
    simp only [at2_ix, Cert.NormBack.at1_ix]
  · rw [Cert.Kernel14Ideal.RefValue.final4]
    obtain ⟨e0, e1, e2⟩ := hagree c
    clear h hagree
    unfold Cert.Reference14Ideal.Value.res_main_v50
    rw [e0, e1, e2]
    funext i
    idx_vars i
    unfold Cert.Kernel14Ideal.RefValue.outH
    refine Eq.trans ?_ (Cert.NormBack.dhRef0_eq _ _ _ _ i1.isLt)
    unfold Cert.NormBack.dhRef0 Cert.Kernel14Ideal.RefValue.dy
    pointwise
    simp only [Cert.NormBack.scale_eq]
    unfold Cert.Kernel14Ideal.RefValue.err Cert.NormBack.rr Cert.NormBack.ms
    simp only [at2_ix, Cert.NormBack.at1_ix]
  · rw [Cert.Kernel14Ideal.RefValue.final5]
    obtain ⟨e0, e1, e2⟩ := hagree c
    clear h hagree
    rw [e0, e1, e2]
    funext i
    idx_vars i
    pointwise
    refine (Fin.sum_univ_one _).trans ?_
    unfold Cert.Kernel14Ideal.RefValue.outG Cert.NormBack.dg Cert.Kernel14Ideal.RefValue.dy
    refine Finset.sum_congr rfl fun r _ => ?_
    simp only [Cert.NormBack.scale_eq]
    unfold Cert.Kernel14Ideal.RefValue.err Cert.NormBack.rr Cert.NormBack.ms
    simp only [at2_ix, Cert.NormBack.at1_ix]
    refine (mul_comm _ _).trans ((mul_assoc _ _ _).symm.trans ?_)
    rfl

end Cert.Loss

end
-- ==== Proof.NormGate.lean ====
module

public import proofs.«01_k».proof.Proof.Coords

@[expose] public section

set_option maxRecDepth 16384

noncomputable section

/-! The gated value, the convolution of its rows with the thirty taps that lead up to a row and the row's own, and the
    layer norm with its gate, over the extended reals. -/

namespace Cert.NormGate

open Idealize.ShloMosaic Cert.Coords

/-- The gated value: the first half of the columns times the logistic function of the second half. -/
def glu {n : ℕ} (u : (⟨2, ![n, 512]⟩ : Shape).Idx → EReal) (r q : ℕ) : EReal := at2 u r q * sg (at2 u r (256 + q))

/-- The rows of gated values behind thirty rows of zeros. -/
def led {n : ℕ} (u : (⟨2, ![n, 512]⟩ : Shape).Idx → EReal) (r q : ℕ) : EReal := if r < 30 then 0 else glu u (r - 30) q

/-- The convolution at a row and a column. -/
def conv {n : ℕ} (u : (⟨2, ![n, 512]⟩ : Shape).Idx → EReal) (w : (⟨2, ![31, 256]⟩ : Shape).Idx → EReal) (r q : ℕ) : EReal :=
  ∑ j ∈ Finset.range 31, at2 w j q * led u (j + r) q

/-- The mean of a row of 256 columns. -/
def mean (x : ℕ → EReal) : EReal := Ideal.div (∑ k : Fin 256, x k.val) (Ideal.ofBits .f32 1132462080#32)

/-- One over the root of a row's variance and a little more. -/
def rstd (x : ℕ → EReal) : EReal :=
  Ideal.rsqrt (mean (fun k => (x k - mean x) * (x k - mean x)) + Ideal.ofBits .f32 897988541#32)

/-- A row after the layer norm. -/
def lnz (x lg lb : ℕ → EReal) (q : ℕ) : EReal := (x q - mean x) * rstd x * lg q + lb q

/-- A row after the norm and the gate. -/
def gated (x lg lb : ℕ → EReal) (q : ℕ) : EReal := lnz x lg lb q * sg (lnz x lg lb q)

theorem mean_congr {x y : ℕ → EReal} (h : ∀ k, k < 256 → x k = y k) : mean x = mean y := by
  unfold mean
  rw [Finset.sum_congr rfl fun (k : Fin 256) _ => h k.val k.isLt]

theorem rstd_congr {x y : ℕ → EReal} (h : ∀ k, k < 256 → x k = y k) : rstd x = rstd y := by
  unfold rstd
  rw [mean_congr h, mean_congr fun k hk => by rw [h k hk]]

theorem gated_congr {x y lg lg' lb lb' : ℕ → EReal} {q : ℕ} (h : ∀ k, k < 256 → x k = y k) (hg : lg q = lg' q)
    (hb : lb q = lb' q) (hq : q < 256) : gated x lg lb q = gated y lg' lb' q := by
  unfold gated lnz
  rw [mean_congr h, rstd_congr h, h q hq, hg, hb]

end Cert.NormGate

end
-- ==== Proof.ConvFwdBlock.lean ====
module

public import proofs.«01_k».proof.Proof.Gen.Kernel15Ideal.Value
public import proofs.«01_k».proof.Proof.NormGate

@[expose] public section

set_option maxRecDepth 16384

noncomputable section

/-! What one grid point of the convolution leaves in its blocks of the two results. -/

namespace Cert.Kernel15Ideal.RefValue

open Cert.Kernel15Ideal Cert.Kernel15Ideal.Gen Idealize.ShloMosaic Idealize.ShloMosaic.TcCoe Idealize.SL.Sem Cert.Coords Cert.NormGate
open Idealize.ShloMosaic.Pipeline (Dat)

/-- The buffer of gated rows: thirty-two of the rows before the block, zero at the first point, then the block's own. -/
def rowBuf (i : grid0.Coords) (x0 : Vec Ideal S512x512 .f32) (x1 : Vec Ideal S32x512 .f32) (r q : ℕ) : EReal :=
  if r < 32 then (if 0 < (i 0).val then glu x1 r q else 0) else glu x0 (r - 32) q

/-- The thirty-one taps at a row and a column of the block. -/
def tapsB (B : ℕ → ℕ → EReal) (w : Vec Ideal S32x256 .f32) (r q : ℕ) : EReal :=
  ∑ j ∈ Finset.range 31, at2 w j q * B (2 + j + r) q

theorem sgt_zero (n : ℕ) (h : n < 8) : Scalar.cmpi .sgt (BitVec.ofNat 32 n) 0#32 = if 0 < n then 1#1 else 0#1 := by
  revert n
  decide +kernel

theorem buffer_apply (i : grid0.Coords) (x0 : Vec Ideal S512x512 .f32) (x1 : Vec Ideal S32x512 .f32) (y : S544x256.Idx) :
    View.canon (Val := Elt Ideal) (s := S544x256) (e := .f32)
      [⟨Rect.unit ![32, 0] ![512, 256] inb_S544x256_S512x256_32_0,
          k0_pay3 (View.ld x0 (Rect.unit ![0, 0] ![512, 512] inb_S512x512_S512x512_0_0))⟩,
        ⟨Rect.unit ![0, 0] ![32, 256] inb_S544x256_S32x256_0_0,
          k0_pay2 i (View.ld x1 (Rect.unit ![0, 0] ![32, 512] inb_S32x512_S32x512_0_0))⟩] y
      = rowBuf i x0 x1 (y 0).val (y 1).val := by
  idx_vars y
  have hcover : ∀ L : List (View.Piece (Elt Ideal) S544x256 .f32), ∀ p q : View.Piece (Elt Ideal) S544x256 .f32, L = [p, q] →
      p.1.set = (Rect.unit (s := S544x256) ![32, 0] ![512, 256] inb_S544x256_S512x256_32_0).set →
      q.1.set = (Rect.unit (s := S544x256) ![0, 0] ![32, 256] inb_S544x256_S32x256_0_0).set →
      ∃ p ∈ L, ix2 y0 y1 ∈ p.1.set := by
    intro L p q hL hp hq
    have h0 := y0.isLt
    have h1 := y1.isLt
    rcases Nat.lt_or_ge y0.val 32 with h | h
    · refine ⟨q, by rw [hL]; simp, ?_⟩
      rw [hq, Rect.mem_set_unit]
      intro a
      fin_cases a <;> simp <;> omega
    · refine ⟨p, by rw [hL]; simp, ?_⟩
      rw [hp, Rect.mem_set_unit]
      intro a
      fin_cases a <;> simp <;> omega
  canon_tiles x h using (hcover _ _ _ rfl rfl rfl)
  · idx_vars x
    open_payloads
    pointwise
    pointwise at h0 h1
    unfold rowBuf glu sg
    rw [h0, h1, if_neg (by omega), Nat.add_sub_cancel_left]
    simp only [at2_ix, Nat.zero_add]
  · idx_vars x
    open_payloads
    pointwise
    pointwise at h0 h1
    unfold rowBuf
    have hi : (i 0).val < 8 := (i 0).isLt
    rw [h0, h1, if_pos (by omega), sgt_zero _ hi]
    by_cases h : 0 < (i 0).val
    · rw [if_pos h, if_pos h]
      unfold glu sg
      simp only [at2_ix, Nat.zero_add]
      rfl
    · rw [if_neg h, if_neg h]
      rfl

set_option maxHeartbeats 8000000 in
theorem block_conv (c : Dev nD) (i : grid0.Coords) (arg1 : Memref sig .tc .vmem S512x512 .f32) (harg1 : arg1.IsWhole) (arg2 : Memref sig .tc .vmem S32x512 .f32) (harg2 : arg2.IsWhole) (arg3 : Memref sig .tc .vmem S32x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .bf16) (harg7 : arg7.IsWhole) (arg8 : Memref sig .tc .vmem S512x256 .f32) (harg8 : arg8.IsWhole) (arg9 : Memref sig .tc .vmem S544x256 .f32) (harg9 : arg9.IsWhole)
    (x0 : Vec Ideal S512x512 .f32) (x1 : Vec Ideal S32x512 .f32) (x2 : Vec Ideal S32x256 .f32) (x3 : Vec Ideal S1x256 .f32) (x4 : Vec Ideal S1x256 .f32) (x5 : Vec Ideal S1x256 .f32) (y : S512x256.Idx) :
    out0_A_7 c i arg1 harg1 arg2 harg2 arg3 harg3 arg4 harg4 arg5 harg5 arg6 harg6 arg7 harg7 arg8 harg8 arg9 harg9 x0 x1 x2 x3 x4 x5 y
      = tapsB (rowBuf i x0 x1) x2 (y 0).val (y 1).val := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg1.read_unread, harg2.read_unread, harg3.read_unread, harg4.read_unread, harg5.read_unread, harg6.read_unread, View.readCov_eq_canon']
  generalize hB : View.canon (Val := Elt Ideal) (s := S544x256) (e := .f32) [_, _] = B
  have hB' : ∀ (a : Fin 544) (b : Fin 256), B (ix2 a b) = rowBuf i x0 x1 a.val b.val := fun a b => by
    rw [← hB]
    exact buffer_apply i x0 x1 (ix2 a b)
  clear hB
  generalize rowBuf i x0 x1 = R at hB' ⊢
  idx_vars y
  canon_tiles x h
  all_goals
    idx_vars x
    open_payloads
    pointwise
    pointwise at h0 h1
    rw [h0, h1]
    unfold tapsB
    rw [← sum31]
    simp only [hB']
    simp only [at2_ix, Nat.zero_add, ← Nat.add_assoc, Nat.reduceAdd, Nat.add_zero, Fin.isValue, Fin.coe_ofNat_eq_mod, Nat.reduceMod]

set_option maxHeartbeats 16000000 in
theorem block_gated (c : Dev nD) (i : grid0.Coords) (arg1 : Memref sig .tc .vmem S512x512 .f32) (harg1 : arg1.IsWhole) (arg2 : Memref sig .tc .vmem S32x512 .f32) (harg2 : arg2.IsWhole) (arg3 : Memref sig .tc .vmem S32x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .bf16) (harg7 : arg7.IsWhole) (arg8 : Memref sig .tc .vmem S512x256 .f32) (harg8 : arg8.IsWhole) (arg9 : Memref sig .tc .vmem S544x256 .f32) (harg9 : arg9.IsWhole)
    (x0 : Vec Ideal S512x512 .f32) (x1 : Vec Ideal S32x512 .f32) (x2 : Vec Ideal S32x256 .f32) (x3 : Vec Ideal S1x256 .f32) (x4 : Vec Ideal S1x256 .f32) (x5 : Vec Ideal S1x256 .f32) (y : S512x256.Idx) :
    out0_A_6 c i arg1 harg1 arg2 harg2 arg3 harg3 arg4 harg4 arg5 harg5 arg6 harg6 arg7 harg7 arg8 harg8 arg9 harg9 x0 x1 x2 x3 x4 x5 y
      = gated (fun k => tapsB (rowBuf i x0 x1) x2 (y 0).val k + at2 x3 0 k) (at2 x4 0) (at2 x5 0) (y 1).val := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg1.read_unread, harg2.read_unread, harg3.read_unread, harg4.read_unread, harg5.read_unread, harg6.read_unread, View.readCov_eq_canon']
  generalize hB : View.canon (Val := Elt Ideal) (s := S544x256) (e := .f32) [_, _] = B
  have hB' : ∀ (a : Fin 544) (b : Fin 256), B (ix2 a b) = rowBuf i x0 x1 a.val b.val := fun a b => by
    rw [← hB]
    exact buffer_apply i x0 x1 (ix2 a b)
  clear hB
  generalize rowBuf i x0 x1 = R at hB' ⊢
  idx_vars y
  canon_tiles x h
  all_goals
    idx_vars x
    open_payloads
    pointwise
    pointwise at h0 h1
    rw [h0, h1]
    unfold gated lnz rstd mean tapsB sg
    simp only [← sum31]
    simp only [hB']
    simp only [at2_ix, Nat.zero_add, ← Nat.add_assoc, Nat.reduceAdd, Nat.add_zero, Fin.isValue, Fin.coe_ofNat_eq_mod, Nat.reduceMod]

end Cert.Kernel15Ideal.RefValue

end
-- ==== Proof.ConvFwdValue.lean ====
/- The whole results of the convolution with its norm and gate, element by element, in terms of the arguments. -/
module

public import proofs.«01_k».proof.Proof.ConvFwdBlock
public import proofs.«01_k».proof.Proof.NormBack
public import Idealize.ShloMosaic.Lib.Pipeline.ReadBack

@[expose] public section

set_option maxRecDepth 16384

noncomputable section

namespace Cert.Kernel15Ideal.RefValue

open Cert.Kernel15Ideal Cert.Kernel15Ideal.Gen Idealize.ShloMosaic Idealize.ShloMosaic.TcCoe Idealize.SL.Sem Cert.Coords Cert.NormGate
open Idealize.ShloMosaic.Pipeline (Dat)

variable (m : (ℓ : Loc nD τ sig) → Buf (Elt Ideal) ℓ) (ρ : Dev nD → PrngReg)

theorem idx (t : Fin cfg0.N) : win0_0.index t = ![t.val, 0] ∧ win0_1.index t = ![t.val * 16 - 1, 0] ∧ win0_2.index t = ![0, 0] ∧ win0_3.index t = ![0, 0]
    ∧ win0_4.index t = ![0, 0] ∧ win0_5.index t = ![0, 0] ∧ win0_6.index t = ![t.val, 0] ∧ win0_7.index t = ![t.val, 0]
    ∧ (grid0.coords t 0).val = t.val :=
  (by decide +kernel : ∀ t : Fin grid0.N, win0_0.index t = ![t.val, 0] ∧ win0_1.index t = ![t.val * 16 - 1, 0] ∧ win0_2.index t = ![0, 0] ∧ win0_3.index t = ![0, 0]
    ∧ win0_4.index t = ![0, 0] ∧ win0_5.index t = ![0, 0] ∧ win0_6.index t = ![t.val, 0] ∧ win0_7.index t = ![t.val, 0]
    ∧ (grid0.coords t 0).val = t.val) t

theorem blk_u (c : Dev nD) (t : Fin cfg0.N) (r q : ℕ) (hr : r < 512) (hq : q < 512) :
    at2 (iblk m c 0 t : Vec Ideal S512x512 .f32) r q = at2 (m ((c : Thread nD τ).loc main_arg0) : Vec Ideal S4096x512 .f32) (512 * t.val + r) q := by
  obtain ⟨h, -⟩ := idx t
  have ht : t.val < 8 := t.isLt
  unfold at2
  rw [dif_pos ⟨hr, hq⟩, dif_pos ⟨by omega, hq⟩]
  blk_ext [iblk, V, h]

theorem blk_halo (c : Dev nD) (t : Fin cfg0.N) (r q : ℕ) (hr : r < 32) (hq : q < 512) (h0 : 0 < t.val) :
    at2 (iblk m c 1 t : Vec Ideal S32x512 .f32) r q = at2 (m ((c : Thread nD τ).loc main_arg0) : Vec Ideal S4096x512 .f32) (512 * t.val + r - 32) q := by
  obtain ⟨-, h, -⟩ := idx t
  have ht : t.val < 8 := t.isLt
  unfold at2
  rw [dif_pos ⟨hr, hq⟩, dif_pos ⟨by omega, hq⟩]
  blk_ext [iblk, V, h]

/-- The operand the region finds at the padded taps: one row of zeros under the taps. -/
theorem V_w (c : Dev nD) : V m c main_v0 = pad S32x256 ![0, 0] ![1, 0] ![0, 0]
    (m ((c : Thread nD τ).loc main_arg1) : Vec Ideal S31x256 .f32) (sitofp .f32 (constantI S_ 32 0#32) : FVec Ideal S_ .f32) pads_S31x256_S32x256_010_000 h_S_ := by
  unfold V
  simp only [hostOps0, hostOps0_1, hostOps0_2, List.flatten_cons, List.flatten_nil, List.append_nil, List.cons_append, List.nil_append]
  after_results
  rfl

theorem pad_w (w : Vec Ideal S31x256 .f32) (z : FVec Ideal S_ .f32) (r q : ℕ) (hr : r < 31) (hq : q < 256) :
    pad S32x256 ![0, 0] ![1, 0] ![0, 0] w z pads_S31x256_S32x256_010_000 h_S_ (ix2 (⟨r, by omega⟩ : Fin 32) (⟨q, hq⟩ : Fin 256))
      = w (ix2 ⟨r, hr⟩ ⟨q, hq⟩) := by
  pointwise
  rw [dif_pos ⟨hr, hq⟩]

theorem blk_w (c : Dev nD) (t : Fin cfg0.N) (r q : ℕ) (hr : r < 31) (hq : q < 256) :
    at2 (iblk m c 2 t : Vec Ideal S32x256 .f32) r q = at2 (m ((c : Thread nD τ).loc main_arg1) : Vec Ideal S31x256 .f32) r q := by
  obtain ⟨-, -, h, -⟩ := idx t
  unfold at2
  rw [dif_pos ⟨by omega, hq⟩, dif_pos ⟨hr, hq⟩]
  blk_simp [iblk, h]
  rw [show V m c main_v0 = _ from V_w m c]
  have he : (win0_2.blk t).view.emb (ix2 (⟨r, by omega⟩ : Fin 32) (⟨q, hq⟩ : Fin 256)) = (ix2 (⟨r, by omega⟩ : Fin 32) (⟨q, hq⟩ : Fin 256) : S32x256.Idx) := by
    ext a
    blk_simp [h]
    fin_cases a <;> simp
  rw [he]
  exact pad_w _ _ r q hr hq

theorem V_2 (c : Dev nD) (q : ℕ) (hq : q < 256) : at2 (V m c main_v1 : Vec Ideal S1x256 .f32) 0 q = NormBack.at1 (m ((c : Thread nD τ).loc main_arg2) : Vec Ideal S256 .f32) q := by
  have e : ∀ i : S1x256.Idx, (V m c main_v1 : Vec Ideal S1x256 .f32) i = NormBack.at1 (m ((c : Thread nD τ).loc main_arg2) : Vec Ideal S256 .f32) (i 1).val := by
    unfold V
    simp only [hostOps0, hostOps0_1, hostOps0_2, List.flatten_cons, List.flatten_nil, List.append_nil, List.cons_append, List.nil_append]
    after_results
    intro i
    idx_vars i
    pointwise
    exact NormBack.at1_ix (m ((c : Thread nD τ).loc main_arg2) : Vec Ideal S256 .f32) _
  unfold at2
  rw [dif_pos ⟨by omega, hq⟩]
  exact e _

theorem blk_2 (c : Dev nD) (t : Fin cfg0.N) (q : ℕ) (hq : q < 256) :
    at2 (iblk m c 3 t : Vec Ideal S1x256 .f32) 0 q = NormBack.at1 (m ((c : Thread nD τ).loc main_arg2) : Vec Ideal S256 .f32) q := by
  obtain ⟨-, -, -, h, -⟩ := idx t
  rw [← V_2 m c q hq]
  unfold at2
  rw [dif_pos ⟨by omega, hq⟩, dif_pos ⟨by omega, hq⟩]
  blk_ext [iblk, h]

theorem V_3 (c : Dev nD) (q : ℕ) (hq : q < 256) : at2 (V m c main_v2 : Vec Ideal S1x256 .f32) 0 q = NormBack.at1 (m ((c : Thread nD τ).loc main_arg3) : Vec Ideal S256 .f32) q := by
  have e : ∀ i : S1x256.Idx, (V m c main_v2 : Vec Ideal S1x256 .f32) i = NormBack.at1 (m ((c : Thread nD τ).loc main_arg3) : Vec Ideal S256 .f32) (i 1).val := by
    unfold V
    simp only [hostOps0, hostOps0_1, hostOps0_2, List.flatten_cons, List.flatten_nil, List.append_nil, List.cons_append, List.nil_append]
    after_results
    intro i
    idx_vars i
    pointwise
    exact NormBack.at1_ix (m ((c : Thread nD τ).loc main_arg3) : Vec Ideal S256 .f32) _
  unfold at2
  rw [dif_pos ⟨by omega, hq⟩]
  exact e _

theorem blk_3 (c : Dev nD) (t : Fin cfg0.N) (q : ℕ) (hq : q < 256) :
    at2 (iblk m c 4 t : Vec Ideal S1x256 .f32) 0 q = NormBack.at1 (m ((c : Thread nD τ).loc main_arg3) : Vec Ideal S256 .f32) q := by
  obtain ⟨-, -, -, -, h, -⟩ := idx t
  rw [← V_3 m c q hq]
  unfold at2
  rw [dif_pos ⟨by omega, hq⟩, dif_pos ⟨by omega, hq⟩]
  blk_ext [iblk, h]

theorem V_4 (c : Dev nD) (q : ℕ) (hq : q < 256) : at2 (V m c main_v3 : Vec Ideal S1x256 .f32) 0 q = NormBack.at1 (m ((c : Thread nD τ).loc main_arg4) : Vec Ideal S256 .f32) q := by
  have e : ∀ i : S1x256.Idx, (V m c main_v3 : Vec Ideal S1x256 .f32) i = NormBack.at1 (m ((c : Thread nD τ).loc main_arg4) : Vec Ideal S256 .f32) (i 1).val := by
    unfold V
    simp only [hostOps0, hostOps0_1, hostOps0_2, List.flatten_cons, List.flatten_nil, List.append_nil, List.cons_append, List.nil_append]
    after_results
    intro i
    idx_vars i
    pointwise
    exact NormBack.at1_ix (m ((c : Thread nD τ).loc main_arg4) : Vec Ideal S256 .f32) _
  unfold at2
  rw [dif_pos ⟨by omega, hq⟩]
  exact e _

theorem blk_4 (c : Dev nD) (t : Fin cfg0.N) (q : ℕ) (hq : q < 256) :
    at2 (iblk m c 5 t : Vec Ideal S1x256 .f32) 0 q = NormBack.at1 (m ((c : Thread nD τ).loc main_arg4) : Vec Ideal S256 .f32) q := by
  obtain ⟨-, -, -, -, -, h, -⟩ := idx t
  rw [← V_4 m c q hq]
  unfold at2
  rw [dif_pos ⟨by omega, hq⟩, dif_pos ⟨by omega, hq⟩]
  blk_ext [iblk, h]

theorem rowBuf_eq (c : Dev nD) (t : Fin cfg0.N) (r q : ℕ) (hr : r < 542) (hq : q < 256) :
    rowBuf (grid0.coords t) (iblk m c 0 t) (iblk m c 1 t) (2 + r) q = led (m ((c : Thread nD τ).loc main_arg0) : Vec Ideal S4096x512 .f32) (512 * t.val + r) q := by
  obtain ⟨-, -, -, -, -, -, -, -, h⟩ := idx t
  have ht : t.val < 8 := t.isLt
  unfold rowBuf led
  rw [h]
  by_cases h1 : 2 + r < 32
  · rw [if_pos h1]
    by_cases h2 : 0 < t.val
    · rw [if_pos h2, if_neg (by omega)]
      unfold glu
      rw [blk_halo m c t _ q h1 (by omega) h2, blk_halo m c t _ _ h1 (by omega) h2, show 512 * t.val + (2 + r) - 32 = 512 * t.val + r - 30 by omega]
    · rw [if_neg h2, if_pos (by omega)]
  · rw [if_neg h1, if_neg (by omega)]
    unfold glu
    rw [blk_u m c t _ q (by omega) (by omega), blk_u m c t _ _ (by omega) (by omega), show 512 * t.val + (2 + r - 32) = 512 * t.val + r - 30 by omega]

theorem taps_eq (c : Dev nD) (t : Fin cfg0.N) (r q : ℕ) (hr : r < 512) (hq : q < 256) :
    tapsB (rowBuf (grid0.coords t) (iblk m c 0 t) (iblk m c 1 t)) (iblk m c 2 t) r q = conv (m ((c : Thread nD τ).loc main_arg0) : Vec Ideal S4096x512 .f32) (m ((c : Thread nD τ).loc main_arg1) : Vec Ideal S31x256 .f32) (512 * t.val + r) q := by
  unfold tapsB conv
  refine Finset.sum_congr rfl fun j hj => ?_
  have hj' := Finset.mem_range.mp hj
  rw [blk_w m c t j q hj' hq, Nat.add_assoc, rowBuf_eq m c t _ q (by omega) hq, show 512 * t.val + (j + r) = j + (512 * t.val + r) by omega]

/-- The convolution as an array. -/
def resC (u : Vec Ideal S4096x512 .f32) (w : Vec Ideal S31x256 .f32) : Vec Ideal S4096x256 .f32 :=
  fun i => conv u w (i 0).val (i 1).val

/-- The rows after the norm and the gate. -/
def resO (u : Vec Ideal S4096x512 .f32) (w : Vec Ideal S31x256 .f32) (b lg lb : Vec Ideal S256 .f32) : Vec Ideal S4096x256 .bf16 :=
  fun i => gated (fun k => conv u w (i 0).val k + NormBack.at1 b k) (NormBack.at1 lg) (NormBack.at1 lb) (i 1).val

theorem final7 (c : Dev nD) : (dats m 0 c).arrAt 7 cfg0.N = resC (m ((c : Thread nD τ).loc main_arg0) : Vec Ideal S4096x512 .f32) (m ((c : Thread nD τ).loc main_arg1) : Vec Ideal S31x256 .f32) := by
  refine (dats m 0 c).arrAt_eq_of_covers 7 _ (by decide +kernel) fun t hf y => ?_
  obtain ⟨-, -, -, -, -, -, -, h, -⟩ := idx t
  rw [after0_7]
  unfold outsAt0
  have e := block_conv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)
  generalize out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) = f at e ⊢
  refine (e _).trans ?_
  rw [taps_eq m c t _ _ (y 0).isLt (y 1).isLt]
  unfold resC
  blk_simp [h]
  rw [Nat.mul_comm 512 t.val]

theorem final6 (c : Dev nD) : (dats m 0 c).arrAt 6 cfg0.N = resO (m ((c : Thread nD τ).loc main_arg0) : Vec Ideal S4096x512 .f32) (m ((c : Thread nD τ).loc main_arg1) : Vec Ideal S31x256 .f32) (m ((c : Thread nD τ).loc main_arg2) : Vec Ideal S256 .f32) (m ((c : Thread nD τ).loc main_arg3) : Vec Ideal S256 .f32) (m ((c : Thread nD τ).loc main_arg4) : Vec Ideal S256 .f32) := by
  refine (dats m 0 c).arrAt_eq_of_covers 6 _ (by decide +kernel) fun t hf y => ?_
  obtain ⟨-, -, -, -, -, -, h, -⟩ := idx t
  rw [after0_6]
  unfold outsAt0
  have e := block_gated c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)
  generalize out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) = f at e ⊢
  refine (e _).trans ?_
  rw [gated_congr (fun k hk => congrArg₂ (· + ·) (taps_eq m c t _ k (y 0).isLt hk) (blk_2 m c t k hk)) (blk_3 m c t _ (y 1).isLt) (blk_4 m c t _ (y 1).isLt) (y 1).isLt]
  unfold resO
  blk_simp [h]
  rw [Nat.mul_comm 512 t.val]

end Cert.Kernel15Ideal.RefValue

end
-- ==== Proof.ConvFwdRef.lean ====
module

public import proofs.«01_k».proof.Proof.Gen.Reference15Ideal.Run
public import proofs.«01_k».proof.Proof.NormGate
public import proofs.«01_k».proof.Proof.NormBack

@[expose] public section

set_option maxRecDepth 16384

noncomputable section

/-! The results of the reference of the convolution read at an element. -/

namespace Cert.Reference15Ideal.RefValue

open Cert.Reference15Ideal Cert.Reference15Ideal.Gen Cert.Reference15Ideal.Value Idealize.ShloMosaic Idealize.ShloMosaic.TcCoe
open Idealize.SL.Sem Idealize.ShloMosaic.StableHlo Cert.Coords Cert.NormGate

variable (V0 : Valuation τ sig (Elt Ideal))

/-- The rows of gated values behind thirty rows of zeros. -/
theorem rows_apply (a : Fin 4126) (b : Fin 256) :
    res_main_v10 V0 (ix2 a b) = led (V0 (Proc.devRef .tc main_arg0) : Vec Ideal S4096x512 .f32) a.val b.val := by
  have ha := a.isLt
  unfold res_main_v10 led
  pointwise
  by_cases h : a.val < 30
  · rw [dif_pos h, if_pos h]
  · rw [dif_neg h, if_neg h]
    unfold glu sg
    simp only [zero_sub, at2_ix]

set_option maxHeartbeats 4000000 in
theorem conv_apply (a : Fin 4096) (b : Fin 256) :
    res_main_v231 V0 (ix2 a b) = conv (V0 (Proc.devRef .tc main_arg0) : Vec Ideal S4096x512 .f32) (V0 (Proc.devRef .tc main_arg1) : Vec Ideal S31x256 .f32) a.val b.val + NormBack.at1 (V0 (Proc.devRef .tc main_arg2) : Vec Ideal S256 .f32) b.val := by
  unfold res_main_v231 res_main_v179 res_main_v95 conv
  rw [← sum31]
  have hR := rows_apply V0
  generalize res_main_v10 V0 = R at hR ⊢
  pointwise
  simp only [hR]
  simp only [at2_ix, NormBack.at1_ix]
  rfl

set_option maxHeartbeats 4000000 in
theorem conv_result (a : Fin 4096) (b : Fin 256) :
    (addf (addf (addf (addf (addf (addf (addf (res_main_v179 V0) (mulf (broadcastInDim S4096x256 ![0, 1] bcast_S1x256_S4096x256_0_1 (broadcastInDim S1x256 ![1] bcast_S256_S1x256_1 (shapeCast _ (extractStridedSlice S1x256 ![24, 0] (V0 (Proc.devRef .tc main_arg1)) slices_S31x256_S1x256_24_0) shapeCasts_S1x256_S256))) (extractStridedSlice S4096x256 ![24, 0] (res_main_v10 V0) slices_S4126x256_S4096x256_24_0))) (mulf (broadcastInDim S4096x256 ![0, 1] bcast_S1x256_S4096x256_0_1 (broadcastInDim S1x256 ![1] bcast_S256_S1x256_1 (shapeCast _ (extractStridedSlice S1x256 ![25, 0] (V0 (Proc.devRef .tc main_arg1)) slices_S31x256_S1x256_25_0) shapeCasts_S1x256_S256))) (extractStridedSlice S4096x256 ![25, 0] (res_main_v10 V0) slices_S4126x256_S4096x256_25_0))) (mulf (broadcastInDim S4096x256 ![0, 1] bcast_S1x256_S4096x256_0_1 (broadcastInDim S1x256 ![1] bcast_S256_S1x256_1 (shapeCast _ (extractStridedSlice S1x256 ![26, 0] (V0 (Proc.devRef .tc main_arg1)) slices_S31x256_S1x256_26_0) shapeCasts_S1x256_S256))) (extractStridedSlice S4096x256 ![26, 0] (res_main_v10 V0) slices_S4126x256_S4096x256_26_0))) (mulf (broadcastInDim S4096x256 ![0, 1] bcast_S1x256_S4096x256_0_1 (broadcastInDim S1x256 ![1] bcast_S256_S1x256_1 (shapeCast _ (extractStridedSlice S1x256 ![27, 0] (V0 (Proc.devRef .tc main_arg1)) slices_S31x256_S1x256_27_0) shapeCasts_S1x256_S256))) (extractStridedSlice S4096x256 ![27, 0] (res_main_v10 V0) slices_S4126x256_S4096x256_27_0))) (mulf (broadcastInDim S4096x256 ![0, 1] bcast_S1x256_S4096x256_0_1 (broadcastInDim S1x256 ![1] bcast_S256_S1x256_1 (shapeCast _ (extractStridedSlice S1x256 ![28, 0] (V0 (Proc.devRef .tc main_arg1)) slices_S31x256_S1x256_28_0) shapeCasts_S1x256_S256))) (extractStridedSlice S4096x256 ![28, 0] (res_main_v10 V0) slices_S4126x256_S4096x256_28_0))) (mulf (broadcastInDim S4096x256 ![0, 1] bcast_S1x256_S4096x256_0_1 (broadcastInDim S1x256 ![1] bcast_S256_S1x256_1 (shapeCast _ (extractStridedSlice S1x256 ![29, 0] (V0 (Proc.devRef .tc main_arg1)) slices_S31x256_S1x256_29_0) shapeCasts_S1x256_S256))) (extractStridedSlice S4096x256 ![29, 0] (res_main_v10 V0) slices_S4126x256_S4096x256_29_0))) (mulf (broadcastInDim S4096x256 ![0, 1] bcast_S1x256_S4096x256_0_1 (broadcastInDim S1x256 ![1] bcast_S256_S1x256_1 (shapeCast _ (extractStridedSlice S1x256 ![30, 0] (V0 (Proc.devRef .tc main_arg1)) slices_S31x256_S1x256_30_0) shapeCasts_S1x256_S256))) (extractStridedSlice S4096x256 ![30, 0] (res_main_v10 V0) slices_S4126x256_S4096x256_30_0)) : FVec Ideal S4096x256 .f32) (ix2 a b) = conv (V0 (Proc.devRef .tc main_arg0) : Vec Ideal S4096x512 .f32) (V0 (Proc.devRef .tc main_arg1) : Vec Ideal S31x256 .f32) a.val b.val := by
  unfold res_main_v179 res_main_v95 conv
  rw [← sum31]
  have hR := rows_apply V0
  generalize res_main_v10 V0 = R at hR ⊢
  pointwise
  simp only [hR]
  simp only [at2_ix]
  rfl

/-- A row before the norm. -/
def row (a : ℕ) : ℕ → EReal := fun k => conv (V0 (Proc.devRef .tc main_arg0) : Vec Ideal S4096x512 .f32) (V0 (Proc.devRef .tc main_arg1) : Vec Ideal S31x256 .f32) a k + NormBack.at1 (V0 (Proc.devRef .tc main_arg2) : Vec Ideal S256 .f32) k

theorem mean_apply (a : Fin 4096) (z : Fin 1) : res_main_v235 V0 (ix2 a z) = mean (row V0 a.val) := by
  have hR := conv_apply V0
  unfold res_main_v235
  generalize res_main_v231 V0 = R at hR ⊢
  pointwise
  simp only [hR]
  rfl

theorem lnz_apply (a : Fin 4096) (b : Fin 256) :
    res_main_v255 V0 (ix2 a b) = lnz (row V0 a.val) (NormBack.at1 (V0 (Proc.devRef .tc main_arg3) : Vec Ideal S256 .f32)) (NormBack.at1 (V0 (Proc.devRef .tc main_arg4) : Vec Ideal S256 .f32)) b.val := by
  have hR := conv_apply V0
  have hM := mean_apply V0
  unfold res_main_v255 res_main_v237
  generalize res_main_v231 V0 = R at hR ⊢
  generalize res_main_v235 V0 = M at hM ⊢
  pointwise
  simp only [hR, hM]
  unfold lnz rstd
  simp only [NormBack.at1_ix]
  rfl

theorem gated_result (a : Fin 4096) (b : Fin 256) :
    (truncf .bf16 (mulf (res_main_v255 V0) (Host.divf (broadcastInDim S4096x256 ![] bcast_S_S4096x256 (constant S_ .f32 0x3F800000#32)) (addf (broadcastInDim S4096x256 ![] bcast_S_S4096x256 (constant S_ .f32 0x3F800000#32)) (Host.exp (Host.negf (res_main_v255 V0)))))) bitsLt_bf16_f32 : FVec Ideal S4096x256 .bf16) (ix2 a b) = gated (row V0 a.val) (NormBack.at1 (V0 (Proc.devRef .tc main_arg3) : Vec Ideal S256 .f32)) (NormBack.at1 (V0 (Proc.devRef .tc main_arg4) : Vec Ideal S256 .f32)) b.val := by
  have hL := lnz_apply V0
  generalize res_main_v255 V0 = L at hL ⊢
  pointwise
  simp only [hL]
  unfold gated sg
  simp only [zero_sub]

end Cert.Reference15Ideal.RefValue

end
-- ==== Proof.ConvFwdClaims.lean ====
/- The claims about the convolution with its norm and gate: the runs of the two programs end at the same rows. -/
module

public import proofs.«01_k».proof.Defs
public import proofs.«01_k».proof.Proof.Gen.Kernel15.Frame
public import proofs.«01_k».proof.Proof.Gen.Kernel15Ideal.Frame
public import proofs.«01_k».proof.Proof.Gen.Reference15Ideal
public import proofs.«01_k».proof.Proof.Gen.Reference15Ideal.Run
public import proofs.«01_k».proof.Proof.ConvFwdValue
public import proofs.«01_k».proof.Proof.ConvFwdRef
public import Idealize.ShloMosaic.Adequacy
public import Idealize.ShloMosaic.Init

@[expose] public section

set_option maxRecDepth 16384

noncomputable section

namespace Cert.ConvFwd

open Idealize.ShloMosaic Idealize.SL.Sem Cert.Coords

theorem frame_p : Cert.quiescent_Kernel15 := fun m ρ _ => Cert.Kernel15.Gen.frame m ρ

theorem frame_pi : Cert.quiescent_Kernel15Ideal := fun m ρ _ => Cert.Kernel15Ideal.Gen.frame m ρ

theorem frame_ri : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨_, _, Cert.Kernel15Ideal.Value.run_blocks (F := Ideal) m ρ, ?_⟩
  refine (θ_run Cert.Reference15Ideal.defs _ _).mono (fun _ h c => ⟨(h c).1.trans ?_, (h c).2.1.trans ?_, (h c).2.2⟩)
    (Cert.Reference15Ideal.Value.run (F := Ideal) m' ρ')
  · rw [Cert.Kernel15Ideal.RefValue.final6]
    obtain ⟨e0, e1, e2, e3, e4⟩ := hagree c
    funext i
    idx_vars i
    refine (Cert.Reference15Ideal.RefValue.gated_result (StableHlo.launchContents m' c) _ _).trans ?_
    unfold Cert.Reference15Ideal.RefValue.row
    rw [show StableHlo.launchContents m' c (Proc.devRef .tc Cert.Reference15Ideal.main_arg0) = _ from e0, show StableHlo.launchContents m' c (Proc.devRef .tc Cert.Reference15Ideal.main_arg1) = _ from e1,
      show StableHlo.launchContents m' c (Proc.devRef .tc Cert.Reference15Ideal.main_arg2) = _ from e2,
      show StableHlo.launchContents m' c (Proc.devRef .tc Cert.Reference15Ideal.main_arg3) = _ from e3,
      show StableHlo.launchContents m' c (Proc.devRef .tc Cert.Reference15Ideal.main_arg4) = _ from e4]
    rfl
  · rw [Cert.Kernel15Ideal.RefValue.final7]
    obtain ⟨e0, e1, e2, e3, e4⟩ := hagree c
    funext i
    idx_vars i
    refine (Cert.Reference15Ideal.RefValue.conv_result (StableHlo.launchContents m' c) _ _).trans ?_
    rw [show StableHlo.launchContents m' c (Proc.devRef .tc Cert.Reference15Ideal.main_arg0) = _ from e0, show StableHlo.launchContents m' c (Proc.devRef .tc Cert.Reference15Ideal.main_arg1) = _ from e1]
    rfl

end Cert.ConvFwd

end
-- ==== Proof.AdamInValue.lean ====
/- What the optimiser's step over the input projections leaves in its results, element by element. -/
module

public import proofs.«01_k».proof.Proof.Gen.Kernel17Ideal.Value
public import proofs.«01_k».proof.Proof.Coords
public import Idealize.ShloMosaic.Lib.Pipeline.ReadBack

@[expose] public section

set_option maxRecDepth 16384

noncomputable section

namespace Cert.Kernel17Ideal.RefValue

open Cert.Kernel17Ideal Cert.Kernel17Ideal.Gen Idealize.ShloMosaic Idealize.ShloMosaic.TcCoe Idealize.SL.Sem Cert.Coords
open Idealize.ShloMosaic.Pipeline (Dat)

variable (m : (ℓ : Loc nD τ sig) → Buf (Elt Ideal) ℓ) (ρ : Dev nD → PrngReg)

/-- The new first moment of an element. -/
def newM (g m : EReal) : EReal :=
  Scalar.ofBits (F := Ideal) .f32 0x3F666666#32 * m + Scalar.ofBits (F := Ideal) .f32 0x3DCCCCCD#32 * g

/-- The new second moment of an element. -/
def newV (g v : EReal) : EReal :=
  Scalar.ofBits (F := Ideal) .f32 0x3F7FBE77#32 * v + Scalar.ofBits (F := Ideal) .f32 0x3A83126F#32 * (g * g)

/-- The step of an element. -/
def delta (w g m v : EReal) : EReal :=
  Scalar.ofBits (F := Ideal) .f32 0xBA83126F#32
    * (Ideal.div (Ideal.div (newM g m) (Scalar.ofBits (F := Ideal) .f32 0x3F26BD02#32))
        (Ideal.sqrt (Ideal.div (newV g v) (Scalar.ofBits (F := Ideal) .f32 0x3C231ACC#32)) + Scalar.ofBits (F := Ideal) .f32 0x322BCC77#32)
      + Scalar.ofBits (F := Ideal) .f32 0x3C23D70A#32 * w)

theorem out4 (x0 : Vec Ideal S59x2x1024 .f32) (x1 : Vec Ideal S59x2x1024 .f32) (x2 : Vec Ideal S59x2x1024 .f32) (x3 : Vec Ideal S59x2x1024 .f32) (y : S59x2x1024.Idx) :
    out0_4 x0 x1 x2 x3 y = delta (at3 x0 (y 0).val (y 1).val (y 2).val) (at3 x1 (y 0).val (y 1).val (y 2).val) (at3 x2 (y 0).val (y 1).val (y 2).val) (at3 x3 (y 0).val (y 1).val (y 2).val) := by
  unfold out0_4
  idx_vars y
  canon_tiles x h
  idx_vars x
  open_payloads
  pointwise
  pointwise at h0 h1 h2
  rw [h0, h1, h2]
  unfold delta newM newV
  simp only [Nat.zero_add, ← at3_ix]
  rfl

theorem out5 (x0 : Vec Ideal S59x2x1024 .f32) (x1 : Vec Ideal S59x2x1024 .f32) (x2 : Vec Ideal S59x2x1024 .f32) (x3 : Vec Ideal S59x2x1024 .f32) (y : S59x2x1024.Idx) :
    out0_5 x0 x1 x2 x3 y = newM (at3 x1 (y 0).val (y 1).val (y 2).val) (at3 x2 (y 0).val (y 1).val (y 2).val) := by
  unfold out0_5
  idx_vars y
  canon_tiles x h
  idx_vars x
  open_payloads
  pointwise
  pointwise at h0 h1 h2
  rw [h0, h1, h2]
  unfold newM
  simp only [Nat.zero_add, ← at3_ix]
  rfl

theorem out6 (x0 : Vec Ideal S59x2x1024 .f32) (x1 : Vec Ideal S59x2x1024 .f32) (x2 : Vec Ideal S59x2x1024 .f32) (x3 : Vec Ideal S59x2x1024 .f32) (y : S59x2x1024.Idx) :
    out0_6 x0 x1 x2 x3 y = newV (at3 x1 (y 0).val (y 1).val (y 2).val) (at3 x3 (y 0).val (y 1).val (y 2).val) := by
  unfold out0_6
  idx_vars y
  canon_tiles x h
  idx_vars x
  open_payloads
  pointwise
  pointwise at h0 h1 h2
  rw [h0, h1, h2]
  unfold newV
  simp only [Nat.zero_add, ← at3_ix]
  rfl

theorem idx (t : Fin cfg0.N) : win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]) t

theorem V_w (c : Dev nD) (a b q : ℕ) (ha : a < 708) (hb : b < 2) (hq : q < 1024) :
    at3 (V m c main_v2 : Vec Ideal S708x2x1024 .f32) a b q = at3 (m ((c.tc : Thread nD τ).loc main_arg0) : Vec Ideal S2x1024x708 .f32) b q a := by
  have e : ∀ i : S708x2x1024.Idx, (V m c main_v2 : Vec Ideal S708x2x1024 .f32) i = at3 (m ((c.tc : Thread nD τ).loc main_arg0) : Vec Ideal S2x1024x708 .f32) (i 1).val (i 2).val (i 0).val := by
    unfold V
    simp only [hostOps0, List.flatten_cons, List.flatten_nil, List.append_nil, List.cons_append, List.nil_append]
    after_results
    intro i
    idx_vars i
    pointwise
    exact at3_ix (m ((c.tc : Thread nD τ).loc main_arg0) : Vec Ideal S2x1024x708 .f32) _ _ _
  conv_lhs => unfold at3
  rw [dif_pos ⟨ha, hb, hq⟩]
  exact e _

theorem blk_w (c : Dev nD) (t : Fin cfg0.N) (a b q : ℕ) (ha : a < 59) (hb : b < 2) (hq : q < 1024) :
    at3 (iblk m c 0 t : Vec Ideal S59x2x1024 .f32) a b q = at3 (m ((c.tc : Thread nD τ).loc main_arg0) : Vec Ideal S2x1024x708 .f32) b q (59 * t.val + a) := by
  obtain ⟨h, -⟩ := idx t
  have ht : t.val < 12 := t.isLt
  rw [← V_w m c (59 * t.val + a) b q (by omega) hb hq]
  unfold at3
  rw [dif_pos ⟨ha, hb, hq⟩, dif_pos ⟨by omega, hb, hq⟩]
  blk_ext [iblk, h]

theorem V_g (c : Dev nD) (a b q : ℕ) (ha : a < 708) (hb : b < 2) (hq : q < 1024) :
    at3 (V m c main_v1 : Vec Ideal S708x2x1024 .f32) a b q = at3 (m ((c.tc : Thread nD τ).loc main_arg1) : Vec Ideal S2x736x1024 .f32) b a q := by
  have e : ∀ i : S708x2x1024.Idx, (V m c main_v1 : Vec Ideal S708x2x1024 .f32) i = at3 (m ((c.tc : Thread nD τ).loc main_arg1) : Vec Ideal S2x736x1024 .f32) (i 1).val (i 0).val (i 2).val := by
    unfold V
    simp only [hostOps0, List.flatten_cons, List.flatten_nil, List.append_nil, List.cons_append, List.nil_append]
    after_results
    intro i
    idx_vars i
    pointwise
    exact at3_ix (m ((c.tc : Thread nD τ).loc main_arg1) : Vec Ideal S2x736x1024 .f32) _ _ _
  conv_lhs => unfold at3
  rw [dif_pos ⟨ha, hb, hq⟩]
  exact e _

theorem blk_g (c : Dev nD) (t : Fin cfg0.N) (a b q : ℕ) (ha : a < 59) (hb : b < 2) (hq : q < 1024) :
    at3 (iblk m c 1 t : Vec Ideal S59x2x1024 .f32) a b q = at3 (m ((c.tc : Thread nD τ).loc main_arg1) : Vec Ideal S2x736x1024 .f32) b (59 * t.val + a) q := by
  obtain ⟨-, h, -⟩ := idx t
  have ht : t.val < 12 := t.isLt
  rw [← V_g m c (59 * t.val + a) b q (by omega) hb hq]
  unfold at3
  rw [dif_pos ⟨ha, hb, hq⟩, dif_pos ⟨by omega, hb, hq⟩]
  blk_ext [iblk, h]

theorem V_m (c : Dev nD) (a b q : ℕ) (ha : a < 708) (hb : b < 2) (hq : q < 1024) :
    at3 (V m c main_v3 : Vec Ideal S708x2x1024 .f32) a b q = at3 (m ((c.tc : Thread nD τ).loc main_arg2) : Vec Ideal S2x1024x708 .f32) b q a := by
  have e : ∀ i : S708x2x1024.Idx, (V m c main_v3 : Vec Ideal S708x2x1024 .f32) i = at3 (m ((c.tc : Thread nD τ).loc main_arg2) : Vec Ideal S2x1024x708 .f32) (i 1).val (i 2).val (i 0).val := by
    unfold V
    simp only [hostOps0, List.flatten_cons, List.flatten_nil, List.append_nil, List.cons_append, List.nil_append]
    after_results
    intro i
    idx_vars i
    pointwise
    exact at3_ix (m ((c.tc : Thread nD τ).loc main_arg2) : Vec Ideal S2x1024x708 .f32) _ _ _
  conv_lhs => unfold at3
  rw [dif_pos ⟨ha, hb, hq⟩]
  exact e _

theorem blk_m (c : Dev nD) (t : Fin cfg0.N) (a b q : ℕ) (ha : a < 59) (hb : b < 2) (hq : q < 1024) :
    at3 (iblk m c 2 t : Vec Ideal S59x2x1024 .f32) a b q = at3 (m ((c.tc : Thread nD τ).loc main_arg2) : Vec Ideal S2x1024x708 .f32) b q (59 * t.val + a) := by
  obtain ⟨-, -, h, -⟩ := idx t
  have ht : t.val < 12 := t.isLt
  rw [← V_m m c (59 * t.val + a) b q (by omega) hb hq]
  unfold at3
  rw [dif_pos ⟨ha, hb, hq⟩, dif_pos ⟨by omega, hb, hq⟩]
  blk_ext [iblk, h]

theorem V_v (c : Dev nD) (a b q : ℕ) (ha : a < 708) (hb : b < 2) (hq : q < 1024) :
    at3 (V m c main_v4 : Vec Ideal S708x2x1024 .f32) a b q = at3 (m ((c.tc : Thread nD τ).loc main_arg3) : Vec Ideal S2x1024x708 .f32) b q a := by
  have e : ∀ i : S708x2x1024.Idx, (V m c main_v4 : Vec Ideal S708x2x1024 .f32) i = at3 (m ((c.tc : Thread nD τ).loc main_arg3) : Vec Ideal S2x1024x708 .f32) (i 1).val (i 2).val (i 0).val := by
    unfold V
    simp only [hostOps0, List.flatten_cons, List.flatten_nil, List.append_nil, List.cons_append, List.nil_append]
    after_results
    intro i
    idx_vars i
    pointwise
    exact at3_ix (m ((c.tc : Thread nD τ).loc main_arg3) : Vec Ideal S2x1024x708 .f32) _ _ _
  conv_lhs => unfold at3
  rw [dif_pos ⟨ha, hb, hq⟩]
  exact e _

theorem blk_v (c : Dev nD) (t : Fin cfg0.N) (a b q : ℕ) (ha : a < 59) (hb : b < 2) (hq : q < 1024) :
    at3 (iblk m c 3 t : Vec Ideal S59x2x1024 .f32) a b q = at3 (m ((c.tc : Thread nD τ).loc main_arg3) : Vec Ideal S2x1024x708 .f32) b q (59 * t.val + a) := by
  obtain ⟨-, -, -, h, -⟩ := idx t
  have ht : t.val < 12 := t.isLt
  rw [← V_v m c (59 * t.val + a) b q (by omega) hb hq]
  unfold at3
  rw [dif_pos ⟨ha, hb, hq⟩, dif_pos ⟨by omega, hb, hq⟩]
  blk_ext [iblk, h]

/-- The steps, the columns first. -/
def res4 (w : Vec Ideal S2x1024x708 .f32) (g : Vec Ideal S2x736x1024 .f32) (m v : Vec Ideal S2x1024x708 .f32) : Vec Ideal S708x2x1024 .f32 := fun i => delta (at3 w (i 1).val (i 2).val (i 0).val) (at3 g (i 1).val (i 0).val (i 2).val) (at3 m (i 1).val (i 2).val (i 0).val) (at3 v (i 1).val (i 2).val (i 0).val)

/-- The new first moments, the columns first. -/
def res5 (w : Vec Ideal S2x1024x708 .f32) (g : Vec Ideal S2x736x1024 .f32) (m v : Vec Ideal S2x1024x708 .f32) : Vec Ideal S708x2x1024 .f32 := fun i => newM (at3 g (i 1).val (i 0).val (i 2).val) (at3 m (i 1).val (i 2).val (i 0).val)

/-- The new second moments, the columns first. -/
def res6 (w : Vec Ideal S2x1024x708 .f32) (g : Vec Ideal S2x736x1024 .f32) (m v : Vec Ideal S2x1024x708 .f32) : Vec Ideal S708x2x1024 .f32 := fun i => newV (at3 g (i 1).val (i 0).val (i 2).val) (at3 v (i 1).val (i 2).val (i 0).val)

theorem final4 (c : Dev nD) : (dats m 0 c).arrAt 4 cfg0.N = res4 (m ((c.tc : Thread nD τ).loc main_arg0) : Vec Ideal S2x1024x708 .f32) (m ((c.tc : Thread nD τ).loc main_arg1) : Vec Ideal S2x736x1024 .f32) (m ((c.tc : Thread nD τ).loc main_arg2) : Vec Ideal S2x1024x708 .f32) (m ((c.tc : Thread nD τ).loc main_arg3) : Vec Ideal S2x1024x708 .f32) := by
  refine (dats m 0 c).arrAt_eq_of_covers 4 _ (by decide +kernel) fun t hf y => ?_
  obtain ⟨-, -, -, -, h, -⟩ := idx t
  rw [after0_4]
  have e := out4 (iblk m c 0 t) (iblk m c 1 t) (iblk m c 2 t) (iblk m c 3 t)
  generalize out0_4 (iblk m c 0 t) (iblk m c 1 t) (iblk m c 2 t) (iblk m c 3 t) = f at e ⊢
  refine (e y).trans ?_
  rw [blk_w m c t _ _ _ (y 0).isLt (y 1).isLt (y 2).isLt, blk_g m c t _ _ _ (y 0).isLt (y 1).isLt (y 2).isLt, blk_m m c t _ _ _ (y 0).isLt (y 1).isLt (y 2).isLt, blk_v m c t _ _ _ (y 0).isLt (y 1).isLt (y 2).isLt]
  unfold res4
  blk_simp [h]
  rw [Nat.mul_comm 59 t.val]

theorem final5 (c : Dev nD) : (dats m 0 c).arrAt 5 cfg0.N = res5 (m ((c.tc : Thread nD τ).loc main_arg0) : Vec Ideal S2x1024x708 .f32) (m ((c.tc : Thread nD τ).loc main_arg1) : Vec Ideal S2x736x1024 .f32) (m ((c.tc : Thread nD τ).loc main_arg2) : Vec Ideal S2x1024x708 .f32) (m ((c.tc : Thread nD τ).loc main_arg3) : Vec Ideal S2x1024x708 .f32) := by
  refine (dats m 0 c).arrAt_eq_of_covers 5 _ (by decide +kernel) fun t hf y => ?_
  obtain ⟨-, -, -, -, -, h, -⟩ := idx t
  rw [after0_5]
  have e := out5 (iblk m c 0 t) (iblk m c 1 t) (iblk m c 2 t) (iblk m c 3 t)
  generalize out0_5 (iblk m c 0 t) (iblk m c 1 t) (iblk m c 2 t) (iblk m c 3 t) = f at e ⊢
  refine (e y).trans ?_
  rw [blk_g m c t _ _ _ (y 0).isLt (y 1).isLt (y 2).isLt, blk_m m c t _ _ _ (y 0).isLt (y 1).isLt (y 2).isLt]
  unfold res5
  blk_simp [h]
  rw [Nat.mul_comm 59 t.val]

theorem final6 (c : Dev nD) : (dats m 0 c).arrAt 6 cfg0.N = res6 (m ((c.tc : Thread nD τ).loc main_arg0) : Vec Ideal S2x1024x708 .f32) (m ((c.tc : Thread nD τ).loc main_arg1) : Vec Ideal S2x736x1024 .f32) (m ((c.tc : Thread nD τ).loc main_arg2) : Vec Ideal S2x1024x708 .f32) (m ((c.tc : Thread nD τ).loc main_arg3) : Vec Ideal S2x1024x708 .f32) := by
  refine (dats m 0 c).arrAt_eq_of_covers 6 _ (by decide +kernel) fun t hf y => ?_
  obtain ⟨-, -, -, -, -, -, h⟩ := idx t
  rw [after0_6]
  have e := out6 (iblk m c 0 t) (iblk m c 1 t) (iblk m c 2 t) (iblk m c 3 t)
  generalize out0_6 (iblk m c 0 t) (iblk m c 1 t) (iblk m c 2 t) (iblk m c 3 t) = f at e ⊢
  refine (e y).trans ?_
  rw [blk_g m c t _ _ _ (y 0).isLt (y 1).isLt (y 2).isLt, blk_v m c t _ _ _ (y 0).isLt (y 1).isLt (y 2).isLt]
  unfold res6
  blk_simp [h]
  rw [Nat.mul_comm 59 t.val]

end Cert.Kernel17Ideal.RefValue

end
-- ==== Proof.AdamInClaims.lean ====
/- The claims about the optimiser's step over the input projections: the runs of the two programs end at the same steps
   and moments. -/
module

public import proofs.«01_k».proof.Defs
public import proofs.«01_k».proof.Proof.Gen.Kernel17.Frame
public import proofs.«01_k».proof.Proof.Gen.Kernel17Ideal.Frame
public import proofs.«01_k».proof.Proof.Gen.Reference17Ideal
public import proofs.«01_k».proof.Proof.Gen.Reference17Ideal.Run
public import proofs.«01_k».proof.Proof.AdamInValue
public import Idealize.ShloMosaic.Adequacy
public import Idealize.ShloMosaic.Init

@[expose] public section

set_option maxRecDepth 16384

noncomputable section

namespace Cert.AdamIn

open Idealize.ShloMosaic Idealize.SL.Sem Cert.Coords

theorem frame_p : Cert.quiescent_Kernel17 := fun m ρ _ => Cert.Kernel17.Gen.frame m ρ

theorem frame_pi : Cert.quiescent_Kernel17Ideal := fun m ρ _ => Cert.Kernel17Ideal.Gen.frame m ρ

theorem frame_ri : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

open Cert.Kernel17Ideal.RefValue in
theorem algebraic : Cert.algebraic_Kernel17Ideal_Reference17Ideal := by
  intro m ρ m' ρ' _ hagree
  refine ⟨_, _, _, Cert.Kernel17Ideal.Value.run_blocks (F := Ideal) m ρ, ?_⟩
  refine (θ_run Cert.Reference17Ideal.defs _ _).mono (fun _ h c => ⟨(h c).1.trans ?_, (h c).2.1.trans ?_, (h c).2.2.1.trans ?_, (h c).2.2.2⟩)
    (Cert.Reference17Ideal.Value.run (F := Ideal) m' ρ')
  all_goals
    first
      | rw [Cert.Kernel17Ideal.RefValue.final4]
      | rw [Cert.Kernel17Ideal.RefValue.final5]
      | rw [Cert.Kernel17Ideal.RefValue.final6]
    obtain ⟨e0, e1, e2, e3⟩ := hagree c
    clear h hagree
    first
      | rw [e0, e1, e2, e3]
      | rw [e1, e2]
      | rw [e1, e3]
    funext i
    idx_vars i
    pointwise
    first
      | unfold res4 delta newM newV
      | unfold res5 newM
      | unfold res6 newV
    simp only [at3_ix]
    rfl

end Cert.AdamIn

end
-- ==== Proof.NormGateBack.lean ====
/- The gradient of a layer norm with its gate: as the kernel writes it and as differentiation writes it. On rows of real
   numbers the two agree. -/
module

public import proofs.«01_k».proof.Proof.NormGate
public import proofs.«01_k».proof.Proof.NormBack

@[expose] public section

set_option maxRecDepth 16384

noncomputable section

namespace Cert.NormGate

open Idealize.ShloMosaic Cert.Coords

/-- A row's difference from its mean, over its deviation. -/
def nrm (x : ℕ → EReal) (q : ℕ) : EReal := (x q - mean x) * rstd x

/-- The gradient at the norm's result, as the kernel writes it. -/
def dzK (x d lg lb : ℕ → EReal) (q : ℕ) : EReal :=
  d q * (sg (lnz x lg lb q) * (1 + lnz x lg lb q * (1 - sg (lnz x lg lb q))))

/-- The gradient at the norm's result, as differentiation writes it. -/
def dzR (x d lg lb : ℕ → EReal) (q : ℕ) : EReal :=
  d q * sg (lnz x lg lb q) + lnz x lg lb q * d q * (sg (lnz x lg lb q) * (1 - sg (lnz x lg lb q)))

/-- The gradient at the norm's operand from that at the scaled row `dn`, as the kernel writes it. -/
def dcOf (x dn : ℕ → EReal) (q : ℕ) : EReal :=
  rstd x * (dn q - mean dn - nrm x q * mean (fun k => dn k * nrm x k))

/-- The part through the deviation. -/
def through (x dn : ℕ → EReal) : EReal :=
  Ideal.div ((∑ k : Fin 256, (x k.val - mean x) * dn k.val)
    * (Ideal.ofBits .f32 3204448256#32 * Ideal.div (rstd x) (mean (fun k => (x k - mean x) * (x k - mean x)) + Ideal.ofBits .f32 897988541#32)))
    (Ideal.ofBits .f32 1132462080#32)

/-- The gradient at the norm's operand from that at the scaled row `dn`, as differentiation writes it. -/
def dcRefOf (x dn : ℕ → EReal) (q : ℕ) : EReal :=
  dn q * rstd x + through x dn * (Ideal.ofBits .f32 1073741824#32 * (x q - mean x))
    + Ideal.div ((∑ k : Fin 256, -(dn k.val * rstd x))
        + ∑ k : Fin 256, -(through x dn * (Ideal.ofBits .f32 1073741824#32 * (x k.val - mean x)))) (Ideal.ofBits .f32 1132462080#32)

theorem dzK_congr {x y d d' lg lg' lb lb' : ℕ → EReal} {q : ℕ} (h : ∀ k, k < 256 → x k = y k) (hd : d q = d' q) (hg : lg q = lg' q)
    (hb : lb q = lb' q) (hq : q < 256) : dzK x d lg lb q = dzK y d' lg' lb' q := by
  unfold dzK lnz
  rw [mean_congr h, rstd_congr h, h q hq, hd, hg, hb]

theorem nrm_congr {x y : ℕ → EReal} {q : ℕ} (h : ∀ k, k < 256 → x k = y k) (hq : q < 256) : nrm x q = nrm y q := by
  unfold nrm
  rw [mean_congr h, rstd_congr h, h q hq]

theorem dcOf_congr {x y dn dn' : ℕ → EReal} {q : ℕ} (h : ∀ k, k < 256 → x k = y k) (hn : ∀ k, k < 256 → dn k = dn' k) (hq : q < 256) :
    dcOf x dn q = dcOf y dn' q := by
  unfold dcOf
  rw [rstd_congr h, nrm_congr h hq, hn q hq, mean_congr hn, show mean (fun k => dn k * nrm x k) = mean (fun k => dn' k * nrm y k) from mean_congr fun k hk => by rw [hn k hk, nrm_congr h hk]]

theorem f256 : Ideal.ofBits .f32 1132462080#32 = ((256 : ℝ) : EReal) := by
  simp [Ideal.ofBits, Ideal.ieee, -EReal.coe_mul]
  norm_num

theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]

theorem sum_coe (f : ℕ → ℝ) : (∑ k : Fin 256, ((f k.val : ℝ) : EReal)) = ((∑ k : Fin 256, f k.val : ℝ) : EReal) := by
  generalize (Finset.univ : Finset (Fin 256)) = s
  induction s using Finset.induction_on with
  | empty => simp
  | insert a s ha ih => rw [Finset.sum_insert ha, Finset.sum_insert ha, ih, EReal.coe_add]

/-- The mean of a row of real numbers. -/
def rmean (X : ℕ → ℝ) : ℝ := (∑ k : Fin 256, X k.val) * (256 : ℝ)⁻¹

theorem mean_coe (X : ℕ → ℝ) : mean (fun k => ((X k : ℝ) : EReal)) = ((rmean X : ℝ) : EReal) := by
  unfold mean
  rw [f256, sum_coe, div_coe _ _ (by norm_num)]
  rfl

/-- What is under the root, as a positive real number. -/
theorem var_coe (X : ℕ → ℝ) : ∃ s : ℝ, 0 < s ∧ mean (fun k => ((X k : ℝ) : EReal) * ((X k : ℝ) : EReal)) + Ideal.ofBits .f32 897988541#32 = ((s : ℝ) : EReal) := by
  obtain ⟨e, he, hE⟩ := NormBack.feps
  refine ⟨rmean (fun k => X k * X k) + e, ?_, ?_⟩
  · have : 0 ≤ ∑ k : Fin 256, X k.val * X k.val := Finset.sum_nonneg fun k _ => mul_self_nonneg _
    unfold rmean
    positivity
  · rw [hE, EReal.coe_add, ← mean_coe]
    simp only [EReal.coe_mul]

theorem rsqrt_pos (s : ℝ) (hs : 0 < s) : Ideal.rsqrt (s : EReal) = (((Real.sqrt s)⁻¹ : ℝ) : EReal) := by
  rw [Ideal.rsqrt_coe, if_neg (by linarith), if_neg (by linarith)]

theorem sg_coe (z : ℝ) : ∃ g : ℝ, sg (z : EReal) = (g : EReal) := by
  refine ⟨1 * (1 + Real.exp (0 - z))⁻¹, ?_⟩
  unfold sg
  have h : (1 : EReal) + Ideal.exp (0 - (z : EReal)) = ((1 + Real.exp (0 - z) : ℝ) : EReal) := by
    rw [EReal.coe_add, show (0 : EReal) - (z : EReal) = ((0 - z : ℝ) : EReal) by rw [EReal.coe_sub, EReal.coe_zero]]
    rfl
  rw [h, ← EReal.coe_one, div_coe _ _ (by positivity)]

/-- On a row of real numbers the two gradients through the norm agree. -/
theorem dcRef_eq (X D : ℕ → ℝ) (q : ℕ) :
    dcRefOf (fun k => ((X k : ℝ) : EReal)) (fun k => ((D k : ℝ) : EReal)) q = dcOf (fun k => ((X k : ℝ) : EReal)) (fun k => ((D k : ℝ) : EReal)) q := by
  obtain ⟨s, hs, hS⟩ := var_coe (fun k => X k - rmean X)
  have hd : ∀ k, ((X k : ℝ) : EReal) - mean (fun k => ((X k : ℝ) : EReal)) = ((X k - rmean X : ℝ) : EReal) := fun k => by
    rw [mean_coe, EReal.coe_sub]
  have hr : rstd (fun k => ((X k : ℝ) : EReal)) = (((Real.sqrt s)⁻¹ : ℝ) : EReal) := by
    unfold rstd
    simp only [hd]
    rw [hS, rsqrt_pos s hs]
  have hrr : (Real.sqrt s)⁻¹ * (Real.sqrt s)⁻¹ = s⁻¹ := by
    rw [← mul_inv, Real.mul_self_sqrt hs.le]
  have h0 : ∑ k : Fin 256, (X k.val - rmean X) = 0 := by
    rw [Finset.sum_sub_distrib, Finset.sum_const, Finset.card_univ, Fintype.card_fin, nsmul_eq_mul]
    unfold rmean
    push_cast
    ring
  generalize (Real.sqrt s)⁻¹ = r at hr hrr
  generalize hY : (fun k => X k - rmean X) = Y at hS
  have hy : ∀ k, X k - rmean X = Y k := fun k => congrFun hY k
  simp only [hy] at hS
  have hT : through (fun k => ((X k : ℝ) : EReal)) (fun k => ((D k : ℝ) : EReal))
      = (((∑ k : Fin 256, Y k.val * D k.val) * (-(1 / 2) * (r * s⁻¹)) * (256 : ℝ)⁻¹ : ℝ) : EReal) := by
    unfold through
    simp only [hd, hy, hr]
    rw [hS, div_coe _ _ hs.ne', NormBack.fneg]
    simp only [← EReal.coe_mul]
    rw [sum_coe (fun k => Y k * D k), ← EReal.coe_mul, f256, div_coe _ _ (by norm_num)]
  have hn : ∀ k, nrm (fun k => ((X k : ℝ) : EReal)) k = ((Y k * r : ℝ) : EReal) := fun k => by
    unfold nrm
    rw [hd, hy, hr, EReal.coe_mul]
  unfold dcRefOf dcOf
  rw [hT]
  simp only [hd, hy, hr, hn, NormBack.ftwo, ← EReal.coe_mul, ← EReal.coe_neg]
  generalize hC : (∑ k : Fin 256, Y k.val * D k.val) * (-(1 / 2) * (r * s⁻¹)) * (256 : ℝ)⁻¹ = C
  rw [mean_coe, mean_coe (fun k => D k * (Y k * r)), sum_coe (fun k => -(D k * r)), sum_coe (fun k => -(C * (2 * Y k)))]
  simp only [← EReal.coe_add]
  rw [f256, div_coe _ _ (by norm_num)]
  simp only [← EReal.coe_add, ← EReal.coe_mul, ← EReal.coe_sub]
  congr 1
  simp only [hy] at h0
  have e1 : ∑ k : Fin 256, -(D k.val * r) = -(r * ∑ k : Fin 256, D k.val) := by
    rw [Finset.sum_neg_distrib, ← Finset.sum_mul, mul_comm]
  have e2 : ∑ k : Fin 256, -(C * (2 * Y k.val)) = 0 := by
    rw [Finset.sum_neg_distrib, ← Finset.mul_sum, ← Finset.mul_sum, h0]
    ring
  have e3 : ∑ k : Fin 256, D k.val * (Y k.val * r) = r * ∑ k : Fin 256, Y k.val * D k.val := by
    rw [Finset.mul_sum]
    exact Finset.sum_congr rfl fun k _ => by ring
  unfold rmean
  rw [e1, e2, e3, ← hC, ← hrr]
  ring

/-- A number that is neither of the two infinities. -/
def Fin1 (x : EReal) : Prop := ∃ a : ℝ, x = (a : EReal)

theorem not_fin1 {x : EReal} (h : ¬Fin1 x) : x = ⊤ ∨ x = ⊥ := by
  induction x with
  | bot => exact Or.inr rfl
  | top => exact Or.inl rfl
  | coe a => exact absurd ⟨a, rfl⟩ h

theorem div256 (a : EReal) : Ideal.div a (Ideal.ofBits .f32 1132462080#32) = a * (((256 : ℝ)⁻¹ : ℝ) : EReal) := by
  rw [f256]
  unfold Ideal.div
  rw [if_neg (by norm_num), EReal.coe_inv]

theorem sum_bot (f : ℕ → EReal) (k0 : Fin 256) (h : f k0.val = ⊥) : (∑ k : Fin 256, f k.val) = ⊥ := by
  rw [← Finset.add_sum_erase _ _ (Finset.mem_univ k0), h, EReal.bot_add]

theorem sum_top (f : ℕ → EReal) (hf : ∀ k : Fin 256, f k.val ≠ ⊥) (k0 : Fin 256) (h : f k0.val = ⊤) : (∑ k : Fin 256, f k.val) = ⊤ := by
  rw [← Finset.add_sum_erase _ _ (Finset.mem_univ k0), h]
  refine EReal.top_add_of_ne_bot ?_
  generalize Finset.univ.erase k0 = s
  induction s using Finset.induction_on with
  | empty => simp
  | insert a s ha ih =>
    rw [Finset.sum_insert ha]
    exact fun hb => (EReal.add_eq_bot_iff.mp hb).elim (hf a) ih

/-- A row that holds an infinity has an infinite variance. -/
theorem var_inf (x : ℕ → EReal) (k0 : Fin 256) (h : ¬Fin1 (x k0.val)) :
    mean (fun k => (x k - mean x) * (x k - mean x)) + Ideal.ofBits .f32 897988541#32 = ⊤ := by
  have hp : (0 : EReal) < (((256 : ℝ)⁻¹ : ℝ) : EReal) := by exact_mod_cast (by norm_num : (0 : ℝ) < (256 : ℝ)⁻¹)
  have hsq : ∀ k : Fin 256, (x k.val - mean x) * (x k.val - mean x) = ⊤ := by
    by_cases hb : ∃ k : Fin 256, x k.val = ⊥
    · obtain ⟨k1, hk1⟩ := hb
      have hm : mean x = ⊥ := by
        unfold mean
        rw [div256, sum_bot x k1 hk1, EReal.bot_mul_of_pos hp]
      intro k
      rw [hm]
      generalize x k.val = a
      induction a with
      | bot => rfl
      | top => rfl
      | coe a => rfl
    · have hn : ∀ k : Fin 256, x k.val ≠ ⊥ := fun k hk => hb ⟨k, hk⟩
      have hm : mean x = ⊤ := by
        unfold mean
        rw [div256, sum_top x hn k0 ((not_fin1 h).resolve_right (hn k0)), EReal.top_mul_of_pos hp]
      intro k
      rw [hm]
      generalize x k.val = a
      induction a with
      | bot => rfl
      | top => rfl
      | coe a => rfl
  obtain ⟨e, -, hE⟩ := NormBack.feps
  rw [show mean (fun k => (x k - mean x) * (x k - mean x)) = ⊤ from ?_, hE]
  · rfl
  · unfold mean
    rw [div256]
    rw [sum_top (fun k => (x k - Ideal.div (∑ k : Fin 256, x k.val) (Ideal.ofBits .f32 1132462080#32)) * (x k - Ideal.div (∑ k : Fin 256, x k.val) (Ideal.ofBits .f32 1132462080#32)))
      (fun k hk => by have := (hsq k).symm.trans hk; exact absurd this (by simp)) k0 (hsq k0), EReal.top_mul_of_pos hp]

/-- The gradient at the norm's result is the same real number both ways, whatever the norm's result is. -/
theorem dz_pair (z : EReal) (d : ℝ) : ∃ r : ℝ, (d : EReal) * (sg z * (1 + z * (1 - sg z))) = (r : EReal)
    ∧ (d : EReal) * sg z + z * d * (sg z * (1 - sg z)) = (r : EReal) := by
  induction z with
  | bot =>
    have h : sg ⊥ = 0 := by
      unfold sg
      rw [show (0 : EReal) - ⊥ = ⊤ from rfl, show Ideal.exp ⊤ = ⊤ from rfl, show (1 : EReal) + ⊤ = ⊤ from EReal.add_top_of_ne_bot (EReal.coe_ne_bot 1)]
      simp [Ideal.div]
    exact ⟨0, by simp [h], by simp [h]⟩
  | top =>
    have h : sg ⊤ = 1 := by
      unfold sg
      rw [show (0 : EReal) - ⊤ = ⊥ from rfl, show Ideal.exp ⊥ = 0 from rfl, add_zero, ← EReal.coe_one, div_coe _ _ (by norm_num)]
      norm_num
    have h1 : (1 : EReal) - 1 = 0 := by
      rw [← EReal.coe_one, ← EReal.coe_sub, sub_self, EReal.coe_zero]
    exact ⟨d, by simp [h, h1], by simp [h, h1]⟩
  | coe z =>
    obtain ⟨g, hg⟩ := sg_coe z
    refine ⟨d * (g * (1 + z * (1 - g))), ?_, ?_⟩
    · rw [hg, ← EReal.coe_one]
      simp only [← EReal.coe_mul, ← EReal.coe_add, ← EReal.coe_sub]
    · rw [hg, ← EReal.coe_one]
      simp only [← EReal.coe_mul, ← EReal.coe_add, ← EReal.coe_sub]
      congr 1
      ring

/-- Where the gradient and the scale are real numbers the two gradients agree, whatever the row holds. -/
theorem dc_eq (x d lg lb : ℕ → EReal) (hx : ∀ k, 256 ≤ k → Fin1 (x k)) (hd : ∀ k, Fin1 (d k)) (hg : ∀ k, Fin1 (lg k)) (q : ℕ) :
    dcRefOf x (fun k => dzR x d lg lb k * lg k) q = dcOf x (fun k => dzK x d lg lb k * lg k) q := by
  by_cases hall : ∀ k, Fin1 (x k)
  · choose X hX using hall
    choose D hD using hd
    choose G hG using hg
    obtain rfl : x = fun k => ((X k : ℝ) : EReal) := funext hX
    choose R hRK hRR using fun k => dz_pair (lnz (fun k => ((X k : ℝ) : EReal)) lg lb k) (D k)
    have hK : (fun k => dzK (fun k => ((X k : ℝ) : EReal)) d lg lb k * lg k) = fun k => ((R k * G k : ℝ) : EReal) := by
      funext k
      unfold dzK
      rw [hD, hRK, hG, ← EReal.coe_mul]
    have hR : (fun k => dzR (fun k => ((X k : ℝ) : EReal)) d lg lb k * lg k) = fun k => ((R k * G k : ℝ) : EReal) := by
      funext k
      unfold dzR
      rw [hD, hRR, hG, ← EReal.coe_mul]
    rw [hK, hR]
    exact dcRef_eq X _ q
  · obtain ⟨k0, hk0⟩ := not_forall.mp hall
    have hlt : k0 < 256 := by
      by_contra h
      exact hk0 (hx k0 (not_lt.mp h))
    have hv := var_inf x ⟨k0, hlt⟩ hk0
    have hr : rstd x = 0 := by
      unfold rstd
      rw [hv]
      rfl
    have ht : ∀ dn : ℕ → EReal, through x dn = 0 := fun dn => by
      unfold through
      rw [hr, hv, div256]
      simp [Ideal.div]
    unfold dcRefOf dcOf
    rw [ht, hr, div256]
    simp

end Cert.NormGate

end
-- ==== Proof.ConvDcBlock.lean ====
module

public import proofs.«01_k».proof.Proof.Gen.Kernel19Ideal.Value
public import proofs.«01_k».proof.Proof.NormGateBack

@[expose] public section

set_option maxRecDepth 16384

noncomputable section

/-! What one grid point of the gradient through the norm and the gate leaves in its block of the first result. -/

namespace Cert.Kernel19Ideal.RefValue

open Cert.Kernel19Ideal Cert.Kernel19Ideal.Gen Idealize.ShloMosaic Idealize.ShloMosaic.TcCoe Idealize.SL.Sem Cert.Coords Cert.NormGate
open Idealize.ShloMosaic.Pipeline (Dat)

/-- The gradient at the norm's operand, from a block's rows. -/
def dcB (x2 x3 : Vec Ideal S512x256 .f32) (x4 x5 x6 : Vec Ideal S1x256 .f32) (r q : ℕ) : EReal :=
  dcOf (fun k => at2 x2 r k + at2 x4 0 k) (fun k => dzK (fun k => at2 x2 r k + at2 x4 0 k) (at2 x3 r) (at2 x5 0) (at2 x6 0) k * at2 x5 0 k) q

set_option maxHeartbeats 16000000 in
theorem block_A (c : Dev nD) (i : grid0.Coords) (arg1 : Memref sig .tc .vmem S512x512 .f32) (harg1 : arg1.IsWhole) (arg2 : Memref sig .tc .vmem S32x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S32x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S544x256 .f32) (harg13 : arg13.IsWhole) (arg14 : Memref sig .tc .vmem S32x8x256 .f32) (harg14 : arg14.IsWhole) (hc0 : cond0_0 i) (hc1 : ¬cond0_1 i)
    (x0 : Vec Ideal S512x512 .f32) (x1 : Vec Ideal S32x512 .f32) (x2 : Vec Ideal S512x256 .f32) (x3 : Vec Ideal S512x256 .f32) (x4 : Vec Ideal S1x256 .f32) (x5 : Vec Ideal S1x256 .f32) (x6 : Vec Ideal S1x256 .f32) (y : S512x256.Idx) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y = dcB x2 x3 x4 x5 x6 (y 0).val (y 1).val := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, View.readCov_eq_canon']
  idx_vars y
  canon_tiles x h
  all_goals
    idx_vars x
    open_payloads
    pointwise
    pointwise at h0 h1
    rw [h0, h1]
    unfold dcB dcOf dzK nrm lnz rstd mean sg
    simp only [at2_ix, Nat.zero_add, Nat.add_zero, Fin.isValue, Fin.coe_ofNat_eq_mod, Nat.reduceMod]

set_option maxHeartbeats 16000000 in
theorem block_B (c : Dev nD) (i : grid0.Coords) (arg1 : Memref sig .tc .vmem S512x512 .f32) (harg1 : arg1.IsWhole) (arg2 : Memref sig .tc .vmem S32x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S32x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S544x256 .f32) (harg13 : arg13.IsWhole) (arg14 : Memref sig .tc .vmem S32x8x256 .f32) (harg14 : arg14.IsWhole) (hc0 : ¬cond0_0 i) (hc1 : ¬cond0_1 i)
    (x0 : Vec Ideal S512x512 .f32) (x1 : Vec Ideal S32x512 .f32) (x2 : Vec Ideal S512x256 .f32) (x3 : Vec Ideal S512x256 .f32) (x4 : Vec Ideal S1x256 .f32) (x5 : Vec Ideal S1x256 .f32) (x6 : Vec Ideal S1x256 .f32) (xo9 : Vec Ideal S1x256 .f32) (xo10 : Vec Ideal S1x256 .f32) (xo11 : Vec Ideal S1x256 .f32) (xs1 : Vec Ideal S32x8x256 .f32) (y : S512x256.Idx) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1 y = dcB x2 x3 x4 x5 x6 (y 0).val (y 1).val := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1)]
  unfold kernelRun0_B
  dsimp only
  sl_unfold_words
  simp only [View.readAt_eq_ld, harg1.read_unread, harg2.read_unread, harg3.read_unread, harg4.read_unread, harg5.read_unread, harg6.read_unread, harg7.read_unread, View.readCov_eq_canon']
  idx_vars y
  canon_tiles x h
  all_goals
    idx_vars x
    open_payloads
    pointwise
    pointwise at h0 h1
    rw [h0, h1]
    unfold dcB dcOf dzK nrm lnz rstd mean sg
    simp only [at2_ix, Nat.zero_add, Nat.add_zero, Fin.isValue, Fin.coe_ofNat_eq_mod, Nat.reduceMod]

set_option maxHeartbeats 16000000 in
theorem block_C (c : Dev nD) (i : grid0.Coords) (arg1 : Memref sig .tc .vmem S512x512 .f32) (harg1 : arg1.IsWhole) (arg2 : Memref sig .tc .vmem S32x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S32x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S544x256 .f32) (harg13 : arg13.IsWhole) (arg14 : Memref sig .tc .vmem S32x8x256 .f32) (harg14 : arg14.IsWhole) (hc0 : ¬cond0_0 i) (hc1 : cond0_1 i)
    (x0 : Vec Ideal S512x512 .f32) (x1 : Vec Ideal S32x512 .f32) (x2 : Vec Ideal S512x256 .f32) (x3 : Vec Ideal S512x256 .f32) (x4 : Vec Ideal S1x256 .f32) (x5 : Vec Ideal S1x256 .f32) (x6 : Vec Ideal S1x256 .f32) (xo9 : Vec Ideal S1x256 .f32) (xo10 : Vec Ideal S1x256 .f32) (xo11 : Vec Ideal S1x256 .f32) (xs1 : Vec Ideal S32x8x256 .f32) (y : S512x256.Idx) :
    out0_C_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1 y = dcB x2 x3 x4 x5 x6 (y 0).val (y 1).val := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1)]
  unfold kernelRun0_C
  dsimp only
  sl_unfold_words
  simp only [View.readAt_eq_ld, harg1.read_unread, harg2.read_unread, harg3.read_unread, harg4.read_unread, harg5.read_unread, harg6.read_unread, harg7.read_unread, View.readCov_eq_canon']
  idx_vars y
  canon_tiles x h
  all_goals
    idx_vars x
    open_payloads
    pointwise
    pointwise at h0 h1
    rw [h0, h1]
    unfold dcB dcOf dzK nrm lnz rstd mean sg
    simp only [at2_ix, Nat.zero_add, Nat.add_zero, Fin.isValue, Fin.coe_ofNat_eq_mod, Nat.reduceMod]

end Cert.Kernel19Ideal.RefValue

end
-- ==== Proof.ConvDcValue.lean ====
/- The first result of the gradient through the norm and the gate, element by element, in terms of the arguments. -/
module

public import proofs.«01_k».proof.Proof.ConvDcBlock
public import proofs.«01_k».proof.Proof.NormBack
public import Idealize.ShloMosaic.Lib.Pipeline.ReadBack

@[expose] public section

set_option maxRecDepth 16384

noncomputable section

namespace Cert.Kernel19Ideal.RefValue

open Cert.Kernel19Ideal Cert.Kernel19Ideal.Gen Idealize.ShloMosaic Idealize.ShloMosaic.TcCoe Idealize.SL.Sem Cert.Coords Cert.NormGate
open Idealize.ShloMosaic.Pipeline (Dat)

variable (m : (ℓ : Loc nD τ sig) → Buf (Elt Ideal) ℓ) (ρ : Dev nD → PrngReg)

theorem idx (t : Fin cfg0.N) : win0_2.index t = ![t.val, 0] ∧ win0_3.index t = ![t.val, 0] ∧ win0_4.index t = ![0, 0] ∧ win0_5.index t = ![0, 0]
    ∧ win0_6.index t = ![0, 0] ∧ win0_7.index t = ![t.val, 0] :=
  (by decide +kernel : ∀ t : Fin grid0.N, win0_2.index t = ![t.val, 0] ∧ win0_3.index t = ![t.val, 0] ∧ win0_4.index t = ![0, 0] ∧ win0_5.index t = ![0, 0]
    ∧ win0_6.index t = ![0, 0] ∧ win0_7.index t = ![t.val, 0]) t

theorem blk_2 (c : Dev nD) (t : Fin cfg0.N) (r q : ℕ) (hr : r < 512) (hq : q < 256) :
    at2 (iblk m c 2 t : Vec Ideal S512x256 .f32) r q = at2 (m ((c : Thread nD τ).loc main_arg1) : Vec Ideal S4096x256 .f32) (512 * t.val + r) q := by
  obtain ⟨h, -⟩ := idx t
  have ht : t.val < 8 := t.isLt
  unfold at2
  rw [dif_pos ⟨hr, hq⟩, dif_pos ⟨by omega, hq⟩]
  blk_ext [iblk, V, h]

theorem blk_3 (c : Dev nD) (t : Fin cfg0.N) (r q : ℕ) (hr : r < 512) (hq : q < 256) :
    at2 (iblk m c 3 t : Vec Ideal S512x256 .f32) r q = at2 (m ((c : Thread nD τ).loc main_arg2) : Vec Ideal S4096x256 .f32) (512 * t.val + r) q := by
  obtain ⟨-, h, -⟩ := idx t
  have ht : t.val < 8 := t.isLt
  unfold at2
  rw [dif_pos ⟨hr, hq⟩, dif_pos ⟨by omega, hq⟩]
  blk_ext [iblk, V, h]

theorem V_4 (c : Dev nD) (q : ℕ) (hq : q < 256) : at2 (V m c main_v0 : Vec Ideal S1x256 .f32) 0 q = NormBack.at1 (m ((c : Thread nD τ).loc main_arg3) : Vec Ideal S256 .f32) q := by
  have e : ∀ i : S1x256.Idx, (V m c main_v0 : Vec Ideal S1x256 .f32) i = NormBack.at1 (m ((c : Thread nD τ).loc main_arg3) : Vec Ideal S256 .f32) (i 1).val := by
    unfold V
    simp only [hostOps0]
    after_results
    intro i
    idx_vars i
    pointwise
    exact NormBack.at1_ix (m ((c : Thread nD τ).loc main_arg3) : Vec Ideal S256 .f32) _
  unfold at2
  rw [dif_pos ⟨by omega, hq⟩]
  exact e _

theorem blk_4 (c : Dev nD) (t : Fin cfg0.N) (q : ℕ) (hq : q < 256) :
    at2 (iblk m c 4 t : Vec Ideal S1x256 .f32) 0 q = NormBack.at1 (m ((c : Thread nD τ).loc main_arg3) : Vec Ideal S256 .f32) q := by
  obtain ⟨-, -, h, -⟩ := idx t
  rw [← V_4 m c q hq]
  unfold at2
  rw [dif_pos ⟨by omega, hq⟩, dif_pos ⟨by omega, hq⟩]
  blk_ext [iblk, h]

theorem V_5 (c : Dev nD) (q : ℕ) (hq : q < 256) : at2 (V m c main_v1 : Vec Ideal S1x256 .f32) 0 q = NormBack.at1 (m ((c : Thread nD τ).loc main_arg4) : Vec Ideal S256 .f32) q := by
  have e : ∀ i : S1x256.Idx, (V m c main_v1 : Vec Ideal S1x256 .f32) i = NormBack.at1 (m ((c : Thread nD τ).loc main_arg4) : Vec Ideal S256 .f32) (i 1).val := by
    unfold V
    simp only [hostOps0]
    after_results
    intro i
    idx_vars i
    pointwise
    exact NormBack.at1_ix (m ((c : Thread nD τ).loc main_arg4) : Vec Ideal S256 .f32) _
  unfold at2
  rw [dif_pos ⟨by omega, hq⟩]
  exact e _

theorem blk_5 (c : Dev nD) (t : Fin cfg0.N) (q : ℕ) (hq : q < 256) :
    at2 (iblk m c 5 t : Vec Ideal S1x256 .f32) 0 q = NormBack.at1 (m ((c : Thread nD τ).loc main_arg4) : Vec Ideal S256 .f32) q := by
  obtain ⟨-, -, -, h, -⟩ := idx t
  rw [← V_5 m c q hq]
  unfold at2
  rw [dif_pos ⟨by omega, hq⟩, dif_pos ⟨by omega, hq⟩]
  blk_ext [iblk, h]

theorem V_6 (c : Dev nD) (q : ℕ) (hq : q < 256) : at2 (V m c main_v2 : Vec Ideal S1x256 .f32) 0 q = NormBack.at1 (m ((c : Thread nD τ).loc main_arg5) : Vec Ideal S256 .f32) q := by
  have e : ∀ i : S1x256.Idx, (V m c main_v2 : Vec Ideal S1x256 .f32) i = NormBack.at1 (m ((c : Thread nD τ).loc main_arg5) : Vec Ideal S256 .f32) (i 1).val := by
    unfold V
    simp only [hostOps0]
    after_results
    intro i
    idx_vars i
    pointwise
    exact NormBack.at1_ix (m ((c : Thread nD τ).loc main_arg5) : Vec Ideal S256 .f32) _
  unfold at2
  rw [dif_pos ⟨by omega, hq⟩]
  exact e _

theorem blk_6 (c : Dev nD) (t : Fin cfg0.N) (q : ℕ) (hq : q < 256) :
    at2 (iblk m c 6 t : Vec Ideal S1x256 .f32) 0 q = NormBack.at1 (m ((c : Thread nD τ).loc main_arg5) : Vec Ideal S256 .f32) q := by
  obtain ⟨-, -, -, -, h, -⟩ := idx t
  rw [← V_6 m c q hq]
  unfold at2
  rw [dif_pos ⟨by omega, hq⟩, dif_pos ⟨by omega, hq⟩]
  blk_ext [iblk, h]

/-- A row before the norm. -/
def row (x : Vec Ideal S4096x256 .f32) (b : Vec Ideal S256 .f32) (r : ℕ) : ℕ → EReal := fun k => at2 x r k + NormBack.at1 b k

/-- The gradient at a scaled row. -/
def dn (x d : Vec Ideal S4096x256 .f32) (b lg lb : Vec Ideal S256 .f32) (r : ℕ) : ℕ → EReal :=
  fun k => dzK (row x b r) (at2 d r) (NormBack.at1 lg) (NormBack.at1 lb) k * NormBack.at1 lg k

/-- The gradient at the norm's operand. -/
def resDc (x d : Vec Ideal S4096x256 .f32) (b lg lb : Vec Ideal S256 .f32) : Vec Ideal S4096x256 .f32 :=
  fun i => dcOf (row x b (i 0).val) (dn x d b lg lb (i 0).val) (i 1).val

theorem dcB_eq (c : Dev nD) (t : Fin cfg0.N) (r q : ℕ) (hr : r < 512) (hq : q < 256) :
    dcB (iblk m c 2 t : Vec Ideal S512x256 .f32) (iblk m c 3 t : Vec Ideal S512x256 .f32) (iblk m c 4 t : Vec Ideal S1x256 .f32) (iblk m c 5 t : Vec Ideal S1x256 .f32) (iblk m c 6 t : Vec Ideal S1x256 .f32) r q
      = dcOf (row (m ((c : Thread nD τ).loc main_arg1) : Vec Ideal S4096x256 .f32) (m ((c : Thread nD τ).loc main_arg3) : Vec Ideal S256 .f32) (512 * t.val + r)) (dn (m ((c : Thread nD τ).loc main_arg1) : Vec Ideal S4096x256 .f32) (m ((c : Thread nD τ).loc main_arg2) : Vec Ideal S4096x256 .f32) (m ((c : Thread nD τ).loc main_arg3) : Vec Ideal S256 .f32) (m ((c : Thread nD τ).loc main_arg4) : Vec Ideal S256 .f32) (m ((c : Thread nD τ).loc main_arg5) : Vec Ideal S256 .f32) (512 * t.val + r)) q := by
  unfold dcB
  have hX : ∀ k, k < 256 → at2 (iblk m c 2 t : Vec Ideal S512x256 .f32) r k + at2 (iblk m c 4 t : Vec Ideal S1x256 .f32) 0 k = row (m ((c : Thread nD τ).loc main_arg1) : Vec Ideal S4096x256 .f32) (m ((c : Thread nD τ).loc main_arg3) : Vec Ideal S256 .f32) (512 * t.val + r) k := fun k hk => by
    unfold row
    rw [blk_2 m c t r k hr hk, blk_4 m c t k hk]
  refine dcOf_congr hX (fun k hk => ?_) hq
  unfold dn
  rw [dzK_congr hX (blk_3 m c t r k hr hk) (blk_5 m c t k hk) (blk_6 m c t k hk) hk, blk_5 m c t k hk]

theorem point (c : Dev nD) (t : Fin cfg0.N) (y : S512x256.Idx) : (outsAt0 m c t.val t.isLt).1 y
    = dcOf (row (m ((c : Thread nD τ).loc main_arg1) : Vec Ideal S4096x256 .f32) (m ((c : Thread nD τ).loc main_arg3) : Vec Ideal S256 .f32) (512 * t.val + (y 0).val)) (dn (m ((c : Thread nD τ).loc main_arg1) : Vec Ideal S4096x256 .f32) (m ((c : Thread nD τ).loc main_arg2) : Vec Ideal S4096x256 .f32) (m ((c : Thread nD τ).loc main_arg3) : Vec Ideal S256 .f32) (m ((c : Thread nD τ).loc main_arg4) : Vec Ideal S256 .f32) (m ((c : Thread nD τ).loc main_arg5) : Vec Ideal S256 .f32) (512 * t.val + (y 0).val)) (y 1).val := by
  rw [← dcB_eq m c t _ _ (y 0).isLt (y 1).isLt]
  by_cases h0 : t.val % 8 = 0
  · rw [outsAt0_A m c t h0 (by omega)]
    dsimp only
    rw [block_A]
  · by_cases h1 : t.val % 8 = 7
    · rw [outsAt0_C m c t h0 h1]
      dsimp only
      rw [block_C]
    · rw [outsAt0_B m c t h0 h1]
      dsimp only
      rw [block_B]

theorem final7 (c : Dev nD) : (dats m 0 c).arrAt 7 cfg0.N = resDc (m ((c : Thread nD τ).loc main_arg1) : Vec Ideal S4096x256 .f32) (m ((c : Thread nD τ).loc main_arg2) : Vec Ideal S4096x256 .f32) (m ((c : Thread nD τ).loc main_arg3) : Vec Ideal S256 .f32) (m ((c : Thread nD τ).loc main_arg4) : Vec Ideal S256 .f32) (m ((c : Thread nD τ).loc main_arg5) : Vec Ideal S256 .f32) := by
  refine (dats m 0 c).arrAt_eq_of_covers 7 _ (by decide +kernel) fun t hf y => ?_
  obtain ⟨-, -, -, -, -, h⟩ := idx t
  rw [after0_7]
  refine (point m c t y).trans ?_
  unfold resDc
  blk_simp [h]
  rw [Nat.mul_comm 512 t.val]

end Cert.Kernel19Ideal.RefValue

end
-- ==== Proof.ConvDcRun.lean ====
/- The run of the reference of the gradient through the norm and the gate, with its result written over named steps. -/
module

public import proofs.«01_k».proof.Proof.Gen.Reference19Ideal
public import Idealize.ShloMosaic.Lib.StableHlo.Run

@[expose] public section

noncomputable section

namespace Cert.Reference19Ideal.RefValue

open Cert.Reference19Ideal Cert.Reference19Ideal.Gen Idealize.ShloMosaic Idealize.ShloMosaic.TcCoe Idealize.SL.Sem Idealize.ShloMosaic.StableHlo

variable {F : FTy → Type} [FloatOps F]

/-- @main's 105 operations, in order (a called function's operations stand in its call's place, spelt `TRef.…`). -/
abbrev ops : List (HloOp τ sig (Elt F)) :=
  [ unary main_arg3 main_v0 (broadcastInDim S1x256 ![1] bcast_S256_S1x256_1 : (⟨S256, .f32⟩ : BufTy).Contents (Elt F) → (⟨S1x256, .f32⟩ : BufTy).Contents (Elt F)),
    unary main_v0 main_v1 (broadcastInDim S4096x256 ![0, 1] bcast_S1x256_S4096x256_0_1 : (⟨S1x256, .f32⟩ : BufTy).Contents (Elt F) → (⟨S4096x256, .f32⟩ : BufTy).Contents (Elt F)),
    binary main_arg1 main_v1 main_v2 (addf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    binary main_v2 main_cst main_v3 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v3 main_v4 (broadcastInDim S4096x1 ![0] bcast_S4096_S4096x1_0 : (⟨S4096, .f32⟩ : BufTy).Contents (Elt F) → (⟨S4096x1, .f32⟩ : BufTy).Contents (Elt F)),
    nullary main_cst_0 (constant S_ .f32 0x43800000#32),
    unary main_cst_0 main_v5 (broadcastInDim S4096x1 ![] bcast_S_S4096x1 : (⟨S_, .f32⟩ : BufTy).Contents (Elt F) → (⟨S4096x1, .f32⟩ : BufTy).Contents (Elt F)),
    binary main_v4 main_v5 main_v6 (Host.divf : (⟨S4096x1, .f32⟩ : BufTy).Contents (Elt F) → (⟨S4096x1, .f32⟩ : BufTy).Contents (Elt F) → (⟨S4096x1, .f32⟩ : BufTy).Contents (Elt F)),
    unary main_v6 main_v7 (broadcastInDim S4096x256 ![0, 1] bcast_S4096x1_S4096x256_0_1 : (⟨S4096x1, .f32⟩ : BufTy).Contents (Elt F) → (⟨S4096x256, .f32⟩ : BufTy).Contents (Elt F)),
    binary main_v2 main_v7 main_v8 (subf : (⟨S4096x256, .f32⟩ : BufTy).Contents (Elt F) → (⟨S4096x256, .f32⟩ : BufTy).Contents (Elt F) → (⟨S4096x256, .f32⟩ : BufTy).Contents (Elt F)),
    binary main_v8 main_v8 main_v9 (mulf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x40000000#32),
    unary main_cst_1 main_v10 (broadcastInDim S4096x256 ![] bcast_S_S4096x256 : (⟨S_, .f32⟩ : BufTy).Contents (Elt F) → (⟨S4096x256, .f32⟩ : BufTy).Contents (Elt F)),
    binary main_v10 main_v8 main_v11 (mulf : (⟨S4096x256, .f32⟩ : BufTy).Contents (Elt F) → (⟨S4096x256, .f32⟩ : BufTy).Contents (Elt F) → (⟨S4096x256, .f32⟩ : BufTy).Contents (Elt F)),
    nullary main_cst_2 (constant S_ .f32 0x00000000#32),
    binary main_v9 main_cst_2 main_v12 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v12 main_v13 (broadcastInDim S4096x1 ![0] bcast_S4096_S4096x1_0 : (⟨S4096, .f32⟩ : BufTy).Contents (Elt F) → (⟨S4096x1, .f32⟩ : BufTy).Contents (Elt F)),
    nullary main_cst_3 (constant S_ .f32 0x43800000#32),
    unary main_cst_3 main_v14 (broadcastInDim S4096x1 ![] bcast_S_S4096x1 : (⟨S_, .f32⟩ : BufTy).Contents (Elt F) → (⟨S4096x1, .f32⟩ : BufTy).Contents (Elt F)),
    binary main_v13 main_v14 main_v15 (Host.divf : (⟨S4096x1, .f32⟩ : BufTy).Contents (Elt F) → (⟨S4096x1, .f32⟩ : BufTy).Contents (Elt F) → (⟨S4096x1, .f32⟩ : BufTy).Contents (Elt F)),
    unary main_v6 main_v16 (broadcastInDim S4096x256 ![0, 1] bcast_S4096x1_S4096x256_0_1 : (⟨S4096x1, .f32⟩ : BufTy).Contents (Elt F) → (⟨S4096x256, .f32⟩ : BufTy).Contents (Elt F)),
    binary main_v2 main_v16 main_v17 (subf : (⟨S4096x256, .f32⟩ : BufTy).Contents (Elt F) → (⟨S4096x256, .f32⟩ : BufTy).Contents (Elt F) → (⟨S4096x256, .f32⟩ : BufTy).Contents (Elt F)),
    nullary main_cst_4 (constant S_ .f32 0x358637BD#32),
    unary main_cst_4 main_v18 (broadcastInDim S4096x1 ![] bcast_S_S4096x1 : (⟨S_, .f32⟩ : BufTy).Contents (Elt F) → (⟨S4096x1, .f32⟩ : BufTy).Contents (Elt F)),
    binary main_v15 main_v18 main_v19 (addf : (⟨S4096x1, .f32⟩ : BufTy).Contents (Elt F) → (⟨S4096x1, .f32⟩ : BufTy).Contents (Elt F) → (⟨S4096x1, .f32⟩ : BufTy).Contents (Elt F)),
    unary main_v19 main_v20 (Host.rsqrt : (⟨S4096x1, .f32⟩ : BufTy).Contents (Elt F) → (⟨S4096x1, .f32⟩ : BufTy).Contents (Elt F)),
    binary main_v20 main_v19 main_v21 (Host.divf : (⟨S4096x1, .f32⟩ : BufTy).Contents (Elt F) → (⟨S4096x1, .f32⟩ : BufTy).Contents (Elt F) → (⟨S4096x1, .f32⟩ : BufTy).Contents (Elt F)),
    nullary main_cst_5 (constant S_ .f32 0xBF000000#32),
    unary main_cst_5 main_v22 (broadcastInDim S4096x1 ![] bcast_S_S4096x1 : (⟨S_, .f32⟩ : BufTy).Contents (Elt F) → (⟨S4096x1, .f32⟩ : BufTy).Contents (Elt F)),
    binary main_v22 main_v21 main_v23 (mulf : (⟨S4096x1, .f32⟩ : BufTy).Contents (Elt F) → (⟨S4096x1, .f32⟩ : BufTy).Contents (Elt F) → (⟨S4096x1, .f32⟩ : BufTy).Contents (Elt F)),
    unary main_v20 main_v24 (broadcastInDim S4096x256 ![0, 1] bcast_S4096x1_S4096x256_0_1 : (⟨S4096x1, .f32⟩ : BufTy).Contents (Elt F) → (⟨S4096x256, .f32⟩ : BufTy).Contents (Elt F)),
    binary main_v17 main_v24 main_v25 (mulf : (⟨S4096x256, .f32⟩ : BufTy).Contents (Elt F) → (⟨S4096x256, .f32⟩ : BufTy).Contents (Elt F) → (⟨S4096x256, .f32⟩ : BufTy).Contents (Elt F)),
    unary main_arg4 main_v26 (broadcastInDim S1x256 ![1] bcast_S256_S1x256_1 : (⟨S256, .f32⟩ : BufTy).Contents (Elt F) → (⟨S1x256, .f32⟩ : BufTy).Contents (Elt F)),
    unary main_v26 main_v27 (broadcastInDim S4096x256 ![0, 1] bcast_S1x256_S4096x256_0_1 : (⟨S1x256, .f32⟩ : BufTy).Contents (Elt F) → (⟨S4096x256, .f32⟩ : BufTy).Contents (Elt F)),
    binary main_v25 main_v27 main_v28 (mulf : (⟨S4096x256, .f32⟩ : BufTy).Contents (Elt F) → (⟨S4096x256, .f32⟩ : BufTy).Contents (Elt F) → (⟨S4096x256, .f32⟩ : BufTy).Contents (Elt F)),
    unary main_arg5 main_v29 (broadcastInDim S1x256 ![1] bcast_S256_S1x256_1 : (⟨S256, .f32⟩ : BufTy).Contents (Elt F) → (⟨S1x256, .f32⟩ : BufTy).Contents (Elt F)),
    unary main_v29 main_v30 (broadcastInDim S4096x256 ![0, 1] bcast_S1x256_S4096x256_0_1 : (⟨S1x256, .f32⟩ : BufTy).Contents (Elt F) → (⟨S4096x256, .f32⟩ : BufTy).Contents (Elt F)),
    binary main_v28 main_v30 main_v31 (addf : (⟨S4096x256, .f32⟩ : BufTy).Contents (Elt F) → (⟨S4096x256, .f32⟩ : BufTy).Contents (Elt F) → (⟨S4096x256, .f32⟩ : BufTy).Contents (Elt F)),
    TRef.unary (TRef.of (T := ⟨S4096x256, .f32⟩) main_v31) (TRef.of (T := ⟨S4096x256, .f32⟩) main_call0_v0) Host.negf,
    TRef.unary (TRef.of (T := ⟨S4096x256, .f32⟩) main_call0_v0) (TRef.of (T := ⟨S4096x256, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x256, .f32⟩) main_call0_v2) (broadcastInDim S4096x256 ![] bcast_S_S4096x256),
    TRef.binary (TRef.of (T := ⟨S4096x256, .f32⟩) main_call0_v2) (TRef.of (T := ⟨S4096x256, .f32⟩) main_call0_v1) (TRef.of (T := ⟨S4096x256, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x256, .f32⟩) main_call0_v4) (broadcastInDim S4096x256 ![] bcast_S_S4096x256),
    TRef.binary (TRef.of (T := ⟨S4096x256, .f32⟩) main_call0_v4) (TRef.of (T := ⟨S4096x256, .f32⟩) main_call0_v3) (TRef.of (T := ⟨S4096x256, .f32⟩) main_v32_2) Host.divf,
    TRef.nullary (TRef.of (T := ⟨S_, .f32⟩) main_call0_cst_1) (constant S_ .f32 0x3F800000#32),
    TRef.unary (TRef.of (T := ⟨S_, .f32⟩) main_call0_cst_1) (TRef.of (T := ⟨S4096x256, .f32⟩) main_call0_v6) (broadcastInDim S4096x256 ![] bcast_S_S4096x256),
    TRef.binary (TRef.of (T := ⟨S4096x256, .f32⟩) main_call0_v6) (TRef.of (T := ⟨S4096x256, .f32⟩) main_v32_2) (TRef.of (T := ⟨S4096x256, .f32⟩) main_call0_v7) subf,
    TRef.binary (TRef.of (T := ⟨S4096x256, .f32⟩) main_v32_2) (TRef.of (T := ⟨S4096x256, .f32⟩) main_call0_v7) (TRef.of (T := ⟨S4096x256, .f32⟩) main_v32_1) mulf,
    TRef.binary (TRef.of (T := ⟨S4096x256, .f32⟩) main_v31) (TRef.of (T := ⟨S4096x256, .f32⟩) main_v32_2) (TRef.of (T := ⟨S4096x256, .f32⟩) main_v32_0) mulf,
    TRef.binary (TRef.of (T := ⟨S4096x256, .f32⟩) main_v31) (TRef.of (T := ⟨S4096x256, .f32⟩) main_arg2) (TRef.of (T := ⟨S4096x256, .f32⟩) main_call1_v0) mulf,
    TRef.binary (TRef.of (T := ⟨S4096x256, .f32⟩) main_arg2) (TRef.of (T := ⟨S4096x256, .f32⟩) main_v32_2) (TRef.of (T := ⟨S4096x256, .f32⟩) main_call1_v1) mulf,
    TRef.binary (TRef.of (T := ⟨S4096x256, .f32⟩) main_call1_v0) (TRef.of (T := ⟨S4096x256, .f32⟩) main_v32_1) (TRef.of (T := ⟨S4096x256, .f32⟩) main_call1_v2) mulf,
    TRef.binary (TRef.of (T := ⟨S4096x256, .f32⟩) main_call1_v1) (TRef.of (T := ⟨S4096x256, .f32⟩) main_call1_v2) (TRef.of (T := ⟨S4096x256, .f32⟩) main_v33) addf,
    nullary main_cst_6 (constant S_ .f32 0x00000000#32),
    binary main_v33 main_cst_6 main_v34 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    reshape main_v34 main_v35 (rfl : (.f32 : EltTy) = .f32) shapeCasts_S256_S1x256,
    nullary main_cst_7 (constant S_ .f32 0x00000000#32),
    binary main_v35 main_cst_7 main_v36 ((fun x v => Host.reduceAdd x v reducesTo_S1x256_S256_d0 h_S_) : (⟨S1x256, .f32⟩ : BufTy).Contents (Elt F) → (⟨S_, .f32⟩ : BufTy).Contents (Elt F) → (⟨S256, .f32⟩ : BufTy).Contents (Elt F)),
    binary main_v25 main_v33 main_v37 (mulf : (⟨S4096x256, .f32⟩ : BufTy).Contents (Elt F) → (⟨S4096x256, .f32⟩ : BufTy).Contents (Elt F) → (⟨S4096x256, .f32⟩ : BufTy).Contents (Elt F)),
    nullary main_cst_8 (constant S_ .f32 0x00000000#32),
    binary main_v37 main_cst_8 main_v38 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    reshape main_v38 main_v39 (rfl : (.f32 : EltTy) = .f32) shapeCasts_S256_S1x256,
    unary main_v26 main_v40 (broadcastInDim S4096x256 ![0, 1] bcast_S1x256_S4096x256_0_1 : (⟨S1x256, .f32⟩ : BufTy).Contents (Elt F) → (⟨S4096x256, .f32⟩ : BufTy).Contents (Elt F)),
    binary main_v33 main_v40 main_v41 (mulf : (⟨S4096x256, .f32⟩ : BufTy).Contents (Elt F) → (⟨S4096x256, .f32⟩ : BufTy).Contents (Elt F) → (⟨S4096x256, .f32⟩ : BufTy).Contents (Elt F)),
    nullary main_cst_9 (constant S_ .f32 0x00000000#32),
    binary main_v39 main_cst_9 main_v42 ((fun x v => Host.reduceAdd x v reducesTo_S1x256_S256_d0 h_S_) : (⟨S1x256, .f32⟩ : BufTy).Contents (Elt F) → (⟨S_, .f32⟩ : BufTy).Contents (Elt F) → (⟨S256, .f32⟩ : BufTy).Contents (Elt F)),
    binary main_v17 main_v41 main_v43 (mulf : (⟨S4096x256, .f32⟩ : BufTy).Contents (Elt F) → (⟨S4096x256, .f32⟩ : BufTy).Contents (Elt F) → (⟨S4096x256, .f32⟩ : BufTy).Contents (Elt F)),
    nullary main_cst_10 (constant S_ .f32 0x00000000#32),
    binary main_v43 main_cst_10 main_v44 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    reshape main_v44 main_v45 (rfl : (.f32 : EltTy) = .f32) shapeCasts_S4096_S4096x1,
    unary main_v20 main_v46 (broadcastInDim S4096x256 ![0, 1] bcast_S4096x1_S4096x256_0_1 : (⟨S4096x1, .f32⟩ : BufTy).Contents (Elt F) → (⟨S4096x256, .f32⟩ : BufTy).Contents (Elt F)),
    binary main_v41 main_v46 main_v47 (mulf : (⟨S4096x256, .f32⟩ : BufTy).Contents (Elt F) → (⟨S4096x256, .f32⟩ : BufTy).Contents (Elt F) → (⟨S4096x256, .f32⟩ : BufTy).Contents (Elt F)),
    binary main_v45 main_v23 main_v48 (mulf : (⟨S4096x1, .f32⟩ : BufTy).Contents (Elt F) → (⟨S4096x1, .f32⟩ : BufTy).Contents (Elt F) → (⟨S4096x1, .f32⟩ : BufTy).Contents (Elt F)),
    unary main_v47 main_v49 (Host.negf : (⟨S4096x256, .f32⟩ : BufTy).Contents (Elt F) → (⟨S4096x256, .f32⟩ : BufTy).Contents (Elt F)),
    nullary main_cst_11 (constant S_ .f32 0x00000000#32),
    binary main_v49 main_cst_11 main_v50 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    reshape main_v50 main_v51 (rfl : (.f32 : EltTy) = .f32) shapeCasts_S4096_S4096x1,
    nullary main_cst_12 (constant S_ .f32 0x43800000#32),
    unary main_cst_12 main_v52 (broadcastInDim S4096x1 ![] bcast_S_S4096x1 : (⟨S_, .f32⟩ : BufTy).Contents (Elt F) → (⟨S4096x1, .f32⟩ : BufTy).Contents (Elt F)),
    binary main_v48 main_v52 main_v53 (Host.divf : (⟨S4096x1, .f32⟩ : BufTy).Contents (Elt F) → (⟨S4096x1, .f32⟩ : BufTy).Contents (Elt F) → (⟨S4096x1, .f32⟩ : BufTy).Contents (Elt F)),
    nullary main_cst_13 (constant S_ .f32 0x00000000#32),
    binary main_v53 main_cst_13 main_v54 ((fun x v => Host.reduceAdd x v reducesTo_S4096x1_S4096_d1 h_S_) : (⟨S4096x1, .f32⟩ : BufTy).Contents (Elt F) → (⟨S_, .f32⟩ : BufTy).Contents (Elt F) → (⟨S4096, .f32⟩ : BufTy).Contents (Elt F)),
    unary main_v54 main_v55 (broadcastInDim S4096x256 ![0] bcast_S4096_S4096x256_0 : (⟨S4096, .f32⟩ : BufTy).Contents (Elt F) → (⟨S4096x256, .f32⟩ : BufTy).Contents (Elt F)),
    binary main_v55 main_v11 main_v56 (mulf : (⟨S4096x256, .f32⟩ : BufTy).Contents (Elt F) → (⟨S4096x256, .f32⟩ : BufTy).Contents (Elt F) → (⟨S4096x256, .f32⟩ : BufTy).Contents (Elt F)),
    unary main_v56 main_v57 (Host.negf : (⟨S4096x256, .f32⟩ : BufTy).Contents (Elt F) → (⟨S4096x256, .f32⟩ : BufTy).Contents (Elt F)),
    nullary main_cst_14 (constant S_ .f32 0x00000000#32),
    binary main_v57 main_cst_14 main_v58 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    reshape main_v58 main_v59 (rfl : (.f32 : EltTy) = .f32) shapeCasts_S4096_S4096x1,
    binary main_v47 main_v56 main_v60 (addf : (⟨S4096x256, .f32⟩ : BufTy).Contents (Elt F) → (⟨S4096x256, .f32⟩ : BufTy).Contents (Elt F) → (⟨S4096x256, .f32⟩ : BufTy).Contents (Elt F)),
    binary main_v51 main_v59 main_v61 (addf : (⟨S4096x1, .f32⟩ : BufTy).Contents (Elt F) → (⟨S4096x1, .f32⟩ : BufTy).Contents (Elt F) → (⟨S4096x1, .f32⟩ : BufTy).Contents (Elt F)),
    nullary main_cst_15 (constant S_ .f32 0x43800000#32),
    unary main_cst_15 main_v62 (broadcastInDim S4096x1 ![] bcast_S_S4096x1 : (⟨S_, .f32⟩ : BufTy).Contents (Elt F) → (⟨S4096x1, .f32⟩ : BufTy).Contents (Elt F)),
    binary main_v61 main_v62 main_v63 (Host.divf : (⟨S4096x1, .f32⟩ : BufTy).Contents (Elt F) → (⟨S4096x1, .f32⟩ : BufTy).Contents (Elt F) → (⟨S4096x1, .f32⟩ : BufTy).Contents (Elt F)),
    nullary main_cst_16 (constant S_ .f32 0x00000000#32),
    binary main_v63 main_cst_16 main_v64 ((fun x v => Host.reduceAdd x v reducesTo_S4096x1_S4096_d1 h_S_) : (⟨S4096x1, .f32⟩ : BufTy).Contents (Elt F) → (⟨S_, .f32⟩ : BufTy).Contents (Elt F) → (⟨S4096, .f32⟩ : BufTy).Contents (Elt F)),
    unary main_v64 main_v65 (broadcastInDim S4096x256 ![0] bcast_S4096_S4096x256_0 : (⟨S4096, .f32⟩ : BufTy).Contents (Elt F) → (⟨S4096x256, .f32⟩ : BufTy).Contents (Elt F)),
    binary main_v60 main_v65 main_v66 (addf : (⟨S4096x256, .f32⟩ : BufTy).Contents (Elt F) → (⟨S4096x256, .f32⟩ : BufTy).Contents (Elt F) → (⟨S4096x256, .f32⟩ : BufTy).Contents (Elt F)),
    nullary main_cst_17 (constant S_ .f32 0x00000000#32),
    binary main_v66 main_cst_17 main_v67 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    reshape main_v67 main_v68 (rfl : (.f32 : EltTy) = .f32) shapeCasts_S256_S1x256,
    nullary main_cst_18 (constant S_ .f32 0x00000000#32),
    binary main_v68 main_cst_18 main_v69 ((fun x v => Host.reduceAdd x v reducesTo_S1x256_S256_d0 h_S_) : (⟨S1x256, .f32⟩ : BufTy).Contents (Elt F) → (⟨S_, .f32⟩ : BufTy).Contents (Elt F) → (⟨S256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., nullary_bufs_sub .., binary_bufs_sub .., reshape_bufs_sub .., nullary_bufs_sub .., binary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., unary_bufs_sub .., nullary_bufs_sub .., binary_bufs_sub .., reshape_bufs_sub .., nullary_bufs_sub .., unary_bufs_sub .., binary_bufs_sub .., nullary_bufs_sub .., binary_bufs_sub .., unary_bufs_sub .., binary_bufs_sub .., unary_bufs_sub .., nullary_bufs_sub .., binary_bufs_sub .., reshape_bufs_sub .., binary_bufs_sub .., binary_bufs_sub .., nullary_bufs_sub .., unary_bufs_sub .., binary_bufs_sub .., nullary_bufs_sub .., binary_bufs_sub .., unary_bufs_sub .., binary_bufs_sub .., nullary_bufs_sub .., binary_bufs_sub .., reshape_bufs_sub .., nullary_bufs_sub .., binary_bufs_sub ..⟩

section named

variable (x d : FVec F S4096x256 .f32) (b lg lb : FVec F S256 .f32)

/-- The norm's operand. -/
def aX : FVec F S4096x256 .f32 :=
  addf x (broadcastInDim S4096x256 ![0, 1] bcast_S1x256_S4096x256_0_1 (broadcastInDim S1x256 ![1] bcast_S256_S1x256_1 b))

/-- The rows' means. -/
def aMu : FVec F S4096x1 .f32 :=
  Host.divf (broadcastInDim S4096x1 ![0] bcast_S4096_S4096x1_0 (Host.reduceAdd (aX x b) (constant S_ .f32 0x00000000#32) reducesTo_S4096x256_S4096_d1 h_S_)) (broadcastInDim S4096x1 ![] bcast_S_S4096x1 (constant S_ .f32 0x43800000#32))

/-- The differences from the means. -/
def aDf : FVec F S4096x256 .f32 :=
  subf (aX x b) (broadcastInDim S4096x256 ![0, 1] bcast_S4096x1_S4096x256_0_1 (aMu x b))

/-- The rows' variances and a little more. -/
def aVar : FVec F S4096x1 .f32 :=
  addf (Host.divf (broadcastInDim S4096x1 ![0] bcast_S4096_S4096x1_0 (Host.reduceAdd (mulf (aDf x b) (aDf x b)) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32))

/-- One over the roots. -/
def aR : FVec F S4096x1 .f32 := Host.rsqrt (aVar x b)

/-- The scale, as a row. -/
def aLg : FVec F S1x256 .f32 := broadcastInDim S1x256 ![1] bcast_S256_S1x256_1 lg

/-- The norm's result. -/
def aZ : FVec F S4096x256 .f32 :=
  addf (mulf (mulf (aDf x b) (broadcastInDim S4096x256 ![0, 1] bcast_S4096x1_S4096x256_0_1 (aR x b))) (broadcastInDim S4096x256 ![0, 1] bcast_S1x256_S4096x256_0_1 (aLg lg))) (broadcastInDim S4096x256 ![0, 1] bcast_S1x256_S4096x256_0_1 (broadcastInDim S1x256 ![1] bcast_S256_S1x256_1 lb))

/-- The logistic function of it. -/
def aS : FVec F S4096x256 .f32 :=
  Host.divf (broadcastInDim S4096x256 ![] bcast_S_S4096x256 (constant S_ .f32 0x3F800000#32)) (addf (broadcastInDim S4096x256 ![] bcast_S_S4096x256 (constant S_ .f32 0x3F800000#32)) (Host.exp (Host.negf (aZ x b lg lb))))

/-- The gradient at the norm's result. -/
def aDz : FVec F S4096x256 .f32 :=
  addf (mulf d (aS x b lg lb)) (mulf (mulf (aZ x b lg lb) d) (mulf (aS x b lg lb) (subf (broadcastInDim S4096x256 ![] bcast_S_S4096x256 (constant S_ .f32 0x3F800000#32)) (aS x b lg lb))))

/-- The gradient at the scaled row. -/
def aDn : FVec F S4096x256 .f32 := mulf (aDz x d b lg lb) (broadcastInDim S4096x256 ![0, 1] bcast_S1x256_S4096x256_0_1 (aLg lg))

/-- The part past the deviation. -/
def aP : FVec F S4096x256 .f32 := mulf (aDn x d b lg lb) (broadcastInDim S4096x256 ![0, 1] bcast_S4096x1_S4096x256_0_1 (aR x b))

/-- The part through the deviation. -/
def aT : FVec F S4096x256 .f32 :=
  mulf (broadcastInDim S4096x256 ![0] bcast_S4096_S4096x256_0 (Host.reduceAdd (Host.divf (mulf (shapeCast _ (Host.reduceAdd (mulf (aDf x b) (aDn x d b lg lb)) (constant S_ .f32 0x00000000#32) reducesTo_S4096x256_S4096_d1 h_S_) shapeCasts_S4096_S4096x1) (mulf (broadcastInDim S4096x1 ![] bcast_S_S4096x1 (constant S_ .f32 0xBF000000#32)) (Host.divf (aR x b) (aVar x b)))) (broadcastInDim S4096x1 ![] bcast_S_S4096x1 (constant S_ .f32 0x43800000#32))) (constant S_ .f32 0x00000000#32) reducesTo_S4096x1_S4096_d1 h_S_)) (mulf (broadcastInDim S4096x256 ![] bcast_S_S4096x256 (constant S_ .f32 0x40000000#32)) (aDf x b))

/-- The gradient at the norm's operand. -/
def aDc : FVec F S4096x256 .f32 :=
  addf (addf (aP x d b lg lb) (aT x d b lg lb)) (broadcastInDim S4096x256 ![0] bcast_S4096_S4096x256_0 (Host.reduceAdd (Host.divf (addf (shapeCast _ (Host.reduceAdd (Host.negf (aP x d b lg lb)) (constant S_ .f32 0x00000000#32) reducesTo_S4096x256_S4096_d1 h_S_) shapeCasts_S4096_S4096x1) (shapeCast _ (Host.reduceAdd (Host.negf (aT x d b lg lb)) (constant S_ .f32 0x00000000#32) reducesTo_S4096x256_S4096_d1 h_S_) shapeCasts_S4096_S4096x1)) (broadcastInDim S4096x1 ![] bcast_S_S4096x1 (constant S_ .f32 0x43800000#32))) (constant S_ .f32 0x00000000#32) reducesTo_S4096x1_S4096_d1 h_S_))

end named

set_option maxRecDepth 8192 in
set_option maxHeartbeats 42000000 in
/-- Every weakly fair execution ends with the gradient in the result and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = aDc (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans (by simp only [ops, TRef.binary, TRef.nullary, TRef.unary, TRef.toBuf, TRef.ofBuf, cast_eq]; after_results_simp <;> rfl <;> rfl),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)
end Cert.Reference19Ideal.RefValue

end
-- ==== Proof.ConvDcRef.lean ====
module

public import proofs.«01_k».proof.Proof.ConvDcRun
public import proofs.«01_k».proof.Proof.NormGateBack

@[expose] public section

set_option maxRecDepth 16384

noncomputable section

/-! The result of the reference of the gradient through the norm and the gate, read at an element. -/

namespace Cert.Reference19Ideal.RefValue

open Cert.Reference19Ideal Cert.Reference19Ideal.Gen Idealize.ShloMosaic Idealize.ShloMosaic.TcCoe
open Idealize.SL.Sem Idealize.ShloMosaic.StableHlo Cert.Coords Cert.NormGate

variable (x d : FVec Ideal S4096x256 .f32) (b lg lb : FVec Ideal S256 .f32)

/-- A row before the norm. -/
def row (r : ℕ) : ℕ → EReal := fun k => at2 x r k + NormBack.at1 b k

theorem x_apply (r : Fin 4096) (q : Fin 256) : aX x b (ix2 r q) = row x b r.val q.val := by
  unfold aX row
  pointwise
  simp only [at2_ix, NormBack.at1_ix]

theorem mu_apply (r : Fin 4096) (z : Fin 1) : aMu x b (ix2 r z) = mean (row x b r.val) := by
  have hX := x_apply x b
  unfold aMu
  generalize aX x b = X at hX ⊢
  pointwise
  simp only [hX]
  rfl

theorem df_apply (r : Fin 4096) (q : Fin 256) : aDf x b (ix2 r q) = row x b r.val q.val - mean (row x b r.val) := by
  have hX := x_apply x b
  have hM := mu_apply x b
  unfold aDf
  generalize aX x b = X at hX ⊢
  generalize aMu x b = M at hM ⊢
  pointwise
  simp only [hX, hM]

theorem var_apply (r : Fin 4096) (z : Fin 1) : aVar x b (ix2 r z)
    = mean (fun k => (row x b r.val k - mean (row x b r.val)) * (row x b r.val k - mean (row x b r.val))) + Ideal.ofBits .f32 897988541#32 := by
  have hD := df_apply x b
  unfold aVar
  generalize aDf x b = D at hD ⊢
  pointwise
  simp only [hD]
  rfl

theorem r_apply (r : Fin 4096) (z : Fin 1) : aR x b (ix2 r z) = rstd (row x b r.val) := by
  have hV := var_apply x b
  unfold aR rstd
  generalize aVar x b = V at hV ⊢
  pointwise
  simp only [hV]

theorem z_apply (r : Fin 4096) (q : Fin 256) : aZ x b lg lb (ix2 r q) = lnz (row x b r.val) (NormBack.at1 lg) (NormBack.at1 lb) q.val := by
  have hD := df_apply x b
  have hR := r_apply x b
  unfold aZ aLg lnz
  generalize aDf x b = D at hD ⊢
  generalize aR x b = R at hR ⊢
  pointwise
  simp only [hD, hR, NormBack.at1_ix]

theorem s_apply (r : Fin 4096) (q : Fin 256) : aS x b lg lb (ix2 r q) = sg (lnz (row x b r.val) (NormBack.at1 lg) (NormBack.at1 lb) q.val) := by
  have hZ := z_apply x b lg lb
  unfold aS sg
  generalize aZ x b lg lb = Z at hZ ⊢
  pointwise
  simp only [hZ, zero_sub]

theorem dz_apply (r : Fin 4096) (q : Fin 256) : aDz x d b lg lb (ix2 r q) = dzR (row x b r.val) (at2 d r.val) (NormBack.at1 lg) (NormBack.at1 lb) q.val := by
  have hZ := z_apply x b lg lb
  have hS := s_apply x b lg lb
  unfold aDz dzR
  generalize aZ x b lg lb = Z at hZ ⊢
  generalize aS x b lg lb = S at hS ⊢
  pointwise
  simp only [hZ, hS]
  simp only [at2_ix]

/-- The gradient at a scaled row. -/
def dnR (r : ℕ) : ℕ → EReal := fun k => dzR (row x b r) (at2 d r) (NormBack.at1 lg) (NormBack.at1 lb) k * NormBack.at1 lg k

theorem dn_apply (r : Fin 4096) (q : Fin 256) : aDn x d b lg lb (ix2 r q) = dnR x d b lg lb r.val q.val := by
  have hZ := dz_apply x d b lg lb
  unfold aDn aLg dnR
  generalize aDz x d b lg lb = Z at hZ ⊢
  pointwise
  simp only [hZ, NormBack.at1_ix]

theorem p_apply (r : Fin 4096) (q : Fin 256) : aP x d b lg lb (ix2 r q) = dnR x d b lg lb r.val q.val * rstd (row x b r.val) := by
  have hN := dn_apply x d b lg lb
  have hR := r_apply x b
  unfold aP
  generalize aDn x d b lg lb = N at hN ⊢
  generalize aR x b = R at hR ⊢
  pointwise
  simp only [hN, hR]

theorem t_apply (r : Fin 4096) (q : Fin 256) : aT x d b lg lb (ix2 r q)
    = through (row x b r.val) (dnR x d b lg lb r.val) * (Ideal.ofBits .f32 1073741824#32 * (row x b r.val q.val - mean (row x b r.val))) := by
  have hN := dn_apply x d b lg lb
  have hR := r_apply x b
  have hV := var_apply x b
  have hD := df_apply x b
  unfold aT through
  generalize aDn x d b lg lb = N at hN ⊢
  generalize aR x b = R at hR ⊢
  generalize aVar x b = V at hV ⊢
  generalize aDf x b = D at hD ⊢
  pointwise
  simp only [hN, hR, hV, hD, Finset.univ_unique, Finset.sum_singleton]

theorem dc_apply (r : Fin 4096) (q : Fin 256) : aDc x d b lg lb (ix2 r q) = dcRefOf (row x b r.val) (dnR x d b lg lb r.val) q.val := by
  have hP := p_apply x d b lg lb
  have hT := t_apply x d b lg lb
  unfold aDc dcRefOf
  generalize aP x d b lg lb = P at hP ⊢
  generalize aT x d b lg lb = T at hT ⊢
  pointwise
  simp only [hP, hT, Finset.univ_unique, Finset.sum_singleton]

end Cert.Reference19Ideal.RefValue

end
-- ==== Proof.FiniteGradient.lean ====
/- What the precondition on the gradient says: neither the arriving gradient nor the scale holds an infinity. -/
module

public import proofs.«01_k».proof.Proof.Gen.Pre_finite_gradient
public import proofs.«01_k».proof.Proof.NormGateBack

@[expose] public section

set_option maxRecDepth 16384

noncomputable section

namespace Cert.FiniteGradient

open Idealize.ShloMosaic Cert.Coords Cert.NormGate Cert.Pre_finite_gradient Cert.Pre_finite_gradient.Gen

theorem and_one (a b : BitVec 1) (h : IntOp.andi a b = 1#1) : a = 1#1 ∧ b = 1#1 := by
  revert a b
  decide

theorem fold_one {α : Type} (f : α → BitVec 1) (s : Finset α) (h : Finset.fold IntOp.andi (1#1) f s = 1#1) (k : α) (hk : k ∈ s) : f k = 1#1 := by
  classical
  induction s using Finset.induction_on with
  | empty => simp at hk
  | insert a s ha ih =>
    rw [Finset.fold_insert ha] at h
    obtain ⟨h1, h2⟩ := and_one _ _ h
    rcases Finset.mem_insert.mp hk with rfl | hk
    · exact h1
    · exact ih h2 hk

theorem fold_all {α : Type} [Fintype α] (f : α → BitVec 1) (h : Finset.fold IntOp.andi (1#1) f Finset.univ = 1#1) (k : α) : f k = 1#1 :=
  fold_one f _ h k (Finset.mem_univ k)

/-- Strictly between the two infinities. -/
theorem fin_of (a : EReal) (l : BitVec.ofBool (decide (Ideal.ofBits .f32 4286578688#32 < a)) = 1#1)
    (u : BitVec.ofBool (decide (a < Ideal.ofBits .f32 2139095040#32)) = 1#1) : Fin1 a := by
  have hl : Ideal.ofBits .f32 4286578688#32 = ⊥ := by simp [Ideal.ofBits, Ideal.ieee]
  have hu : Ideal.ofBits .f32 2139095040#32 = ⊤ := by simp [Ideal.ofBits, Ideal.ieee]
  rw [hl] at l
  rw [hu] at u
  induction a with
  | bot => simp at l
  | top => simp at u
  | coe a => exact ⟨a, rfl⟩

theorem finite (u : FVec Ideal S4096x512 .f32) (x d : FVec Ideal S4096x256 .f32) (b lg lb : FVec Ideal S256 .f32)
    (h : Cert.Pre_finite_gradient.fn (F := Ideal) u x d b lg lb = fun _ => 1#1) :
    (∀ r k, Fin1 (at2 d r k)) ∧ ∀ k, Fin1 (NormBack.at1 lg k) := by
  have h0 := congrFun h ix0
  unfold Cert.Pre_finite_gradient.fn at h0
  pointwise at h0
  obtain ⟨h1, h2⟩ := and_one _ _ h0
  constructor
  · intro r k
    unfold at2
    split
    · next hk =>
      have e := fold_all _ h1 ((⟨r, hk.1⟩ : Fin 4096), (⟨k, hk.2⟩ : Fin 256))
      obtain ⟨l, u⟩ := and_one _ _ e
      exact fin_of _ l u
    · exact ⟨0, rfl⟩
  · intro k
    unfold NormBack.at1
    split
    · next hk =>
      have e := fold_all _ h2 (⟨k, hk⟩ : Fin 256)
      obtain ⟨l, u⟩ := and_one _ _ e
      exact fin_of _ l u
    · exact ⟨0, rfl⟩

end Cert.FiniteGradient

end
-- ==== Proof.ConvDcClaims.lean ====
/- The claims about the gradient through the norm and the gate: where the arriving gradient and the scale are real numbers
   the runs of the two programs end at the same rows. -/
module

public import proofs.«01_k».proof.Defs
public import proofs.«01_k».proof.Proof.Gen.Pre_finite_gradient
public import proofs.«01_k».proof.Proof.Gen.Kernel19.Frame
public import proofs.«01_k».proof.Proof.Gen.Kernel19Ideal.Frame
public import proofs.«01_k».proof.Proof.Gen.Reference19Ideal
public import proofs.«01_k».proof.Proof.ConvDcValue
public import proofs.«01_k».proof.Proof.ConvDcRef
public import proofs.«01_k».proof.Proof.FiniteGradient
public import Idealize.ShloMosaic.Adequacy
public import Idealize.ShloMosaic.Init

@[expose] public section

set_option maxRecDepth 16384

noncomputable section

namespace Cert.ConvDc

open Idealize.ShloMosaic Idealize.SL.Sem Cert.Coords Cert.NormGate

theorem frame_p : Cert.quiescent_Kernel19 := fun m ρ _ => Cert.Kernel19.Gen.frame m ρ

theorem frame_pi : Cert.quiescent_Kernel19Ideal := fun m ρ _ => Cert.Kernel19Ideal.Gen.frame m ρ

theorem frame_pi_pre : Cert.quiescent_Kernel19Ideal_pre_finite_gradient := fun m ρ _ => Cert.Kernel19Ideal.Gen.frame m ρ

theorem frame_ri : Cert.quiescent_Reference19Ideal := fun m ρ _ =>
  (θ_run Cert.Reference19Ideal.defs _ _).mono (fun r h => ⟨fun c => (h c).2, sem_eq_zero_of_no_sems (by decide) r.2⟩)
    (Cert.Reference19Ideal.RefValue.run (F := Ideal) m ρ)

theorem frame_ri_pre : Cert.quiescent_Reference19Ideal_pre_finite_gradient := fun m ρ _ => frame_ri m ρ trivial

/-- A row past its last column is zero. -/
theorem row_out (x : Vec Ideal Cert.Kernel19Ideal.S4096x256 .f32) (b : Vec Ideal Cert.Kernel19Ideal.S256 .f32) (r k : ℕ) (hk : 256 ≤ k) :
    Fin1 (Cert.Kernel19Ideal.RefValue.row x b r k) := by
  refine ⟨0, ?_⟩
  unfold Cert.Kernel19Ideal.RefValue.row at2 NormBack.at1
  rw [dif_neg (by omega), dif_neg (by omega), add_zero]
  rfl

theorem algebraic : Cert.algebraic_Kernel19Ideal_Reference19Ideal_pre_finite_gradient := by
  intro m ρ m' ρ' hpre hagree
  refine ⟨fun c => (Cert.Kernel19Ideal.Gen.dats m 0 c).arrAt 7 Cert.Kernel19Ideal.cfg0.N,
    (θ_run Cert.Kernel19Ideal.defs _ _).mono (fun _ h c => ⟨(h c).1, (h c).2.2.2.2.2⟩) (Cert.Kernel19Ideal.Value.run_blocks (F := Ideal) m ρ), ?_⟩
  refine (θ_run Cert.Reference19Ideal.defs _ _).mono (fun _ h c => ⟨(h c).1.trans ?_, (h c).2⟩)
    (Cert.Reference19Ideal.RefValue.run (F := Ideal) m' ρ')
  beta_reduce
  rw [Cert.Kernel19Ideal.RefValue.final7]
  obtain ⟨e0, e1, e2, e3, e4, e5⟩ := hagree c
  have hp := hpre c
  obtain ⟨hd, hg⟩ := FiniteGradient.finite _ _ _ _ _ _ hp
  rw [e1, e2, e3, e4, e5]
  funext i
  idx_vars i
  refine (Cert.Reference19Ideal.RefValue.dc_apply _ _ _ _ _ _ _).trans ?_
  exact dc_eq _ _ _ _ (row_out _ _ _) (hd _) hg _

end Cert.ConvDc

end
-- ==== Proof.GlaBackClaims.lean ====
/- The claims about the gated linear attention's gradient: every execution ends and leaves the arguments as they were. -/
module

public import proofs.«01_k».proof.Defs
public import proofs.«01_k».proof.Proof.Gen.Kernel20.Frame
public import proofs.«01_k».proof.Proof.Gen.Kernel20Ideal.Frame

@[expose] public section

noncomputable section

namespace Cert.GlaBack

open Idealize.ShloMosaic Idealize.SL.Sem

theorem frame_p : Cert.quiescent_Kernel20 := fun m ρ _ => Cert.Kernel20.Gen.frame m ρ

theorem frame_pi : Cert.quiescent_Kernel20Ideal := fun m ρ _ => Cert.Kernel20Ideal.Gen.frame m ρ

end Cert.GlaBack

end
-- ==== Proof.GlaClaims.lean ====
/- The claims about the gated linear attention: every execution ends and leaves the arguments as they were. -/
module

public import proofs.«01_k».proof.Defs
public import proofs.«01_k».proof.Proof.Gen.Kernel21.Frame
public import proofs.«01_k».proof.Proof.Gen.Kernel21Ideal.Frame

@[expose] public section

noncomputable section

namespace Cert.Gla

open Idealize.ShloMosaic Idealize.SL.Sem

theorem frame_p : Cert.quiescent_Kernel21 := fun m ρ _ => Cert.Kernel21.Gen.frame m ρ

theorem frame_pi : Cert.quiescent_Kernel21Ideal := fun m ρ _ => Cert.Kernel21Ideal.Gen.frame m ρ

end Cert.Gla

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.KernelIdeal.Value
public import proofs.«01_k».proof.Proof.Gen.ReferenceIdeal.Run
public import Idealize.ShloMosaic.Init
public import proofs.«01_k».proof.Proof.ConvClaims
public import proofs.«01_k».proof.Proof.DownDxClaims
public import proofs.«01_k».proof.Proof.Gen.Kernel2.Frame
public import proofs.«01_k».proof.Proof.Gen.Kernel2Ideal.Value
public import proofs.«01_k».proof.Proof.Gen.Reference2Ideal.Run
public import proofs.«01_k».proof.Proof.DownDwClaims
public import proofs.«01_k».proof.Proof.Gen.Kernel3.Frame
public import proofs.«01_k».proof.Proof.Gen.Kernel3Ideal.Value
public import proofs.«01_k».proof.Proof.Gen.Reference3Ideal.Run
public import proofs.«01_k».proof.Proof.UpDwClaims
public import proofs.«01_k».proof.Proof.Gen.Kernel4.Frame
public import proofs.«01_k».proof.Proof.Gen.Kernel4Ideal.Value
public import proofs.«01_k».proof.Proof.Gen.Reference4Ideal.Run
public import proofs.«01_k».proof.Proof.OutDwClaims
public import proofs.«01_k».proof.Proof.Gen.Kernel5.Frame
public import proofs.«01_k».proof.Proof.Gen.Kernel5Ideal.Value
public import proofs.«01_k».proof.Proof.Gen.Reference5Ideal.Run
public import proofs.«01_k».proof.Proof.UpClaims
public import proofs.«01_k».proof.Proof.Gen.Kernel6.Frame
public import proofs.«01_k».proof.Proof.Gen.Kernel6Ideal.Value
public import proofs.«01_k».proof.Proof.Gen.Reference6Ideal.Run
public import proofs.«01_k».proof.Proof.DownClaims
public import proofs.«01_k».proof.Proof.Gen.Kernel7.Frame
public import proofs.«01_k».proof.Proof.Gen.Kernel7Ideal.Value
public import proofs.«01_k».proof.Proof.Gen.Reference7Ideal.Run
public import proofs.«01_k».proof.Proof.OutClaims
public import proofs.«01_k».proof.Proof.Gen.Kernel8.Frame
public import proofs.«01_k».proof.Proof.Gen.Kernel8Ideal.Value
public import proofs.«01_k».proof.Proof.Gen.Reference8Ideal.Run
public import proofs.«01_k».proof.Proof.ProjDwClaims
public import proofs.«01_k».proof.Proof.Gen.Kernel9.Frame
public import proofs.«01_k».proof.Proof.Gen.Kernel9Ideal.Value
public import proofs.«01_k».proof.Proof.Gen.Reference9Ideal.Run
public import proofs.«01_k».proof.Proof.OutDxClaims
public import proofs.«01_k».proof.Proof.Gen.Kernel10.Frame
public import proofs.«01_k».proof.Proof.Gen.Kernel10Ideal.Value
public import proofs.«01_k».proof.Proof.Gen.Reference10Ideal.Run
public import proofs.«01_k».proof.Proof.ProjClaims
public import proofs.«01_k».proof.Proof.Gen.Kernel11.Frame
public import proofs.«01_k».proof.Proof.Gen.Kernel11Ideal.Value
public import proofs.«01_k».proof.Proof.Gen.Reference11Ideal.Run
public import proofs.«01_k».proof.Proof.UpDxClaims
public import proofs.«01_k».proof.Proof.Gen.Kernel12.Frame
public import proofs.«01_k».proof.Proof.Gen.Kernel12Ideal.Value
public import proofs.«01_k».proof.Proof.Gen.Reference12Ideal.Run
public import proofs.«01_k».proof.Proof.ProjDxClaims
public import proofs.«01_k».proof.Proof.Gen.Kernel13.Frame
public import proofs.«01_k».proof.Proof.Gen.Kernel13Ideal.Value
public import proofs.«01_k».proof.Proof.Gen.Reference13Ideal.Run
public import proofs.«01_k».proof.Proof.LossClaims
public import proofs.«01_k».proof.Proof.Gen.Kernel14.Frame
public import proofs.«01_k».proof.Proof.Gen.Kernel14Ideal.Value
public import proofs.«01_k».proof.Proof.Gen.Reference14Ideal.Run
public import proofs.«01_k».proof.Proof.ConvFwdClaims
public import proofs.«01_k».proof.Proof.Gen.Kernel15.Frame
public import proofs.«01_k».proof.Proof.Gen.Kernel15Ideal.Value
public import proofs.«01_k».proof.Proof.Gen.Reference15Ideal.Run
public import proofs.«01_k».proof.Proof.AdamInClaims
public import proofs.«01_k».proof.Proof.Gen.Kernel17.Frame
public import proofs.«01_k».proof.Proof.Gen.Kernel17Ideal.Value
public import proofs.«01_k».proof.Proof.Gen.Reference17Ideal.Run
public import proofs.«01_k».proof.Proof.ConvDcClaims
public import proofs.«01_k».proof.Proof.Gen.Kernel19.Frame
public import proofs.«01_k».proof.Proof.Gen.Kernel19Ideal.Value
public import proofs.«01_k».proof.Proof.Gen.Reference19Ideal
public import proofs.«01_k».proof.Proof.GlaBackClaims
public import proofs.«01_k».proof.Proof.Gen.Kernel20.Frame
public import proofs.«01_k».proof.Proof.Gen.Kernel20Ideal.Frame
public import proofs.«01_k».proof.Proof.GlaClaims
public import proofs.«01_k».proof.Proof.Gen.Kernel21.Frame
public import proofs.«01_k».proof.Proof.Gen.Kernel21Ideal.Frame

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel17.Gen.facts, Cert.Kernel17Ideal.Gen.facts, Cert.Reference17Ideal.Gen.facts,
  Cert.Kernel19.Gen.facts, Cert.Kernel19Ideal.Gen.facts, Cert.Reference19Ideal.Gen.facts,
  Cert.Kernel20.Gen.facts, Cert.Kernel20Ideal.Gen.facts,
  Cert.Kernel21.Gen.facts, Cert.Kernel21Ideal.Gen.facts,
  Cert.Pre_finite_gradient.Gen.facts,
  Cert.Conv.frame_p, Cert.Conv.frame_pi, Cert.Conv.frame_ri,
  Cert.DownDx.frame_p, Cert.DownDx.frame_pi, Cert.DownDx.frame_ri,
  Cert.DownDw.frame_p, Cert.DownDw.frame_pi, Cert.DownDw.frame_ri,
  Cert.UpDw.frame_p, Cert.UpDw.frame_pi, Cert.UpDw.frame_ri,
  Cert.OutDw.frame_p, Cert.OutDw.frame_pi, Cert.OutDw.frame_ri,
  Cert.Up.frame_p, Cert.Up.frame_pi, Cert.Up.frame_ri,
  Cert.Down.frame_p, Cert.Down.frame_pi, Cert.Down.frame_ri,
  Cert.Out.frame_p, Cert.Out.frame_pi, Cert.Out.frame_ri,
  Cert.ProjDw.frame_p, Cert.ProjDw.frame_pi, Cert.ProjDw.frame_ri,
  Cert.OutDx.frame_p, Cert.OutDx.frame_pi, Cert.OutDx.frame_ri,
  Cert.Proj.frame_p, Cert.Proj.frame_pi, Cert.Proj.frame_ri,
  Cert.UpDx.frame_p, Cert.UpDx.frame_pi, Cert.UpDx.frame_ri,
  Cert.ProjDx.frame_p, Cert.ProjDx.frame_pi, Cert.ProjDx.frame_ri,
  Cert.Loss.frame_p, Cert.Loss.frame_pi, Cert.Loss.frame_ri,
  Cert.ConvFwd.frame_p, Cert.ConvFwd.frame_pi, Cert.ConvFwd.frame_ri,
  Cert.AdamIn.frame_p, Cert.AdamIn.frame_pi, Cert.AdamIn.frame_ri,
  Cert.ConvDc.frame_p, Cert.ConvDc.frame_pi, Cert.ConvDc.frame_pi_pre, Cert.ConvDc.frame_ri, Cert.ConvDc.frame_ri_pre,
  Cert.GlaBack.frame_p, Cert.GlaBack.frame_pi,
  Cert.Gla.frame_p, Cert.Gla.frame_pi,
  trivial, Cert.Conv.algebraic,
  trivial, Cert.DownDx.algebraic,
  trivial, Cert.DownDw.algebraic,
  trivial, Cert.UpDw.algebraic,
  trivial, Cert.OutDw.algebraic,
  trivial, Cert.Up.algebraic,
  trivial, Cert.Down.algebraic,
  trivial, Cert.Out.algebraic,
  trivial, Cert.ProjDw.algebraic,
  trivial, Cert.OutDx.algebraic,
  trivial, Cert.Proj.algebraic,
  trivial, Cert.UpDx.algebraic,
  trivial, Cert.ProjDx.algebraic,
  trivial, Cert.Loss.algebraic,
  trivial, Cert.ConvFwd.algebraic,
  trivial, Cert.AdamIn.algebraic,
  trivial, Cert.ConvDc.algebraic,
  trivial, trivial⟩

end Cert.Proof

end
